-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_ids_in_range_logits_finite [hPre_ids_in_range_logits_finite : Cert.Pre_ids_in_range_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_ids_in_range_logits_finite [hPre_ids_in_range_logits_finite : Cert.Pre_ids_in_range_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_logits_finite [hKernelIdeal : Cert.KernelIdeal.Facts] [hPre_ids_in_range_logits_finite : Cert.Pre_ids_in_range_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_logits_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_logits_finite [hReferenceIdeal : Cert.ReferenceIdeal.Facts] [hPre_ids_in_range_logits_finite : Cert.Pre_ids_in_range_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ids_in_range_logits_finite [hKernelIdeal : Cert.KernelIdeal.Facts] [hReferenceIdeal : Cert.ReferenceIdeal.Facts] [hPre_ids_in_range_logits_finite : Cert.Pre_ids_in_range_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_logits_finite : Cert.Pre_ids_in_range_logits_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_logits_finite (hKernelIdeal := hKernelIdeal) (hPre_ids_in_range_logits_finite := hPre_ids_in_range_logits_finite)
    ∧ quiescent_ReferenceIdeal (hReferenceIdeal := hReferenceIdeal) (hPre_ids_in_range := hPre_ids_in_range)
    ∧ quiescent_ReferenceIdeal_pre_ids_in_range_logits_finite (hReferenceIdeal := hReferenceIdeal) (hPre_ids_in_range_logits_finite := hPre_ids_in_range_logits_finite)
    ∧ preserves_Kernel_KernelIdeal
    ∧ algebraic_KernelIdeal_ReferenceIdeal_pre_ids_in_range_logits_finite (hKernelIdeal := hKernelIdeal) (hReferenceIdeal := hReferenceIdeal) (hPre_ids_in_range_logits_finite := hPre_ids_in_range_logits_finite)
-- ==== Pre_ids_in_range.lean ====
abbrev S16384x64 : Shape := ⟨2, ![16384, 64]⟩
abbrev S1968 : Shape := ⟨1, ![1968]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : IVec S16384x64 32) (main_arg1 : FVec F S1968 .f32) : IVec S_ 1 :=
  let main_c : IVec S_ 32 := constantI S_ 32 0#32
  let main_v0 : IVec S16384x64 32 := broadcastInDim S16384x64 ![] bcast_S_S16384x64 main_c
  let main_v1 : IVec S16384x64 1 := cmpi .sge main_arg0 main_v0
  let main_c_0 : IVec S_ 32 := constantI S_ 32 1968#32
  let main_v2 : IVec S16384x64 32 := broadcastInDim S16384x64 ![] bcast_S_S16384x64 main_c_0
  let main_v3 : IVec S16384x64 1 := cmpi .slt main_arg0 main_v2
  let main_v4 : IVec S16384x64 1 := andi main_v1 main_v3
  let main_c_1 : IVec S_ 1 := constantI S_ 1 1#1
  let main_v5 : IVec S_ 1 := (fun x v => Host.reduce IntOp.andi x v reducesTo_S16384x64_S_d0_1 h_S_) main_v4 main_c_1
  main_v5
-- ==== Pre_ids_in_range_logits_finite.lean ====
abbrev S16384x64 : Shape := ⟨2, ![16384, 64]⟩
abbrev S1968 : Shape := ⟨1, ![1968]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1968 : S_.BroadcastsInDim S1968 (![] : Fin 0 → Fin S1968.rank)
  reducesTo_S1968_S_d0 : S1968.ReducesTo [0] S_

variable [Facts]

def fn {F : FTy → Type} [FloatOps F] (main_arg0 : IVec S16384x64 32) (main_arg1 : FVec F S1968 .f32) : IVec S_ 1 :=
  let main_c : IVec S_ 32 := constantI S_ 32 0#32
  let main_v0 : IVec S16384x64 32 := broadcastInDim S16384x64 ![] bcast_S_S16384x64 main_c
  let main_v1 : IVec S16384x64 1 := cmpi .sge main_arg0 main_v0
  let main_c_0 : IVec S_ 32 := constantI S_ 32 1968#32
  let main_v2 : IVec S16384x64 32 := broadcastInDim S16384x64 ![] bcast_S_S16384x64 main_c_0
  let main_v3 : IVec S16384x64 1 := cmpi .slt main_arg0 main_v2
  let main_v4 : IVec S16384x64 1 := andi main_v1 main_v3
  let main_c_1 : IVec S_ 1 := constantI S_ 1 1#1
  let main_v5 : IVec S_ 1 := (fun x v => Host.reduce IntOp.andi x v reducesTo_S16384x64_S_d0_1 h_S_) main_v4 main_c_1
  let main_v6 : FVec F S1968 .f32 := Host.absf main_arg1
  let main_cst : FVec F S_ .f32 := constant S_ .f32 0x7F800000#32
  let main_v7 : FVec F S1968 .f32 := broadcastInDim S1968 ![] bcast_S_S1968 main_cst
  let main_v8 : IVec S1968 1 := cmpf .olt main_v6 main_v7
  let main_c_2 : IVec S_ 1 := constantI S_ 1 1#1
  let main_v9 : IVec S_ 1 := (fun x v => Host.reduce IntOp.andi x v reducesTo_S1968_S_d0 h_S_) main_v8 main_c_2
  let main_v10 : IVec S_ 1 := andi main_v5 main_v9
  main_v10
-- ==== Kernel.lean ====
abbrev S16384x64 : Shape := ⟨2, ![16384, 64]⟩
abbrev S1968 : Shape := ⟨1, ![1968]⟩
abbrev S8192x64 : Shape := ⟨2, ![8192, 64]⟩
abbrev S8192x128 : Shape := ⟨2, ![8192, 128]⟩
abbrev S1048576 : Shape := ⟨1, ![1048576]⟩
abbrev S32768 : Shape := ⟨1, ![32768]⟩
abbrev S_ : Shape := ⟨0, ![]⟩
abbrev S16 : Shape := ⟨1, ![16]⟩
abbrev S512x128 : Shape := ⟨2, ![512, 128]⟩
abbrev S8192 : Shape := ⟨1, ![8192]⟩
abbrev S512 : Shape := ⟨1, ![512]⟩
abbrev S512x64 : Shape := ⟨2, ![512, 64]⟩
abbrev S512x1 : Shape := ⟨2, ![512, 1]⟩
abbrev S16384 : Shape := ⟨1, ![16384]⟩
abbrev S16384x1 : Shape := ⟨2, ![16384, 1]⟩

abbrev nBuf : Table → Nat
  | .hbm => 16
  | .local .tc .vmem => 18
  | .local .scVector .vmem => 7
  | _ => 0

abbrev bufTy : (tb : Table) → Fin (nBuf tb) → BufTy
  | .hbm, ⟨0, _⟩ => ⟨S16384x64, .i32⟩
  | .hbm, ⟨1, _⟩ => ⟨S1968, .f32⟩
  | .hbm, ⟨2, _⟩ => ⟨S8192x64, .i32⟩
  | .hbm, ⟨3, _⟩ => ⟨S8192x64, .i32⟩
  | .hbm, ⟨4, _⟩ => ⟨S8192x128, .i32⟩
  | .hbm, ⟨5, _⟩ => ⟨S1048576, .i32⟩
  | .hbm, ⟨6, _⟩ => ⟨S1048576, .f32⟩
  | .hbm, ⟨7, _⟩ => ⟨S8192x128, .f32⟩
  | .hbm, ⟨8, _⟩ => ⟨S8192x128, .f32⟩
  | .hbm, ⟨9, _⟩ => ⟨S8192, .i32⟩
  | .hbm, ⟨10, _⟩ => ⟨S8192, .i32⟩
  | .hbm, ⟨11, _⟩ => ⟨S8192, .f32⟩
  | .hbm, ⟨12, _⟩ => ⟨S8192, .f32⟩
  | .hbm, ⟨13, _⟩ => ⟨S16384, .i32⟩
  | .hbm, ⟨14, _⟩ => ⟨S16384, .f32⟩
  | .hbm, ⟨15, _⟩ => ⟨S16384x1, .f32⟩
  | .local .tc .vmem, ⟨0, _⟩ => ⟨S512x128, .i32⟩
  | .local .tc .vmem, ⟨1, _⟩ => ⟨S512x128, .i32⟩
  | .local .tc .vmem, ⟨2, _⟩ => ⟨S512x128, .f32⟩
  | .local .tc .vmem, ⟨3, _⟩ => ⟨S512x128, .f32⟩
  | .local .tc .vmem, ⟨4, _⟩ => ⟨S512x128, .i32⟩
  | .local .tc .vmem, ⟨5, _⟩ => ⟨S512x128, .i32⟩
  | .local .tc .vmem, ⟨6, _⟩ => ⟨S512x128, .f32⟩
  | .local .tc .vmem, ⟨7, _⟩ => ⟨S512x128, .f32⟩
  | .local .tc .vmem, ⟨8, _⟩ => ⟨S512x128, .f32⟩
  | .local .tc .vmem, ⟨9, _⟩ => ⟨S512x128, .f32⟩
  | .local .tc .vmem, ⟨10, _⟩ => ⟨S512, .i32⟩
  | .local .tc .vmem, ⟨11, _⟩ => ⟨S512, .i32⟩
  | .local .tc .vmem, ⟨12, _⟩ => ⟨S512, .i32⟩
  | .local .tc .vmem, ⟨13, _⟩ => ⟨S512, .i32⟩
  | .local .tc .vmem, ⟨14, _⟩ => ⟨S512, .f32⟩
  | .local .tc .vmem, ⟨15, _⟩ => ⟨S512, .f32⟩
  | .local .tc .vmem, ⟨16, _⟩ => ⟨S512, .f32⟩
  | .local .tc .vmem, ⟨17, _⟩ => ⟨S512, .f32⟩
  | .local .scVector .vmem, ⟨0, _⟩ => ⟨S1968, .f32⟩
  | .local .scVector .vmem, ⟨1, _⟩ => ⟨S1968, .i32⟩
  | .local .scVector .vmem, ⟨2, _⟩ => ⟨S1968, .i32⟩
  | .local .scVector .vmem, ⟨3, _⟩ => ⟨S1968, .i32⟩
  | .local .scVector .vmem, ⟨4, _⟩ => ⟨S1968, .i32⟩
  | .local .scVector .vmem, ⟨5, _⟩ => ⟨S32768, .i32⟩
  | .local .scVector .vmem, ⟨6, _⟩ => ⟨S32768, .f32⟩
  | _, _ => ⟨S16384x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev main_v7_3 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1_scv : Ref sig .scVector := ⟨.hbm, 1, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc2_stg6_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_0 : BitVec 32 := 0#32
  let c128_i32 : BitVec 32 := 128#32
  let v4 : BitVec 32 := Scalar.addi c0_i32_0 c128_i32
  let c1_i32 : BitVec 32 := 1#32
  ⟨c0_i32_0, v4, c1_i32⟩
def k0_mult1 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  v5
def k0_off2 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c0_i32_2 : BitVec 32 := 0#32
  let v7 : BitVec 32 := Scalar.addi v6 c0_i32_2
  let c0_i32_3 : BitVec 32 := 0#32
  let v8 : BitVec 32 := Scalar.addi v7 c0_i32_3
  let v9 : Index := Scalar.indexCast v8
  ![v9.toNat]
def k0_off3 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c0_i32_5 : BitVec 32 := 0#32
  let v14 : BitVec 32 := Scalar.addi v6 c0_i32_5
  let c16_i32 : BitVec 32 := 16#32
  let v15 : BitVec 32 := Scalar.addi v14 c16_i32
  let v16 : Index := Scalar.indexCast v15
  ![v16.toNat]
def k0_off4 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c0_i32_7 : BitVec 32 := 0#32
  let v21 : BitVec 32 := Scalar.addi v6 c0_i32_7
  let c32_i32 : BitVec 32 := 32#32
  let v22 : BitVec 32 := Scalar.addi v21 c32_i32
  let v23 : Index := Scalar.indexCast v22
  ![v23.toNat]
def k0_off5 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c0_i32_9 : BitVec 32 := 0#32
  let v28 : BitVec 32 := Scalar.addi v6 c0_i32_9
  let c48_i32 : BitVec 32 := 48#32
  let v29 : BitVec 32 := Scalar.addi v28 c48_i32
  let v30 : Index := Scalar.indexCast v29
  ![v30.toNat]

def k0_chk1 (v10 : IVec S16 32) : Prop :=
  (∀ a x, ((![v10] : Fin 1 → IVec S16 32) a x).toNat < S1968.size a) ∧
  (∀ a x, ((![v10] : Fin 1 → IVec S16 32) a x).toNat < S1968.size a) ∧
  (∀ a x, ((![v10] : Fin 1 → IVec S16 32) a x).toNat < S1968.size a)
theorem k0_idx1_inb : ∀ (v10 : IVec S16 32) (k0_hw1 : k0_chk1 v10), ∀ a x, ((![v10] : Fin 1 → IVec S16 32) a x).toNat < S1968.size a := fun v10 k0_hw1 => k0_hw1.1
theorem k0_idx2_inb : ∀ (v10 : IVec S16 32) (k0_hw1 : k0_chk1 v10), ∀ a x, ((![v10] : Fin 1 → IVec S16 32) a x).toNat < S1968.size a := fun v10 k0_hw1 => k0_hw1.2.1
theorem k0_idx9_inb : ∀ (v10 : IVec S16 32) (k0_hw1 : k0_chk1 v10), ∀ a x, ((![v10] : Fin 1 → IVec S16 32) a x).toNat < S1968.size a := fun v10 k0_hw1 => k0_hw1.2.2
def k0_off6 (k0_t1 : Fin k0_t1_loop.trips) (c0_i32_11 : BitVec 32) (c0_i32_12 : BitVec 32) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let v35 : BitVec 32 := Scalar.addi v6 c0_i32_11
  let v36 : BitVec 32 := Scalar.addi v35 c0_i32_12
  let v43 : Index := Scalar.indexCast v36
  ![v43.toNat]
def k0_off6_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)

def k0_chk2 (v17 : IVec S16 32) : Prop :=
  (∀ a x, ((![v17] : Fin 1 → IVec S16 32) a x).toNat < S1968.size a) ∧
  (∀ a x, ((![v17] : Fin 1 → IVec S16 32) a x).toNat < S1968.size a) ∧
  (∀ a x, ((![v17] : Fin 1 → IVec S16 32) a x).toNat < S1968.size a)
theorem k0_idx3_inb : ∀ (v17 : IVec S16 32) (k0_hw2 : k0_chk2 v17), ∀ a x, ((![v17] : Fin 1 → IVec S16 32) a x).toNat < S1968.size a := fun v17 k0_hw2 => k0_hw2.1
theorem k0_idx4_inb : ∀ (v17 : IVec S16 32) (k0_hw2 : k0_chk2 v17), ∀ a x, ((![v17] : Fin 1 → IVec S16 32) a x).toNat < S1968.size a := fun v17 k0_hw2 => k0_hw2.2.1
theorem k0_idx10_inb : ∀ (v17 : IVec S16 32) (k0_hw2 : k0_chk2 v17), ∀ a x, ((![v17] : Fin 1 → IVec S16 32) a x).toNat < S1968.size a := fun v17 k0_hw2 => k0_hw2.2.2

def k0_chk3 (v24 : IVec S16 32) : Prop :=
  (∀ a x, ((![v24] : Fin 1 → IVec S16 32) a x).toNat < S1968.size a) ∧
  (∀ a x, ((![v24] : Fin 1 → IVec S16 32) a x).toNat < S1968.size a) ∧
  (∀ a x, ((![v24] : Fin 1 → IVec S16 32) a x).toNat < S1968.size a)
theorem k0_idx5_inb : ∀ (v24 : IVec S16 32) (k0_hw3 : k0_chk3 v24), ∀ a x, ((![v24] : Fin 1 → IVec S16 32) a x).toNat < S1968.size a := fun v24 k0_hw3 => k0_hw3.1
theorem k0_idx6_inb : ∀ (v24 : IVec S16 32) (k0_hw3 : k0_chk3 v24), ∀ a x, ((![v24] : Fin 1 → IVec S16 32) a x).toNat < S1968.size a := fun v24 k0_hw3 => k0_hw3.2.1
theorem k0_idx11_inb : ∀ (v24 : IVec S16 32) (k0_hw3 : k0_chk3 v24), ∀ a x, ((![v24] : Fin 1 → IVec S16 32) a x).toNat < S1968.size a := fun v24 k0_hw3 => k0_hw3.2.2

def k0_chk4 (v31 : IVec S16 32) : Prop :=
  (∀ a x, ((![v31] : Fin 1 → IVec S16 32) a x).toNat < S1968.size a) ∧
  (∀ a x, ((![v31] : Fin 1 → IVec S16 32) a x).toNat < S1968.size a) ∧
  (∀ a x, ((![v31] : Fin 1 → IVec S16 32) a x).toNat < S1968.size a)
theorem k0_idx7_inb : ∀ (v31 : IVec S16 32) (k0_hw4 : k0_chk4 v31), ∀ a x, ((![v31] : Fin 1 → IVec S16 32) a x).toNat < S1968.size a := fun v31 k0_hw4 => k0_hw4.1
theorem k0_idx8_inb : ∀ (v31 : IVec S16 32) (k0_hw4 : k0_chk4 v31), ∀ a x, ((![v31] : Fin 1 → IVec S16 32) a x).toNat < S1968.size a := fun v31 k0_hw4 => k0_hw4.2.1
theorem k0_idx12_inb : ∀ (v31 : IVec S16 32) (k0_hw4 : k0_chk4 v31), ∀ a x, ((![v31] : Fin 1 → IVec S16 32) a x).toNat < S1968.size a := fun v31 k0_hw4 => k0_hw4.2.2
def k0_off7 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c64_i32_28 : BitVec 32 := 64#32
  let v82 : BitVec 32 := Scalar.addi v6 c64_i32_28
  let c16_i32_29 : BitVec 32 := 16#32
  let v83 : BitVec 32 := Scalar.addi v82 c16_i32_29
  let v84 : Index := Scalar.indexCast v83
  ![v84.toNat]
def k0_off8 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c64_i32_31 : BitVec 32 := 64#32
  let v89 : BitVec 32 := Scalar.addi v6 c64_i32_31
  let c32_i32_32 : BitVec 32 := 32#32
  let v90 : BitVec 32 := Scalar.addi v89 c32_i32_32
  let v91 : Index := Scalar.indexCast v90
  ![v91.toNat]
def k0_off9 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c64_i32_34 : BitVec 32 := 64#32
  let v96 : BitVec 32 := Scalar.addi v6 c64_i32_34
  let c48_i32_35 : BitVec 32 := 48#32
  let v97 : BitVec 32 := Scalar.addi v96 c48_i32_35
  let v98 : Index := Scalar.indexCast v97
  ![v98.toNat]

def k0_chk5 (v78 : IVec S16 32) : Prop :=
  (∀ a x, ((![v78] : Fin 1 → IVec S16 32) a x).toNat < S1968.size a) ∧
  (∀ a x, ((![v78] : Fin 1 → IVec S16 32) a x).toNat < S1968.size a) ∧
  (∀ a x, ((![v78] : Fin 1 → IVec S16 32) a x).toNat < S1968.size a)
theorem k0_idx13_inb : ∀ (v78 : IVec S16 32) (k0_hw5 : k0_chk5 v78), ∀ a x, ((![v78] : Fin 1 → IVec S16 32) a x).toNat < S1968.size a := fun v78 k0_hw5 => k0_hw5.1
theorem k0_idx14_inb : ∀ (v78 : IVec S16 32) (k0_hw5 : k0_chk5 v78), ∀ a x, ((![v78] : Fin 1 → IVec S16 32) a x).toNat < S1968.size a := fun v78 k0_hw5 => k0_hw5.2.1
theorem k0_idx21_inb : ∀ (v78 : IVec S16 32) (k0_hw5 : k0_chk5 v78), ∀ a x, ((![v78] : Fin 1 → IVec S16 32) a x).toNat < S1968.size a := fun v78 k0_hw5 => k0_hw5.2.2
def k0_off10 (k0_t1 : Fin k0_t1_loop.trips) (c64_i32_37 : BitVec 32) (c0_i32_38 : BitVec 32) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let v103 : BitVec 32 := Scalar.addi v6 c64_i32_37
  let v104 : BitVec 32 := Scalar.addi v103 c0_i32_38
  let v111 : Index := Scalar.indexCast v104
  ![v111.toNat]
def k0_off10_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)

def k0_chk6 (v85 : IVec S16 32) : Prop :=
  (∀ a x, ((![v85] : Fin 1 → IVec S16 32) a x).toNat < S1968.size a) ∧
  (∀ a x, ((![v85] : Fin 1 → IVec S16 32) a x).toNat < S1968.size a) ∧
  (∀ a x, ((![v85] : Fin 1 → IVec S16 32) a x).toNat < S1968.size a)
theorem k0_idx15_inb : ∀ (v85 : IVec S16 32) (k0_hw6 : k0_chk6 v85), ∀ a x, ((![v85] : Fin 1 → IVec S16 32) a x).toNat < S1968.size a := fun v85 k0_hw6 => k0_hw6.1
theorem k0_idx16_inb : ∀ (v85 : IVec S16 32) (k0_hw6 : k0_chk6 v85), ∀ a x, ((![v85] : Fin 1 → IVec S16 32) a x).toNat < S1968.size a := fun v85 k0_hw6 => k0_hw6.2.1
theorem k0_idx22_inb : ∀ (v85 : IVec S16 32) (k0_hw6 : k0_chk6 v85), ∀ a x, ((![v85] : Fin 1 → IVec S16 32) a x).toNat < S1968.size a := fun v85 k0_hw6 => k0_hw6.2.2

def k0_chk7 (v92 : IVec S16 32) : Prop :=
  (∀ a x, ((![v92] : Fin 1 → IVec S16 32) a x).toNat < S1968.size a) ∧
  (∀ a x, ((![v92] : Fin 1 → IVec S16 32) a x).toNat < S1968.size a) ∧
  (∀ a x, ((![v92] : Fin 1 → IVec S16 32) a x).toNat < S1968.size a)
theorem k0_idx17_inb : ∀ (v92 : IVec S16 32) (k0_hw7 : k0_chk7 v92), ∀ a x, ((![v92] : Fin 1 → IVec S16 32) a x).toNat < S1968.size a := fun v92 k0_hw7 => k0_hw7.1
theorem k0_idx18_inb : ∀ (v92 : IVec S16 32) (k0_hw7 : k0_chk7 v92), ∀ a x, ((![v92] : Fin 1 → IVec S16 32) a x).toNat < S1968.size a := fun v92 k0_hw7 => k0_hw7.2.1
theorem k0_idx23_inb : ∀ (v92 : IVec S16 32) (k0_hw7 : k0_chk7 v92), ∀ a x, ((![v92] : Fin 1 → IVec S16 32) a x).toNat < S1968.size a := fun v92 k0_hw7 => k0_hw7.2.2

def k0_chk8 (v99 : IVec S16 32) : Prop :=
  (∀ a x, ((![v99] : Fin 1 → IVec S16 32) a x).toNat < S1968.size a) ∧
  (∀ a x, ((![v99] : Fin 1 → IVec S16 32) a x).toNat < S1968.size a) ∧
  (∀ a x, ((![v99] : Fin 1 → IVec S16 32) a x).toNat < S1968.size a)
theorem k0_idx19_inb : ∀ (v99 : IVec S16 32) (k0_hw8 : k0_chk8 v99), ∀ a x, ((![v99] : Fin 1 → IVec S16 32) a x).toNat < S1968.size a := fun v99 k0_hw8 => k0_hw8.1
theorem k0_idx20_inb : ∀ (v99 : IVec S16 32) (k0_hw8 : k0_chk8 v99), ∀ a x, ((![v99] : Fin 1 → IVec S16 32) a x).toNat < S1968.size a := fun v99 k0_hw8 => k0_hw8.2.1
theorem k0_idx24_inb : ∀ (v99 : IVec S16 32) (k0_hw8 : k0_chk8 v99), ∀ a x, ((![v99] : Fin 1 → IVec S16 32) a x).toNat < S1968.size a := fun v99 k0_hw8 => k0_hw8.2.2
def k0_off11 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c128_i32_56 : BitVec 32 := 128#32
  let v150 : BitVec 32 := Scalar.addi v6 c128_i32_56
  let c16_i32_57 : BitVec 32 := 16#32
  let v151 : BitVec 32 := Scalar.addi v150 c16_i32_57
  let v152 : Index := Scalar.indexCast v151
  ![v152.toNat]
def k0_off12 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c128_i32_59 : BitVec 32 := 128#32
  let v157 : BitVec 32 := Scalar.addi v6 c128_i32_59
  let c32_i32_60 : BitVec 32 := 32#32
  let v158 : BitVec 32 := Scalar.addi v157 c32_i32_60
  let v159 : Index := Scalar.indexCast v158
  ![v159.toNat]
def k0_off13 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c128_i32_62 : BitVec 32 := 128#32
  let v164 : BitVec 32 := Scalar.addi v6 c128_i32_62
  let c48_i32_63 : BitVec 32 := 48#32
  let v165 : BitVec 32 := Scalar.addi v164 c48_i32_63
  let v166 : Index := Scalar.indexCast v165
  ![v166.toNat]

def k0_chk9 (v146 : IVec S16 32) : Prop :=
  (∀ a x, ((![v146] : Fin 1 → IVec S16 32) a x).toNat < S1968.size a) ∧
  (∀ a x, ((![v146] : Fin 1 → IVec S16 32) a x).toNat < S1968.size a) ∧
  (∀ a x, ((![v146] : Fin 1 → IVec S16 32) a x).toNat < S1968.size a)
theorem k0_idx25_inb : ∀ (v146 : IVec S16 32) (k0_hw9 : k0_chk9 v146), ∀ a x, ((![v146] : Fin 1 → IVec S16 32) a x).toNat < S1968.size a := fun v146 k0_hw9 => k0_hw9.1
theorem k0_idx26_inb : ∀ (v146 : IVec S16 32) (k0_hw9 : k0_chk9 v146), ∀ a x, ((![v146] : Fin 1 → IVec S16 32) a x).toNat < S1968.size a := fun v146 k0_hw9 => k0_hw9.2.1
theorem k0_idx33_inb : ∀ (v146 : IVec S16 32) (k0_hw9 : k0_chk9 v146), ∀ a x, ((![v146] : Fin 1 → IVec S16 32) a x).toNat < S1968.size a := fun v146 k0_hw9 => k0_hw9.2.2
def k0_off14 (k0_t1 : Fin k0_t1_loop.trips) (c128_i32_65 : BitVec 32) (c0_i32_66 : BitVec 32) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let v171 : BitVec 32 := Scalar.addi v6 c128_i32_65
  let v172 : BitVec 32 := Scalar.addi v171 c0_i32_66
  let v179 : Index := Scalar.indexCast v172
  ![v179.toNat]
def k0_off14_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)

def k0_chk10 (v153 : IVec S16 32) : Prop :=
  (∀ a x, ((![v153] : Fin 1 → IVec S16 32) a x).toNat < S1968.size a) ∧
  (∀ a x, ((![v153] : Fin 1 → IVec S16 32) a x).toNat < S1968.size a) ∧
  (∀ a x, ((![v153] : Fin 1 → IVec S16 32) a x).toNat < S1968.size a)
theorem k0_idx27_inb : ∀ (v153 : IVec S16 32) (k0_hw10 : k0_chk10 v153), ∀ a x, ((![v153] : Fin 1 → IVec S16 32) a x).toNat < S1968.size a := fun v153 k0_hw10 => k0_hw10.1
theorem k0_idx28_inb : ∀ (v153 : IVec S16 32) (k0_hw10 : k0_chk10 v153), ∀ a x, ((![v153] : Fin 1 → IVec S16 32) a x).toNat < S1968.size a := fun v153 k0_hw10 => k0_hw10.2.1
theorem k0_idx34_inb : ∀ (v153 : IVec S16 32) (k0_hw10 : k0_chk10 v153), ∀ a x, ((![v153] : Fin 1 → IVec S16 32) a x).toNat < S1968.size a := fun v153 k0_hw10 => k0_hw10.2.2

def k0_chk11 (v160 : IVec S16 32) : Prop :=
  (∀ a x, ((![v160] : Fin 1 → IVec S16 32) a x).toNat < S1968.size a) ∧
  (∀ a x, ((![v160] : Fin 1 → IVec S16 32) a x).toNat < S1968.size a) ∧
  (∀ a x, ((![v160] : Fin 1 → IVec S16 32) a x).toNat < S1968.size a)
theorem k0_idx29_inb : ∀ (v160 : IVec S16 32) (k0_hw11 : k0_chk11 v160), ∀ a x, ((![v160] : Fin 1 → IVec S16 32) a x).toNat < S1968.size a := fun v160 k0_hw11 => k0_hw11.1
theorem k0_idx30_inb : ∀ (v160 : IVec S16 32) (k0_hw11 : k0_chk11 v160), ∀ a x, ((![v160] : Fin 1 → IVec S16 32) a x).toNat < S1968.size a := fun v160 k0_hw11 => k0_hw11.2.1
theorem k0_idx35_inb : ∀ (v160 : IVec S16 32) (k0_hw11 : k0_chk11 v160), ∀ a x, ((![v160] : Fin 1 → IVec S16 32) a x).toNat < S1968.size a := fun v160 k0_hw11 => k0_hw11.2.2

def k0_chk12 (v167 : IVec S16 32) : Prop :=
  (∀ a x, ((![v167] : Fin 1 → IVec S16 32) a x).toNat < S1968.size a) ∧
  (∀ a x, ((![v167] : Fin 1 → IVec S16 32) a x).toNat < S1968.size a) ∧
  (∀ a x, ((![v167] : Fin 1 → IVec S16 32) a x).toNat < S1968.size a)
theorem k0_idx31_inb : ∀ (v167 : IVec S16 32) (k0_hw12 : k0_chk12 v167), ∀ a x, ((![v167] : Fin 1 → IVec S16 32) a x).toNat < S1968.size a := fun v167 k0_hw12 => k0_hw12.1
theorem k0_idx32_inb : ∀ (v167 : IVec S16 32) (k0_hw12 : k0_chk12 v167), ∀ a x, ((![v167] : Fin 1 → IVec S16 32) a x).toNat < S1968.size a := fun v167 k0_hw12 => k0_hw12.2.1
theorem k0_idx36_inb : ∀ (v167 : IVec S16 32) (k0_hw12 : k0_chk12 v167), ∀ a x, ((![v167] : Fin 1 → IVec S16 32) a x).toNat < S1968.size a := fun v167 k0_hw12 => k0_hw12.2.2
def k0_off15 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c192_i32_83 : BitVec 32 := 192#32
  let v218 : BitVec 32 := Scalar.addi v6 c192_i32_83
  let c16_i32_84 : BitVec 32 := 16#32
  let v219 : BitVec 32 := Scalar.addi v218 c16_i32_84
  let v220 : Index := Scalar.indexCast v219
  ![v220.toNat]
def k0_off16 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c192_i32_86 : BitVec 32 := 192#32
  let v225 : BitVec 32 := Scalar.addi v6 c192_i32_86
  let c32_i32_87 : BitVec 32 := 32#32
  let v226 : BitVec 32 := Scalar.addi v225 c32_i32_87
  let v227 : Index := Scalar.indexCast v226
  ![v227.toNat]
def k0_off17 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c192_i32_89 : BitVec 32 := 192#32
  let v232 : BitVec 32 := Scalar.addi v6 c192_i32_89
  let c48_i32_90 : BitVec 32 := 48#32
  let v233 : BitVec 32 := Scalar.addi v232 c48_i32_90
  let v234 : Index := Scalar.indexCast v233
  ![v234.toNat]

def k0_chk13 (v214 : IVec S16 32) : Prop :=
  (∀ a x, ((![v214] : Fin 1 → IVec S16 32) a x).toNat < S1968.size a) ∧
  (∀ a x, ((![v214] : Fin 1 → IVec S16 32) a x).toNat < S1968.size a) ∧
  (∀ a x, ((![v214] : Fin 1 → IVec S16 32) a x).toNat < S1968.size a)
theorem k0_idx37_inb : ∀ (v214 : IVec S16 32) (k0_hw13 : k0_chk13 v214), ∀ a x, ((![v214] : Fin 1 → IVec S16 32) a x).toNat < S1968.size a := fun v214 k0_hw13 => k0_hw13.1
theorem k0_idx38_inb : ∀ (v214 : IVec S16 32) (k0_hw13 : k0_chk13 v214), ∀ a x, ((![v214] : Fin 1 → IVec S16 32) a x).toNat < S1968.size a := fun v214 k0_hw13 => k0_hw13.2.1
theorem k0_idx45_inb : ∀ (v214 : IVec S16 32) (k0_hw13 : k0_chk13 v214), ∀ a x, ((![v214] : Fin 1 → IVec S16 32) a x).toNat < S1968.size a := fun v214 k0_hw13 => k0_hw13.2.2
def k0_off18 (k0_t1 : Fin k0_t1_loop.trips) (c0_i32_93 : BitVec 32) : Fin 1 → Nat :=
  let c0_i32_0 : BitVec 32 := 0#32
  let c1_i32 : BitVec 32 := 1#32
  let arg12 : BitVec 32 := Scf.iv c0_i32_0 c1_i32 k0_t1
  let c256_i32 : BitVec 32 := 256#32
  let v5 : BitVec 32 := Scalar.muli arg12 c256_i32
  let v6 : BitVec 32 := v5
  let c192_i32_92 : BitVec 32 := 192#32
  let v239 : BitVec 32 := Scalar.addi v6 c192_i32_92
  let v240 : BitVec 32 := Scalar.addi v239 c0_i32_93
  let v247 : Index := Scalar.indexCast v240
  ![v247.toNat]

def k0_chk14 (v221 : IVec S16 32) : Prop :=
  (∀ a x, ((![v221] : Fin 1 → IVec S16 32) a x).toNat < S1968.size a) ∧
  (∀ a x, ((![v221] : Fin 1 → IVec S16 32) a x).toNat < S1968.size a) ∧
  (∀ a x, ((![v221] : Fin 1 → IVec S16 32) a x).toNat < S1968.size a)
theorem k0_idx39_inb : ∀ (v221 : IVec S16 32) (k0_hw14 : k0_chk14 v221), ∀ a x, ((![v221] : Fin 1 → IVec S16 32) a x).toNat < S1968.size a := fun v221 k0_hw14 => k0_hw14.1
theorem k0_idx40_inb : ∀ (v221 : IVec S16 32) (k0_hw14 : k0_chk14 v221), ∀ a x, ((![v221] : Fin 1 → IVec S16 32) a x).toNat < S1968.size a := fun v221 k0_hw14 => k0_hw14.2.1
theorem k0_idx46_inb : ∀ (v221 : IVec S16 32) (k0_hw14 : k0_chk14 v221), ∀ a x, ((![v221] : Fin 1 → IVec S16 32) a x).toNat < S1968.size a := fun v221 k0_hw14 => k0_hw14.2.2

def k0_chk15 (v228 : IVec S16 32) : Prop :=
  (∀ a x, ((![v228] : Fin 1 → IVec S16 32) a x).toNat < S1968.size a) ∧
  (∀ a x, ((![v228] : Fin 1 → IVec S16 32) a x).toNat < S1968.size a) ∧
  (∀ a x, ((![v228] : Fin 1 → IVec S16 32) a x).toNat < S1968.size a)
theorem k0_idx41_inb : ∀ (v228 : IVec S16 32) (k0_hw15 : k0_chk15 v228), ∀ a x, ((![v228] : Fin 1 → IVec S16 32) a x).toNat < S1968.size a := fun v228 k0_hw15 => k0_hw15.1
theorem k0_idx42_inb : ∀ (v228 : IVec S16 32) (k0_hw15 : k0_chk15 v228), ∀ a x, ((![v228] : Fin 1 → IVec S16 32) a x).toNat < S1968.size a := fun v228 k0_hw15 => k0_hw15.2.1
theorem k0_idx47_inb : ∀ (v228 : IVec S16 32) (k0_hw15 : k0_chk15 v228), ∀ a x, ((![v228] : Fin 1 → IVec S16 32) a x).toNat < S1968.size a := fun v228 k0_hw15 => k0_hw15.2.2

def k0_chk16 (v235 : IVec S16 32) : Prop :=
  (∀ a x, ((![v235] : Fin 1 → IVec S16 32) a x).toNat < S1968.size a) ∧
  (∀ a x, ((![v235] : Fin 1 → IVec S16 32) a x).toNat < S1968.size a) ∧
  (∀ a x, ((![v235] : Fin 1 → IVec S16 32) a x).toNat < S1968.size a)
theorem k0_idx43_inb : ∀ (v235 : IVec S16 32) (k0_hw16 : k0_chk16 v235), ∀ a x, ((![v235] : Fin 1 → IVec S16 32) a x).toNat < S1968.size a := fun v235 k0_hw16 => k0_hw16.1
theorem k0_idx44_inb : ∀ (v235 : IVec S16 32) (k0_hw16 : k0_chk16 v235), ∀ a x, ((![v235] : Fin 1 → IVec S16 32) a x).toNat < S1968.size a := fun v235 k0_hw16 => k0_hw16.2.1
theorem k0_idx48_inb : ∀ (v235 : IVec S16 32) (k0_hw16 : k0_chk16 v235), ∀ a x, ((![v235] : Fin 1 → IVec S16 32) a x).toNat < S1968.size a := fun v235 k0_hw16 => k0_hw16.2.2
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 1 → Nat :=
  let arg0 : BitVec 32 := BitVec.ofNat 32 (i 0).val
  let c0_i32 : BitVec 32 := 0#32
  ![arg0.toNat]

def cc2_transform_5 (i : grid2.Coords) : Fin 1 → Nat :=
  let arg0 : BitVec 32 := BitVec.ofNat 32 (i 0).val
  let c0_i32 : BitVec 32 := 0#32
  ![arg0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16384x64 : Shape := ⟨2, ![16384, 64]⟩
abbrev S1968 : Shape := ⟨1, ![1968]⟩
abbrev S16384 : Shape := ⟨1, ![16384]⟩
abbrev S16384x1 : Shape := ⟨2, ![16384, 1]⟩
abbrev S_ : Shape := ⟨0, ![]⟩
abbrev S16384x1968 : Shape := ⟨2, ![16384, 1968]⟩
abbrev S16384x64x1 : Shape := ⟨3, ![16384, 64, 1]⟩
abbrev S16384x64x2 : Shape := ⟨3, ![16384, 64, 2]⟩
abbrev S1x1968 : Shape := ⟨2, ![1, 1968]⟩
abbrev S1 : Shape := ⟨1, ![1]⟩
abbrev S2 : Shape := ⟨1, ![2]⟩
abbrev S1x1 : Shape := ⟨2, ![1, 1]⟩
abbrev S16384x1x1 : Shape := ⟨3, ![16384, 1, 1]⟩
abbrev S1x1x1 : Shape := ⟨3, ![1, 1, 1]⟩

abbrev nBuf : Space → Nat
  | .hbm => 377
  | .vmem => 0
  | .smem => 0
  | _ => 0

abbrev hbmTy0_0 (i : Nat) : BufTy := match i % 128 with
  | 0 => ⟨S16384x64, .i32⟩
  | 1 => ⟨S1968, .f32⟩
  | 2 => ⟨S16384, .i32⟩
  | 3 => ⟨S16384x1, .i32⟩
  | 4 => ⟨S_, .f32⟩
  | 5 => ⟨S16384x1968, .f32⟩
  | 6 => ⟨S_, .i32⟩
  | 7 => ⟨S16384x1, .i32⟩
  | 8 => ⟨S16384x1, .i1⟩
  | 9 => ⟨S_, .i32⟩
  | 10 => ⟨S16384x1, .i32⟩
  | 11 => ⟨S16384x1, .i32⟩
  | 12 => ⟨S16384x1, .i32⟩
  | 13 => ⟨S_, .i32⟩
  | 14 => ⟨S16384x64, .i32⟩
  | 15 => ⟨S16384x64, .i1⟩
  | 16 => ⟨S_, .i32⟩
  | 17 => ⟨S16384x64, .i32⟩
  | 18 => ⟨S16384x64, .i32⟩
  | 19 => ⟨S16384x64, .i32⟩
  | 20 => ⟨S16384x64, .i32⟩
  | 21 => ⟨S16384x64x1, .i32⟩
  | 22 => ⟨S16384x64x1, .i32⟩
  | 23 => ⟨S16384x64x2, .i32⟩
  | 24 => ⟨S_, .f32⟩
  | 25 => ⟨S16384x64, .f32⟩
  | 26 => ⟨S16384x1968, .f32⟩
  | 27 => ⟨S_, .f32⟩
  | 28 => ⟨S16384x1968, .f32⟩
  | 29 => ⟨S16384x1968, .i1⟩
  | 30 => ⟨S1x1968, .f32⟩
  | 31 => ⟨S_, .f32⟩
  | 32 => ⟨S_, .f32⟩
  | 33 => ⟨S16384x1968, .f32⟩
  | 34 => ⟨S16384x1968, .f32⟩
  | 35 => ⟨S16384x1968, .f32⟩
  | 36 => ⟨S_, .f32⟩
  | 37 => ⟨S16384, .f32⟩
  | 38 => ⟨S_, .f32⟩
  | 39 => ⟨S16384, .f32⟩
  | 40 => ⟨S16384, .f32⟩
  | 41 => ⟨S16384x1, .f32⟩
  | 42 => ⟨S16384x1968, .f32⟩
  | 43 => ⟨S16384x1968, .f32⟩
  | 44 => ⟨S16384x1968, .f32⟩
  | 45 => ⟨S_, .f32⟩
  | 46 => ⟨S16384, .f32⟩
  | 47 => ⟨S16384x1, .f32⟩
  | 48 => ⟨S16384x1968, .f32⟩
  | 49 => ⟨S16384x1968, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S_, .f32⟩
  | 61 => ⟨S_, .f32⟩
  | 62 => ⟨S_, .f32⟩
  | 63 => ⟨S_, .f32⟩
  | 64 => ⟨S1x1, .f32⟩
  | 65 => ⟨S1x1, .f32⟩
  | 66 => ⟨S1, .i32⟩
  | 67 => ⟨S_, .i32⟩
  | 68 => ⟨S1, .i32⟩
  | 69 => ⟨S_, .i32⟩
  | 70 => ⟨S16384x1968, .i64⟩
  | 71 => ⟨S16384x1968, .i64⟩
  | 72 => ⟨S_, .i64⟩
  | 73 => ⟨S16384x1968, .i64⟩
  | 74 => ⟨S16384x1968, .i64⟩
  | 75 => ⟨S_, .i64⟩
  | 76 => ⟨S16384x1968, .i64⟩
  | 77 => ⟨S16384x1968, .i64⟩
  | 78 => ⟨S16384x1968, .i64⟩
  | 79 => ⟨S_, .i64⟩
  | 80 => ⟨S16384x1968, .i64⟩
  | 81 => ⟨S16384x1968, .i64⟩
  | 82 => ⟨S16384x1968, .i32⟩
  | 83 => ⟨S16384x1968, .i32⟩
  | 84 => ⟨S_, .i32⟩
  | 85 => ⟨S_, .i32⟩
  | 86 => ⟨S_, .i32⟩
  | 87 => ⟨S16384x1968, .i32⟩
  | 88 => ⟨S16384x1968, .i32⟩
  | 89 => ⟨S16384x1968, .i32⟩
  | 90 => ⟨S16384x1968, .i32⟩
  | 91 => ⟨S16384x1968, .i32⟩
  | 92 => ⟨S_, .i32⟩
  | 93 => ⟨S16384x1968, .i32⟩
  | 94 => ⟨S16384x1968, .i32⟩
  | 95 => ⟨S_, .i32⟩
  | 96 => ⟨S16384x1968, .i32⟩
  | 97 => ⟨S16384x1968, .i32⟩
  | 98 => ⟨S16384x1968, .i32⟩
  | 99 => ⟨S16384x1968, .i32⟩
  | 100 => ⟨S16384x1968, .i32⟩
  | 101 => ⟨S_, .i32⟩
  | 102 => ⟨S16384x1968, .i32⟩
  | 103 => ⟨S16384x1968, .i32⟩
  | 104 => ⟨S_, .i32⟩
  | 105 => ⟨S16384x1968, .i32⟩
  | 106 => ⟨S16384x1968, .i32⟩
  | 107 => ⟨S16384x1968, .i32⟩
  | 108 => ⟨S16384x1968, .i32⟩
  | 109 => ⟨S16384x1968, .i32⟩
  | 110 => ⟨S_, .i32⟩
  | 111 => ⟨S16384x1968, .i32⟩
  | 112 => ⟨S16384x1968, .i32⟩
  | 113 => ⟨S_, .i32⟩
  | 114 => ⟨S16384x1968, .i32⟩
  | 115 => ⟨S16384x1968, .i32⟩
  | 116 => ⟨S16384x1968, .i32⟩
  | 117 => ⟨S16384x1968, .i32⟩
  | 118 => ⟨S16384x1968, .i32⟩
  | 119 => ⟨S_, .i32⟩
  | 120 => ⟨S16384x1968, .i32⟩
  | 121 => ⟨S16384x1968, .i32⟩
  | 122 => ⟨S_, .i32⟩
  | 123 => ⟨S16384x1968, .i32⟩
  | 124 => ⟨S16384x1968, .i32⟩
  | 125 => ⟨S16384x1968, .i32⟩
  | 126 => ⟨S16384x1968, .i32⟩
  | 127 => ⟨S16384x1968, .i32⟩
  | _ => ⟨S16384x64, .i32⟩

abbrev hbmTy0_1 (i : Nat) : BufTy := match i % 128 with
  | 0 => ⟨S16384x1968, .i32⟩
  | 1 => ⟨S16384x1968, .i32⟩
  | 2 => ⟨S16384x1968, .i32⟩
  | 3 => ⟨S_, .i32⟩
  | 4 => ⟨S16384x1968, .i32⟩
  | 5 => ⟨S16384x1968, .i32⟩
  | 6 => ⟨S16384x1968, .i32⟩
  | 7 => ⟨S_, .i32⟩
  | 8 => ⟨S16384x1968, .i32⟩
  | 9 => ⟨S16384x1968, .i32⟩
  | 10 => ⟨S_, .i32⟩
  | 11 => ⟨S16384x1968, .i32⟩
  | 12 => ⟨S16384x1968, .i32⟩
  | 13 => ⟨S16384x1968, .i32⟩
  | 14 => ⟨S16384x1968, .i32⟩
  | 15 => ⟨S16384x1968, .i32⟩
  | 16 => ⟨S_, .i32⟩
  | 17 => ⟨S16384x1968, .i32⟩
  | 18 => ⟨S16384x1968, .i32⟩
  | 19 => ⟨S_, .i32⟩
  | 20 => ⟨S16384x1968, .i32⟩
  | 21 => ⟨S16384x1968, .i32⟩
  | 22 => ⟨S16384x1968, .i32⟩
  | 23 => ⟨S16384x1968, .i32⟩
  | 24 => ⟨S16384x1968, .i32⟩
  | 25 => ⟨S_, .i32⟩
  | 26 => ⟨S16384x1968, .i32⟩
  | 27 => ⟨S16384x1968, .i32⟩
  | 28 => ⟨S_, .i32⟩
  | 29 => ⟨S16384x1968, .i32⟩
  | 30 => ⟨S16384x1968, .i32⟩
  | 31 => ⟨S16384x1968, .i32⟩
  | 32 => ⟨S16384x1968, .i32⟩
  | 33 => ⟨S16384x1968, .i32⟩
  | 34 => ⟨S_, .i32⟩
  | 35 => ⟨S16384x1968, .i32⟩
  | 36 => ⟨S16384x1968, .i32⟩
  | 37 => ⟨S_, .i32⟩
  | 38 => ⟨S16384x1968, .i32⟩
  | 39 => ⟨S16384x1968, .i32⟩
  | 40 => ⟨S16384x1968, .i32⟩
  | 41 => ⟨S16384x1968, .i32⟩
  | 42 => ⟨S16384x1968, .i32⟩
  | 43 => ⟨S16384x1968, .i32⟩
  | 44 => ⟨S16384x1968, .i32⟩
  | 45 => ⟨S16384x1968, .i32⟩
  | 46 => ⟨S_, .i32⟩
  | 47 => ⟨S16384x1968, .i32⟩
  | 48 => ⟨S16384x1968, .i32⟩
  | 49 => ⟨S16384x1968, .i32⟩
  | 50 => ⟨S_, .i32⟩
  | 51 => ⟨S16384x1968, .i32⟩
  | 52 => ⟨S16384x1968, .i32⟩
  | 53 => ⟨S_, .i32⟩
  | 54 => ⟨S16384x1968, .i32⟩
  | 55 => ⟨S16384x1968, .i32⟩
  | 56 => ⟨S16384x1968, .i32⟩
  | 57 => ⟨S16384x1968, .i32⟩
  | 58 => ⟨S16384x1968, .i32⟩
  | 59 => ⟨S_, .i32⟩
  | 60 => ⟨S16384x1968, .i32⟩
  | 61 => ⟨S16384x1968, .i32⟩
  | 62 => ⟨S_, .i32⟩
  | 63 => ⟨S16384x1968, .i32⟩
  | 64 => ⟨S16384x1968, .i32⟩
  | 65 => ⟨S16384x1968, .i32⟩
  | 66 => ⟨S16384x1968, .i32⟩
  | 67 => ⟨S16384x1968, .i32⟩
  | 68 => ⟨S_, .i32⟩
  | 69 => ⟨S16384x1968, .i32⟩
  | 70 => ⟨S16384x1968, .i32⟩
  | 71 => ⟨S_, .i32⟩
  | 72 => ⟨S16384x1968, .i32⟩
  | 73 => ⟨S16384x1968, .i32⟩
  | 74 => ⟨S16384x1968, .i32⟩
  | 75 => ⟨S16384x1968, .i32⟩
  | 76 => ⟨S16384x1968, .i32⟩
  | 77 => ⟨S_, .i32⟩
  | 78 => ⟨S16384x1968, .i32⟩
  | 79 => ⟨S16384x1968, .i32⟩
  | 80 => ⟨S_, .i32⟩
  | 81 => ⟨S16384x1968, .i32⟩
  | 82 => ⟨S16384x1968, .i32⟩
  | 83 => ⟨S16384x1968, .i32⟩
  | 84 => ⟨S16384x1968, .i32⟩
  | 85 => ⟨S16384x1968, .i32⟩
  | 86 => ⟨S16384x1968, .i32⟩
  | 87 => ⟨S16384x1968, .i32⟩
  | 88 => ⟨S16384x1968, .i32⟩
  | 89 => ⟨S_, .i32⟩
  | 90 => ⟨S16384x1968, .i32⟩
  | 91 => ⟨S16384x1968, .i32⟩
  | 92 => ⟨S16384x1968, .i32⟩
  | 93 => ⟨S_, .i32⟩
  | 94 => ⟨S16384x1968, .i32⟩
  | 95 => ⟨S16384x1968, .i32⟩
  | 96 => ⟨S_, .i32⟩
  | 97 => ⟨S16384x1968, .i32⟩
  | 98 => ⟨S16384x1968, .i32⟩
  | 99 => ⟨S16384x1968, .i32⟩
  | 100 => ⟨S16384x1968, .i32⟩
  | 101 => ⟨S16384x1968, .i32⟩
  | 102 => ⟨S_, .i32⟩
  | 103 => ⟨S16384x1968, .i32⟩
  | 104 => ⟨S16384x1968, .i32⟩
  | 105 => ⟨S_, .i32⟩
  | 106 => ⟨S16384x1968, .i32⟩
  | 107 => ⟨S16384x1968, .i32⟩
  | 108 => ⟨S16384x1968, .i32⟩
  | 109 => ⟨S16384x1968, .i32⟩
  | 110 => ⟨S16384x1968, .i32⟩
  | 111 => ⟨S_, .i32⟩
  | 112 => ⟨S16384x1968, .i32⟩
  | 113 => ⟨S16384x1968, .i32⟩
  | 114 => ⟨S_, .i32⟩
  | 115 => ⟨S16384x1968, .i32⟩
  | 116 => ⟨S16384x1968, .i32⟩
  | 117 => ⟨S16384x1968, .i32⟩
  | 118 => ⟨S16384x1968, .i32⟩
  | 119 => ⟨S16384x1968, .i32⟩
  | 120 => ⟨S_, .i32⟩
  | 121 => ⟨S16384x1968, .i32⟩
  | 122 => ⟨S16384x1968, .i32⟩
  | 123 => ⟨S_, .i32⟩
  | 124 => ⟨S16384x1968, .i32⟩
  | 125 => ⟨S16384x1968, .i32⟩
  | 126 => ⟨S16384x1968, .i32⟩
  | 127 => ⟨S16384x1968, .i32⟩
  | _ => ⟨S16384x64, .i32⟩

abbrev hbmTy0_2 (i : Nat) : BufTy := match i % 128 with
  | 0 => ⟨S16384x1968, .i32⟩
  | 1 => ⟨S16384x1968, .i32⟩
  | 2 => ⟨S16384x1968, .i32⟩
  | 3 => ⟨S16384x1968, .i32⟩
  | 4 => ⟨S_, .i32⟩
  | 5 => ⟨S16384x1968, .i32⟩
  | 6 => ⟨S16384x1968, .i32⟩
  | 7 => ⟨S16384x1968, .i32⟩
  | 8 => ⟨S_, .i32⟩
  | 9 => ⟨S16384x1968, .i32⟩
  | 10 => ⟨S16384x1968, .i32⟩
  | 11 => ⟨S_, .i32⟩
  | 12 => ⟨S16384x1968, .i32⟩
  | 13 => ⟨S16384x1968, .i32⟩
  | 14 => ⟨S16384x1968, .i32⟩
  | 15 => ⟨S16384x1968, .i32⟩
  | 16 => ⟨S16384x1968, .i32⟩
  | 17 => ⟨S_, .i32⟩
  | 18 => ⟨S16384x1968, .i32⟩
  | 19 => ⟨S16384x1968, .i32⟩
  | 20 => ⟨S_, .i32⟩
  | 21 => ⟨S16384x1968, .i32⟩
  | 22 => ⟨S16384x1968, .i32⟩
  | 23 => ⟨S16384x1968, .i32⟩
  | 24 => ⟨S16384x1968, .i32⟩
  | 25 => ⟨S16384x1968, .i32⟩
  | 26 => ⟨S_, .i32⟩
  | 27 => ⟨S16384x1968, .i32⟩
  | 28 => ⟨S16384x1968, .i32⟩
  | 29 => ⟨S_, .i32⟩
  | 30 => ⟨S16384x1968, .i32⟩
  | 31 => ⟨S16384x1968, .i32⟩
  | 32 => ⟨S16384x1968, .i32⟩
  | 33 => ⟨S16384x1968, .i32⟩
  | 34 => ⟨S16384x1968, .i32⟩
  | 35 => ⟨S_, .i32⟩
  | 36 => ⟨S16384x1968, .i32⟩
  | 37 => ⟨S16384x1968, .i32⟩
  | 38 => ⟨S_, .i32⟩
  | 39 => ⟨S16384x1968, .i32⟩
  | 40 => ⟨S16384x1968, .i32⟩
  | 41 => ⟨S16384x1968, .i32⟩
  | 42 => ⟨S16384x1968, .i32⟩
  | 43 => ⟨S16384x1968, .i32⟩
  | 44 => ⟨S16384x1968, .i32⟩
  | 45 => ⟨S16384x1968, .i32⟩
  | 46 => ⟨S16384x1968, .i32⟩
  | 47 => ⟨S_, .i32⟩
  | 48 => ⟨S16384x1968, .i32⟩
  | 49 => ⟨S16384x1968, .i32⟩
  | 50 => ⟨S16384x1968, .i32⟩
  | 51 => ⟨S_, .i32⟩
  | 52 => ⟨S16384x1968, .i32⟩
  | 53 => ⟨S16384x1968, .i32⟩
  | 54 => ⟨S_, .i32⟩
  | 55 => ⟨S16384x1968, .i32⟩
  | 56 => ⟨S16384x1968, .i32⟩
  | 57 => ⟨S16384x1968, .f32⟩
  | 58 => ⟨S_, .f32⟩
  | 59 => ⟨S16384x1968, .f32⟩
  | 60 => ⟨S16384x1968, .f32⟩
  | 61 => ⟨S1x1, .f32⟩
  | 62 => ⟨S16384x1968, .f32⟩
  | 63 => ⟨S16384x1968, .f32⟩
  | 64 => ⟨S16384x1968, .f32⟩
  | 65 => ⟨S16384x1968, .f32⟩
  | 66 => ⟨S16384x1968, .f32⟩
  | 67 => ⟨S16384x1968, .f32⟩
  | 68 => ⟨S_, .f32⟩
  | 69 => ⟨S16384x1968, .f32⟩
  | 70 => ⟨S16384x1968, .f32⟩
  | 71 => ⟨S_, .f32⟩
  | 72 => ⟨S16384x1968, .f32⟩
  | 73 => ⟨S16384x1968, .f32⟩
  | 74 => ⟨S_, .f32⟩
  | 75 => ⟨S16384x1968, .f32⟩
  | 76 => ⟨S16384x1968, .f32⟩
  | 77 => ⟨S16384x1968, .f32⟩
  | 78 => ⟨S16384x1968, .f32⟩
  | 79 => ⟨S16384x1968, .f32⟩
  | 80 => ⟨S16384x1968, .f32⟩
  | 81 => ⟨S_, .f32⟩
  | 82 => ⟨S16384x1968, .f32⟩
  | 83 => ⟨S16384x1968, .f32⟩
  | 84 => ⟨S16384x1968, .f32⟩
  | 85 => ⟨S_, .f32⟩
  | 86 => ⟨S16384x1968, .f32⟩
  | 87 => ⟨S16384x1968, .i1⟩
  | 88 => ⟨S16384x1968, .f32⟩
  | 89 => ⟨S_, .f32⟩
  | 90 => ⟨S_, .f32⟩
  | 91 => ⟨S16384x1968, .f32⟩
  | 92 => ⟨S16384x1968, .f32⟩
  | 93 => ⟨S16384x1968, .i32⟩
  | 94 => ⟨S_, .f32⟩
  | 95 => ⟨S_, .i32⟩
  | 96 => ⟨S16384, .f32⟩
  | 97 => ⟨S16384, .i32⟩
  | 98 => ⟨S16384x1, .i32⟩
  | 99 => ⟨S_, .i32⟩
  | 100 => ⟨S16384x1, .i32⟩
  | 101 => ⟨S16384x1, .i1⟩
  | 102 => ⟨S_, .i32⟩
  | 103 => ⟨S16384x1, .i32⟩
  | 104 => ⟨S16384x1, .i32⟩
  | 105 => ⟨S16384x1, .i32⟩
  | 106 => ⟨S16384x1x1, .i32⟩
  | 107 => ⟨S1, .i32⟩
  | 108 => ⟨S_, .i32⟩
  | 109 => ⟨S16384x1x1, .i32⟩
  | 110 => ⟨S16384x1x1, .i1⟩
  | 111 => ⟨S1x1x1, .i32⟩
  | 112 => ⟨S16384x1x1, .i32⟩
  | 113 => ⟨S16384x1x1, .i1⟩
  | 114 => ⟨S16384x1x1, .i1⟩
  | 115 => ⟨S_, .i1⟩
  | 116 => ⟨S16384x1, .i1⟩
  | 117 => ⟨S16384x1, .f32⟩
  | 118 => ⟨S_, .f32⟩
  | 119 => ⟨S16384x1, .f32⟩
  | 120 => ⟨S16384x1, .f32⟩
  | _ => ⟨S16384x64, .i32⟩

abbrev hbmTy (i : Nat) : BufTy := match i / 128 with
  | 0 => hbmTy0_0 i
  | 1 => hbmTy0_1 i
  | 2 => hbmTy0_2 i
  | _ => ⟨S16384x64, .i32⟩

abbrev bufTy : (tb : Table) → Fin (tcTables nBuf tb) → BufTy
  | .hbm, ⟨i, _⟩ => hbmTy i
  | _, _ => ⟨S16384x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_cst_13 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_c : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_c_1 : Ref sig .tc := ⟨.hbm, 79, rfl⟩
abbrev main_call1_v15 : Ref sig .tc := ⟨.hbm, 80, rfl⟩
abbrev main_call1_v16 : Ref sig .tc := ⟨.hbm, 81, rfl⟩
abbrev main_call1_v17 : Ref sig .tc := ⟨.hbm, 82, rfl⟩
abbrev main_call1_v18 : Ref sig .tc := ⟨.hbm, 83, rfl⟩
abbrev main_call1_call0_v0 : Ref sig .tc := ⟨.hbm, 84, rfl⟩
abbrev main_call1_call0_c : Ref sig .tc := ⟨.hbm, 85, rfl⟩
abbrev main_call1_call0_v1 : Ref sig .tc := ⟨.hbm, 86, rfl⟩
abbrev main_call1_call0_v2 : Ref sig .tc := ⟨.hbm, 87, rfl⟩
abbrev main_call1_call0_v3 : Ref sig .tc := ⟨.hbm, 88, rfl⟩
abbrev main_call1_call0_v4 : Ref sig .tc := ⟨.hbm, 89, rfl⟩
abbrev main_call1_call0_v5 : Ref sig .tc := ⟨.hbm, 90, rfl⟩
abbrev main_call1_call0_v6 : Ref sig .tc := ⟨.hbm, 91, rfl⟩
abbrev main_call1_call0_c_0 : Ref sig .tc := ⟨.hbm, 92, rfl⟩
abbrev main_call1_call0_v7 : Ref sig .tc := ⟨.hbm, 93, rfl⟩
abbrev main_call1_call0_v8 : Ref sig .tc := ⟨.hbm, 94, rfl⟩
abbrev main_call1_call0_c_1 : Ref sig .tc := ⟨.hbm, 95, rfl⟩
abbrev main_call1_call0_v9 : Ref sig .tc := ⟨.hbm, 96, rfl⟩
abbrev main_call1_call0_v10 : Ref sig .tc := ⟨.hbm, 97, rfl⟩
abbrev main_call1_call0_v11 : Ref sig .tc := ⟨.hbm, 98, rfl⟩
abbrev main_call1_call0_v12 : Ref sig .tc := ⟨.hbm, 99, rfl⟩
abbrev main_call1_call0_v13 : Ref sig .tc := ⟨.hbm, 100, rfl⟩
abbrev main_call1_call0_c_2 : Ref sig .tc := ⟨.hbm, 101, rfl⟩
abbrev main_call1_call0_v14 : Ref sig .tc := ⟨.hbm, 102, rfl⟩
abbrev main_call1_call0_v15 : Ref sig .tc := ⟨.hbm, 103, rfl⟩
abbrev main_call1_call0_c_3 : Ref sig .tc := ⟨.hbm, 104, rfl⟩
abbrev main_call1_call0_v16 : Ref sig .tc := ⟨.hbm, 105, rfl⟩
abbrev main_call1_call0_v17 : Ref sig .tc := ⟨.hbm, 106, rfl⟩
abbrev main_call1_call0_v18 : Ref sig .tc := ⟨.hbm, 107, rfl⟩
abbrev main_call1_call0_v19 : Ref sig .tc := ⟨.hbm, 108, rfl⟩
abbrev main_call1_call0_v20 : Ref sig .tc := ⟨.hbm, 109, rfl⟩
abbrev main_call1_call0_c_4 : Ref sig .tc := ⟨.hbm, 110, rfl⟩
abbrev main_call1_call0_v21 : Ref sig .tc := ⟨.hbm, 111, rfl⟩
abbrev main_call1_call0_v22 : Ref sig .tc := ⟨.hbm, 112, rfl⟩
abbrev main_call1_call0_c_5 : Ref sig .tc := ⟨.hbm, 113, rfl⟩
abbrev main_call1_call0_v23 : Ref sig .tc := ⟨.hbm, 114, rfl⟩
abbrev main_call1_call0_v24 : Ref sig .tc := ⟨.hbm, 115, rfl⟩
abbrev main_call1_call0_v25 : Ref sig .tc := ⟨.hbm, 116, rfl⟩
abbrev main_call1_call0_v26 : Ref sig .tc := ⟨.hbm, 117, rfl⟩
abbrev main_call1_call0_v27 : Ref sig .tc := ⟨.hbm, 118, rfl⟩
abbrev main_call1_call0_c_6 : Ref sig .tc := ⟨.hbm, 119, rfl⟩
abbrev main_call1_call0_v28 : Ref sig .tc := ⟨.hbm, 120, rfl⟩
abbrev main_call1_call0_v29 : Ref sig .tc := ⟨.hbm, 121, rfl⟩
abbrev main_call1_call0_c_7 : Ref sig .tc := ⟨.hbm, 122, rfl⟩
abbrev main_call1_call0_v30 : Ref sig .tc := ⟨.hbm, 123, rfl⟩
abbrev main_call1_call0_v31 : Ref sig .tc := ⟨.hbm, 124, rfl⟩
abbrev main_call1_call0_v32 : Ref sig .tc := ⟨.hbm, 125, rfl⟩
abbrev main_call1_call0_v33 : Ref sig .tc := ⟨.hbm, 126, rfl⟩
abbrev main_call1_call0_v34 : Ref sig .tc := ⟨.hbm, 127, rfl⟩
abbrev main_call1_call0_v35 : Ref sig .tc := ⟨.hbm, 128, rfl⟩
abbrev main_call1_call0_v36 : Ref sig .tc := ⟨.hbm, 129, rfl⟩
abbrev main_call1_call0_v37 : Ref sig .tc := ⟨.hbm, 130, rfl⟩
abbrev main_call1_call0_c_8 : Ref sig .tc := ⟨.hbm, 131, rfl⟩
abbrev main_call1_call0_v38 : Ref sig .tc := ⟨.hbm, 132, rfl⟩
abbrev main_call1_call0_v39 : Ref sig .tc := ⟨.hbm, 133, rfl⟩
abbrev main_call1_call0_v40 : Ref sig .tc := ⟨.hbm, 134, rfl⟩
abbrev main_call1_call0_c_9 : Ref sig .tc := ⟨.hbm, 135, rfl⟩
abbrev main_call1_call0_v41 : Ref sig .tc := ⟨.hbm, 136, rfl⟩
abbrev main_call1_call0_v42 : Ref sig .tc := ⟨.hbm, 137, rfl⟩
abbrev main_call1_call0_c_10 : Ref sig .tc := ⟨.hbm, 138, rfl⟩
abbrev main_call1_call0_v43 : Ref sig .tc := ⟨.hbm, 139, rfl⟩
abbrev main_call1_call0_v44 : Ref sig .tc := ⟨.hbm, 140, rfl⟩
abbrev main_call1_call0_v45 : Ref sig .tc := ⟨.hbm, 141, rfl⟩
abbrev main_call1_call0_v46 : Ref sig .tc := ⟨.hbm, 142, rfl⟩
abbrev main_call1_call0_v47 : Ref sig .tc := ⟨.hbm, 143, rfl⟩
abbrev main_call1_call0_c_11 : Ref sig .tc := ⟨.hbm, 144, rfl⟩
abbrev main_call1_call0_v48 : Ref sig .tc := ⟨.hbm, 145, rfl⟩
abbrev main_call1_call0_v49 : Ref sig .tc := ⟨.hbm, 146, rfl⟩
abbrev main_call1_call0_c_12 : Ref sig .tc := ⟨.hbm, 147, rfl⟩
abbrev main_call1_call0_v50 : Ref sig .tc := ⟨.hbm, 148, rfl⟩
abbrev main_call1_call0_v51 : Ref sig .tc := ⟨.hbm, 149, rfl⟩
abbrev main_call1_call0_v52 : Ref sig .tc := ⟨.hbm, 150, rfl⟩
abbrev main_call1_call0_v53 : Ref sig .tc := ⟨.hbm, 151, rfl⟩
abbrev main_call1_call0_v54 : Ref sig .tc := ⟨.hbm, 152, rfl⟩
abbrev main_call1_call0_c_13 : Ref sig .tc := ⟨.hbm, 153, rfl⟩
abbrev main_call1_call0_v55 : Ref sig .tc := ⟨.hbm, 154, rfl⟩
abbrev main_call1_call0_v56 : Ref sig .tc := ⟨.hbm, 155, rfl⟩
abbrev main_call1_call0_c_14 : Ref sig .tc := ⟨.hbm, 156, rfl⟩
abbrev main_call1_call0_v57 : Ref sig .tc := ⟨.hbm, 157, rfl⟩
abbrev main_call1_call0_v58 : Ref sig .tc := ⟨.hbm, 158, rfl⟩
abbrev main_call1_call0_v59 : Ref sig .tc := ⟨.hbm, 159, rfl⟩
abbrev main_call1_call0_v60 : Ref sig .tc := ⟨.hbm, 160, rfl⟩
abbrev main_call1_call0_v61 : Ref sig .tc := ⟨.hbm, 161, rfl⟩
abbrev main_call1_call0_c_15 : Ref sig .tc := ⟨.hbm, 162, rfl⟩
abbrev main_call1_call0_v62 : Ref sig .tc := ⟨.hbm, 163, rfl⟩
abbrev main_call1_call0_v63 : Ref sig .tc := ⟨.hbm, 164, rfl⟩
abbrev main_call1_call0_c_16 : Ref sig .tc := ⟨.hbm, 165, rfl⟩
abbrev main_call1_call0_v64 : Ref sig .tc := ⟨.hbm, 166, rfl⟩
abbrev main_call1_call0_v65 : Ref sig .tc := ⟨.hbm, 167, rfl⟩
abbrev main_call1_call0_v66 : Ref sig .tc := ⟨.hbm, 168, rfl⟩
abbrev main_call1_call0_v67 : Ref sig .tc := ⟨.hbm, 169, rfl⟩
abbrev main_call1_call0_v68 : Ref sig .tc := ⟨.hbm, 170, rfl⟩
abbrev main_call1_call0_v69 : Ref sig .tc := ⟨.hbm, 171, rfl⟩
abbrev main_call1_call0_v70 : Ref sig .tc := ⟨.hbm, 172, rfl⟩
abbrev main_call1_call0_v71 : Ref sig .tc := ⟨.hbm, 173, rfl⟩
abbrev main_call1_call0_c_17 : Ref sig .tc := ⟨.hbm, 174, rfl⟩
abbrev main_call1_call0_v72 : Ref sig .tc := ⟨.hbm, 175, rfl⟩
abbrev main_call1_call0_v73 : Ref sig .tc := ⟨.hbm, 176, rfl⟩
abbrev main_call1_call0_v74 : Ref sig .tc := ⟨.hbm, 177, rfl⟩
abbrev main_call1_call0_c_18 : Ref sig .tc := ⟨.hbm, 178, rfl⟩
abbrev main_call1_call0_v75 : Ref sig .tc := ⟨.hbm, 179, rfl⟩
abbrev main_call1_call0_v76 : Ref sig .tc := ⟨.hbm, 180, rfl⟩
abbrev main_call1_call0_c_19 : Ref sig .tc := ⟨.hbm, 181, rfl⟩
abbrev main_call1_call0_v77 : Ref sig .tc := ⟨.hbm, 182, rfl⟩
abbrev main_call1_call0_v78 : Ref sig .tc := ⟨.hbm, 183, rfl⟩
abbrev main_call1_call0_v79 : Ref sig .tc := ⟨.hbm, 184, rfl⟩
abbrev main_call1_call0_v80 : Ref sig .tc := ⟨.hbm, 185, rfl⟩
abbrev main_call1_call0_v81 : Ref sig .tc := ⟨.hbm, 186, rfl⟩
abbrev main_call1_call0_c_20 : Ref sig .tc := ⟨.hbm, 187, rfl⟩
abbrev main_call1_call0_v82 : Ref sig .tc := ⟨.hbm, 188, rfl⟩
abbrev main_call1_call0_v83 : Ref sig .tc := ⟨.hbm, 189, rfl⟩
abbrev main_call1_call0_c_21 : Ref sig .tc := ⟨.hbm, 190, rfl⟩
abbrev main_call1_call0_v84 : Ref sig .tc := ⟨.hbm, 191, rfl⟩
abbrev main_call1_call0_v85 : Ref sig .tc := ⟨.hbm, 192, rfl⟩
abbrev main_call1_call0_v86 : Ref sig .tc := ⟨.hbm, 193, rfl⟩
abbrev main_call1_call0_v87 : Ref sig .tc := ⟨.hbm, 194, rfl⟩
abbrev main_call1_call0_v88 : Ref sig .tc := ⟨.hbm, 195, rfl⟩
abbrev main_call1_call0_c_22 : Ref sig .tc := ⟨.hbm, 196, rfl⟩
abbrev main_call1_call0_v89 : Ref sig .tc := ⟨.hbm, 197, rfl⟩
abbrev main_call1_call0_v90 : Ref sig .tc := ⟨.hbm, 198, rfl⟩
abbrev main_call1_call0_c_23 : Ref sig .tc := ⟨.hbm, 199, rfl⟩
abbrev main_call1_call0_v91 : Ref sig .tc := ⟨.hbm, 200, rfl⟩
abbrev main_call1_call0_v92 : Ref sig .tc := ⟨.hbm, 201, rfl⟩
abbrev main_call1_call0_v93 : Ref sig .tc := ⟨.hbm, 202, rfl⟩
abbrev main_call1_call0_v94 : Ref sig .tc := ⟨.hbm, 203, rfl⟩
abbrev main_call1_call0_v95 : Ref sig .tc := ⟨.hbm, 204, rfl⟩
abbrev main_call1_call0_c_24 : Ref sig .tc := ⟨.hbm, 205, rfl⟩
abbrev main_call1_call0_v96 : Ref sig .tc := ⟨.hbm, 206, rfl⟩
abbrev main_call1_call0_v97 : Ref sig .tc := ⟨.hbm, 207, rfl⟩
abbrev main_call1_call0_c_25 : Ref sig .tc := ⟨.hbm, 208, rfl⟩
abbrev main_call1_call0_v98 : Ref sig .tc := ⟨.hbm, 209, rfl⟩
abbrev main_call1_call0_v99 : Ref sig .tc := ⟨.hbm, 210, rfl⟩
abbrev main_call1_call0_v100 : Ref sig .tc := ⟨.hbm, 211, rfl⟩
abbrev main_call1_call0_v101 : Ref sig .tc := ⟨.hbm, 212, rfl⟩
abbrev main_call1_call0_v102 : Ref sig .tc := ⟨.hbm, 213, rfl⟩
abbrev main_call1_call0_v103 : Ref sig .tc := ⟨.hbm, 214, rfl⟩
abbrev main_call1_call0_v104 : Ref sig .tc := ⟨.hbm, 215, rfl⟩
abbrev main_call1_call0_v105 : Ref sig .tc := ⟨.hbm, 216, rfl⟩
abbrev main_call1_call0_c_26 : Ref sig .tc := ⟨.hbm, 217, rfl⟩
abbrev main_call1_call0_v106 : Ref sig .tc := ⟨.hbm, 218, rfl⟩
abbrev main_call1_call0_v107 : Ref sig .tc := ⟨.hbm, 219, rfl⟩
abbrev main_call1_call0_v108 : Ref sig .tc := ⟨.hbm, 220, rfl⟩
abbrev main_call1_call0_c_27 : Ref sig .tc := ⟨.hbm, 221, rfl⟩
abbrev main_call1_call0_v109 : Ref sig .tc := ⟨.hbm, 222, rfl⟩
abbrev main_call1_call0_v110 : Ref sig .tc := ⟨.hbm, 223, rfl⟩
abbrev main_call1_call0_c_28 : Ref sig .tc := ⟨.hbm, 224, rfl⟩
abbrev main_call1_call0_v111 : Ref sig .tc := ⟨.hbm, 225, rfl⟩
abbrev main_call1_call0_v112 : Ref sig .tc := ⟨.hbm, 226, rfl⟩
abbrev main_call1_call0_v113 : Ref sig .tc := ⟨.hbm, 227, rfl⟩
abbrev main_call1_call0_v114 : Ref sig .tc := ⟨.hbm, 228, rfl⟩
abbrev main_call1_call0_v115 : Ref sig .tc := ⟨.hbm, 229, rfl⟩
abbrev main_call1_call0_c_29 : Ref sig .tc := ⟨.hbm, 230, rfl⟩
abbrev main_call1_call0_v116 : Ref sig .tc := ⟨.hbm, 231, rfl⟩
abbrev main_call1_call0_v117 : Ref sig .tc := ⟨.hbm, 232, rfl⟩
abbrev main_call1_call0_c_30 : Ref sig .tc := ⟨.hbm, 233, rfl⟩
abbrev main_call1_call0_v118 : Ref sig .tc := ⟨.hbm, 234, rfl⟩
abbrev main_call1_call0_v119 : Ref sig .tc := ⟨.hbm, 235, rfl⟩
abbrev main_call1_call0_v120 : Ref sig .tc := ⟨.hbm, 236, rfl⟩
abbrev main_call1_call0_v121 : Ref sig .tc := ⟨.hbm, 237, rfl⟩
abbrev main_call1_call0_v122 : Ref sig .tc := ⟨.hbm, 238, rfl⟩
abbrev main_call1_call0_c_31 : Ref sig .tc := ⟨.hbm, 239, rfl⟩
abbrev main_call1_call0_v123 : Ref sig .tc := ⟨.hbm, 240, rfl⟩
abbrev main_call1_call0_v124 : Ref sig .tc := ⟨.hbm, 241, rfl⟩
abbrev main_call1_call0_c_32 : Ref sig .tc := ⟨.hbm, 242, rfl⟩
abbrev main_call1_call0_v125 : Ref sig .tc := ⟨.hbm, 243, rfl⟩
abbrev main_call1_call0_v126 : Ref sig .tc := ⟨.hbm, 244, rfl⟩
abbrev main_call1_call0_v127 : Ref sig .tc := ⟨.hbm, 245, rfl⟩
abbrev main_call1_call0_v128 : Ref sig .tc := ⟨.hbm, 246, rfl⟩
abbrev main_call1_call0_v129 : Ref sig .tc := ⟨.hbm, 247, rfl⟩
abbrev main_call1_call0_c_33 : Ref sig .tc := ⟨.hbm, 248, rfl⟩
abbrev main_call1_call0_v130 : Ref sig .tc := ⟨.hbm, 249, rfl⟩
abbrev main_call1_call0_v131 : Ref sig .tc := ⟨.hbm, 250, rfl⟩
abbrev main_call1_call0_c_34 : Ref sig .tc := ⟨.hbm, 251, rfl⟩
abbrev main_call1_call0_v132 : Ref sig .tc := ⟨.hbm, 252, rfl⟩
abbrev main_call1_call0_v133 : Ref sig .tc := ⟨.hbm, 253, rfl⟩
abbrev main_call1_call0_v134 : Ref sig .tc := ⟨.hbm, 254, rfl⟩
abbrev main_call1_call0_v135 : Ref sig .tc := ⟨.hbm, 255, rfl⟩
abbrev main_call1_call0_v136 : Ref sig .tc := ⟨.hbm, 256, rfl⟩
abbrev main_call1_call0_v137 : Ref sig .tc := ⟨.hbm, 257, rfl⟩
abbrev main_call1_call0_v138 : Ref sig .tc := ⟨.hbm, 258, rfl⟩
abbrev main_call1_call0_v139 : Ref sig .tc := ⟨.hbm, 259, rfl⟩
abbrev main_call1_call0_c_35 : Ref sig .tc := ⟨.hbm, 260, rfl⟩
abbrev main_call1_call0_v140 : Ref sig .tc := ⟨.hbm, 261, rfl⟩
abbrev main_call1_call0_v141 : Ref sig .tc := ⟨.hbm, 262, rfl⟩
abbrev main_call1_call0_v142 : Ref sig .tc := ⟨.hbm, 263, rfl⟩
abbrev main_call1_call0_c_36 : Ref sig .tc := ⟨.hbm, 264, rfl⟩
abbrev main_call1_call0_v143 : Ref sig .tc := ⟨.hbm, 265, rfl⟩
abbrev main_call1_call0_v144 : Ref sig .tc := ⟨.hbm, 266, rfl⟩
abbrev main_call1_call0_c_37 : Ref sig .tc := ⟨.hbm, 267, rfl⟩
abbrev main_call1_call0_v145 : Ref sig .tc := ⟨.hbm, 268, rfl⟩
abbrev main_call1_call0_v146 : Ref sig .tc := ⟨.hbm, 269, rfl⟩
abbrev main_call1_call0_v147 : Ref sig .tc := ⟨.hbm, 270, rfl⟩
abbrev main_call1_call0_v148 : Ref sig .tc := ⟨.hbm, 271, rfl⟩
abbrev main_call1_call0_v149 : Ref sig .tc := ⟨.hbm, 272, rfl⟩
abbrev main_call1_call0_c_38 : Ref sig .tc := ⟨.hbm, 273, rfl⟩
abbrev main_call1_call0_v150 : Ref sig .tc := ⟨.hbm, 274, rfl⟩
abbrev main_call1_call0_v151 : Ref sig .tc := ⟨.hbm, 275, rfl⟩
abbrev main_call1_call0_c_39 : Ref sig .tc := ⟨.hbm, 276, rfl⟩
abbrev main_call1_call0_v152 : Ref sig .tc := ⟨.hbm, 277, rfl⟩
abbrev main_call1_call0_v153 : Ref sig .tc := ⟨.hbm, 278, rfl⟩
abbrev main_call1_call0_v154 : Ref sig .tc := ⟨.hbm, 279, rfl⟩
abbrev main_call1_call0_v155 : Ref sig .tc := ⟨.hbm, 280, rfl⟩
abbrev main_call1_call0_v156 : Ref sig .tc := ⟨.hbm, 281, rfl⟩
abbrev main_call1_call0_c_40 : Ref sig .tc := ⟨.hbm, 282, rfl⟩
abbrev main_call1_call0_v157 : Ref sig .tc := ⟨.hbm, 283, rfl⟩
abbrev main_call1_call0_v158 : Ref sig .tc := ⟨.hbm, 284, rfl⟩
abbrev main_call1_call0_c_41 : Ref sig .tc := ⟨.hbm, 285, rfl⟩
abbrev main_call1_call0_v159 : Ref sig .tc := ⟨.hbm, 286, rfl⟩
abbrev main_call1_call0_v160 : Ref sig .tc := ⟨.hbm, 287, rfl⟩
abbrev main_call1_call0_v161 : Ref sig .tc := ⟨.hbm, 288, rfl⟩
abbrev main_call1_call0_v162 : Ref sig .tc := ⟨.hbm, 289, rfl⟩
abbrev main_call1_call0_v163 : Ref sig .tc := ⟨.hbm, 290, rfl⟩
abbrev main_call1_call0_c_42 : Ref sig .tc := ⟨.hbm, 291, rfl⟩
abbrev main_call1_call0_v164 : Ref sig .tc := ⟨.hbm, 292, rfl⟩
abbrev main_call1_call0_v165 : Ref sig .tc := ⟨.hbm, 293, rfl⟩
abbrev main_call1_call0_c_43 : Ref sig .tc := ⟨.hbm, 294, rfl⟩
abbrev main_call1_call0_v166 : Ref sig .tc := ⟨.hbm, 295, rfl⟩
abbrev main_call1_call0_v167 : Ref sig .tc := ⟨.hbm, 296, rfl⟩
abbrev main_call1_call0_v168 : Ref sig .tc := ⟨.hbm, 297, rfl⟩
abbrev main_call1_call0_v169 : Ref sig .tc := ⟨.hbm, 298, rfl⟩
abbrev main_call1_call0_v170 : Ref sig .tc := ⟨.hbm, 299, rfl⟩
abbrev main_call1_v19_0 : Ref sig .tc := ⟨.hbm, 300, rfl⟩
abbrev main_call1_call0_v172 : Ref sig .tc := ⟨.hbm, 301, rfl⟩
abbrev main_call1_call0_v173 : Ref sig .tc := ⟨.hbm, 302, rfl⟩
abbrev main_call1_call0_c_44 : Ref sig .tc := ⟨.hbm, 303, rfl⟩
abbrev main_call1_call0_v174 : Ref sig .tc := ⟨.hbm, 304, rfl⟩
abbrev main_call1_v19_1 : Ref sig .tc := ⟨.hbm, 305, rfl⟩
abbrev main_call1_v20 : Ref sig .tc := ⟨.hbm, 306, rfl⟩
abbrev main_call1_c_2 : Ref sig .tc := ⟨.hbm, 307, rfl⟩
abbrev main_call1_v21 : Ref sig .tc := ⟨.hbm, 308, rfl⟩
abbrev main_call1_v22 : Ref sig .tc := ⟨.hbm, 309, rfl⟩
abbrev main_call1_c_3 : Ref sig .tc := ⟨.hbm, 310, rfl⟩
abbrev main_call1_v23 : Ref sig .tc := ⟨.hbm, 311, rfl⟩
abbrev main_call1_v24 : Ref sig .tc := ⟨.hbm, 312, rfl⟩
abbrev main_call1_v25 : Ref sig .tc := ⟨.hbm, 313, rfl⟩
abbrev main_call1_cst : Ref sig .tc := ⟨.hbm, 314, rfl⟩
abbrev main_call1_v26 : Ref sig .tc := ⟨.hbm, 315, rfl⟩
abbrev main_call1_v27 : Ref sig .tc := ⟨.hbm, 316, rfl⟩
abbrev main_call1_v28 : Ref sig .tc := ⟨.hbm, 317, rfl⟩
abbrev main_call1_v29 : Ref sig .tc := ⟨.hbm, 318, rfl⟩
abbrev main_call1_v30 : Ref sig .tc := ⟨.hbm, 319, rfl⟩
abbrev main_call1_v31 : Ref sig .tc := ⟨.hbm, 320, rfl⟩
abbrev main_call1_v32 : Ref sig .tc := ⟨.hbm, 321, rfl⟩
abbrev main_call1_v33 : Ref sig .tc := ⟨.hbm, 322, rfl⟩
abbrev main_v41 : Ref sig .tc := ⟨.hbm, 323, rfl⟩
abbrev main_cst_14 : Ref sig .tc := ⟨.hbm, 324, rfl⟩
abbrev main_v42 : Ref sig .tc := ⟨.hbm, 325, rfl⟩
abbrev main_v43 : Ref sig .tc := ⟨.hbm, 326, rfl⟩
abbrev main_cst_15 : Ref sig .tc := ⟨.hbm, 327, rfl⟩
abbrev main_v44 : Ref sig .tc := ⟨.hbm, 328, rfl⟩
abbrev main_v45 : Ref sig .tc := ⟨.hbm, 329, rfl⟩
abbrev main_cst_16 : Ref sig .tc := ⟨.hbm, 330, rfl⟩
abbrev main_v46 : Ref sig .tc := ⟨.hbm, 331, rfl⟩
abbrev main_v47 : Ref sig .tc := ⟨.hbm, 332, rfl⟩
abbrev main_v48 : Ref sig .tc := ⟨.hbm, 333, rfl⟩
abbrev main_v49 : Ref sig .tc := ⟨.hbm, 334, rfl⟩
abbrev main_v50 : Ref sig .tc := ⟨.hbm, 335, rfl⟩
abbrev main_v51 : Ref sig .tc := ⟨.hbm, 336, rfl⟩
abbrev main_cst_17 : Ref sig .tc := ⟨.hbm, 337, rfl⟩
abbrev main_v52 : Ref sig .tc := ⟨.hbm, 338, rfl⟩
abbrev main_v53 : Ref sig .tc := ⟨.hbm, 339, rfl⟩
abbrev main_v54 : Ref sig .tc := ⟨.hbm, 340, rfl⟩
abbrev main_cst_18 : Ref sig .tc := ⟨.hbm, 341, rfl⟩
abbrev main_v55 : Ref sig .tc := ⟨.hbm, 342, rfl⟩
abbrev main_v56 : Ref sig .tc := ⟨.hbm, 343, rfl⟩
abbrev main_v57 : Ref sig .tc := ⟨.hbm, 344, rfl⟩
abbrev main_cst_19 : Ref sig .tc := ⟨.hbm, 345, rfl⟩
abbrev main_call2_v0 : Ref sig .tc := ⟨.hbm, 346, rfl⟩
abbrev main_call2_v1 : Ref sig .tc := ⟨.hbm, 347, rfl⟩
abbrev main_v58 : Ref sig .tc := ⟨.hbm, 348, rfl⟩
abbrev main_call3_v0 : Ref sig .tc := ⟨.hbm, 349, rfl⟩
abbrev main_call3_cst : Ref sig .tc := ⟨.hbm, 350, rfl⟩
abbrev main_call3_c : Ref sig .tc := ⟨.hbm, 351, rfl⟩
abbrev main_call3_v1_0 : Ref sig .tc := ⟨.hbm, 352, rfl⟩
abbrev main_v59 : Ref sig .tc := ⟨.hbm, 353, rfl⟩
abbrev main_v60 : Ref sig .tc := ⟨.hbm, 354, rfl⟩
abbrev main_call4_c : Ref sig .tc := ⟨.hbm, 355, rfl⟩
abbrev main_call4_v0 : Ref sig .tc := ⟨.hbm, 356, rfl⟩
abbrev main_call4_v1 : Ref sig .tc := ⟨.hbm, 357, rfl⟩
abbrev main_call4_c_0 : Ref sig .tc := ⟨.hbm, 358, rfl⟩
abbrev main_call4_v2 : Ref sig .tc := ⟨.hbm, 359, rfl⟩
abbrev main_call4_v3 : Ref sig .tc := ⟨.hbm, 360, rfl⟩
abbrev main_call4_v4 : Ref sig .tc := ⟨.hbm, 361, rfl⟩
abbrev main_call4_v5 : Ref sig .tc := ⟨.hbm, 362, rfl⟩
abbrev main_call4_c_1 : Ref sig .tc := ⟨.hbm, 363, rfl⟩
abbrev main_call4_c_2 : Ref sig .tc := ⟨.hbm, 364, rfl⟩
abbrev main_call4_v6 : Ref sig .tc := ⟨.hbm, 365, rfl⟩
abbrev main_call4_v7 : Ref sig .tc := ⟨.hbm, 366, rfl⟩
abbrev main_call4_v8 : Ref sig .tc := ⟨.hbm, 367, rfl⟩
abbrev main_call4_v9 : Ref sig .tc := ⟨.hbm, 368, rfl⟩
abbrev main_call4_v10 : Ref sig .tc := ⟨.hbm, 369, rfl⟩
abbrev main_call4_v11 : Ref sig .tc := ⟨.hbm, 370, rfl⟩
abbrev main_call4_c_3 : Ref sig .tc := ⟨.hbm, 371, rfl⟩
abbrev main_call4_v12 : Ref sig .tc := ⟨.hbm, 372, rfl⟩
abbrev main_call4_v13 : Ref sig .tc := ⟨.hbm, 373, rfl⟩
abbrev main_call4_cst : Ref sig .tc := ⟨.hbm, 374, rfl⟩
abbrev main_call4_v14 : Ref sig .tc := ⟨.hbm, 375, rfl⟩
abbrev main_v61 : Ref sig .tc := ⟨.hbm, 376, rfl⟩

abbrev nD : Nat := 1
abbrev τ : Topo := Topo.v7x

variable {F : FTy → Type} [FloatOps F]

def κ : String → Option EReal := fun
  | "mask" => some ⊥
  | _ => none
-- ==== Proof.ScProg.lean ====
/-
  The SparseCore kernel's loop body, read as one step repeated. The printed body treats the 256 positions of a trip as four
  groups of 64; a group is four blocks of 16 lanes, treated twice. First each block loads its ids, gathers the logits at
  them and writes its lane numbers into the group's slot table at the ids (`fetchBlock`). Then each block reads the slot
  table back at its ids and stores the gathered logits where the slot still names the lane, the mask value elsewhere
  (`keepBlock`). `body_eq` says the printed body is the four groups in order, by unfolding.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Legal

open Cert.KernelIdeal Cert.KernelIdeal.Gen
open Idealize.ShloMosaic Idealize.SL Idealize.SL.Sem

variable {F : FTy → Type} [FloatOps F] [Named F]

/-- What a block stores: the gathered logit where the slot read back names this lane of the group, the mask value elsewhere. -/
def keepPay (v3 : IVec S16 32) (k : BitVec 32) (w : Vec F S16 .i32) (g : Vec F S16 .f32) : Vec F S16 .f32 :=
  select (cmpi .eq w (addi v3 (broadcast S16 k))) g (broadcast S16 (Named.named κ "mask" 0xF149F2CA#32 : F .f32))

variable {p : Proc τ} (arg5 : Memref sig p.kind .vmem S1968 .f32) (slot : Memref sig p.kind .vmem S1968 .i32)
  (arg10 : Memref sig p.kind .vmem S32768 .i32) (arg11 : Memref sig p.kind .vmem S32768 .f32)
  (v3 : IVec S16 32) (t : Fin k0_t1_loop.trips) (j k : BitVec 32)
  (hin : ∀ a, k0_off6 t j k a + S16.size a ≤ S32768.size a)

/-- One block's first treatment: its ids loaded and checked, the logits at them gathered, its lane numbers written into the slot table. -/
def fetchBlock : Prog (TpuEff nD τ sig (Elt F) Λ₀ p) (Σ' (v : Vec F S16 .i32) (_ : k0_chk1 v), Vec F S16 .f32) := do
  let v : Vec F S16 .i32 ← Prog.lift (.load arg10 (Rect.unit (s := S32768) (k0_off6 t j k) S16.size hin).toLoadRect (View.loadsAt_vmem h_S16))
  have h : k0_chk1 v := (← Prog.lift (TpuEff.assume (k0_chk1 v) (k0_chk1.dec v))).down
  let g : Vec F S16 .f32 ← SparseCore.vectorLoadIdx arg5 ![v] (k0_idx1_inb v h) (View.loads_vmem h_S1968)
  SparseCore.vectorStoreIdx slot ![v] (addi v3 (broadcast S16 k)) (fun _ => 1#1) false (k0_idx2_inb v h) (View.stores_vmem_bits_univ h_S1968 rfl)
  pure ⟨v, h, g⟩

/-- One block's second treatment: the slot table read at its ids, the block of the result stored. -/
def keepBlock (r : Σ' (v : Vec F S16 .i32) (_ : k0_chk1 v), Vec F S16 .f32) : Prog (TpuEff nD τ sig (Elt F) Λ₀ p) PUnit := do
  let w : Vec F S16 .i32 ← SparseCore.vectorLoadIdx slot ![r.1] (k0_idx9_inb r.1 r.2.1) (View.loads_vmem h_S1968)
  let _ : Vec F S16 .f32 ← Prog.lift (.load arg11 (Rect.unit (s := S32768) (k0_off6 t j k) S16.size hin).toLoadRect (View.loadsAt_vmem h_S16))
  Prog.lift (.store arg11 (Rect.unit (s := S32768) (k0_off6 t j k) S16.size hin) (keepPay v3 k w r.2.2) Finset.univ (View.stores_vmem_bits_univ h_S16 rfl) (.inl rfl))

/-- One group of 64 positions: its four blocks fetched, then its four blocks kept. -/
def groupStep (h0 : ∀ a, k0_off6 t j 0#32 a + S16.size a ≤ S32768.size a) (h1 : ∀ a, k0_off6 t j 16#32 a + S16.size a ≤ S32768.size a)
    (h2 : ∀ a, k0_off6 t j 32#32 a + S16.size a ≤ S32768.size a) (h3 : ∀ a, k0_off6 t j 48#32 a + S16.size a ≤ S32768.size a) :
    Prog (TpuEff nD τ sig (Elt F) Λ₀ p) PUnit := do
  let r0 ← fetchBlock (F := F) arg5 slot arg10 v3 t j 0#32 h0
  let r1 ← fetchBlock (F := F) arg5 slot arg10 v3 t j 16#32 h1
  let r2 ← fetchBlock (F := F) arg5 slot arg10 v3 t j 32#32 h2
  let r3 ← fetchBlock (F := F) arg5 slot arg10 v3 t j 48#32 h3
  keepBlock (F := F) slot arg11 v3 t j 0#32 h0 r0
  keepBlock (F := F) slot arg11 v3 t j 16#32 h1 r1
  keepBlock (F := F) slot arg11 v3 t j 32#32 h2 r2
  keepBlock (F := F) slot arg11 v3 t j 48#32 h3 r3

/-- The lane numbers 0 to 15. -/
def lanes : IVec S16 32 := iota .scVector S16 32 [0] iota_S16_d0_w32_scVector

/-- The first position of block `b` of group `a` at trip `t`. -/
theorem off_val : ∀ (t : Fin k0_t1_loop.trips) (a b : Fin 4),
    k0_off6 t (![0#32, 64#32, 128#32, 192#32] a) (![0#32, 16#32, 32#32, 48#32] b) 0 = 256 * t.val + 64 * a.val + 16 * b.val := by
  decide +kernel

/-- Every offset of the body leaves sixteen positions of the block's buffer. -/
theorem off_inb (t : Fin k0_t1_loop.trips) (a b : Fin 4) (x : Fin 1) :
    k0_off6 t (![0#32, 64#32, 128#32, 192#32] a) (![0#32, 16#32, 32#32, 48#32] b) x + S16.size x ≤ S32768.size x := by
  have ht : t.val < 128 := t.isLt
  obtain rfl : x = 0 := Subsingleton.elim _ _
  have := off_val t a b
  have h16 : S16.size 0 = 16 := rfl
  have hN : S32768.size 0 = 32768 := rfl
  omega

set_option maxRecDepth 65536 in
set_option maxHeartbeats 4000000 in
/-- The printed loop body is the four groups in order. -/
theorem body_eq (i : grid0.Coords) (arg2 harg2 arg3 harg3 arg4 harg4 arg5 harg5 arg6 harg6 arg7 harg7 arg8 harg8 arg9 harg9 arg10 harg10 arg11 harg11 r0 r1 r2) (t : Fin k0_t1_loop.trips) :
    k0_t1_body (F := F) i arg2 harg2 arg3 harg3 arg4 harg4 arg5 harg5 arg6 harg6 arg7 harg7 arg8 harg8 arg9 harg9 arg10 harg10 arg11 harg11 r0 r1 r2 lanes t ()
      = (do
        groupStep (F := F) (p := .scVector ((i 0).castLE hcore0) ((i 1).castLE hsub0)) arg5 arg6 arg10 arg11 lanes t 0#32 (off_inb t 0 0) (off_inb t 0 1) (off_inb t 0 2) (off_inb t 0 3)
        groupStep (F := F) (p := .scVector ((i 0).castLE hcore0) ((i 1).castLE hsub0)) arg5 arg7 arg10 arg11 lanes t 64#32 (off_inb t 1 0) (off_inb t 1 1) (off_inb t 1 2) (off_inb t 1 3)
        groupStep (F := F) (p := .scVector ((i 0).castLE hcore0) ((i 1).castLE hsub0)) arg5 arg8 arg10 arg11 lanes t 128#32 (off_inb t 2 0) (off_inb t 2 1) (off_inb t 2 2) (off_inb t 2 3)
        groupStep (F := F) (p := .scVector ((i 0).castLE hcore0) ((i 1).castLE hsub0)) arg5 arg9 arg10 arg11 lanes t 192#32 (off_inb t 3 0) (off_inb t 3 1) (off_inb t 3 2) (off_inb t 3 3)) := by
  unfold groupStep fetchBlock keepBlock k0_t1_body k0_part1 k0_part2 k0_part3 k0_part4 k0_part5 k0_part6 k0_part7
  rfl

end Cert.Proof.Legal
-- ==== Proof.ScSpec.lean ====
/-
  What the SparseCore kernel computes, over plain numbers. The ids of a tile are a sequence of words; the positions come in
  groups of 64. Position `p` keeps the logit of its id when no later position of its group holds the same id, and holds the
  mask value otherwise (`kept`). A group's slot table decides which: after `n` positions it holds, at every id seen, the last
  of them that names it (`SlotAt`). The lemmas: a scatter of sixteen lane numbers takes `SlotAt` sixteen positions further,
  and the finished table names a position at its own id exactly when the position is kept.
-/
module

public import proofs.«01_k».proof.Proof.ScProg

@[expose] public section

noncomputable section

namespace Cert.Proof.Legal

open Cert.KernelIdeal Cert.KernelIdeal.Gen
open Idealize.ShloMosaic
open scoped Classical

variable {F : FTy → Type} [FloatOps F] [Named F]

/-- The value that stands for a masked-out logit. -/
def negOf (F : FTy → Type) [FloatOps F] [Named F] : F .f32 := Named.named κ "mask" 0xF149F2CA#32

/-- The place of an id in the table of logits. -/
def idAt (w : BitVec 32) : S1968.Idx := fun a => ⟨w.toNat % 1968, by
  obtain rfl : a = 0 := Subsingleton.elim _ _
  exact Nat.mod_lt _ (by decide)⟩

/-- Position `n` of a tile's block. -/
def posAt (n : ℕ) : S32768.Idx := fun a => ⟨n % 32768, by
  obtain rfl : a = 0 := Subsingleton.elim _ _
  exact Nat.mod_lt _ (by decide)⟩

theorem posAt_val (p : S32768.Idx) : posAt (p 0).val = p := by
  funext a
  obtain rfl : a = 0 := Subsingleton.elim _ _
  exact Fin.ext (Nat.mod_eq_of_lt (p 0).isLt)

/-- Position `p` is the last of its group of 64 that holds its id. -/
def Last (ids : ℕ → BitVec 32) (p : ℕ) : Prop := ∀ q, q / 64 = p / 64 → p < q → ids q ≠ ids p

/-- What position `p` holds at the end: its id's logit if it is the last of its group with that id, the mask value otherwise. -/
def kept (ids : ℕ → BitVec 32) (tab : S1968.Idx → F .f32) (p : ℕ) : F .f32 :=
  if Last ids p then tab (idAt (ids p)) else negOf F

/-- Shifting the sequence by whole groups shifts what is kept. -/
theorem kept_shift (ids : ℕ → BitVec 32) (tab : S1968.Idx → F .f32) (b p : ℕ) :
    kept (fun n => ids (64 * b + n)) tab p = kept ids tab (64 * b + p) := by
  have h : Last (fun n => ids (64 * b + n)) p ↔ Last ids (64 * b + p) := by
    constructor
    · intro h q hq hp
      have := h (q - 64 * b) (by omega) (by omega)
      simp only [] at this
      rwa [show 64 * b + (q - 64 * b) = q by omega] at this
    · intro h q hq hp
      exact h (64 * b + q) (by omega) (by omega)
  unfold kept
  by_cases hl : Last ids (64 * b + p)
  · rw [if_pos hl, if_pos (h.mpr hl)]
  · rw [if_neg hl, if_neg (fun h' => hl (h.mp h'))]

/-- What is kept depends on the ids of the sequence only. -/
theorem kept_congr {ids ids' : ℕ → BitVec 32} (tab : S1968.Idx → F .f32) (N p : ℕ) (hN : 64 ∣ N) (hp : p < N)
    (h : ∀ n, n < N → ids n = ids' n) : kept ids tab p = kept ids' tab p := by
  obtain ⟨c, rfl⟩ := hN
  have hl : Last ids p ↔ Last ids' p := by
    constructor <;> intro hl q hq hpq
    · have := hl q hq hpq
      rwa [h q (by omega), h p hp] at this
    · have := hl q hq hpq
      rwa [h q (by omega), h p hp]
  unfold kept
  by_cases hh : Last ids p
  · rw [if_pos hh, if_pos (hl.mp hh), h p hp]
  · rw [if_neg hh, if_neg (fun h' => hh (hl.mpr h'))]

/-! ## The slot table -/

/-- After the first `n` positions of a group the slot table holds, at the id of every position no later one of them repeats, that position. -/
def SlotAt (w : ℕ → BitVec 32) (n : ℕ) (s : S1968.Idx → BitVec 32) : Prop :=
  ∀ m, m < n → (∀ m', m < m' → m' < n → w m' ≠ w m) → s (idAt (w m)) = BitVec.ofNat 32 m

theorem slotAt_zero (w : ℕ → BitVec 32) (s : S1968.Idx → BitVec 32) : SlotAt w 0 s := fun _ h => absurd h (Nat.not_lt_zero _)

section Scatter

variable (f : S1968.Idx → BitVec 32) (v : IVec S16 32) (y : S16.Idx → BitVec 32)
  (h : ∀ a x, ((![v] : Fin 1 → IVec S16 32) a x).toNat < S1968.size a)

/-- One lane of a scatter. -/
def putLane (g : S1968.Idx → BitVec 32) (k : Fin 16) : S1968.Idx → BitVec 32 :=
  fun j => if (j 0).val = (v (Shape.ofLane (d := ![16]) k)).toNat then y (Shape.ofLane (d := ![16]) k) else g j

theorem storeIdx_eq : storeIdx (F := F) (e := .i32) f ![v] y (fun _ => 1#1) false h = (List.finRange 16).foldl (putLane v y) f := by
  unfold storeIdx
  congr 1
  funext g k
  show (if (1#1 : BitVec 1) = 1 then _ else _) = _
  rw [if_pos (show (1#1 : BitVec 1) = 1 from rfl)]
  funext j
  by_cases hj : (j 0).val = (v (Shape.ofLane (d := ![16]) k)).toNat
  · exact (if_pos (fun a => by obtain rfl : a = 0 := Subsingleton.elim _ _; exact hj)).trans (if_pos hj).symm
  · exact (if_neg (fun h' => hj (h' 0))).trans (if_neg hj).symm

theorem foldl_put_miss (l : List (Fin 16)) (g : S1968.Idx → BitVec 32) (j : S1968.Idx)
    (hm : ∀ k ∈ l, (j 0).val ≠ (v (Shape.ofLane (d := ![16]) k)).toNat) : l.foldl (putLane v y) g j = g j := by
  induction l generalizing g with
  | nil => rfl
  | cons k l ih =>
    rw [List.foldl_cons, ih _ fun k' hk' => hm k' (List.mem_cons_of_mem _ hk')]
    exact if_neg (hm k (List.mem_cons_self))

/-- At an element no lane names a scatter keeps what was there. -/
theorem storeIdx_miss (j : S1968.Idx) (hm : ∀ k : Fin 16, (j 0).val ≠ (v (Shape.ofLane (d := ![16]) k)).toNat) :
    storeIdx (F := F) (e := .i32) f ![v] y (fun _ => 1#1) false h j = f j := by
  rw [storeIdx_eq]
  exact foldl_put_miss v y _ _ _ fun k _ => hm k

/-- At the element a lane names and no higher lane does, a scatter leaves that lane's value. -/
theorem storeIdx_hit (j : S1968.Idx) (k : Fin 16) (hk : (j 0).val = (v (Shape.ofLane (d := ![16]) k)).toNat)
    (hm : ∀ k' : Fin 16, k < k' → (j 0).val ≠ (v (Shape.ofLane (d := ![16]) k')).toNat) :
    storeIdx (F := F) (e := .i32) f ![v] y (fun _ => 1#1) false h j = y (Shape.ofLane (d := ![16]) k) := by
  rw [storeIdx_eq]
  obtain ⟨s, t, hst⟩ := List.append_of_mem (List.mem_finRange k)
  have hp := List.pairwise_lt_finRange 16
  rw [hst] at hp ⊢
  rw [List.foldl_append, List.foldl_cons, foldl_put_miss]
  · exact if_pos hk
  · intro k' hk'
    exact hm k' ((List.pairwise_cons.mp (List.pairwise_append.mp hp).2.1).1 k' hk')

end Scatter

theorem ofLane_val (k : Fin 16) : ((Shape.ofLane (d := ![16]) k : S16.Idx) 0).val = k.val := rfl

theorem eq_ofLane (x : S16.Idx) : ∃ k : Fin 16, x = Shape.ofLane (d := ![16]) k ∧ (x 0).val = k.val :=
  ⟨x 0, by funext a; obtain rfl : a = 0 := Subsingleton.elim _ _; rfl, rfl⟩

/-- A block's scatter of its sixteen positions takes the slot table sixteen positions further. -/
theorem slotAt_step (w : ℕ → BitVec 32) (hw : ∀ m, (w m).toNat < 1968) (n : ℕ) (s : S1968.Idx → BitVec 32) (hs : SlotAt w n s)
    (v : IVec S16 32) (hv : ∀ x, v x = w (n + (x 0).val)) (y : S16.Idx → BitVec 32) (hy : ∀ x, y x = BitVec.ofNat 32 (n + (x 0).val))
    (h : ∀ a x, ((![v] : Fin 1 → IVec S16 32) a x).toNat < S1968.size a) :
    SlotAt w (n + 16) (storeIdx (F := F) (e := .i32) s ![v] y (fun _ => 1#1) false h) := by
  intro m hm hlast
  have hval : ((idAt (w m)) 0).val = (w m).toNat := Nat.mod_eq_of_lt (hw m)
  by_cases hmn : m < n
  · rw [storeIdx_miss]
    · exact hs m hmn fun m' h1 h2 => hlast m' h1 (by omega)
    · intro k hk
      rw [hval, hv, ofLane_val] at hk
      exact hlast (n + k.val) (by omega) (by omega) (BitVec.eq_of_toNat_eq hk.symm)
  · have hk : m - n < 16 := by omega
    rw [storeIdx_hit (k := ⟨m - n, hk⟩)]
    · rw [hy, ofLane_val]; congr 1; simp only; omega
    · rw [hval, hv, ofLane_val]; congr 2; simp only; omega
    · intro k' hk' he
      rw [hval, hv, ofLane_val] at he
      have : m - n < k'.val := hk'
      exact hlast (n + k'.val) (by omega) (by omega) (BitVec.eq_of_toNat_eq he.symm)

/-- The finished slot table of a group names a position at its id exactly when no later position of the group repeats the id. -/
theorem slotAt_iff (w : ℕ → BitVec 32) (s : S1968.Idx → BitVec 32) (hs : SlotAt w 64 s) (m : ℕ) (hm : m < 64) :
    s (idAt (w m)) = BitVec.ofNat 32 m ↔ ∀ m', m < m' → m' < 64 → w m' ≠ w m := by
  constructor
  · intro he m' h1 h2 hw
    obtain ⟨k, ⟨hk1, hk2⟩, hmax⟩ : ∃ k, (k < 64 ∧ w k = w m) ∧ ∀ k', k' < 64 → w k' = w m → k' ≤ k := by
      have hne : ((Finset.range 64).filter fun k => w k = w m).Nonempty := ⟨m, by simp [hm]⟩
      refine ⟨((Finset.range 64).filter fun k => w k = w m).max' hne, ?_, fun k' hk' hw' => Finset.le_max' _ _ (by simp [hk', hw'])⟩
      have := Finset.max'_mem _ hne
      simpa using this
    have hk := hs k hk1 fun k' h3 h4 h5 => absurd (hmax k' h4 (h5.trans hk2)) (by omega)
    rw [hk2, he] at hk
    have hmk : m' ≤ k := hmax m' h2 hw
    have := congrArg BitVec.toNat hk
    simp only [BitVec.toNat_ofNat] at this
    omega
  · intro h
    exact hs m hm h

/-- The lane numbers of a block, counted within its group. -/
theorem lanes_at (b : Fin 4) (x : S16.Idx) :
    addi lanes (broadcast S16 ((![0#32, 16#32, 32#32, 48#32] : Fin 4 → BitVec 32) b)) x = BitVec.ofNat 32 (16 * b.val + (x 0).val) := by
  obtain ⟨k, rfl, _⟩ := eq_ofLane x
  revert b k
  decide

/-- What a block stores is what its positions keep. -/
theorem keepPay_eq (ids : ℕ → BitVec 32) (hids : ∀ n, (ids n).toNat < 1968) (tab : S1968.Idx → F .f32) (g0 : ℕ) (b : Fin 4)
    (s : S1968.Idx → BitVec 32) (hs : SlotAt (fun m => ids (64 * g0 + m)) 64 s) (v : IVec S16 32)
    (hv : ∀ x, v x = ids (64 * g0 + (16 * b.val + (x 0).val)))
    (h : ∀ a x, ((![v] : Fin 1 → IVec S16 32) a x).toNat < S1968.size a) (x : S16.Idx) :
    keepPay (F := F) lanes ((![0#32, 16#32, 32#32, 48#32] : Fin 4 → BitVec 32) b) (loadIdx (F := F) (e := .i32) s ![v] h) (fun x => tab (idAt (v x))) x
      = kept ids tab (64 * g0 + (16 * b.val + (x 0).val)) := by
  have hx : (x 0).val < 16 := (x 0).isLt
  have hb := b.isLt
  have hload : loadIdx (F := F) (e := .i32) s ![v] h x = s (idAt (v x)) := by
    unfold loadIdx
    congr 1
    funext a
    obtain rfl : a = 0 := Subsingleton.elim _ _
    exact Fin.ext (Nat.mod_eq_of_lt (h 0 x)).symm
  have hiff := slotAt_iff _ s hs (16 * b.val + (x 0).val) (by omega)
  have hlast : Last ids (64 * g0 + (16 * b.val + (x 0).val))
      ↔ ∀ m', 16 * b.val + (x 0).val < m' → m' < 64 → ids (64 * g0 + m') ≠ ids (64 * g0 + (16 * b.val + (x 0).val)) := by
    constructor
    · intro hl m' h1 h2
      exact hl _ (by omega) (by omega)
    · intro hl q hq hpq
      have := hl (q - 64 * g0) (by omega) (by omega)
      rwa [show 64 * g0 + (q - 64 * g0) = q by omega] at this
  show Scalar.select (IntOp.cmpi .eq (loadIdx (F := F) (e := .i32) s ![v] h x) (addi lanes (broadcast S16 ((![0#32, 16#32, 32#32, 48#32] : Fin 4 → BitVec 32) b)) x)) (tab (idAt (v x))) (negOf F) = _
  rw [hload, lanes_at, hv]
  unfold kept
  by_cases hl : Last ids (64 * g0 + (16 * b.val + (x 0).val))
  · rw [if_pos hl, show s (idAt (ids (64 * g0 + (16 * b.val + (x 0).val)))) = _ from hiff.mpr (hlast.mp hl)]
    simp [Scalar.select, IntOp.cmpi]
  · rw [if_neg hl]
    have : ¬ s (idAt (ids (64 * g0 + (16 * b.val + (x 0).val)))) = BitVec.ofNat 32 (16 * b.val + (x 0).val) :=
      fun he => hl (hlast.mpr (hiff.mp he))
    simp [Scalar.select, IntOp.cmpi, beq_false_of_ne this]

end Cert.Proof.Legal
-- ==== Proof.Common.lean ====
/-
  The setting the modules of the kernel's run share: the program as the launch theorem sees it, the resource algebra (the
  handshakes' rounds, the TensorCore pipelines' rounds, the transfers' counters), and the buffers by their locations.
-/
module

public import proofs.«01_k».proof.Proof.ScSpec
public import proofs.«01_k».proof.Proof.Gen.KernelIdeal.Launch
public import proofs.«01_k».proof.Proof.Gen.KernelIdeal.Points
public import Idealize.ShloMosaic.Lib.Pipeline.Regions

@[expose] public section

noncomputable section

namespace Cert.Proof.Legal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The TensorCore pipelines' rounds sit in the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers, as locations of a device -/

abbrev tabLoc (d : Dev nD) : Loc nD τ sig := (SparseCore.T d).loc main_arg1
abbrev wideLoc (d : Dev nD) : Loc nD τ sig := (SparseCore.T d).loc main_v3
abbrev keptLoc (d : Dev nD) : Loc nD τ sig := (SparseCore.T d).loc main_v4

end Cert.Proof.Legal
-- ==== Proof.TcBody.lean ====
/-
  The two TensorCore bodies, each run once at any grid point and any staging buffers: what a body leaves in its outputs'
  buffers as a function of what its inputs' buffers hold.
-/
module

public import proofs.«01_k».proof.Proof.Common
public import proofs.«01_k».proof.Proof.Gen.KernelIdeal.Skeleton
public import Idealize.ShloMosaic.Lib.Tactic

@[expose] public section

noncomputable section

namespace Cert.Proof.Legal

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## Whole blocks read and written -/

theorem zeros2 : (![0, 0] : Fin 2 → ℕ) = fun _ => 0 := by funext a; fin_cases a <;> rfl
theorem zeros1 : (![0] : Fin 1 → ℕ) = fun _ => 0 := by funext a; fin_cases a; rfl

abbrev whole2 : Rect S512x128 := Rect.unit (s := S512x128) ![0, 0] S512x128.size inb_S512x128_S512x128_0_0
abbrev whole1 : Rect S512 := Rect.unit (s := S512) ![0] S512.size inb_S512_S512_0

theorem whole2_emb (x : S512x128.Idx) : whole2.emb x = x :=
  whole2.emb_eq_of_coords x x fun a => by
    fin_cases a <;> simp [whole2, Rect.unit]
theorem whole1_emb (x : S512.Idx) : whole1.emb x = x :=
  whole1.emb_eq_of_coords x x fun a => by
    fin_cases a; simp [whole1, Rect.unit]

/-- A whole block loaded is the block. -/
theorem load2 {sp : Space} {e : EltTy} (M : Memref sig .tc sp S512x128 e) (f : M.view.ty.Contents (Elt F)) :
    M.view.readAt (Elt F) whole2.toLoadRect f = M.view.read (Elt F) f := by
  funext x
  show M.view.read (Elt F) f (whole2.emb x) = _
  rw [whole2_emb]

/-- A whole block stored is the block. -/
theorem store2 {sp : Space} {e : EltTy} (M : Memref sig .tc sp S512x128 e) (f : M.view.ty.Contents (Elt F)) (w : S512x128.Idx → Elt F e) :
    M.view.read (Elt F) (M.view.writes (Elt F) f [⟨whole2, w⟩]) = w := by
  funext x
  exact View.read_writes_cons_hit M.view f whole2 w [] x x (whole2_emb x)
theorem store1 {sp : Space} {e : EltTy} (M : Memref sig .tc sp S512 e) (f : M.view.ty.Contents (Elt F)) (w : S512.Idx → Elt F e) :
    M.view.read (Elt F) (M.view.writes (Elt F) f [⟨whole1, w⟩]) = w := by
  funext x
  exact View.read_writes_cons_hit M.view f whole1 w [] x x (whole1_emb x)

/-! ## The noise -/

/-- The key word the noise's rounds are mixed with. -/
abbrev keyMix : BitVec 32 := Scalar.xori (Scalar.xori 0#32 1#32) 466688986#32

/-- What the noise's body computes of a block of ids: the printed value of its one store. -/
def gumOut (i : grid1.Coords) (x : Vec F S512x128 .i32) : Vec F S512x128 .f32 :=
  let a := k1_pay19 keyMix (k1_pay6 i x) (k1_pay7 i x) (k1_pay8 i x) 6#32
  let b := k1_pay20 keyMix (k1_pay6 i x) (k1_pay7 i x) (k1_pay8 i x) 6#32
  k1_pay1 (F := F) keyMix (k1_pay42 keyMix (k1_pay31 a b 0#32) (k1_pay32 a b 0#32))
    (k1_pay43 keyMix (k1_pay31 a b 0#32) (k1_pay32 a b 0#32))

/-- The noise's body: its input block as it was, its output block at the noise. -/
theorem gum_wp (c : Dev nD) (i : grid1.Coords) (M0 : Memref sig .tc .vmem S512x128 .i32) (h0 : M0.IsWhole) (M1 : Memref sig .tc .vmem S512x128 .f32) (h1 : M1.IsWhole)
    (X : S512x128.Idx → Elt F .i32) (Y : S512x128.Idx → Elt F .f32) (Q : PUnit → sProp 𝕄) :
    iprop((owns (c : Thread nD τ) M0 fullShare X ∗ owns (c : Thread nD τ) M1 fullShare Y)
        ∗ ((owns (c : Thread nD τ) M0 fullShare X ∗ owns (c : Thread nD τ) M1 fullShare (gumOut i X)) -∗ Q ⟨⟩))
      ⊢ wp frame (wpE (defs₀ (F := F)) 𝒱₀ (c : Thread nD τ) none) Set.univ (cc1_body i M0 h0 M1 h1) Q := by
  rw [cc1_body_eq_skeleton]
  unfold cc1_body_skel owns
  rw [k1_part1_eq_skeleton, k1_part2_eq_skeleton, k1_part3_eq_skeleton, k1_part4_eq_skeleton]
  unfold k1_part1_skel k1_part2_skel k1_part3_skel k1_part4_skel
  iintro ⟨⟨⟨%f0, %hf0, H0⟩, ⟨%f1, %hf1, H1⟩⟩, Hk⟩
  sl_exec
  sl_step
  iapply Hk
  isplitl [H0]
  · iexists f0; isplitr; · ipureintro; exact hf0
    iexact H0
  iexists _; isplitr; swap; (· iexact H1); ipureintro
  rw [store2]
  show gumOut i (M0.view.readAt (Elt F) whole2.toLoadRect f0) = gumOut i X
  rw [load2, hf0]

/-! ## The combination -/

/-- What the combination's body computes of a block of ids, of kept logits and of noise: the four printed values it
    stores, the two halves' samples and the two halves' log-probabilities. -/
def samOut0 (x : Vec F S512x128 .i32) (g u : Vec F S512x128 .f32) : Vec F S512 .i32 :=
  k2_pay4 (k2_pay9 x) (k2_pay11 g u) (k2_pay12 g u) (k2_pay13 g u)
@[inherit_doc samOut0] def samOut1 (x : Vec F S512x128 .i32) (g u : Vec F S512x128 .f32) : Vec F S512 .i32 :=
  k2_pay5 (k2_pay9 x) (k2_pay11 g u) (k2_pay12 g u) (k2_pay13 g u)
@[inherit_doc samOut0] def lpOut0 (x : Vec F S512x128 .i32) (g u : Vec F S512x128 .f32) : Vec F S512 .f32 :=
  k2_pay7 (k2_pay9 x) (k2_pay10 g) (k2_pay11 g u) (k2_pay12 g u) (k2_pay13 g u)
@[inherit_doc samOut0] def lpOut1 (x : Vec F S512x128 .i32) (g u : Vec F S512x128 .f32) : Vec F S512 .f32 :=
  k2_pay8 (k2_pay9 x) (k2_pay10 g) (k2_pay11 g u) (k2_pay12 g u) (k2_pay13 g u)

/-- The combination's body: its three input blocks as they were, its four output blocks at the combination. -/
theorem com_wp (c : Dev nD) (i : grid2.Coords) (M0 : Memref sig .tc .vmem S512x128 .i32) (h0 : M0.IsWhole) (M1 : Memref sig .tc .vmem S512x128 .f32) (h1 : M1.IsWhole)
    (M2 : Memref sig .tc .vmem S512x128 .f32) (h2 : M2.IsWhole) (M3 : Memref sig .tc .vmem S512 .i32) (h3 : M3.IsWhole) (M4 : Memref sig .tc .vmem S512 .i32) (h4 : M4.IsWhole)
    (M5 : Memref sig .tc .vmem S512 .f32) (h5 : M5.IsWhole) (M6 : Memref sig .tc .vmem S512 .f32) (h6 : M6.IsWhole)
    (X : S512x128.Idx → Elt F .i32) (G U : S512x128.Idx → Elt F .f32) (Y3 Y4 : S512.Idx → Elt F .i32) (Y5 Y6 : S512.Idx → Elt F .f32) (Q : PUnit → sProp 𝕄) :
    iprop((owns (c : Thread nD τ) M0 fullShare X ∗ owns (c : Thread nD τ) M1 fullShare G ∗ owns (c : Thread nD τ) M2 fullShare U
          ∗ owns (c : Thread nD τ) M3 fullShare Y3 ∗ owns (c : Thread nD τ) M4 fullShare Y4
          ∗ owns (c : Thread nD τ) M5 fullShare Y5 ∗ owns (c : Thread nD τ) M6 fullShare Y6)
        ∗ ((owns (c : Thread nD τ) M0 fullShare X ∗ owns (c : Thread nD τ) M1 fullShare G ∗ owns (c : Thread nD τ) M2 fullShare U
          ∗ owns (c : Thread nD τ) M3 fullShare (samOut0 X G U) ∗ owns (c : Thread nD τ) M4 fullShare (samOut1 X G U)
          ∗ owns (c : Thread nD τ) M5 fullShare (lpOut0 X G U) ∗ owns (c : Thread nD τ) M6 fullShare (lpOut1 X G U)) -∗ Q ⟨⟩))
      ⊢ wp frame (wpE (defs₀ (F := F)) 𝒱₀ (c : Thread nD τ) none) Set.univ (cc2_body i M0 h0 M1 h1 M2 h2 M3 h3 M4 h4 M5 h5 M6 h6) Q := by
  rw [cc2_body_eq_skeleton]
  unfold cc2_body_skel owns
  rw [k2_part1_eq_skeleton]
  unfold k2_part1_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; (· iexact H3); ipureintro
    rw [store1]
    show samOut0 (M0.view.readAt (Elt F) whole2.toLoadRect f0) (M1.view.readAt (Elt F) whole2.toLoadRect f1) (M2.view.readAt (Elt F) whole2.toLoadRect f2) = _
    rw [load2, load2, load2, hf0, hf1, hf2]
  isplitl [H4]
  · iexists _; isplitr; swap; (· iexact H4); ipureintro
    rw [store1]
    show samOut1 (M0.view.readAt (Elt F) whole2.toLoadRect f0) (M1.view.readAt (Elt F) whole2.toLoadRect f1) (M2.view.readAt (Elt F) whole2.toLoadRect f2) = _
    rw [load2, load2, load2, hf0, hf1, hf2]
  isplitl [H5]
  · iexists _; isplitr; swap; (· iexact H5); ipureintro
    rw [store1]
    show lpOut0 (M0.view.readAt (Elt F) whole2.toLoadRect f0) (M1.view.readAt (Elt F) whole2.toLoadRect f1) (M2.view.readAt (Elt F) whole2.toLoadRect f2) = _
    rw [load2, load2, load2, hf0, hf1, hf2]
  iexists _; isplitr; swap; (· iexact H6); ipureintro
  rw [store1]
  show lpOut1 (M0.view.readAt (Elt F) whole2.toLoadRect f0) (M1.view.readAt (Elt F) whole2.toLoadRect f1) (M2.view.readAt (Elt F) whole2.toLoadRect f2) = _
  rw [load2, load2, load2, hf0, hf1, hf2]

end Cert.Proof.Legal
-- ==== Proof.Regions.lean ====
/-
  The two TensorCore kernels of the program as regions of @main: each is entered with every unscoped buffer at a valuation and
  left with its result arrays at what the sixteen points write back and every other buffer as it was.
-/
module

public import proofs.«01_k».proof.Proof.TcBody
public import Idealize.ShloMosaic.Lib.Pipeline.RegionsLoop

@[expose] public section

noncomputable section

namespace Cert.Proof.Legal

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The pairs a TensorCore's waits may have recorded once the SparseCore call is over. -/
def recd (c : Dev nD) : Set (SemLoc sig × HIx 1) := {p | (K (F := F)).lev ((c : Thread nD τ), p.1) p.2 ≤ 8}

/-! ## The noise -/

/-- The ids' block at point `t`. -/
abbrev blkIds1 (c : Dev nD) (t : Fin cfg1.N) : S512x128.Idx → Elt F .i32 := ((cfg1.win 0).blk t).view.read (Elt F) (V c main_v2)

/-- The noise's proof data: the arrays at the entry valuation; after the body, the ids' block as fetched and the noise of it. -/
def dat1 (c : Dev nD) : Dat τ (Elt F) (HIx 1) ℕ UU ℕ cfg1 c where
  A w := V c (Pipeline.arrRef spec1 w)
  after w t := match w with
    | ⟨0, _⟩ => blkIds1 V c t
    | ⟨1, _⟩ => gumOut (grid1.coords t) (blkIds1 V c t)
  Φ _ := Pipeline.scopedRest spec1 c
  q _ := fullShare
  owed _ := 0
  recorded _ := recd (F := F) c

theorem before1_0 (c : Dev nD) (t : Fin cfg1.N) (d) : (dat1 V c).before 0 t d = blkIds1 V c t := by
  unfold Dat.before; rw [if_pos (fetch1_0 t)]; unfold Dat.fetched Dat.blockOf; dsimp only [dat1]; rfl
theorem after1_0 (c : Dev nD) (t : Fin cfg1.N) : (dat1 V c).after 0 t = blkIds1 V c t := by dsimp only [dat1]
theorem after1_1 (c : Dev nD) (t : Fin cfg1.N) : (dat1 V c).after 1 t = gumOut (grid1.coords t) (blkIds1 V c t) := by dsimp only [dat1]

theorem defs_tc1 : (defs₀ (F := F)) .tc cfg1.body
    = fun a => cc1_body (grid1.coords a.1) (win1_0.stage (a.2 0)) (hstage1_0 ((a.2 0).cast nbuf1_0)) (win1_1.stage (a.2 1)) (hstage1_1 ((a.2 1).cast nbuf1_1)) := rfl
theorem prog_eq1 (t : Fin cfg1.N) : (defs₀ (F := F)) .tc cfg1.body (cfg1.bodyArgs t (cfg1.slots t)) = bodyAt1 t :=
  (congrFun defs_tc1 _).trans rfl

set_option backward.isDefEq.respectTransparency.types false in
theorem obligation1 (c : Dev nD) : BodyObligation (dat1 V c) (defs₀ (F := F)) 𝒱₀ (none : HIx 1) Set.univ := fun t => by
  rw [bigSep_W1, bigSep_W1]
  dsimp only
  simp only [before1_0, after1_0, after1_1]
  rw [show (dat1 V c).Φ t.succ = (dat1 V c).Φ t.castSucc from rfl,
    show (dat1 V c).owesAt (none : HIx 1) t.succ = (dat1 V c).owesAt (none : HIx 1) t.castSucc from rfl]
  iintro ⟨HΦ, Ho, ⟨%d0, H0⟩, ⟨%d1, H1⟩⟩
  sl_rw [prog_eq1 t]
  iapply (gum_wp c (grid1.coords t) (st1_0 t) (hstage1_0 ((cfg1.slots t 0).cast nbuf1_0)) (st1_1 t) (hstage1_1 ((cfg1.slots t 1).cast nbuf1_1)) (blkIds1 V c t) _ _)
  isplitl [H0 H1]
  · isplitl [H0]; · iexact H0
    iexact H1
  iintro ⟨H0, H1⟩
  isplitl [HΦ]; · iexact HΦ
  isplitl [Ho]; · iexact Ho
  isplitl [H0]; · iexact H0
  iexact H1

/-! ## The result -/

/-- The blocks of the ids, the kept logits and the noise at point `t`. -/
abbrev blkIds2 (c : Dev nD) (t : Fin cfg2.N) : S512x128.Idx → Elt F .i32 := ((cfg2.win 0).blk t).view.read (Elt F) (V c main_v2)
abbrev blkKept2 (c : Dev nD) (t : Fin cfg2.N) : S512x128.Idx → Elt F .f32 := ((cfg2.win 1).blk t).view.read (Elt F) (V c main_v6)
abbrev blkGum2 (c : Dev nD) (t : Fin cfg2.N) : S512x128.Idx → Elt F .f32 := ((cfg2.win 2).blk t).view.read (Elt F) (V c main_v5)

/-- The combination's proof data: the arrays at the entry valuation; after the body, the three inputs' blocks as fetched, the two halves'
    moves and the two halves' log probabilities. -/
def dat2 (c : Dev nD) : Dat τ (Elt F) (HIx 1) ℕ UU ℕ cfg2 c where
  A w := V c (Pipeline.arrRef spec2 w)
  after w t := match w with
    | ⟨0, _⟩ => blkIds2 V c t
    | ⟨1, _⟩ => blkKept2 V c t
    | ⟨2, _⟩ => blkGum2 V c t
    | ⟨3, _⟩ => samOut0 (blkIds2 V c t) (blkKept2 V c t) (blkGum2 V c t)
    | ⟨4, _⟩ => samOut1 (blkIds2 V c t) (blkKept2 V c t) (blkGum2 V c t)
    | ⟨5, _⟩ => lpOut0 (blkIds2 V c t) (blkKept2 V c t) (blkGum2 V c t)
    | ⟨6, _⟩ => lpOut1 (blkIds2 V c t) (blkKept2 V c t) (blkGum2 V c t)
  Φ _ := Pipeline.scopedRest spec2 c
  q _ := fullShare
  owed _ := 0
  recorded _ := recd (F := F) c

theorem before2_0 (c : Dev nD) (t : Fin cfg2.N) (d) : (dat2 V c).before 0 t d = blkIds2 V c t := by
  unfold Dat.before; rw [if_pos (fetch2_0 t)]; unfold Dat.fetched Dat.blockOf; dsimp only [dat2]; rfl
theorem before2_1 (c : Dev nD) (t : Fin cfg2.N) (d) : (dat2 V c).before 1 t d = blkKept2 V c t := by
  unfold Dat.before; rw [if_pos (fetch2_1 t)]; unfold Dat.fetched Dat.blockOf; dsimp only [dat2]; rfl
theorem before2_2 (c : Dev nD) (t : Fin cfg2.N) (d) : (dat2 V c).before 2 t d = blkGum2 V c t := by
  unfold Dat.before; rw [if_pos (fetch2_2 t)]; unfold Dat.fetched Dat.blockOf; dsimp only [dat2]; rfl
theorem after2_0 (c : Dev nD) (t : Fin cfg2.N) : (dat2 V c).after 0 t = blkIds2 V c t := by dsimp only [dat2]
theorem after2_1 (c : Dev nD) (t : Fin cfg2.N) : (dat2 V c).after 1 t = blkKept2 V c t := by dsimp only [dat2]
theorem after2_2 (c : Dev nD) (t : Fin cfg2.N) : (dat2 V c).after 2 t = blkGum2 V c t := by dsimp only [dat2]
theorem after2_3 (c : Dev nD) (t : Fin cfg2.N) : (dat2 V c).after 3 t = samOut0 (blkIds2 V c t) (blkKept2 V c t) (blkGum2 V c t) := by dsimp only [dat2]
theorem after2_4 (c : Dev nD) (t : Fin cfg2.N) : (dat2 V c).after 4 t = samOut1 (blkIds2 V c t) (blkKept2 V c t) (blkGum2 V c t) := by dsimp only [dat2]
theorem after2_5 (c : Dev nD) (t : Fin cfg2.N) : (dat2 V c).after 5 t = lpOut0 (blkIds2 V c t) (blkKept2 V c t) (blkGum2 V c t) := by dsimp only [dat2]
theorem after2_6 (c : Dev nD) (t : Fin cfg2.N) : (dat2 V c).after 6 t = lpOut1 (blkIds2 V c t) (blkKept2 V c t) (blkGum2 V c t) := by dsimp only [dat2]

theorem defs_tc2 : (defs₀ (F := F)) .tc cfg2.body
    = fun a => cc2_body (grid2.coords a.1) (win2_0.stage (a.2 0)) (hstage2_0 ((a.2 0).cast nbuf2_0)) (win2_1.stage (a.2 1)) (hstage2_1 ((a.2 1).cast nbuf2_1))
        (win2_2.stage (a.2 2)) (hstage2_2 ((a.2 2).cast nbuf2_2)) (win2_3.stage (a.2 3)) (hstage2_3 ((a.2 3).cast nbuf2_3))
        (win2_4.stage (a.2 4)) (hstage2_4 ((a.2 4).cast nbuf2_4)) (win2_5.stage (a.2 5)) (hstage2_5 ((a.2 5).cast nbuf2_5))
        (win2_6.stage (a.2 6)) (hstage2_6 ((a.2 6).cast nbuf2_6)) := rfl
theorem prog_eq2 (t : Fin cfg2.N) : (defs₀ (F := F)) .tc cfg2.body (cfg2.bodyArgs t (cfg2.slots t)) = bodyAt2 t :=
  (congrFun defs_tc2 _).trans rfl

set_option backward.isDefEq.respectTransparency.types false in
theorem obligation2 (c : Dev nD) : BodyObligation (dat2 V c) (defs₀ (F := F)) 𝒱₀ (none : HIx 1) Set.univ := fun t => by
  rw [bigSep_W2, bigSep_W2]
  dsimp only
  simp only [before2_0, before2_1, before2_2, after2_0, after2_1, after2_2, after2_3, after2_4, after2_5, after2_6]
  rw [show (dat2 V c).Φ t.succ = (dat2 V c).Φ t.castSucc from rfl,
    show (dat2 V c).owesAt (none : HIx 1) t.succ = (dat2 V c).owesAt (none : HIx 1) t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  sl_rw [prog_eq2 t]
  iapply (com_wp c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4)) (st2_5 t) (hstage2_5 ((cfg2.slots t 5).cast nbuf2_5))
    (st2_6 t) (hstage2_6 ((cfg2.slots t 6).cast nbuf2_6)) (blkIds2 V c t) (blkKept2 V c t) (blkGum2 V c t) _ _ _ _ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The two regions -/

/-- Neither kernel has a prefetched table. -/
abbrev adm : (p : Fin 2) → (pcfgs (F := F) p).Adm := fun p => (cfgs p).toPCfg_adm

/-- Both kernels' proof data, each region's entry valuation its own. -/
def pdats (V V' : (c : Dev nD) → (b : Ref sig .tc) → Buf (Elt F) ((c : Thread nD τ).loc b)) :
    (p : Fin 2) → (c : Dev nD) → Dat τ (Elt F) (HIx 1) ℕ UU ℕ (Pipeline.pin (pcfgs (F := F)) adm p) c
  | ⟨0, _⟩ => fun c => dat1 V c
  | ⟨1, _⟩ => fun c => dat2 V' c

/-- What a TensorCore owes between the program's steps after the SparseCore call: nothing, its waits recorded low. -/
abbrev owesT (c : Dev nD) : sProp 𝕄 := iprop(∃ W, ⌜(K (F := F)).WBelow (c : Thread nD τ) W 8⌝ ∗ owes (c : Thread nD τ) (0 : CellTallies nD τ sig (HIx 1)) W)

theorem owesT_at {cfg : Cfg sig Λ₀} (c : Dev nD) (D : Dat τ (Elt F) (HIx 1) ℕ UU ℕ cfg c) (t) (hO : D.owed t = 0) (hR : D.recorded t = recd (F := F) c) :
    (owesT (F := F) c : sProp 𝕄) ⊢ D.owesAt (none : HIx 1) t := by
  unfold Dat.owesAt Pipeline.owesWithin
  rw [hO]
  iintro ⟨%W, %hW, H⟩
  iexists W
  isplitr
  · ipureintro
    intro p hp
    refine Or.inl ?_
    rw [hR]; exact hW p hp
  iexact H

theorem at_owesT {cfg : Cfg sig Λ₀} (c : Dev nD) (D : Dat τ (Elt F) (HIx 1) ℕ UU ℕ cfg c) (t) (hO : D.owed t = 0) (hR : D.recorded t = recd (F := F) c) :
    D.owesAt (none : HIx 1) t ⊢ (owesT (F := F) c : sProp 𝕄) := by
  unfold Dat.owesAt Pipeline.owesWithin
  rw [hO]
  iintro ⟨%W, %hW, H⟩
  iexists W
  isplitr
  · ipureintro
    intro p hp
    rcases hW hp with h | h
    · rw [hR] at h; exact h
    · obtain ⟨w, s, rfl⟩ := h; exact Nat.zero_le _
  iexact H

variable (V' : (c : Dev nD) → (b : Ref sig .tc) → Buf (Elt F) ((c : Thread nD τ).loc b))

set_option backward.isDefEq.respectTransparency.types false in
/-- The noise's region: entered at the valuation `V`, left at `Vp`, which is `V` with the noise's array at what the points write back. -/
def reg1 (Vp : (c : Dev nD) → (b : Ref sig .tc) → Buf (Elt F) ((c : Thread nD τ).loc b)) (hout : ∀ c, Vp c main_v5 = (dat1 V c).arrAt 1 cfg1.N)
    (hne : ∀ c (b : Ref sig .tc), b ≠ main_v5 → Vp c b = V c b) :
    Pipeline.RegionSeg (pcfgs (F := F)) adm (pdats V V') (none : HIx 1) (defs₀ (F := F)) 𝒱₀ (K (F := F)).L (K (F := F)).lev 0 where
  win := (launch1).win.to₀
  block_pos := launch1.block_pos
  stage_whole := launch1.stage_whole
  K := PEmpty
  osem k := k.elim
  ho := Pipeline.OwnSemFacts.none _
  hbody c := (obligation1 V c).loose
  hwaits := Pipeline.hwaits_of_owed_zero _ _ _ _ _ _ 0 fun _ _ => rfl
  pre c := iprop(unscopedBufs c (V c) ∗ owesT (F := F) c)
  post c := iprop(unscopedBufs c (Vp c) ∗ owesT (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V V') launch1.win launch1.arr_whole c
      ((pdats V V' 0 c).share_full fun _ => rfl) (V c) fun _ => rfl
    have ho := owesT_at c (pdats V V' 0 c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    rw [show (pdats V V' 0 c).Φ 0 = Pipeline.scopedRest spec1 c from rfl]
    iintro ⟨-, -, Hr⟩; iexact Hr
  hout c := by
    rw [Pipeline.ownSems0_none, show (pdats V V' 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V V') ((pdats V V' 0 c).share_full fun _ => rfl) (V c) (Vp c) ((pdats V V' 0 c).arrAt · cfg1.N)
      (fun w => by
        fin_cases w
        · exact ((pdats V V' 0 c).arrAt_in 0 rfl _).trans (hne c main_v2 (by decide)).symm
        · exact (hout c).symm)
      (fun b hb => hne c b fun h => hb (h ▸ Finset.mem_image.mpr ⟨1, Finset.mem_univ _, rfl⟩))
    have ho := at_owesT c (pdats V V' 0 c) (Fin.last _) rfl rfl
    iintro ⟨Ha, HO, -, Hrest⟩
    imodintro
    isplitl [Ha Hrest]
    · iapply hjoin; isplitl [Ha] <;> iassumption
    iapply ho; iexact HO

set_option backward.isDefEq.respectTransparency.types false in
/-- The result's region: entered at the valuation `V'`, left at `Vp`, which is `V'` with the four result arrays at what the points write back. -/
def reg2 (Vp : (c : Dev nD) → (b : Ref sig .tc) → Buf (Elt F) ((c : Thread nD τ).loc b))
    (h3 : ∀ c, Vp c main_v7_0 = (dat2 V' c).arrAt 3 cfg2.N) (h4 : ∀ c, Vp c main_v7_1 = (dat2 V' c).arrAt 4 cfg2.N)
    (h5 : ∀ c, Vp c main_v7_2 = (dat2 V' c).arrAt 5 cfg2.N) (h6 : ∀ c, Vp c main_v7_3 = (dat2 V' c).arrAt 6 cfg2.N)
    (hne : ∀ c (b : Ref sig .tc), b ≠ main_v7_0 → b ≠ main_v7_1 → b ≠ main_v7_2 → b ≠ main_v7_3 → Vp c b = V' c b) :
    Pipeline.RegionSeg (pcfgs (F := F)) adm (pdats V V') (none : HIx 1) (defs₀ (F := F)) 𝒱₀ (K (F := F)).L (K (F := F)).lev 1 where
  win := (launch2).win.to₀
  block_pos := launch2.block_pos
  stage_whole := launch2.stage_whole
  K := PEmpty
  osem k := k.elim
  ho := Pipeline.OwnSemFacts.none _
  hbody c := (obligation2 V' c).loose
  hwaits := Pipeline.hwaits_of_owed_zero _ _ _ _ _ _ 1 fun _ _ => rfl
  pre c := iprop(unscopedBufs c (V' c) ∗ owesT (F := F) c)
  post c := iprop(unscopedBufs c (Vp c) ∗ owesT (F := F) c)
  X _ := BI.emp
  Y _ := BI.emp
  Z c := Pipeline.unscopedRest (Ix := HIx 1) (Name := ℕ) (U := UU) (Lvl := ℕ) spec2 c (V' c)
  hentry c := by
    rw [Pipeline.ownSems0_none]
    have hsplit := Pipeline.arrays_of_unscopedBufs (p := 1) (pcfgs (F := F)) adm (pdats V V') launch2.win launch2.arr_whole c
      ((pdats V V' 1 c).share_full fun _ => rfl) (V' c) fun _ => rfl
    have ho := owesT_at c (pdats V V' 1 c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    rw [show (pdats V V' 1 c).Φ 0 = Pipeline.scopedRest spec2 c from rfl]
    iintro ⟨-, -, Hr⟩; iexact Hr
  hout c := by
    rw [Pipeline.ownSems0_none, show (pdats V V' 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V V') ((pdats V V' 1 c).share_full fun _ => rfl) (V' c) (Vp c) ((pdats V V' 1 c).arrAt · cfg2.N)
      (fun w => by
        fin_cases w
        · exact ((pdats V V' 1 c).arrAt_in 0 rfl _).trans (hne c main_v2 (by decide) (by decide) (by decide) (by decide)).symm
        · exact ((pdats V V' 1 c).arrAt_in 1 rfl _).trans (hne c main_v6 (by decide) (by decide) (by decide) (by decide)).symm
        · exact ((pdats V V' 1 c).arrAt_in 2 rfl _).trans (hne c main_v5 (by decide) (by decide) (by decide) (by decide)).symm
        · exact (h3 c).symm
        · exact (h4 c).symm
        · exact (h5 c).symm
        · exact (h6 c).symm)
      (fun b hb => hne c b (fun h => hb (h ▸ Finset.mem_image.mpr ⟨3, Finset.mem_univ _, rfl⟩)) (fun h => hb (h ▸ Finset.mem_image.mpr ⟨4, Finset.mem_univ _, rfl⟩))
        (fun h => hb (h ▸ Finset.mem_image.mpr ⟨5, Finset.mem_univ _, rfl⟩)) (fun h => hb (h ▸ Finset.mem_image.mpr ⟨6, Finset.mem_univ _, rfl⟩)))
    have ho := at_owesT c (pdats V V' 1 c) (Fin.last _) rfl rfl
    iintro ⟨Ha, HO, -, Hrest⟩
    imodintro
    isplitl [Ha Hrest]
    · iapply hjoin; isplitl [Ha] <;> iassumption
    iapply ho; iexact HO

end Cert.Proof.Legal
-- ==== Proof.ScBlock.lean ====
/-
  The SparseCore loop body's pieces, run. A thread holds the table of logits, a group's slot table, its block of ids and its
  block of results, each whole; `fetchBlock_wp` takes the slot table sixteen positions further, `keepBlock_wp` the results
  sixteen positions further, `groupStep_wp` the results one group further. Every rule is stated with a continuation, so that
  the pieces chain.
-/
module

public import proofs.«01_k».proof.Proof.Common

@[expose] public section

noncomputable section

namespace Cert.Proof.Legal

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section Views

variable {κ : Kind} {sp : Space} {e : EltTy}

/-- Reading through the access of a whole memref is reading the memref. -/
theorem read_access_whole {s : Shape} (m : Memref sig κ sp s e) (f : m.view.ty.Contents (Elt F)) :
    (m.access (.whole s)).read (Elt F) f = m.view.read (Elt F) f := by
  funext x
  show _root_.cast _ (f (m.view.emb ((Rect.whole s).emb x))) = _root_.cast _ (f (m.view.emb x))
  rw [show (Rect.whole s).emb x = x from by
    funext a; apply Fin.ext; rw [Rect.emb_apply]; show 0 + 1 * (x a).val = (x a).val; omega]

/-- Writing a whole memref and reading it back gives what was written. -/
theorem read_write_whole {s : Shape} (m : Memref sig κ sp s e) (f : m.view.ty.Contents (Elt F)) (w : s.Idx → Elt F e) :
    m.view.read (Elt F) ((m.access (.whole s)).write (Elt F) f w Finset.univ) = w := by
  rw [← read_access_whole]
  exact View.read_write_univ _ _

variable {o : Fin 1 → ℕ} (ho : ∀ a, o a + S16.size a ≤ S32768.size a)

/-- Element `x` of sixteen at offset `o` of a block. -/
theorem emb_at (x : S16.Idx) : (Rect.unit (s := S32768) o S16.size ho).emb x = posAt (o 0 + (x 0).val) := by
  funext a
  obtain rfl : a = 0 := Subsingleton.elim _ _
  have h1 := ho 0
  have h2 : (x 0).val < 16 := (x 0).isLt
  have h16 : S16.size 0 = 16 := rfl
  have hN : S32768.size 0 = 32768 := rfl
  apply Fin.ext
  rw [Rect.emb_apply]
  show o 0 + 1 * (x 0).val = (o 0 + (x 0).val) % 32768
  rw [Nat.mod_eq_of_lt (by omega)]; omega

theorem readAt_at (m : Memref sig κ sp S32768 e) (f : m.view.ty.Contents (Elt F)) (x : S16.Idx) :
    m.view.readAt (Elt F) (Rect.unit (s := S32768) o S16.size ho).toLoadRect f x = m.view.read (Elt F) f (posAt (o 0 + (x 0).val)) := by
  rw [View.readAt_rect]
  show _root_.cast _ (f (m.view.emb ((Rect.unit (s := S32768) o S16.size ho).emb x))) = _
  rw [emb_at]
  rfl

/-- Sixteen elements stored at offset `o`: they hold what was stored, the rest what it held. -/
theorem read_store_at (m : Memref sig κ sp S32768 e) (f : m.view.ty.Contents (Elt F)) (w : S16.Idx → Elt F e) (n : ℕ) (hn : n < 32768) :
    (∀ x : S16.Idx, n = o 0 + (x 0).val → m.view.read (Elt F) ((m.access (Rect.unit (s := S32768) o S16.size ho)).write (Elt F) f w Finset.univ) (posAt n) = w x)
      ∧ (n < o 0 → m.view.read (Elt F) ((m.access (Rect.unit (s := S32768) o S16.size ho)).write (Elt F) f w Finset.univ) (posAt n) = m.view.read (Elt F) f (posAt n)) := by
  constructor
  · rintro x rfl
    rw [← emb_at ho x]
    exact View.read_slice_write_emb _ _ _ (Finset.mem_univ x)
  · intro h
    refine View.read_slice_write_of_not_mem _ _ _ _ ?_
    intro hm
    obtain ⟨x, -, hx⟩ := Finset.mem_map.mp hm
    rw [emb_at ho x] at hx
    have h1 := ho 0
    have h2 : (x 0).val < 16 := (x 0).isLt
    have h16 : S16.size 0 = 16 := rfl
    have hN : S32768.size 0 = 32768 := rfl
    have := congrArg (fun i : S32768.Idx => (i 0).val) hx
    simp only [posAt] at this
    rw [Nat.mod_eq_of_lt (by omega), Nat.mod_eq_of_lt hn] at this
    omega

end Views

theorem exists_lane (n : ℕ) (h : n < 16) : ∃ x : S16.Idx, (x 0).val = n := ⟨fun a => ⟨n, by
  obtain rfl : a = 0 := Subsingleton.elim _ _
  exact h⟩, rfl⟩

section Pieces

variable (thr : Thread nD τ) (arg5 : Memref sig thr.2.kind .vmem S1968 .f32) (slot : Memref sig thr.2.kind .vmem S1968 .i32)
  (arg10 : Memref sig thr.2.kind .vmem S32768 .i32) (arg11 : Memref sig thr.2.kind .vmem S32768 .f32)
  (hslot : (slot.access (.whole S1968)).set = Finset.univ)
  (ids : ℕ → BitVec 32) (hids : ∀ n, (ids n).toNat < 1968) (tab : S1968.Idx → F .f32)

/-- The table of logits, held. -/
def Tab : sProp 𝕄 := iprop(∃ f, ⌜arg5.view.read (Elt F) f = tab⌝ ∗ arg5.view.loc thr ↦{fullShare} f)
/-- The block of ids, held. -/
def Ids : sProp 𝕄 := iprop(∃ f, ⌜∀ n, n < 32768 → arg10.view.read (Elt F) f (posAt n) = ids n⌝ ∗ arg10.view.loc thr ↦{fullShare} f)
/-- The slot table after the first `n` positions of the group that starts at `w`'s zero. -/
def Slot (w : ℕ → BitVec 32) (n : ℕ) : sProp 𝕄 := iprop(∃ f, ⌜SlotAt w n (slot.view.read (Elt F) f)⌝ ∗ slot.view.loc thr ↦{fullShare} f)
/-- The block of results, right at its first `n` positions. -/
def Done (n : ℕ) : sProp 𝕄 := iprop(∃ f, ⌜∀ p, p < n → arg11.view.read (Elt F) f (posAt p) = kept ids tab p⌝ ∗ arg11.view.loc thr ↦{fullShare} f)

/-- What a fetched block carries on: its ids and the logits at them. -/
def Fetched (n : ℕ) (r : Σ' (v : Vec F S16 .i32) (_ : k0_chk1 v), Vec F S16 .f32) : Prop :=
  (∀ x, r.1 x = ids (n + (x 0).val)) ∧ r.2.2 = fun x => tab (idAt (r.1 x))

theorem chk_of (v : Vec F S16 .i32) (h : ∀ x, (v x : BitVec 32).toNat < 1968) : k0_chk1 v := by
  have : ∀ a x, ((![v] : Fin 1 → IVec S16 32) a x).toNat < S1968.size a := fun a x => by
    obtain rfl : a = 0 := Subsingleton.elim _ _
    exact h x
  exact ⟨this, this, this⟩

theorem gather_eq (v : Vec F S16 .i32) (h : ∀ a x, ((![v] : Fin 1 → IVec S16 32) a x).toNat < S1968.size a) :
    loadIdx (F := F) (e := .f32) tab ![v] h = fun x => tab (idAt (v x)) := by
  funext x
  unfold loadIdx
  congr 1
  funext a
  obtain rfl : a = 0 := Subsingleton.elim _ _
  exact Fin.ext (Nat.mod_eq_of_lt (h 0 x)).symm

variable (t : Fin k0_t1_loop.trips) (j k : BitVec 32) (hin : ∀ a, k0_off6 t j k a + S16.size a ≤ S32768.size a)
  (g0 : ℕ) (b : Fin 4) (hk : k = (![0#32, 16#32, 32#32, 48#32] : Fin 4 → BitVec 32) b) (ho : k0_off6 t j k 0 = 64 * g0 + 16 * b.val)

include hslot hids hk ho in
/-- A block fetched: the slot table advances sixteen positions. -/
theorem fetchBlock_wp (n n' : ℕ) (hn : n = 16 * b.val) (hn' : n' = n + 16) (Q : (Σ' (v : Vec F S16 .i32) (_ : k0_chk1 v), Vec F S16 .f32) → sProp 𝕄) :
    iprop(Tab thr arg5 tab ∗ Ids thr arg10 ids ∗ Slot (F := F) thr slot (fun m => ids (64 * g0 + m)) n
        ∗ (∀ r, ⌜Fetched ids tab (64 * g0 + n) r⌝ -∗ Tab thr arg5 tab -∗ Ids thr arg10 ids -∗ Slot (F := F) thr slot (fun m => ids (64 * g0 + m)) n' -∗ Q r))
      ⊢ wp frame (wpE (defs₀ (F := F)) 𝒱₀ thr none) Set.univ (fetchBlock (F := F) (p := thr.2) arg5 slot arg10 lanes t j k hin) Q := by
  subst hn'; subst hn
  unfold fetchBlock
  simp only [Prog.lift, Prog.bind_op, Prog.bind_ret, Prog.pure_eq_ret]
  unfold Tab Ids Slot
  iintro ⟨⟨%ft, %hft, Ht⟩, ⟨%fi, %hfi, Hi⟩, ⟨%fs, %hfs, Hs⟩, HQ⟩
  iapply (wp_load (defs := defs₀ (F := F)) 𝒱₀ thr none Set.univ (m := arg10) (S := Finset.univ) (Finset.subset_univ _)) $$ Hi; iintro Hi
  have hb := b.isLt
  have hin0 := hin 0
  have h16 : S16.size 0 = 16 := rfl
  have hN : S32768.size 0 = 32768 := rfl
  have hv : ∀ x : S16.Idx, arg10.view.readAt (Elt F) (Rect.unit (s := S32768) (k0_off6 t j k) S16.size hin).toLoadRect fi x = ids (64 * g0 + 16 * b.val + (x 0).val) := fun x => by
    have hx : (x 0).val < 16 := (x 0).isLt
    rw [readAt_at, ho]
    exact hfi _ (by omega)
  generalize arg10.view.readAt (Elt F) (Rect.unit (s := S32768) (k0_off6 t j k) S16.size hin).toLoadRect fi = v at hv ⊢
  have hchk : k0_chk1 v := chk_of (F := F) v fun x => by rw [hv x]; exact hids _
  rw [wp_assume_of _ _ _ _ hchk]
  iapply (SparseCore.wp_vectorLoadIdx (defs := defs₀ (F := F)) 𝒱₀ thr none Set.univ (base := arg5) (S := Finset.univ) (q := fullShare) (Finset.subset_univ _)) $$ Ht; iintro Ht
  rw [read_access_whole, hft, gather_eq]
  ihave Hs' := (Entails.of_eq (show (slot.view.loc thr ↦{fullShare} fs : sProp 𝕄)
    = ((slot.access (.whole S1968)).loc thr ↦[(slot.access (.whole S1968)).set]{fullShare} fs) by rw [hslot])) $$ Hs
  iapply (SparseCore.wp_vectorStoreIdx (defs := defs₀ (F := F)) 𝒱₀ thr none Set.univ (base := slot)) $$ Hs'; iintro Hs
  rw [wp_ret]; imodintro
  iapply HQ $$ [] [Ht] [Hi] [Hs]
  · ipureintro; exact ⟨hv, rfl⟩
  · iexists _; isplitr; · ipureintro; exact hft
    iexact Ht
  · iexists _; isplitr; · ipureintro; exact hfi
    iexact Hi
  · iexists _; isplitr
    rotate_left
    · rw [hslot]; iexact Hs
    · ipureintro
      rw [read_write_whole, read_access_whole]
      subst hk
      exact slotAt_step _ (fun m => hids _) _ _ hfs v (fun x => by rw [hv x, Nat.add_assoc]) _ (fun x => lanes_at b x) _

include hids hk ho in
/-- A block kept: the results advance sixteen positions. -/
theorem keepBlock_wp (r : Σ' (v : Vec F S16 .i32) (_ : k0_chk1 v), Vec F S16 .f32) (n p p' : ℕ) (hn : n = 16 * b.val) (hr : Fetched ids tab (64 * g0 + n) r) (hp : p = 64 * g0 + n) (hp' : p' = p + 16) (R : sProp 𝕄) :
    iprop(Slot (F := F) thr slot (fun m => ids (64 * g0 + m)) 64 ∗ Done thr arg11 ids tab p
        ∗ (Slot (F := F) thr slot (fun m => ids (64 * g0 + m)) 64 -∗ Done thr arg11 ids tab p' -∗ R))
      ⊢ wp frame (wpE (defs₀ (F := F)) 𝒱₀ thr none) Set.univ (keepBlock (F := F) (p := thr.2) slot arg11 lanes t j k hin r) (fun _ => R) := by
  subst hp'; subst hp; subst hn
  unfold keepBlock
  simp only [Prog.lift, Prog.bind_op, Prog.bind_ret, Prog.pure_eq_ret]
  unfold Slot Done
  iintro ⟨⟨%fs, %hfs, Hs⟩, ⟨%fg, %hfg, Hg⟩, HQ⟩
  iapply (SparseCore.wp_vectorLoadIdx (defs := defs₀ (F := F)) 𝒱₀ thr none Set.univ (base := slot) (S := Finset.univ) (q := fullShare) (Finset.subset_univ _)) $$ Hs; iintro Hs
  iapply (wp_load (defs := defs₀ (F := F)) 𝒱₀ thr none Set.univ (m := arg11) (S := Finset.univ) (Finset.subset_univ _)) $$ Hg; iintro Hg
  ihave Hg' := (show (arg11.view.loc thr ↦{fullShare} fg : sProp 𝕄)
    ⊢ (arg11.access (Rect.unit (s := S32768) (k0_off6 t j k) S16.size hin)).loc thr ↦{fullShare} fg from .rfl) $$ Hg
  iapply (wp_store (defs := defs₀ (F := F)) 𝒱₀ thr none Set.univ (m := arg11) (r := Rect.unit (s := S32768) (k0_off6 t j k) S16.size hin) (Mk := Finset.univ) (S := Finset.univ) (Finset.subset_univ _)) $$ Hg'; iintro Hg
  rw [wp_ret]; imodintro
  iapply HQ $$ [Hs] [Hg]
  · iexists _; isplitr; · ipureintro; exact hfs
    iexact Hs
  · iexists _; isplitr
    rotate_left
    · iexact Hg
    · ipureintro
      intro p hp
      have hb := b.isLt
      have hin0 := hin 0
      have h16 : S16.size 0 = 16 := rfl
      have hN : S32768.size 0 = 32768 := rfl
      obtain ⟨h1, h2⟩ := read_store_at (F := F) hin arg11 fg (keepPay lanes k (loadIdx ((slot.access (.whole S1968)).read (Elt F) fs) ![r.1] (k0_idx9_inb r.1 r.2.1)) r.2.2) p (by omega)
      by_cases hlt : p < 64 * g0 + 16 * b.val
      · rw [h2 (by omega)]
        exact hfg p hlt
      · have hx : p - (64 * g0 + 16 * b.val) < 16 := by omega
        obtain ⟨x, hxv⟩ := exists_lane _ hx
        rw [h1 x (by omega), read_access_whole, hr.2]
        subst hk
        rw [keepPay_eq ids hids tab g0 b _ hfs r.1 (fun x => by rw [hr.1 x, Nat.add_assoc]), hxv]
        congr 1; omega

end Pieces

end Cert.Proof.Legal
-- ==== Proof.ScGroup.lean ====
/-
  The SparseCore loop body's pieces, run. A thread holds the table of logits, a group's slot table, its block of ids and its
  block of results, each whole; `fetchBlock_wp` takes the slot table sixteen positions further, `keepBlock_wp` the results
  sixteen positions further, `groupStep_wp` the results one group further. Every rule is stated with a continuation, so that
  the pieces chain.
-/
module

public import proofs.«01_k».proof.Proof.ScBlock

@[expose] public section

noncomputable section

namespace Cert.Proof.Legal

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section Pieces

variable (thr : Thread nD τ) (arg5 : Memref sig thr.2.kind .vmem S1968 .f32) (slot : Memref sig thr.2.kind .vmem S1968 .i32)
  (arg10 : Memref sig thr.2.kind .vmem S32768 .i32) (arg11 : Memref sig thr.2.kind .vmem S32768 .f32)
  (hslot : (slot.access (.whole S1968)).set = Finset.univ)
  (ids : ℕ → BitVec 32) (hids : ∀ n, (ids n).toNat < 1968) (tab : S1968.Idx → F .f32)

variable (t : Fin k0_t1_loop.trips) (j : BitVec 32)
  (g0 : ℕ)

variable (h0 : ∀ a, k0_off6 t j 0#32 a + S16.size a ≤ S32768.size a) (h1 : ∀ a, k0_off6 t j 16#32 a + S16.size a ≤ S32768.size a)
  (h2 : ∀ a, k0_off6 t j 32#32 a + S16.size a ≤ S32768.size a) (h3 : ∀ a, k0_off6 t j 48#32 a + S16.size a ≤ S32768.size a)
  (hoff : ∀ b : Fin 4, k0_off6 t j ((![0#32, 16#32, 32#32, 48#32] : Fin 4 → BitVec 32) b) 0 = 64 * g0 + 16 * b.val)

set_option maxHeartbeats 400000 in
include hslot hids hoff in
/-- A group run: the results advance one group; the slot table is left at something. -/
theorem groupStep_wp (R : sProp 𝕄) :
    iprop(Tab thr arg5 tab ∗ Ids thr arg10 ids ∗ (∃ f, slot.view.loc thr ↦{fullShare} f) ∗ Done thr arg11 ids tab (64 * g0)
        ∗ (Tab thr arg5 tab -∗ Ids thr arg10 ids -∗ (∃ f, slot.view.loc thr ↦{fullShare} f) -∗ Done thr arg11 ids tab (64 * (g0 + 1)) -∗ R))
      ⊢ wp frame (wpE (defs₀ (F := F)) 𝒱₀ thr none) Set.univ (groupStep (F := F) (p := thr.2) arg5 slot arg10 arg11 lanes t j h0 h1 h2 h3) (fun _ => R) := by
  have o0 : k0_off6 t j 0#32 0 = 64 * g0 + 16 * (0 : Fin 4).val := hoff 0
  have o1 : k0_off6 t j 16#32 0 = 64 * g0 + 16 * (1 : Fin 4).val := hoff 1
  have o2 : k0_off6 t j 32#32 0 = 64 * g0 + 16 * (2 : Fin 4).val := hoff 2
  have o3 : k0_off6 t j 48#32 0 = 64 * g0 + 16 * (3 : Fin 4).val := hoff 3
  unfold groupStep
  simp only [wp_bind]
  iintro ⟨Ht, Hi, ⟨%fs, Hs⟩, Hd, HQ⟩
  iapply (fetchBlock_wp thr arg5 slot arg10 hslot ids hids tab t j 0#32 h0 g0 0 rfl o0 0 16 rfl rfl)
  isplitl [Ht]; · iexact Ht
  isplitl [Hi]; · iexact Hi
  isplitl [Hs]
  · unfold Slot; iexists fs; isplitr; · ipureintro; exact slotAt_zero _ _
    iexact Hs
  iintro %r0 %hr0 Ht Hi Hs
  iapply (fetchBlock_wp thr arg5 slot arg10 hslot ids hids tab t j 16#32 h1 g0 1 rfl o1 16 32 rfl rfl)
  isplitl [Ht]; · iexact Ht
  isplitl [Hi]; · iexact Hi
  isplitl [Hs]; · iexact Hs
  iintro %r1 %hr1 Ht Hi Hs
  iapply (fetchBlock_wp thr arg5 slot arg10 hslot ids hids tab t j 32#32 h2 g0 2 rfl o2 32 48 rfl rfl)
  isplitl [Ht]; · iexact Ht
  isplitl [Hi]; · iexact Hi
  isplitl [Hs]; · iexact Hs
  iintro %r2 %hr2 Ht Hi Hs
  iapply (fetchBlock_wp thr arg5 slot arg10 hslot ids hids tab t j 48#32 h3 g0 3 rfl o3 48 64 rfl rfl)
  isplitl [Ht]; · iexact Ht
  isplitl [Hi]; · iexact Hi
  isplitl [Hs]; · iexact Hs
  iintro %r3 %hr3 Ht Hi Hs
  iapply (keepBlock_wp thr slot arg11 ids hids tab t j 0#32 h0 g0 0 rfl o0 r0 0 (64 * g0) (64 * g0 + 16) rfl hr0 (by omega) (by omega))
  isplitl [Hs]; · iexact Hs
  isplitl [Hd]; · iexact Hd
  iintro Hs Hd
  iapply (keepBlock_wp thr slot arg11 ids hids tab t j 16#32 h1 g0 1 rfl o1 r1 16 (64 * g0 + 16) (64 * g0 + 32) rfl hr1 rfl (by omega))
  isplitl [Hs]; · iexact Hs
  isplitl [Hd]; · iexact Hd
  iintro Hs Hd
  iapply (keepBlock_wp thr slot arg11 ids hids tab t j 32#32 h2 g0 2 rfl o2 r2 32 (64 * g0 + 32) (64 * g0 + 48) rfl hr2 rfl (by omega))
  isplitl [Hs]; · iexact Hs
  isplitl [Hd]; · iexact Hd
  iintro Hs Hd
  iapply (keepBlock_wp thr slot arg11 ids hids tab t j 48#32 h3 g0 3 rfl o3 r3 48 (64 * g0 + 48) (64 * (g0 + 1)) rfl hr3 rfl (by omega))
  isplitl [Hs]; · iexact Hs
  isplitl [Hd]; · iexact Hd
  iintro Hs Hd
  iapply HQ $$ [Ht] [Hi] [Hs] [Hd]
  · iexact Ht
  · iexact Hi
  · unfold Slot
    icases Hs with ⟨%f, -, Hs⟩
    iexists f; iexact Hs
  · iexact Hd

end Pieces

end Cert.Proof.Legal
-- ==== Proof.ScTrip.lean ====
/-
  One trip of the SparseCore loop: four groups of 64 positions, each with a slot table of its own; the results advance 256
  positions. `LoopInv` is what holds before each trip.
-/
module

public import proofs.«01_k».proof.Proof.ScGroup

@[expose] public section

noncomputable section

namespace Cert.Proof.Legal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The SparseCore and the vector subcore of a grid point. -/
abbrev cV (L : grid0.Coords) : Fin τ.nSC := (L 0).castLE hcore0
abbrev jV (L : grid0.Coords) : Fin τ.nSub := (L 1).castLE hsub0

section Trip

variable (d : Dev nD) (L : grid0.Coords)
  (arg5 : Memref sig .scVector .vmem S1968 .f32) (s0 s1 s2 s3 : Memref sig .scVector .vmem S1968 .i32)
  (arg10 : Memref sig .scVector .vmem S32768 .i32) (arg11 : Memref sig .scVector .vmem S32768 .f32)
  (ids : ℕ → BitVec 32) (tab : S1968.Idx → F .f32)

/-- Before trip `n`: the table, the ids, four slot tables at anything, and the results right at the first `256 n` positions. -/
def LoopInv (n : ℕ) (_ : PUnit) : sProp 𝕄 :=
  iprop(Tab (V d (cV L) (jV L)) arg5 tab ∗ Ids (V d (cV L) (jV L)) arg10 ids
    ∗ (∃ f, s0.view.loc (V d (cV L) (jV L)) ↦{fullShare} f) ∗ (∃ f, s1.view.loc (V d (cV L) (jV L)) ↦{fullShare} f)
    ∗ (∃ f, s2.view.loc (V d (cV L) (jV L)) ↦{fullShare} f) ∗ (∃ f, s3.view.loc (V d (cV L) (jV L)) ↦{fullShare} f)
    ∗ Done (V d (cV L) (jV L)) arg11 ids tab (256 * n))

variable (h0 : (s0.access (.whole S1968)).set = Finset.univ) (h1 : (s1.access (.whole S1968)).set = Finset.univ)
  (h2 : (s2.access (.whole S1968)).set = Finset.univ) (h3 : (s3.access (.whole S1968)).set = Finset.univ)
  (hids : ∀ n, (ids n).toNat < 1968)

theorem off_group (t : Fin k0_t1_loop.trips) (a : Fin 4) (g : ℕ) (hg : g = 4 * t.val + a.val) (b : Fin 4) :
    k0_off6 t ((![0#32, 64#32, 128#32, 192#32] : Fin 4 → BitVec 32) a) ((![0#32, 16#32, 32#32, 48#32] : Fin 4 → BitVec 32) b) 0 = 64 * g + 16 * b.val := by
  rw [off_val]; omega

include h0 h1 h2 h3 hids in
/-- A trip of the loop takes the results 256 positions further. -/
theorem trip_wp (arg2 harg2 arg3 harg3 arg4 harg4 harg5 harg6 harg7 harg8 harg9 harg10 harg11 r0 r1 r2) (t : Fin k0_t1_loop.trips) (acc : PUnit) :
    LoopInv d L arg5 s0 s1 s2 s3 arg10 arg11 ids tab t.val acc
      ⊢ wp frame (wpE (defs₀ (F := F)) 𝒱₀ (V d (cV L) (jV L)) none) Set.univ
          (k0_t1_body (F := F) L arg2 harg2 arg3 harg3 arg4 harg4 arg5 harg5 s0 harg6 s1 harg7 s2 harg8 s3 harg9 arg10 harg10 arg11 harg11 r0 r1 r2 lanes t acc)
          (LoopInv d L arg5 s0 s1 s2 s3 arg10 arg11 ids tab (t.val + 1)) := by
  rw [show acc = () from rfl, body_eq]
  simp only [wp_bind]
  unfold LoopInv
  iintro ⟨Ht, Hi, H0, H1, H2, H3, Hd⟩
  iapply (groupStep_wp (V d (cV L) (jV L)) arg5 s0 arg10 arg11 h0 ids hids tab t 0#32 (4 * t.val) _ _ _ _ (off_group t 0 _ rfl))
  isplitl [Ht]; · iexact Ht
  isplitl [Hi]; · iexact Hi
  isplitl [H0]; · iexact H0
  isplitl [Hd]; · rw [show 64 * (4 * t.val) = 256 * t.val by omega]; iexact Hd
  iintro Ht Hi H0 Hd
  iapply (groupStep_wp (V d (cV L) (jV L)) arg5 s1 arg10 arg11 h1 ids hids tab t 64#32 (4 * t.val + 1) _ _ _ _ (off_group t 1 _ rfl))
  isplitl [Ht]; · iexact Ht
  isplitl [Hi]; · iexact Hi
  isplitl [H1]; · iexact H1
  isplitl [Hd]; · iexact Hd
  iintro Ht Hi H1 Hd
  iapply (groupStep_wp (V d (cV L) (jV L)) arg5 s2 arg10 arg11 h2 ids hids tab t 128#32 (4 * t.val + 2) _ _ _ _ (off_group t 2 _ rfl))
  isplitl [Ht]; · iexact Ht
  isplitl [Hi]; · iexact Hi
  isplitl [H2]; · iexact H2
  isplitl [Hd]; · iexact Hd
  iintro Ht Hi H2 Hd
  iapply (groupStep_wp (V d (cV L) (jV L)) arg5 s3 arg10 arg11 h3 ids hids tab t 192#32 (4 * t.val + 3) _ _ _ _ (off_group t 3 _ rfl))
  isplitl [Ht]; · iexact Ht
  isplitl [Hi]; · iexact Hi
  isplitl [H3]; · iexact H3
  isplitl [Hd]; · iexact Hd
  iintro Ht Hi H3 Hd
  isplitl [Ht]; · iexact Ht
  isplitl [Hi]; · iexact Hi
  isplitl [H0]; · iexact H0
  isplitl [H1]; · iexact H1
  isplitl [H2]; · iexact H2
  isplitl [H3]; · iexact H3
  rw [show 256 * (t.val + 1) = 64 * (4 * t.val + 3 + 1) by omega]; iexact Hd

end Trip

end Cert.Proof.Legal
-- ==== Proof.ScTile.lean ====
/-
  One tile of the SparseCore call, run. The tile of SparseCore `L 0` and vector subcore `L 1` fetches the table of logits and
  block `2 (L 1) + L 0` of the ids, treats its 32768 positions in 128 trips, and copies the results out to the same block of
  the result array, which then holds at every position of the block what `kept` says of the whole sequence of ids.
-/
module

public import proofs.«01_k».proof.Proof.ScTrip

@[expose] public section

noncomputable section

namespace Cert.Proof.Legal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

-- the kernel's memrefs as the body table passes them, closed constants
local notation "aT" => (Memref.whole Cert.KernelIdeal.main_arg1_scv : Memref Cert.KernelIdeal.sig Kind.scVector Space.hbm Cert.KernelIdeal.S1968 EltTy.f32)
local notation "aW" => (Memref.whole Cert.KernelIdeal.main_v3_scv : Memref Cert.KernelIdeal.sig Kind.scVector Space.hbm Cert.KernelIdeal.S1048576 EltTy.i32)
local notation "aK" => (Memref.whole Cert.KernelIdeal.main_v4_scv : Memref Cert.KernelIdeal.sig Kind.scVector Space.hbm Cert.KernelIdeal.S1048576 EltTy.f32)
local notation "sT" => (Memref.whole Cert.KernelIdeal.cc0_scratch0 : Memref Cert.KernelIdeal.sig Kind.scVector Space.vmem Cert.KernelIdeal.S1968 EltTy.f32)
local notation "s0" => (Memref.whole Cert.KernelIdeal.cc0_scratch1 : Memref Cert.KernelIdeal.sig Kind.scVector Space.vmem Cert.KernelIdeal.S1968 EltTy.i32)
local notation "s1" => (Memref.whole Cert.KernelIdeal.cc0_scratch2 : Memref Cert.KernelIdeal.sig Kind.scVector Space.vmem Cert.KernelIdeal.S1968 EltTy.i32)
local notation "s2" => (Memref.whole Cert.KernelIdeal.cc0_scratch3 : Memref Cert.KernelIdeal.sig Kind.scVector Space.vmem Cert.KernelIdeal.S1968 EltTy.i32)
local notation "s3" => (Memref.whole Cert.KernelIdeal.cc0_scratch4 : Memref Cert.KernelIdeal.sig Kind.scVector Space.vmem Cert.KernelIdeal.S1968 EltTy.i32)
local notation "sI" => (Memref.whole Cert.KernelIdeal.cc0_scratch5 : Memref Cert.KernelIdeal.sig Kind.scVector Space.vmem Cert.KernelIdeal.S32768 EltTy.i32)
local notation "sG" => (Memref.whole Cert.KernelIdeal.cc0_scratch6 : Memref Cert.KernelIdeal.sig Kind.scVector Space.vmem Cert.KernelIdeal.S32768 EltTy.f32)

/-! ## The blocks -/

theorem hdiv : 32 ∣ S1048576.size 0 := ⟨32768, rfl⟩
/-- Block `i` of 32 of the flat arrays. -/
abbrev blk (i : Fin 32) : Rect S1048576 := Rect.part (s := S1048576) (a₀ := 0) hdiv i
abbrev blkSet (i : Fin 32) : Finset S1048576.Idx := (blk i).set

/-- The block a tile takes. -/
def wid (c : Fin 2) (s : Fin 16) : Fin 32 := ⟨2 * s.val + c.val, by omega⟩
theorem bound_zero : grid0.bound 0 = 2 := rfl
theorem bound_one : grid0.bound 1 = 16 := rfl
abbrev widL (L : grid0.Coords) : Fin 32 := wid (Fin.cast bound_zero (L 0)) (Fin.cast bound_one (L 1))

theorem off1_aux : ∀ (c : Fin 2) (s : Fin 16),
    (Scalar.muli (Scalar.addi (Scalar.muli (BitVec.ofNat 32 s.val) 2#32) (BitVec.ofNat 32 c.val)) 32768#32).toNat = 32768 * (2 * s.val + c.val) := by
  decide

/-- A tile's block starts at 32768 times its number. -/
theorem off1_val (L : grid0.Coords) (a : Fin 1) : k0_off1 L a = 32768 * (widL L).val := by
  obtain rfl : a = 0 := Subsingleton.elim _ _
  exact off1_aux (Fin.cast bound_zero (L 0)) (Fin.cast bound_one (L 1))

abbrev blkK (L : grid0.Coords) : Rect S1048576 := Rect.unit (s := S1048576) (k0_off1 L) S32768.size (k0_off1_inb L)

theorem blkK_eq (L : grid0.Coords) : blkK L = blk (widL L) := by
  unfold blkK blk Rect.part Rect.block
  congr 1 <;> funext a
  · rw [off1_val]
    obtain rfl : a = 0 := Subsingleton.elim _ _
    simp [Shape.partIx, Shape.partSize]
    omega
  · obtain rfl : a = 0 := Subsingleton.elim _ _
    simp [Shape.partSize]

abbrev wBlk (L : grid0.Coords) : Memref sig .scVector .hbm S32768 .i32 := (aW).slice (blkK L) (fun _ => rfl)
abbrev kBlk (L : grid0.Coords) : Memref sig .scVector .hbm S32768 .f32 := (aK).slice (blkK L) (fun _ => rfl)

theorem set_wBlk (L : grid0.Coords) : (wBlk L).view.set = blkSet (widL L) := by
  show ((View.whole (main_v3_scv : Ref sig .scVector)).slice (blkK L)).set = _
  rw [View.set_slice, blkK_eq]; exact Finset.map_refl
theorem set_kBlk (L : grid0.Coords) : (kBlk L).view.set = blkSet (widL L) := by
  show ((View.whole (main_v4_scv : Ref sig .scVector)).slice (blkK L)).set = _
  rw [View.set_slice, blkK_eq]; exact Finset.map_refl

section Tile

variable (d : Dev nD) (L : grid0.Coords)

theorem pts_tab (q : PosShare TreeShare) (f : Buf (Elt F) (tabLoc d)) :
    ((aT).view.loc (V d (cV L) (jV L)) ↦{q} f : sProp 𝕄) = tabLoc d ↦{q} f := rfl
theorem pts_wBlk (f : Buf (Elt F) (wideLoc d)) :
    ((wBlk L).view.loc (V d (cV L) (jV L)) ↦[(wBlk L).view.set]{fullShare} f : sProp 𝕄) = wideLoc d ↦[blkSet (widL L)]{fullShare} f := by
  rw [set_wBlk]
theorem pts_kBlk (f : Buf (Elt F) (keptLoc d)) :
    ((kBlk L).view.loc (V d (cV L) (jV L)) ↦[(kBlk L).view.set]{fullShare} f : sProp 𝕄) = keptLoc d ↦[blkSet (widL L)]{fullShare} f := by
  rw [set_kBlk]

/-- The three DMA cells the body names. -/
abbrev cTcell (d : Dev nD) (c : Fin τ.nSC) (i : Fin τ.nSub) : GSem nD τ sig := (V d c i, .dma cc0_scoped0.sem)
abbrev cIcell (d : Dev nD) (c : Fin τ.nSC) (i : Fin τ.nSub) : GSem nD τ sig := (V d c i, .dma cc0_scoped1.sem)
abbrev cOcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cTcell d (cV L) (jV L)) 0 ∗ semVal (cIcell d (cV L) (jV L)) 0 ∗ semVal (cOcell d (cV L) (jV L)) 0
          ∗ bigSep ((((ownCells (V d (cV L) (jV L))).erase (cTcell d (cV L) (jV L))).erase (cIcell d (cV L) (jV L))).erase (cOcell d (cV L) (jV L))) fun g => semVal g 0) := by
  unfold SparseCore.Cfg.ownSems0
  rw [SparseCore.bigSep_erase' ((mem_ownCells (g := cTcell d (cV L) (jV L))).mpr ⟨rfl, by
      show (SemLoc.dma cc0_scoped0.sem : SemLoc sig).isScoped .scVector = true; decide⟩),
    SparseCore.bigSep_erase' (Finset.mem_erase.mpr ⟨by simp [cTcell, cIcell]; decide, (mem_ownCells (g := cIcell d (cV L) (jV L))).mpr ⟨rfl, by
      show (SemLoc.dma cc0_scoped1.sem : SemLoc sig).isScoped .scVector = true; decide⟩⟩),
    SparseCore.bigSep_erase' (Finset.mem_erase.mpr ⟨by simp [cIcell, cOcell]; decide, Finset.mem_erase.mpr ⟨by simp [cTcell, cOcell]; decide,
      (mem_ownCells (g := cOcell d (cV L) (jV L))).mpr ⟨rfl, by show (SemLoc.dma cc0_scoped2.sem : SemLoc sig).isScoped .scVector = true; decide⟩⟩⟩)]

abbrev bref (c : Fin τ.nSC) (i : Fin τ.nSub) (r : Ref sig .scVector) : DevRef τ sig := (Proc.scVector c i).devRef r

theorem bref_ne (c : Fin τ.nSC) (i : Fin τ.nSub) {r r' : Ref sig .scVector} (h : r ≠ r') : bref c i r ≠ bref c i r' :=
  fun e => h (Proc.devRef_injective _ e)

/-- The tile's own buffers other than the kernel's seven scratches. -/
def restRefs (c : Fin τ.nSC) (i : Fin τ.nSub) : Finset (DevRef τ sig) :=
  (((((((ownRefs (τ := τ) (.scVector c i)).erase (bref c i cc0_scratch0)).erase (bref c i cc0_scratch1)).erase (bref c i cc0_scratch2)).erase
    (bref c i cc0_scratch3)).erase (bref c i cc0_scratch4)).erase (bref c i cc0_scratch5)).erase (bref c i cc0_scratch6)

/-- The tile's own buffers: the seven scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f)
          ∗ bigSep (restRefs (cV L) (jV L)) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := bref (cV L) (jV L) cc0_scratch0) rfl)).trans ?_
  have e1 := Finset.mem_erase.mpr ⟨bref_ne (cV L) (jV L) (show cc0_scratch1 ≠ cc0_scratch0 by decide), SparseCore.Cfg.mem_ownRefs_of_owner (p := Proc.scVector (cV L) (jV L)) (b := bref (cV L) (jV L) cc0_scratch1) rfl⟩
  have e2 := Finset.mem_erase.mpr ⟨bref_ne (cV L) (jV L) (show cc0_scratch2 ≠ cc0_scratch1 by decide),
    Finset.mem_erase.mpr ⟨bref_ne (cV L) (jV L) (show cc0_scratch2 ≠ cc0_scratch0 by decide), SparseCore.Cfg.mem_ownRefs_of_owner (p := Proc.scVector (cV L) (jV L)) (b := bref (cV L) (jV L) cc0_scratch2) rfl⟩⟩
  have e3 := Finset.mem_erase.mpr ⟨bref_ne (cV L) (jV L) (show cc0_scratch3 ≠ cc0_scratch2 by decide),
    Finset.mem_erase.mpr ⟨bref_ne (cV L) (jV L) (show cc0_scratch3 ≠ cc0_scratch1 by decide),
    Finset.mem_erase.mpr ⟨bref_ne (cV L) (jV L) (show cc0_scratch3 ≠ cc0_scratch0 by decide), SparseCore.Cfg.mem_ownRefs_of_owner (p := Proc.scVector (cV L) (jV L)) (b := bref (cV L) (jV L) cc0_scratch3) rfl⟩⟩⟩
  have e4 := Finset.mem_erase.mpr ⟨bref_ne (cV L) (jV L) (show cc0_scratch4 ≠ cc0_scratch3 by decide),
    Finset.mem_erase.mpr ⟨bref_ne (cV L) (jV L) (show cc0_scratch4 ≠ cc0_scratch2 by decide),
    Finset.mem_erase.mpr ⟨bref_ne (cV L) (jV L) (show cc0_scratch4 ≠ cc0_scratch1 by decide),
    Finset.mem_erase.mpr ⟨bref_ne (cV L) (jV L) (show cc0_scratch4 ≠ cc0_scratch0 by decide), SparseCore.Cfg.mem_ownRefs_of_owner (p := Proc.scVector (cV L) (jV L)) (b := bref (cV L) (jV L) cc0_scratch4) rfl⟩⟩⟩⟩
  have e5 := Finset.mem_erase.mpr ⟨bref_ne (cV L) (jV L) (show cc0_scratch5 ≠ cc0_scratch4 by decide),
    Finset.mem_erase.mpr ⟨bref_ne (cV L) (jV L) (show cc0_scratch5 ≠ cc0_scratch3 by decide),
    Finset.mem_erase.mpr ⟨bref_ne (cV L) (jV L) (show cc0_scratch5 ≠ cc0_scratch2 by decide),
    Finset.mem_erase.mpr ⟨bref_ne (cV L) (jV L) (show cc0_scratch5 ≠ cc0_scratch1 by decide),
    Finset.mem_erase.mpr ⟨bref_ne (cV L) (jV L) (show cc0_scratch5 ≠ cc0_scratch0 by decide), SparseCore.Cfg.mem_ownRefs_of_owner (p := Proc.scVector (cV L) (jV L)) (b := bref (cV L) (jV L) cc0_scratch5) rfl⟩⟩⟩⟩⟩
  have e6 := Finset.mem_erase.mpr ⟨bref_ne (cV L) (jV L) (show cc0_scratch6 ≠ cc0_scratch5 by decide),
    Finset.mem_erase.mpr ⟨bref_ne (cV L) (jV L) (show cc0_scratch6 ≠ cc0_scratch4 by decide),
    Finset.mem_erase.mpr ⟨bref_ne (cV L) (jV L) (show cc0_scratch6 ≠ cc0_scratch3 by decide),
    Finset.mem_erase.mpr ⟨bref_ne (cV L) (jV L) (show cc0_scratch6 ≠ cc0_scratch2 by decide),
    Finset.mem_erase.mpr ⟨bref_ne (cV L) (jV L) (show cc0_scratch6 ≠ cc0_scratch1 by decide),
    Finset.mem_erase.mpr ⟨bref_ne (cV L) (jV L) (show cc0_scratch6 ≠ cc0_scratch0 by decide), SparseCore.Cfg.mem_ownRefs_of_owner (p := Proc.scVector (cV L) (jV L)) (b := bref (cV L) (jV L) cc0_scratch6) rfl⟩⟩⟩⟩⟩⟩
  rw [SparseCore.bigSep_erase' e1, SparseCore.bigSep_erase' e2, SparseCore.bigSep_erase' e3, SparseCore.bigSep_erase' e4,
    SparseCore.bigSep_erase' e5, SparseCore.bigSep_erase' e6]

/-! ## The values -/

/-- Position `n` of the flat arrays. -/
def flatAt (n : ℕ) : S1048576.Idx := fun a => ⟨n % 1048576, by
  obtain rfl : a = 0 := Subsingleton.elim _ _
  exact Nat.mod_lt _ (by decide)⟩

theorem flatAt_val (p : S1048576.Idx) : flatAt (p 0).val = p := by
  funext a
  obtain rfl : a = 0 := Subsingleton.elim _ _
  exact Fin.ext (Nat.mod_eq_of_lt (p 0).isLt)

variable (tabB : ∀ d : Dev nD, Buf (Elt F) (tabLoc d)) (wideB : ∀ d : Dev nD, Buf (Elt F) (wideLoc d)) (keptB : ∀ d : Dev nD, Buf (Elt F) (keptLoc d))

/-- The ids, as a sequence. -/
def idSeq (n : ℕ) : BitVec 32 := wideB d (flatAt n)
/-- What the whole call leaves in the result array. -/
def keptAll : Buf (Elt F) (keptLoc d) := fun p : S1048576.Idx => kept (idSeq d wideB) (tabB d) (p 0).val

/-- What a tile takes: a share of the table, its block of ids, its block of the result array at what it holds. -/
abbrev goPts (q : PosShare TreeShare) (b : Fin 32) : sProp 𝕄 :=
  iprop((tabLoc d ↦{q} tabB d) ∗ (wideLoc d ↦[blkSet b]{fullShare} wideB d) ∗ (keptLoc d ↦[blkSet b]{fullShare} keptB d))
/-- What it brings back: the same, its block of the result array at what the call leaves. -/
abbrev tdPts (q : PosShare TreeShare) (b : Fin 32) : sProp 𝕄 :=
  iprop((tabLoc d ↦{q} tabB d) ∗ (wideLoc d ↦[blkSet b]{fullShare} wideB d) ∗ (keptLoc d ↦[blkSet b]{fullShare} keptAll d tabB wideB))

variable (hids : ∀ (d : Dev nD) p, (wideB d p : BitVec 32).toNat < 1968)

/-- Element `n` of a tile's block of the flat arrays. -/
theorem emb_blk (n : ℕ) (hn : n < 32768) : (blkK L).emb (posAt n) = flatAt (32768 * (widL L).val + n) := by
  funext a
  obtain rfl : a = 0 := Subsingleton.elim _ _
  have h1 := (widL L).isLt
  apply Fin.ext
  rw [Rect.emb_apply]
  show k0_off1 L 0 + 1 * (n % 32768) = (32768 * (widL L).val + n) % 1048576
  rw [off1_val, Nat.mod_eq_of_lt hn, Nat.mod_eq_of_lt (by omega)]; omega

theorem read_wBlk (n : ℕ) (hn : n < 32768) :
    (wBlk L).view.read (Elt F) (wideB d) (posAt n) = idSeq d wideB (32768 * (widL L).val + n) := by
  show wideB d ((blkK L).emb (posAt n)) = wideB d (flatAt _)
  rw [emb_blk L n hn]

/-- A tile's block of the result array after the copy out: what the whole call leaves there. -/
theorem pts_out (f : Buf (Elt F) (keptLoc d)) (w : S32768.Idx → F .f32)
    (hw : ∀ n, n < 32768 → w (posAt n) = kept (fun n => idSeq d wideB (32768 * (widL L).val + n)) (tabB d) n) :
    ((kBlk L).view.loc (V d (cV L) (jV L)) ↦[(kBlk L).view.set]{fullShare} (kBlk L).view.writes (Elt F) f [⟨Rect.whole S32768, w⟩] : sProp 𝕄)
      = keptLoc d ↦[blkSet (widL L)]{fullShare} keptAll d tabB wideB := by
  rw [← pts_kBlk (F := F) d L]
  refine pointsTo_congr fun p hp => ?_
  obtain ⟨x, -, rfl⟩ := Finset.mem_map.mp hp
  have hx : (x 0).val < 32768 := (x 0).isLt
  have h1 := (widL L).isLt
  have hk : ((kBlk L).view.read (Elt F) ((kBlk L).view.writes (Elt F) f [⟨Rect.whole S32768, w⟩]) x) = w x := by
    rw [View.read_writes_whole]
  have he : ((kBlk L).view.emb x : S1048576.Idx) = flatAt (32768 * (widL L).val + (x 0).val) := by
    rw [← emb_blk L _ hx, posAt_val]; rfl
  have hw' := hw _ hx
  rw [posAt_val, show (fun n => idSeq d wideB (32768 * (widL L).val + n)) = fun n => idSeq d wideB (64 * (512 * (widL L).val) + n) from
    funext fun n => by rw [← Nat.mul_assoc], kept_shift] at hw'
  have hr : keptAll d tabB wideB (flatAt (32768 * (widL L).val + (x 0).val)) = kept (idSeq d wideB) (tabB d) (64 * (512 * (widL L).val) + (x 0).val) := by
    have hm : (32768 * (widL L).val + (x 0).val) % 1048576 = 64 * (512 * (widL L).val) + (x 0).val := by omega
    exact congrArg (kept (idSeq d wideB) (tabB d)) hm
  have hrd : ∀ g : Buf (Elt F) (keptLoc d), (kBlk L).view.read (Elt F) g x = g ((kBlk L).view.emb x) := fun g => rfl
  have hall : (kBlk L).view.writes (Elt F) f [⟨Rect.whole S32768, w⟩] ((kBlk L).view.emb x) = keptAll d tabB wideB ((kBlk L).view.emb x) := by
    refine (hrd _).symm.trans (hk.trans (hw'.trans (hr.symm.trans ?_)))
    rw [he]
  exact hall

include hids in
set_option maxHeartbeats 400000 in
/-- A tile run: the table, the ids and the rest as they were, its block of the result array at what the call leaves. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ goPts d tabB wideB keptB q (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L aT (Memref.isWhole_whole _) aW (Memref.isWhole_whole _) aK (Memref.isWhole_whole _) sT (Memref.isWhole_whole _)
            s0 (Memref.isWhole_whole _) s1 (Memref.isWhole_whole _) s2 (Memref.isWhole_whole _) s3 (Memref.isWhole_whole _)
            sI (Memref.isWhole_whole _) sG (Memref.isWhole_whole _) cc0_scoped0 cc0_scoped1 cc0_scoped2)
          fun _ => iprop(tdPts d tabB wideB q (widL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    cc0_sc_kernel_eq_skeleton]
  unfold cc0_sc_kernel_skel
  iintro ⟨#Hlv, -, ⟨Ht, Hw, Hk⟩, ⟨⟨%fT, HT⟩, ⟨%f0, H0⟩, ⟨%f1, H1⟩, ⟨%f2, H2⟩, ⟨%f3, H3⟩, ⟨%fI, HI⟩, ⟨%fG, HG⟩, Hbufs⟩, ⟨HsemT, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tab (F := F) d L q _).symm) $$ Ht
  ihave Hw' := (Entails.of_eq (pts_wBlk (F := F) d L _).symm) $$ Hw
  ihave Hk' := (Entails.of_eq (pts_kBlk (F := F) d L _).symm) $$ Hk
  ihave HT' := (show ((V d (cV L) (jV L)).loc cc0_scratch0 ↦{fullShare} fT : sProp 𝕄) ⊢ ((sT).view.loc (V d (cV L) (jV L)) ↦{fullShare} fT) from .rfl) $$ HT
  ihave HI' := (show ((V d (cV L) (jV L)).loc cc0_scratch5 ↦{fullShare} fI : sProp 𝕄) ⊢ ((sI).view.loc (V d (cV L) (jV L)) ↦{fullShare} fI) from .rfl) $$ HI
  ihave HG' := (show ((V d (cV L) (jV L)).loc cc0_scratch6 ↦{fullShare} fG : sProp 𝕄) ⊢ ((sG).view.loc (V d (cV L) (jV L)) ↦{fullShare} fG) from .rfl) $$ HG
  sl_exec (disch := exact View.amount_pos _ _ (show 0 < S32768.numel by decide))
  sl_for (LoopInv d L sT s0 s1 s2 s3 sI sG (fun n => idSeq d wideB (32768 * (widL L).val + n)) (tabB d)) $$ [HT' HI' H0 H1 H2 H3 HG']
  case region =>
    intro k acc
    exact trip_wp d L sT s0 s1 s2 s3 sI sG _ _ (Memref.set_access_whole _) (Memref.set_access_whole _) (Memref.set_access_whole _) (Memref.set_access_whole _) (fun n => hids d _) _ _ _ _ _ _ _ _ _ _ _ _ _ _ _ _ k acc
  · unfold LoopInv Tab Ids Done
    isplitl [HT']
    · iexists _; isplitr
      rotate_left
      · iexact HT'
      · ipureintro
        exact (View.read_write_univ _ _).trans rfl
    isplitl [HI']
    · iexists _; isplitr
      rotate_left
      · iexact HI'
      · ipureintro
        intro n hn
        refine (congrFun (View.read_write_univ _ _) _).trans ?_
        exact read_wBlk d L wideB n hn
    isplitl [H0]; · iexists _; iexact H0
    isplitl [H1]; · iexists _; iexact H1
    isplitl [H2]; · iexists _; iexact H2
    isplitl [H3]; · iexists _; iexact H3
    iexists _; isplitr
    rotate_left
    · iexact HG'
    · ipureintro
      intro p hp
      exact absurd hp (by omega)
  iintro %_ HI
  unfold LoopInv Tab Ids Done
  icases HI with ⟨⟨%gT, -, HT⟩, ⟨%gI, -, HI⟩, H0, H1, H2, H3, ⟨%gG, %hG, HG⟩⟩
  sl_exec (disch := exact View.amount_pos _ _ (show 0 < S32768.numel by decide))
  sl_step
  isplitl [Ht' Hw' Hk']
  · isplitl [Ht']; · iapply (Entails.of_eq (pts_tab (F := F) d L q _)); iexact Ht'
    isplitl [Hw']; · iapply (Entails.of_eq (pts_wBlk (F := F) d L _)); iexact Hw'
    iapply (Entails.of_eq (pts_out d L tabB wideB _ _ (fun n hn => hG n (show n < 256 * 128 by omega)))); iexact Hk'
  isplitl [HT HI H0 H1 H2 H3 HG Hbufs]
  · isplitl [HT]; · iexists _; iexact HT
    isplitl [H0]; · iexact H0
    isplitl [H1]; · iexact H1
    isplitl [H2]; · iexact H2
    isplitl [H3]; · iexact H3
    isplitl [HI]; · iexists _; iexact HI
    isplitl [HG]; · iexists _; iexact HG
    iexact Hbufs
  isplitl [HsemT HsemI HsemO Hsems]
  · isplitl [HsemT]; · iexact HsemT
    isplitl [HsemI]; · iexact HsemI
    isplitl [HsemO]; · iexact HsemO
    iexact Hsems
  iexists _; isplitr
  swap; · iexact HO
  ipureintro; intro p _
  rcases p.2 with _ | q
  · exact .inr (.inl rfl)
  · exact .inr (.inr (congrArg some (Subsingleton.elim q 0)))

end Tile

end Cert.Proof.Legal
-- ==== Proof.ScLaunch.lean ====
/-
  The SparseCore call as the launch theorem takes it: what the call hands each SparseCore and each tile and gets back (`P`),
  the tiles' obligation, a SparseCore's share split among its tiles, and the three arrays split among the two SparseCores and
  put together again.
-/
module

public import proofs.«01_k».proof.Proof.ScTile

@[expose] public section

noncomputable section

namespace Cert.Proof.Legal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (shareTok shareDrop pointsTo_toks_split pointsTo_toks_join)

variable {F : FTy → Type} [FloatOps F] [Named F]

local notation "𝕄" => MT nD τ sig (HIx 1) (Elt F) ℕ UU ℕ

-- the kernel's memrefs as the body table passes them, closed constants
local notation "aT" => (Memref.whole Cert.KernelIdeal.main_arg1_scv : Memref Cert.KernelIdeal.sig Kind.scVector Space.hbm Cert.KernelIdeal.S1968 EltTy.f32)
local notation "aW" => (Memref.whole Cert.KernelIdeal.main_v3_scv : Memref Cert.KernelIdeal.sig Kind.scVector Space.hbm Cert.KernelIdeal.S1048576 EltTy.i32)
local notation "aK" => (Memref.whole Cert.KernelIdeal.main_v4_scv : Memref Cert.KernelIdeal.sig Kind.scVector Space.hbm Cert.KernelIdeal.S1048576 EltTy.f32)
local notation "sT" => (Memref.whole Cert.KernelIdeal.cc0_scratch0 : Memref Cert.KernelIdeal.sig Kind.scVector Space.vmem Cert.KernelIdeal.S1968 EltTy.f32)
local notation "s0" => (Memref.whole Cert.KernelIdeal.cc0_scratch1 : Memref Cert.KernelIdeal.sig Kind.scVector Space.vmem Cert.KernelIdeal.S1968 EltTy.i32)
local notation "s1" => (Memref.whole Cert.KernelIdeal.cc0_scratch2 : Memref Cert.KernelIdeal.sig Kind.scVector Space.vmem Cert.KernelIdeal.S1968 EltTy.i32)
local notation "s2" => (Memref.whole Cert.KernelIdeal.cc0_scratch3 : Memref Cert.KernelIdeal.sig Kind.scVector Space.vmem Cert.KernelIdeal.S1968 EltTy.i32)
local notation "s3" => (Memref.whole Cert.KernelIdeal.cc0_scratch4 : Memref Cert.KernelIdeal.sig Kind.scVector Space.vmem Cert.KernelIdeal.S1968 EltTy.i32)
local notation "sI" => (Memref.whole Cert.KernelIdeal.cc0_scratch5 : Memref Cert.KernelIdeal.sig Kind.scVector Space.vmem Cert.KernelIdeal.S32768 EltTy.i32)
local notation "sG" => (Memref.whole Cert.KernelIdeal.cc0_scratch6 : Memref Cert.KernelIdeal.sig Kind.scVector Space.vmem Cert.KernelIdeal.S32768 EltTy.f32)

variable (tabB : ∀ d : Dev nD, Buf (Elt F) (tabLoc d)) (wideB : ∀ d : Dev nD, Buf (Elt F) (wideLoc d)) (keptB : ∀ d : Dev nD, Buf (Elt F) (keptLoc d))

/-! ## What the call hands over -/

/-- The share of the table SparseCore `c` reads under. -/
abbrev coreShare (c : Fin 2) : PosShare TreeShare := shareTok fullShare 2 c
/-- The share of the table a tile of SparseCore `c` reads under. -/
abbrev tileShare (c : Fin 2) (s : Fin 16) : PosShare TreeShare := shareTok (coreShare c) 16 s

/-- A SparseCore's share: its read share of the table and its sixteen blocks of the ids and of the result array, the latter
    at `f`. -/
abbrev corePts (f : ∀ d : Dev nD, Buf (Elt F) (keptLoc d)) (d : Dev nD) (c : Fin 2) : sProp 𝕄 :=
  iprop((tabLoc d ↦{coreShare c} tabB d)
    ∗ (bigSep Finset.univ fun s : Fin 16 => wideLoc d ↦[blkSet (wid c s)]{fullShare} wideB d)
    ∗ bigSep Finset.univ fun s : Fin 16 => keptLoc d ↦[blkSet (wid c s)]{fullShare} f d)

/-- The result array after the call, on every device. -/
abbrev keptEnd : ∀ d : Dev nD, Buf (Elt F) (keptLoc d) := fun d => keptAll d tabB wideB

/-- The call's payloads: each SparseCore's share out and back, each tile's share out and back. -/
def P : (K (F := F)).Pay (nD := nD) (Val := Elt F) (Name := ℕ) (U := UU) where
  st := fun q d c => match q with | 0 => corePts tabB wideB keptB d (Fin.cast nCore_zero c)
  dn := fun q d c => match q with | 0 => corePts tabB wideB (keptEnd tabB wideB) d (Fin.cast nCore_zero c)
  go := fun q d c i => match q with
    | 0 => goPts d tabB wideB keptB (tileShare (Fin.cast nCore_zero c) (Fin.cast nSub_zero i)) (wid (Fin.cast nCore_zero c) (Fin.cast nSub_zero i))
  td := fun q d c i => match q with
    | 0 => tdPts d tabB wideB (tileShare (Fin.cast nCore_zero c) (Fin.cast nSub_zero i)) (wid (Fin.cast nCore_zero c) (Fin.cast nSub_zero i))
  x := fun _ _ => iprop(emp)

instance P_storable : (P (F := F) tabB wideB keptB).IsStorable where
  st q d c := match q with
    | 0 => (inferInstance : BI.Storable (upEmb : UEmb _ 𝕄) (corePts tabB wideB keptB d (Fin.cast nCore_zero c)))
  dn q d c := match q with
    | 0 => (inferInstance : BI.Storable (upEmb : UEmb _ 𝕄) (corePts tabB wideB (keptEnd tabB wideB) d (Fin.cast nCore_zero c)))
  go q d c i := match q with
    | 0 => (inferInstance : BI.Storable (upEmb : UEmb _ 𝕄)
        (goPts d tabB wideB keptB (tileShare (Fin.cast nCore_zero c) (Fin.cast nSub_zero i)) (wid (Fin.cast nCore_zero c) (Fin.cast nSub_zero i))))
  td q d c i := match q with
    | 0 => (inferInstance : BI.Storable (upEmb : UEmb _ 𝕄)
        (tdPts d tabB wideB (tileShare (Fin.cast nCore_zero c) (Fin.cast nSub_zero i)) (wid (Fin.cast nCore_zero c) (Fin.cast nSub_zero i))))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s) aT (Memref.isWhole_whole _) aW (Memref.isWhole_whole _) aK (Memref.isWhole_whole _)
          sT (Memref.isWhole_whole _) s0 (Memref.isWhole_whole _) s1 (Memref.isWhole_whole _) s2 (Memref.isWhole_whole _) s3 (Memref.isWhole_whole _)
          sI (Memref.isWhole_whole _) sG (Memref.isWhole_whole _) cc0_scoped0 cc0_scoped1 cc0_scoped2) ⟨⟩ c s := rfl

/-- Every tile, with its ids in range, runs from what it is handed to what it brings back. -/
theorem tileObl (hids : ∀ (d : Dev nD) p, (wideB d p : BitVec 32).toNat < 1968) (hF : (K (F := F)).Facts) :
    (K (F := F)).TileObl (D (F := F)) 𝒱 (P tabB wideB keptB) v₀ 0 := by
  intro d c i O W hO _ _
  simp only [show (P tabB wideB keptB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) tabB wideB keptB hids hF
    (tileShare (Fin.cast nCore_zero c) (Fin.cast nSub_zero i)) O W hO

/-! ## A SparseCore's share split among its tiles -/

/-- A SparseCore keeps what is left of its share of the table while its tiles run, and deals them the rest. -/
theorem vecSplit : (K (F := F)).VecSplit' (P tabB wideB keptB) 0 := by
  intro d c
  have hc : ∀ c' : Fin 2, corePts tabB wideB keptB d c' ⊢ |={Set.univ}=> iprop(
      (bigSep Finset.univ fun i : Fin 16 => goPts d tabB wideB keptB (tileShare c' i) (wid c' i))
      ∗ ((bigSep Finset.univ fun i : Fin 16 => tdPts d tabB wideB (tileShare c' i) (wid c' i))
          -∗ corePts tabB wideB (keptEnd tabB wideB) d c')) := by
    intro c'
    unfold goPts tdPts
    rw [bigSep_sep', bigSep_sep', bigSep_sep', bigSep_sep']
    iintro ⟨Ht, Hw, Hk⟩
    ihave H := (pointsTo_toks_split (coreShare c') 16) $$ Ht
    icases H with ⟨Hd, Hts⟩
    imodintro
    isplitl [Hts Hw Hk]
    · isplitl [Hts]; · iexact Hts
      isplitl [Hw]; · iexact Hw
      iexact Hk
    iintro ⟨Hts, Hw, Hk⟩
    isplitl [Hd Hts]
    · iapply (pointsTo_toks_join (coreShare c') 16)
      isplitl [Hd]; · iexact Hd
      iexact Hts
    isplitl [Hw]; · iexact Hw
    iexact Hk
  exact hc (Fin.cast nCore_zero c)

/-! ## The arrays split among the SparseCores -/

theorem wid_inj : ∀ p q : Fin 2 × Fin 16, wid p.1 p.2 = wid q.1 q.2 → p = q := by decide
theorem wid_surj : ∀ b : Fin 32, ∃ p : Fin 2 × Fin 16, wid p.1 p.2 = b := by decide

theorem blocks_disjoint : ∀ p ∈ (Finset.univ : Finset (Fin 2 × Fin 16)), ∀ q ∈ (Finset.univ : Finset (Fin 2 × Fin 16)), p ≠ q →
    Disjoint (blkSet (wid p.1 p.2)) (blkSet (wid q.1 q.2)) :=
  fun p _ q _ h => Rect.part_disjoint hdiv fun e => h (wid_inj p q e)

theorem blocks_cover : (Finset.univ : Finset (Fin 2 × Fin 16)).biUnion (fun p => blkSet (wid p.1 p.2)) = Finset.univ := by
  refine Finset.eq_univ_iff_forall.mpr fun x => ?_
  have hx : x ∈ (Finset.univ : Finset (Fin 32)).biUnion blkSet := by rw [Rect.biUnion_part hdiv]; exact Finset.mem_univ _
  obtain ⟨b, -, hb⟩ := Finset.mem_biUnion.mp hx
  obtain ⟨p, rfl⟩ := wid_surj b
  exact Finset.mem_biUnion.mpr ⟨p, Finset.mem_univ _, hb⟩

omit [FloatOps F] [Named F] in
/-- The ids' array whole is its blocks, SparseCore by SparseCore. -/
theorem wide_blocks (d : Dev nD) (f : Buf (Elt F) (wideLoc d)) :
    (wideLoc d ↦{fullShare} f : sProp 𝕄)
      = bigSep Finset.univ fun c : Fin 2 => bigSep Finset.univ fun s : Fin 16 => wideLoc d ↦[blkSet (wid c s)]{fullShare} f := by
  rw [← bigSep_univ_prod (Φ := fun p : Fin 2 × Fin 16 => (wideLoc d ↦[blkSet (wid p.1 p.2)]{fullShare} f : sProp 𝕄)),
    ← pointsTo_biUnion Finset.univ (ℓ := wideLoc d) (fun p : Fin 2 × Fin 16 => blkSet (wid p.1 p.2)) blocks_disjoint, blocks_cover]
  try rfl
omit [FloatOps F] [Named F] in
/-- The result array whole is its blocks, SparseCore by SparseCore. -/
theorem kept_blocks (d : Dev nD) (f : Buf (Elt F) (keptLoc d)) :
    (keptLoc d ↦{fullShare} f : sProp 𝕄)
      = bigSep Finset.univ fun c : Fin 2 => bigSep Finset.univ fun s : Fin 16 => keptLoc d ↦[blkSet (wid c s)]{fullShare} f := by
  rw [← bigSep_univ_prod (Φ := fun p : Fin 2 × Fin 16 => (keptLoc d ↦[blkSet (wid p.1 p.2)]{fullShare} f : sProp 𝕄)),
    ← pointsTo_biUnion Finset.univ (ℓ := keptLoc d) (fun p : Fin 2 × Fin 16 => blkSet (wid p.1 p.2)) blocks_disjoint, blocks_cover]
  try rfl

/-- What the TensorCore keeps of the table while the call runs. -/
abbrev tabLeft (d : Dev nD) : sProp 𝕄 := tabLoc d ↦{shareDrop fullShare 2} tabB d

/-- The three arrays whole. -/
abbrev callPts (f : ∀ d : Dev nD, Buf (Elt F) (keptLoc d)) (d : Dev nD) : sProp 𝕄 :=
  iprop((tabLoc d ↦{fullShare} tabB d) ∗ (wideLoc d ↦{fullShare} wideB d) ∗ keptLoc d ↦{fullShare} f d)

/-- The three arrays whole are what the TensorCore keeps and the two SparseCores' shares. -/
theorem callPts_split (f : ∀ d : Dev nD, Buf (Elt F) (keptLoc d)) (d : Dev nD) :
    callPts tabB wideB f d ⊢ iprop(tabLeft tabB d ∗ bigSep Finset.univ fun c : Fin 2 => corePts tabB wideB f d c) := by
  unfold callPts tabLeft corePts
  rw [bigSep_sep', bigSep_sep', wide_blocks, kept_blocks]
  iintro ⟨Ht, Hw, Hk⟩
  ihave H := (pointsTo_toks_split fullShare 2) $$ Ht
  icases H with ⟨Hd, Hts⟩
  isplitl [Hd]; · iexact Hd
  isplitl [Hts]; · iexact Hts
  isplitl [Hw]; · iexact Hw
  iexact Hk

/-- They join again. -/
theorem callPts_join (f : ∀ d : Dev nD, Buf (Elt F) (keptLoc d)) (d : Dev nD) :
    iprop(tabLeft tabB d ∗ bigSep Finset.univ fun c : Fin 2 => corePts tabB wideB f d c) ⊢ callPts tabB wideB f d := by
  unfold callPts tabLeft corePts
  rw [bigSep_sep', bigSep_sep', wide_blocks, kept_blocks]
  iintro ⟨Hd, Hts, Hw, Hk⟩
  isplitl [Hd Hts]
  · iapply (pointsTo_toks_join fullShare 2)
    isplitl [Hd]; · iexact Hd
    iexact Hts
  isplitl [Hw]; · iexact Hw
  iexact Hk

end Cert.Proof.Legal
-- ==== Proof.Main.lean ====
/-
  @main of the program: the buffers' contents after each of its steps, the run of @main on the TensorCore through the SparseCore
  call and the two kernels' regions, and the whole program's run with every unscoped TensorCore buffer named at the end.
-/
module

public import proofs.«01_k».proof.Proof.Regions
public import proofs.«01_k».proof.Proof.ScLaunch
public import Idealize.ShloMosaic.Lib.Pipeline.Frame

@[expose] public section

noncomputable section

namespace Cert.Proof.Legal

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F] [Named F]

local notation "𝕄" => MT nD τ sig (HIx 1) (Elt F) ℕ UU ℕ

/-! ## The contents after each step -/

section Values

variable (m : (ℓ : Loc nD τ sig) → Buf (Elt F) ℓ)

abbrev op0 : HloOp τ sig (Elt F) := StableHlo.unary main_arg0 main_v0 ((extractStridedSlice S8192x64 ![0, 0] · slices_S16384x64_S8192x64_0_0) : (⟨S16384x64, .i32⟩ : BufTy).Contents (Elt F) → (⟨S8192x64, .i32⟩ : BufTy).Contents (Elt F))
abbrev op1 : HloOp τ sig (Elt F) := StableHlo.unary main_arg0 main_v1 ((extractStridedSlice S8192x64 ![8192, 0] · slices_S16384x64_S8192x64_8192_0) : (⟨S16384x64, .i32⟩ : BufTy).Contents (Elt F) → (⟨S8192x64, .i32⟩ : BufTy).Contents (Elt F))
abbrev op2 : HloOp τ sig (Elt F) := StableHlo.binary main_v0 main_v1 main_v2 ((fun a b => concatenate S8192x128 1 [⟨S8192x64, a⟩, ⟨S8192x64, b⟩] concatenates_S8192x64_S8192x64_S8192x128_d1) : (⟨S8192x64, .i32⟩ : BufTy).Contents (Elt F) → (⟨S8192x64, .i32⟩ : BufTy).Contents (Elt F) → (⟨S8192x128, .i32⟩ : BufTy).Contents (Elt F))
abbrev op3 : HloOp τ sig (Elt F) := StableHlo.reshape main_v2 main_v3 (rfl : (.i32 : EltTy) = .i32) shapeCasts_S8192x128_S1048576
abbrev op6 : HloOp τ sig (Elt F) := StableHlo.reshape main_v4 main_v6 (rfl : (.f32 : EltTy) = .f32) shapeCasts_S1048576_S8192x128
abbrev op8 : HloOp τ sig (Elt F) := StableHlo.binary main_v7_0 main_v7_1 main_v8 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F))
abbrev op9 : HloOp τ sig (Elt F) := StableHlo.binary main_v7_2 main_v7_3 main_v9 ((fun a b => concatenate S16384 0 [⟨S8192, a⟩, ⟨S8192, b⟩] concatenates_S8192_S8192_S16384_d0) : (⟨S8192, .f32⟩ : BufTy).Contents (Elt F) → (⟨S8192, .f32⟩ : BufTy).Contents (Elt F) → (⟨S16384, .f32⟩ : BufTy).Contents (Elt F))
abbrev op10 : HloOp τ sig (Elt F) := StableHlo.reshape main_v9 main_v10 (rfl : (.f32 : EltTy) = .f32) shapeCasts_S16384_S16384x1

/-- A TensorCore buffer as the device's. -/
abbrev rf (b : Ref sig .tc) : DevRef τ sig := Proc.devRef .tc b

/-- At the launch; after the four operations that lay the ids out wide; -/
abbrev W0 (d : Dev nD) : Valuation τ sig (Elt F) := fun b => m (d, b)
def W1 (d : Dev nD) : Valuation τ sig (Elt F) := op3.result (op2.result (op1.result (op0.result (W0 m d))))
/-- the table, the wide ids and the launch contents of the kept logits' array, as the SparseCore call finds them; -/
abbrev tabB (d : Dev nD) : Buf (Elt F) (tabLoc d) := W1 m d (rf main_arg1)
abbrev wideB (d : Dev nD) : Buf (Elt F) (wideLoc d) := W1 m d (rf main_v3)
abbrev keptB (d : Dev nD) : Buf (Elt F) (keptLoc d) := W1 m d (rf main_v4)
/-- after the SparseCore call; after the noise's region; after the kept logits are laid out; -/
def W2 (d : Dev nD) : Valuation τ sig (Elt F) := Function.update (W1 m d) (rf main_v4) (keptEnd (tabB m) (wideB m) d)
abbrev E2 (d : Dev nD) (b : Ref sig .tc) : Buf (Elt F) ((d : Thread nD τ).loc b) := W2 m d (rf b)
def W3 (d : Dev nD) : Valuation τ sig (Elt F) := Function.update (W2 m d) (rf main_v5) ((dat1 (E2 m) d).arrAt 1 cfg1.N)
def W4 (d : Dev nD) : Valuation τ sig (Elt F) := op6.result (W3 m d)
abbrev E4 (d : Dev nD) (b : Ref sig .tc) : Buf (Elt F) ((d : Thread nD τ).loc b) := W4 m d (rf b)
/-- after the result's region; after the two halves of each result are put together. -/
def W5 (d : Dev nD) : Valuation τ sig (Elt F) :=
  Function.update (Function.update (Function.update (Function.update (W4 m d) (rf main_v7_0) ((dat2 (E4 m) d).arrAt 3 cfg2.N))
    (rf main_v7_1) ((dat2 (E4 m) d).arrAt 4 cfg2.N)) (rf main_v7_2) ((dat2 (E4 m) d).arrAt 5 cfg2.N)) (rf main_v7_3) ((dat2 (E4 m) d).arrAt 6 cfg2.N)
def W6 (d : Dev nD) : Valuation τ sig (Elt F) := op10.result (op9.result (op8.result (W5 m d)))

abbrev E3 (d : Dev nD) (b : Ref sig .tc) : Buf (Elt F) ((d : Thread nD τ).loc b) := W3 m d (rf b)
abbrev E5 (d : Dev nD) (b : Ref sig .tc) : Buf (Elt F) ((d : Thread nD τ).loc b) := W5 m d (rf b)

theorem W1_def (d : Dev nD) : W1 m d = op3.result (op2.result (op1.result (op0.result (W0 m d)))) := rfl
theorem W4_def (d : Dev nD) : W4 m d = op6.result (W3 m d) := rfl
theorem W6_def (d : Dev nD) : W6 m d = op10.result (op9.result (op8.result (W5 m d))) := rfl

theorem rf_ne {b b' : Ref sig .tc} (h : b ≠ b') : rf b ≠ rf b' := fun h' => h (Proc.devRef_injective _ h')

theorem E3_out (d : Dev nD) : E3 m d main_v5 = (dat1 (E2 m) d).arrAt 1 cfg1.N := by
  unfold E3 W3; exact Function.update_self ..
theorem E3_ne (d : Dev nD) (b : Ref sig .tc) (h : b ≠ main_v5) : E3 m d b = E2 m d b := by
  unfold E3 W3; exact Function.update_of_ne (rf_ne h) ..
theorem E5_3 (d : Dev nD) : E5 m d main_v7_0 = (dat2 (E4 m) d).arrAt 3 cfg2.N := by
  unfold E5 W5
  rw [Function.update_of_ne (rf_ne (by decide)), Function.update_of_ne (rf_ne (by decide)), Function.update_of_ne (rf_ne (by decide))]
  exact Function.update_self ..
theorem E5_4 (d : Dev nD) : E5 m d main_v7_1 = (dat2 (E4 m) d).arrAt 4 cfg2.N := by
  unfold E5 W5
  rw [Function.update_of_ne (rf_ne (by decide)), Function.update_of_ne (rf_ne (by decide))]
  exact Function.update_self ..
theorem E5_5 (d : Dev nD) : E5 m d main_v7_2 = (dat2 (E4 m) d).arrAt 5 cfg2.N := by
  unfold E5 W5
  rw [Function.update_of_ne (rf_ne (by decide))]
  exact Function.update_self ..
theorem E5_6 (d : Dev nD) : E5 m d main_v7_3 = (dat2 (E4 m) d).arrAt 6 cfg2.N := by
  unfold E5 W5
  exact Function.update_self ..
theorem E5_ne (d : Dev nD) (b : Ref sig .tc) (h0 : b ≠ main_v7_0) (h1 : b ≠ main_v7_1) (h2 : b ≠ main_v7_2) (h3 : b ≠ main_v7_3) : E5 m d b = E4 m d b := by
  unfold E5 W5
  rw [Function.update_of_ne (rf_ne h3), Function.update_of_ne (rf_ne h2), Function.update_of_ne (rf_ne h1), Function.update_of_ne (rf_ne h0)]

end Values

/-! ## The three arrays of the SparseCore call among the unscoped buffers -/

def callRefs : Finset (DevRef τ sig) := {rf main_arg1, rf main_v3, rf main_v4}

theorem callRefs_sub : callRefs ⊆ ucRefs τ sig := by
  intro b hb
  unfold callRefs at hb
  rw [Finset.mem_insert, Finset.mem_insert, Finset.mem_singleton] at hb
  rcases hb with rfl | rfl | rfl <;> exact Finset.mem_filter.mpr ⟨StableHlo.devRef_mem_tcRefs _, by decide⟩

theorem held_call (W : Dev nD → Valuation τ sig (Elt F)) (d : Dev nD) :
    (StableHlo.held (T d) callRefs (W d) : sProp 𝕄) = callPts (fun d => W d (rf main_arg1)) (fun d => W d (rf main_v3)) (fun d => W d (rf main_v4)) d := by
  unfold StableHlo.held callRefs
  rw [SparseCore.bigSep_insert' (by decide), SparseCore.bigSep_insert' (by decide), bigSep_singleton]

/-! ## The steps of @main -/

theorem host_step (d : Dev nD) (op : HloOp τ sig (Elt F)) (hop : op.bufs ⊆ StableHlo.tcRefs τ sig) (hf : op.fresh = ∅) (W : Valuation τ sig (Elt F)) (R : sProp 𝕄) :
    iprop((boundary (T d) ∗ StableHlo.held (T d) (ucRefs τ sig) W) ∗ ((boundary (T d) ∗ StableHlo.held (T d) (ucRefs τ sig) (op.result W)) -∗ R))
      ⊢ wp frame (wpE ((K (F := F)).defs (D (F := F))) 𝒱 (T d) none) Set.univ
          (hlo rfl op (fun _ => .ret ⟨⟩) : Prog (TpuEff nD τ sig (Elt F) (SparseCore.Sig (ΛP (F := F)) 1) .tc) PUnit) (fun _ => R) := by
  iintro ⟨H, Hk⟩
  iapply (StableHlo.wp_hlo_within 𝒱 (T d) none Set.univ (Pipeline.sub_ucRefs op hop) (V := W) hf) $$ H
  iintro H
  rw [wp_ret]
  imodintro
  iapply Hk
  iexact H

variable (V₁ V₂ : (c : Dev nD) → (b : Ref sig .tc) → Buf (Elt F) ((c : Thread nD τ).loc b))

theorem region_step [∀ e, Nonempty (Elt F e)] (p : Fin 2)
    (R : Pipeline.RegionSeg (pcfgs (F := F)) adm (pdats V₁ V₂) (none : HIx 1) (defs₀ (F := F)) 𝒱₀ (K (F := F)).L (K (F := F)).lev p) (d : Dev nD) (S : sProp 𝕄) :
    iprop((boundary (T d) ∗ R.pre d ∗ levAts (K (F := F)).L (K (F := F)).lev
          ∗ Pipeline.cellsGhost (Pipeline.pin (pcfgs (F := F)) adm) EP p d ∗ Pipeline.toksInit (Pipeline.pin (pcfgs (F := F)) adm) EP p d)
        ∗ ((boundary (T d) ∗ R.post d) -∗ S))
      ⊢ wp frame (wpE ((K (F := F)).defs (D (F := F))) 𝒱 (T d) none) Set.univ (Prog.lift (.customCall (SparseCore.inner (Pipeline.entry p)) ())) (fun _ => S) := by
  have hlift := (K (F := F)).wp_liftProg (D (F := F)) 𝒱 (T d) Set.univ none (.op (.customCall (Pipeline.entry p) ()) .ret) (fun _ => S)
  have hreg := Pipeline.RegionSeg.wp (pcfgs (F := F)) adm (pdats V₁ V₂) (none : HIx 1) cellOf_inj EP (defs₀ (F := F)) 𝒱₀ (K (F := F)).L (K (F := F)).lev
    R d none (fun _ h => nomatch h) .ret (fun _ => S)
  iintro ⟨⟨Hb, Hp, Hl, Hg, Ht⟩, Hk⟩
  iapply hlift
  iapply hreg
  isplitl [Hk]
  · iintro H
    rw [wp_ret]
    imodintro
    iapply Hk
    iexact H
  isplitl [Hb]; · iexact Hb
  isplitl [Hp]; · iexact Hp
  isplitl [Hl]; · iexact Hl
  isplitl [Hg] <;> iassumption

/-! ## The launch's element -/

/-- The handshakes' rounds and the two pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals device `d`'s TensorCore for its two pipelines. -/
abbrev G (d : Dev nD) : sProp 𝕄 :=
  iprop((bigSep Finset.univ fun p => Pipeline.cellsGhost (Pipeline.pin (pcfgs (F := F)) adm) EP p d) ∗ bigSep Finset.univ fun p => Pipeline.toksInit (Pipeline.pin (pcfgs (F := F)) adm) EP p d)

theorem launch_eq : (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
    = BI.own (EP (initOf (Pipeline.cells (Pipeline.pin (pcfgs (F := F)) adm) cellOf_inj) (Pipeline.launchToks (Pipeline.pin (pcfgs (F := F)) adm) cellOf_inj))) := rfl

theorem emps {I : Type} (s : Finset I) : (bigSep s fun _ => iprop(emp)) = (iprop(emp) : sProp 𝕄) := bigSep_emp_const s

theorem hu₀ (tabB : ∀ d, Buf (Elt F) (tabLoc d)) (wideB : ∀ d, Buf (Elt F) (wideLoc d)) (keptB : ∀ d, Buf (Elt F) (keptLoc d)) : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P tabB wideB keptB).x q thr) := by
  unfold u₀
  iintro Hu
  ihave H := (ownU_pair _ _) $$ Hu
  icases H with ⟨HH, HR⟩
  ihave H := (own_pair_emb _ _ _) $$ HR
  icases H with ⟨HP, -⟩
  ihave HP := (Entails.of_eq (launch_eq (F := F))) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (P (F := F) tabB wideB keptB).x q thr) = bigSep Finset.univ fun _ => iprop(emp) from
    bigSep_congr fun _ _ => bigSep_univ_of_subsingleton (0 : Fin 1), emps]
  iempintro

theorem bigSep2 (Φ : Fin 2 → sProp 𝕄) : (bigSep Finset.univ Φ : sProp 𝕄) = iprop(Φ 0 ∗ Φ 1) := bigSep_W1 Φ

/-! ## @main -/

variable (m : (ℓ : Loc nD τ sig) → Buf (Elt F) ℓ) (ρ : Dev nD → PrngReg)

abbrev FIN (d : Dev nD) : sProp 𝕄 := StableHlo.held (T d) (ucRefs τ sig) (W6 m d)

/-- The contents the three arrays are at as the SparseCore call finds them and leaves them. -/
theorem call_before (d : Dev nD) : (StableHlo.held (T d) (ucRefs τ sig) (W1 m d) : sProp 𝕄)
    ⊢ iprop((tabLeft (tabB m) d ∗ bigSep Finset.univ fun c : Fin 2 => corePts (tabB m) (wideB m) (keptB m) d c) ∗ StableHlo.held (T d) (ucRefs τ sig \ callRefs) (W1 m d)) := by
  rw [StableHlo.held_sub_split (T d) callRefs_sub (W1 m d), held_call (W1 m) d]
  exact sep_mono_left (callPts_split (tabB m) (wideB m) (keptB m) d)

theorem W2_rest (d : Dev nD) (b : DevRef τ sig) (hb : b ∈ ucRefs τ sig \ callRefs) : W2 m d b = W1 m d b := by
  refine Function.update_of_ne (fun h => (Finset.mem_sdiff.mp hb).2 ?_) _ _
  rw [h]
  exact Finset.mem_insert_of_mem (Finset.mem_insert_of_mem (Finset.mem_singleton_self _))

theorem call_after (d : Dev nD) :
    iprop((tabLeft (tabB m) d ∗ bigSep Finset.univ fun c : Fin 2 => corePts (tabB m) (wideB m) (keptEnd (tabB m) (wideB m)) d c) ∗ StableHlo.held (T d) (ucRefs τ sig \ callRefs) (W1 m d))
      ⊢ (StableHlo.held (T d) (ucRefs τ sig) (W2 m d) : sProp 𝕄) := by
  rw [StableHlo.held_sub_split (T d) callRefs_sub (W2 m d), held_call (W2 m) d,
    StableHlo.held_congr (T d) (W2_rest m d)]
  have h1 : (fun d => W2 m d (rf main_arg1)) = tabB m := funext fun d => Function.update_of_ne (rf_ne (by decide)) _ _
  have h2 : (fun d => W2 m d (rf main_v3)) = wideB m := funext fun d => Function.update_of_ne (rf_ne (by decide)) _ _
  have h3 : (fun d => W2 m d (rf main_v4)) = keptEnd (tabB m) (wideB m) := funext fun d => Function.update_self ..
  rw [h1, h2, h3]
  exact sep_mono_left (callPts_join (tabB m) (wideB m) (keptEnd (tabB m) (wideB m)) d)

theorem held_unscoped (d : Dev nD) (W : Valuation τ sig (Elt F)) :
    (unscopedBufs d (fun b => W (rf b)) : sProp 𝕄) = StableHlo.held (T d) (ucRefs τ sig) W := Pipeline.unscopedBufs_held d W

theorem held_launch (d : Dev nD) :
    (unscopedBufs d (fun b => m ((SparseCore.T d).loc b)) : sProp 𝕄) = StableHlo.held (T d) (ucRefs τ sig) (W0 m d) := Pipeline.unscopedBufs_held d (W0 m d)

def R1 := reg1 (E2 m) (E4 m) (E3 m) (E3_out m) (E3_ne m)
def R2 := reg2 (E2 m) (E4 m) (E5 m) (E5_3 m) (E5_4 m) (E5_5 m) (E5_6 m) (E5_ne m)

theorem R1_pre (d : Dev nD) : (R1 m).pre d = iprop(unscopedBufs d (E2 m d) ∗ owesT (F := F) d) := rfl
theorem R1_post (d : Dev nD) : (R1 m).post d = iprop(unscopedBufs d (E3 m d) ∗ owesT (F := F) d) := rfl
theorem R2_pre (d : Dev nD) : (R2 m).pre d = iprop(unscopedBufs d (E4 m d) ∗ owesT (F := F) d) := rfl
theorem R2_post (d : Dev nD) : (R2 m).post d = iprop(unscopedBufs d (E5 m d) ∗ owesT (F := F) d) := rfl

/-- The TensorCore's state after the call: what it owes, and the rest. -/
def tcLeft (d : Dev nD) : sProp 𝕄 := iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

theorem tcSt_one (d : Dev nD) : ((K (F := F)).tcSt EH d 1 : sProp 𝕄) = iprop(owesT (F := F) d ∗ tcLeft d) := by
  unfold SparseCore.Cfg.tcSt tcLeft
  rw [(K (F := F)).Otc_end d (le_refl 1)]
  rfl

theorem tcSt_val (d : Dev nD) : ((K (F := F)).tcSt EH d ((0 : Fin 1).val + 1) : sProp 𝕄) = (K (F := F)).tcSt EH d 1 := rfl

/-- @main on device `d`'s TensorCore, from what the launch deals it to its end with every unscoped buffer named. -/
theorem hmain [∀ e, Nonempty (Elt F e)] (κ : GSem nD τ sig → ℕ) (d : Dev nD) :
    iprop((K (F := F)).ctx EH (P (tabB m) (wideB m) (keptB m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [held_launch m d]
  simp only [main, wp_bind, wp_pure]
  rw [bigSep2, bigSep2]
  iintro ⟨#Hctx, Hst, ⟨Hb, Hub, Hts, -⟩, ⟨Hg0, Hg1⟩, ⟨Ht0, Ht1⟩⟩
  iapply (host_step d op0 (StableHlo.unary_bufs_sub ..) rfl (W0 m d) _) $$ [Hst Hb Hub Hts Hg0 Hg1 Ht0 Ht1]
  isplitl [Hb Hub]; · isplitl [Hb] <;> iassumption
  iintro ⟨Hb, Hub⟩
  iapply (host_step d op1 (StableHlo.unary_bufs_sub ..) rfl _ _) $$ [Hst Hb Hub Hts Hg0 Hg1 Ht0 Ht1]
  isplitl [Hb Hub]; · isplitl [Hb] <;> iassumption
  iintro ⟨Hb, Hub⟩
  iapply (host_step d op2 (StableHlo.binary_bufs_sub ..) rfl _ _) $$ [Hst Hb Hub Hts Hg0 Hg1 Ht0 Ht1]
  isplitl [Hb Hub]; · isplitl [Hb] <;> iassumption
  iintro ⟨Hb, Hub⟩
  iapply (host_step d op3 (StableHlo.reshape_bufs_sub ..) rfl _ _) $$ [Hst Hb Hub Hts Hg0 Hg1 Ht0 Ht1]
  isplitl [Hb Hub]; · isplitl [Hb] <;> iassumption
  iintro ⟨Hb, Hub⟩
  ihave Hub := ((Entails.of_eq (congrArg (StableHlo.held (T d) (ucRefs τ sig)) (W1_def m d).symm)).trans (call_before m d)) $$ Hub
  icases Hub with ⟨⟨Htab, Hcores⟩, Hrest⟩
  iapply ((K (F := F)).wp_run (D (F := F)) 𝒱 (EH := EH) (P := P (tabB m) (wideB m) (keptB m)) κ d 0) $$ [Hst Hb Hts Hg0 Hg1 Ht0 Ht1 Htab Hcores Hrest]
  isplitr; · iexact Hctx
  isplitl [Hst]; · iexact Hst
  isplitl [Hcores]; · iexact Hcores
  iintro ⟨Hst, Hdn⟩
  ihave Hub := (call_after m d) $$ [Htab Hdn Hrest]
  · isplitl [Htab Hdn]
    · isplitl [Htab]; · iexact Htab
      iexact Hdn
    iexact Hrest
  ihave Hst := (Entails.of_eq ((tcSt_val (F := F) d).trans (tcSt_one d))) $$ Hst
  icases Hst with ⟨HO, Hst⟩
  ihave Hlev := ((K (F := F)).ctx_levAts κ) $$ Hctx
  -- the noise
  iapply (region_step (E2 m) (E4 m) 0 (R1 m) d _) $$ [Hst HO Hb Hub Hts Hg0 Hg1 Ht0 Ht1]
  isplitl [HO Hb Hub Hg0 Ht0]
  · isplitl [Hb]; · iexact Hb
    isplitl [HO Hub]
    · rw [R1_pre, held_unscoped d (W2 m d)]
      isplitl [Hub] <;> iassumption
    isplitr; · iexact Hlev
    isplitl [Hg0] <;> iassumption
  rw [R1_post, held_unscoped d (W3 m d)]
  iintro ⟨Hb, Hub, HO⟩
  iapply (host_step d op6 (StableHlo.reshape_bufs_sub ..) rfl _ _) $$ [Hst HO Hb Hub Hts Hg1 Ht1]
  isplitl [Hb Hub]; · isplitl [Hb] <;> iassumption
  iintro ⟨Hb, Hub⟩
  -- the result
  iapply (region_step (E2 m) (E4 m) 1 (R2 m) d _) $$ [Hst HO Hb Hub Hts Hg1 Ht1]
  isplitl [HO Hb Hub Hg1 Ht1]
  · isplitl [Hb]; · iexact Hb
    isplitl [HO Hub]
    · rw [R2_pre, held_unscoped d (W4 m d), W4_def]
      isplitl [Hub]; · iexact Hub
      iexact HO
    isplitr; · iexact Hlev
    isplitl [Hg1] <;> iassumption
  rw [R2_post, held_unscoped d (W5 m d)]
  iintro ⟨Hb, Hub, HO⟩
  iapply (host_step d op8 (StableHlo.binary_bufs_sub ..) rfl _ _) $$ [Hst HO Hb Hub Hts]
  isplitl [Hb Hub]; · isplitl [Hb] <;> iassumption
  iintro ⟨Hb, Hub⟩
  iapply (host_step d op9 (StableHlo.binary_bufs_sub ..) rfl _ _) $$ [Hst HO Hb Hub Hts]
  isplitl [Hb Hub]; · isplitl [Hb] <;> iassumption
  iintro ⟨Hb, Hub⟩
  iapply (host_step d op10 (StableHlo.reshape_bufs_sub ..) rfl _ _) $$ [Hst HO Hb Hub Hts]
  isplitl [Hb Hub]; · isplitl [Hb] <;> iassumption
  iintro ⟨Hb, Hub⟩
  imodintro
  isplitl [Hst HO]
  · rw [tcSt_one]
    isplitl [HO] <;> iassumption
  isplitl [Hub]; · unfold FIN; rw [W6_def]; iexact Hub
  isplitl [Hb] <;> iassumption

/-- A final state's memory has every unscoped TensorCore buffer at its contents after the last step. -/
def fq (d : Dev nD) (s' : Phys nD τ sig (Elt F)) : Prop := ∀ b ∈ ucRefs τ sig, s'.mem.mem (d, b) = W6 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop := fun r => (∀ d : Dev nD, ∀ b ∈ ucRefs τ sig, r.2.mem (d, b) = W6 m d b) ∧ r.2.sem = fun _ => 0

/-- From any launch memory whose wide ids are below 1968 the program runs to its end with every counter at zero and every unscoped
    TensorCore buffer at its contents after @main's last step. -/
theorem run_main [∀ e, Nonempty (Elt F e)] (hids : ∀ (d : Dev nD) p, (wideB m d p : BitVec 32).toNat < 1968) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabB m) (wideB m) (keptB m)) (A := ∅) facts v₀
    (fun q hq => match q with | 0 => nomatch hq)
    (fun q _ => match q with | 0 => tileObl (tabB m) (wideB m) (keptB m) hids facts)
    (fun q _ => match q with | 0 => SparseCore.Cfg.VecSplit.of_plain (vecSplit (tabB m) (wideB m) (keptB m)))
    m ρ main G (FIN m) (u₀ (F := F)) (sep_elim_left.trans (hu₀ (tabB m) (wideB m) (keptB m))) (hmain m ρ) (fq m) (hfin m) (QC m) (fun _ h hz => ⟨h, hz⟩)

end Cert.Proof.Legal
-- ==== Proof.Frames.lean ====
/-
  What the wide array holds, entry by entry; what the precondition says of the ids; and the kernel's frame: from any memory whose ids
  are table positions it runs to the end, leaves its two arguments as they were and every semaphore counter at zero.
-/
module

public import proofs.«01_k».proof.Defs
public import proofs.«01_k».proof.Proof.Main
public import Idealize.ShloMosaic.Lib.ReduceAll
public import Idealize.ShloMosaic.Lib.Pipeline.Value
public import Idealize.ShloMosaic.Init

@[expose] public section

noncomputable section

namespace Cert.Proof.Legal

open Cert.KernelIdeal Cert.KernelIdeal.Gen
open Idealize.ShloMosaic Idealize.SL.Sem
open Idealize.ShloMosaic.TcCoe
open Idealize.ShloMosaic.Pipeline (ucRefs)

/-! ## The precondition -/

/-- The shape relations the precondition's function takes. -/
theorem pre_facts : Cert.Pre_ids_in_range.Facts where
  bcast_S_S16384x64 := by decide
  reducesTo_S16384x64_S_d0_1 := by decide
  h_S_ := by decide

/-- Where the precondition's function returns true every id is a position of the table. -/
theorem ids_lt {F : FTy → Type} [FloatOps F] [Cert.Pre_ids_in_range.Facts] (ids : IVec Cert.Pre_ids_in_range.S16384x64 32) (lg : FVec F Cert.Pre_ids_in_range.S1968 .f32)
    (h : Cert.Pre_ids_in_range.fn ids lg = fun _ => 1#1) (i) : (ids i).toNat < 1968 := by
  haveI : Subsingleton Cert.Pre_ids_in_range.S_.Idx := ⟨fun a b => funext fun k => k.elim0⟩
  have e := Host.reduce_andi_all (t := Cert.Pre_ids_in_range.S_) _ _ _ _ (fun k => k.elim0) (congrFun h _) i
  obtain ⟨h0, h1⟩ := IntOp.andi_eq_one.1 e
  have h0 : (0 : Int) ≤ (ids i).toInt := IntOp.cmpi_sge.1 h0
  have h1 : (ids i).toInt < 1968 := IntOp.cmpi_slt.1 h1
  have := (ids i).isLt
  rw [BitVec.toInt_eq_toNat_cond] at h0 h1
  split at h0 <;> omega

/-! ## The wide array -/

variable {F : FTy → Type} [FloatOps F] [Named F]
variable (m : (ℓ : Loc nD τ sig) → Buf (Elt F) ℓ) (ρ : Dev nD → PrngReg)

/-- The ids and the logits as the launch hands them over. -/
abbrev idsB (d : Dev nD) : (⟨S16384x64, .i32⟩ : BufTy).Contents (Elt F) := m (d, rf main_arg0)
abbrev lgB (d : Dev nD) : (⟨S1968, .f32⟩ : BufTy).Contents (Elt F) := m (d, rf main_arg1)

/-- The entry of the ids that lane `l` of wide row `w` holds: row `w` in the first 64 lanes, row `w + 8192` in the others. -/
def srcIdx (w : Fin 8192) (l : Fin 128) : S16384x64.Idx :=
  if l.val < 64 then Shape.pair (d := ![16384, 64]) ⟨w.val, by show _ < 16384; omega⟩ ⟨l.val % 64, Nat.mod_lt _ (by decide)⟩
  else Shape.pair (d := ![16384, 64]) ⟨w.val + 8192, by show _ < 16384; omega⟩ ⟨l.val % 64, Nat.mod_lt _ (by decide)⟩

theorem W1_arg0 (d : Dev nD) : W1 m d (rf main_arg0) = m (d, rf main_arg0) :=
  ((((StableHlo.reshape_result_ne' (h := by decide) ..).trans (StableHlo.binary_result_ne' (h := by decide) ..)).trans
    (StableHlo.unary_result_ne' (h := by decide) ..)).trans (StableHlo.unary_result_ne' (h := by decide) ..))

theorem W1_arg1 (d : Dev nD) : W1 m d (rf main_arg1) = m (d, rf main_arg1) :=
  ((((StableHlo.reshape_result_ne' (h := by decide) ..).trans (StableHlo.binary_result_ne' (h := by decide) ..)).trans
    (StableHlo.unary_result_ne' (h := by decide) ..)).trans (StableHlo.unary_result_ne' (h := by decide) ..))

/-- The wide array is the two halves of the ids side by side. -/
theorem W1_v2 (d : Dev nD) : W1 m d (rf main_v2)
    = concatenate S8192x128 1 [⟨S8192x64, extractStridedSlice S8192x64 ![0, 0] (idsB m d) slices_S16384x64_S8192x64_0_0⟩,
        ⟨S8192x64, extractStridedSlice S8192x64 ![8192, 0] (idsB m d) slices_S16384x64_S8192x64_8192_0⟩] concatenates_S8192x64_S8192x64_S8192x128_d1 := by
  have e0 : op0.result (W0 m d) (rf main_v0) = extractStridedSlice S8192x64 ![0, 0] (idsB m d) slices_S16384x64_S8192x64_0_0 :=
    StableHlo.unary_result' ..
  have e1 : op1.result (op0.result (W0 m d)) (rf main_v1)
      = extractStridedSlice S8192x64 ![8192, 0] (op0.result (W0 m d) (rf main_arg0)) slices_S16384x64_S8192x64_8192_0 :=
    StableHlo.unary_result' ..
  have e2 : op0.result (W0 m d) (rf main_arg0) = idsB m d := StableHlo.unary_result_ne' (h := by decide) ..
  have e3 : op1.result (op0.result (W0 m d)) (rf main_v0) = op0.result (W0 m d) (rf main_v0) := StableHlo.unary_result_ne' (h := by decide) ..
  have e4 : W1 m d (rf main_v2) = op2.result (op1.result (op0.result (W0 m d))) (rf main_v2) := StableHlo.reshape_result_ne' (h := by decide) ..
  have e5 : op2.result (op1.result (op0.result (W0 m d))) (rf main_v2)
      = concatenate S8192x128 1 [⟨S8192x64, op1.result (op0.result (W0 m d)) (rf main_v0)⟩,
          ⟨S8192x64, op1.result (op0.result (W0 m d)) (rf main_v1)⟩] concatenates_S8192x64_S8192x64_S8192x128_d1 := StableHlo.binary_result' ..
  rw [e4, e5, e3, e0, e1, e2]

theorem W1_v2_apply (d : Dev nD) (i : S8192x128.Idx) : W1 m d (rf main_v2) i = idsB m d (srcIdx (i 0) (i 1)) := by
  rw [W1_v2]
  have hl : (i 1).val < 128 := (i 1).isLt
  by_cases h : (i 1).val < 64
  · rw [concatenate_pair_apply_left (s₁ := S8192x64) (s₂ := S8192x64) 1 _ _ _ i rfl (Shape.pair (d := ![8192, 64]) (i 0) ⟨(i 1).val, h⟩)
      (fun b => by fin_cases b <;> rfl)]
    refine extractStridedSlice_apply _ _ _ _ _ fun a => ?_
    rw [show srcIdx (i 0) (i 1) = _ from if_pos h]
    fin_cases a
    · exact (Nat.zero_add _).symm
    · show (i 1).val % 64 = 0 + (i 1).val
      omega
  · rw [concatenate_pair_apply_right (s₁ := S8192x64) (s₂ := S8192x64) 1 _ _ _ i rfl rfl (Shape.pair (d := ![8192, 64]) (i 0) ⟨(i 1).val - 64, by show _ < 64; omega⟩)
      (fun b hb => by
        fin_cases b
        · rfl
        · exact absurd rfl hb)
      (by show (i 1).val - 64 + 64 = (i 1).val; omega)]
    refine extractStridedSlice_apply _ _ _ _ _ fun a => ?_
    rw [show srcIdx (i 0) (i 1) = _ from if_neg h]
    fin_cases a
    · exact Nat.add_comm _ _
    · show (i 1).val % 64 = 0 + ((i 1).val - 64)
      omega

/-- The flat array that the SparseCore's subcores copy in is the wide one, row after row. -/
theorem wideB_apply (d : Dev nD) (p : S1048576.Idx) :
    wideB m d p = idsB m d (srcIdx ⟨(p 0).val / 128, by have : (p 0).val < 1048576 := (p 0).isLt; omega⟩ ⟨(p 0).val % 128, Nat.mod_lt _ (by decide)⟩) := by
  have e : wideB m d = shapeCast S1048576 (op2.result (op1.result (op0.result (W0 m d))) (rf main_v2)) shapeCasts_S8192x128_S1048576 :=
    StableHlo.reshape_result' ..
  have e4 : W1 m d (rf main_v2) = op2.result (op1.result (op0.result (W0 m d))) (rf main_v2) := StableHlo.reshape_result_ne' (h := by decide) ..
  rw [e, ← e4]
  have hp : (p 0).val < 1048576 := (p 0).isLt
  rw [shapeCast_apply _ _ p (Shape.pair (d := ![8192, 128]) ⟨(p 0).val / 128, by show _ < 8192; omega⟩ ⟨(p 0).val % 128, Nat.mod_lt _ (by decide)⟩)
    (by
      rw [Shape.rowMajor_val_two, Shape.rowMajor_val_one]
      show (p 0).val / 128 * 128 + (p 0).val % 128 = (p 0).val
      omega)]
  exact W1_v2_apply m d _

/-! ## The arguments at the end -/

theorem W6_arg0 (d : Dev nD) : W6 m d (rf main_arg0) = m (d, rf main_arg0) := by
  have e6 : W6 m d (rf main_arg0) = E5 m d main_arg0 :=
    ((StableHlo.reshape_result_ne' (h := by decide) ..).trans (StableHlo.binary_result_ne' (h := by decide) ..)).trans
      (StableHlo.binary_result_ne' (h := by decide) ..)
  have e4 : E4 m d main_arg0 = E3 m d main_arg0 := StableHlo.reshape_result_ne' (h := by decide) ..
  have e2 : E2 m d main_arg0 = W1 m d (rf main_arg0) := Function.update_of_ne (rf_ne (by decide)) ..
  rw [e6, E5_ne _ _ _ (by decide) (by decide) (by decide) (by decide), e4, E3_ne _ _ _ (by decide), e2, W1_arg0]

theorem W6_arg1 (d : Dev nD) : W6 m d (rf main_arg1) = m (d, rf main_arg1) := by
  have e6 : W6 m d (rf main_arg1) = E5 m d main_arg1 :=
    ((StableHlo.reshape_result_ne' (h := by decide) ..).trans (StableHlo.binary_result_ne' (h := by decide) ..)).trans
      (StableHlo.binary_result_ne' (h := by decide) ..)
  have e4 : E4 m d main_arg1 = E3 m d main_arg1 := StableHlo.reshape_result_ne' (h := by decide) ..
  have e2 : E2 m d main_arg1 = W1 m d (rf main_arg1) := Function.update_of_ne (rf_ne (by decide)) ..
  rw [e6, E5_ne _ _ _ (by decide) (by decide) (by decide) (by decide), e4, E3_ne _ _ _ (by decide), e2, W1_arg1]

/-- A TensorCore buffer at the end of the run. -/
theorem end_mem {r} (h : QC m r) (d : Dev nD) (b : Ref sig .tc) (hb : b.isScoped = false) :
    r.2.mem ((d.tc : Thread nD τ).loc b) = W6 m d (rf b) :=
  h.1 d (rf b) (Finset.mem_filter.mpr ⟨StableHlo.devRef_mem_tcRefs _, by simp [hb]⟩)

/-- The precondition, at the launch's memory, puts every wide id inside the table. -/
theorem wide_lt (h : ∀ (d : Dev nD) i, (idsB m d i : BitVec 32).toNat < 1968) (d : Dev nD) (p) : (wideB m d p : BitVec 32).toNat < 1968 := by
  rw [wideB_apply]; exact h d _

/-- The kernel's run, over any float values: from ids inside the table it ends with its arguments unchanged and every counter zero. -/
theorem frame_any [∀ e, Nonempty (Elt F e)] (h : ∀ (d : Dev nD) i, (idsB m d i : BitVec 32).toNat < 1968) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ hr => ⟨fun c => ⟨(end_mem m hr c main_arg0 rfl).trans (W6_arg0 m c),
    (end_mem m hr c main_arg1 rfl).trans (W6_arg1 m c)⟩, hr.2⟩) (run_main m ρ (wide_lt m h))

/-- `Cert.quiescent_KernelIdeal`: the run over the extended reals. -/
theorem frame_kernelIdeal : Cert.quiescent_KernelIdeal (hKernelIdeal := Cert.KernelIdeal.Gen.facts) (hPre_ids_in_range := pre_facts) :=
  fun m ρ hpre => frame_any m ρ fun d => @ids_lt _ _ pre_facts _ _ (hpre d)

end Cert.Proof.Legal

end
-- ==== Proof.RefOps.lean ====
/- The reference's @main as the list of its host operations, the calls of its functions written out in their places,
   and the facts a straight line of host operations owes: the program is that list run in order, every operation names
   only the core's own buffers and none of them allocates. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v16`, named. It packs its operands into a list of dependent pairs
    whose shapes a later argument's type mentions, so `simp` cannot rewrite an operand where it stands; applied by
    name, the operands are plain arguments, which the window lemmas below rewrite before the name unfolds. -/
def fn_main_v16 : (⟨S16384x64x1, .i32⟩ : BufTy).Contents (Elt F) → (⟨S16384x64x1, .i32⟩ : BufTy).Contents (Elt F) → (⟨S16384x64x2, .i32⟩ : BufTy).Contents (Elt F) :=
  (fun a b => concatenate S16384x64x2 2 [⟨S16384x64x1, a⟩, ⟨S16384x64x1, b⟩] concatenates_S16384x64x1_S16384x64x1_S16384x64x2_d2)

/-- The function of the operation that writes `main_v40`, named. It packs its operands into a list of dependent pairs
    whose shapes a later argument's type mentions, so `simp` cannot rewrite an operand where it stands; applied by
    name, the operands are plain arguments, which the window lemmas below rewrite before the name unfolds. -/
def fn_main_v40 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 375 (window `main_part0`). -/
abbrev ops_part0_0 : List (HloOp τ sig (Elt F)) :=
  [ nullary main_v0 (iotaInDim S16384 32 0),
    unary main_v0 main_v1 (broadcastInDim S16384x1 ![0] bcast_S16384_S16384x1_0 : (⟨S16384, .i32⟩ : BufTy).Contents (Elt F) → (⟨S16384x1, .i32⟩ : BufTy).Contents (Elt F)),
    nullary main_cst (constant S_ .f32 0x00000000#32),
    unary main_cst main_v2 (broadcastInDim S16384x1968 ![] bcast_S_S16384x1968 : (⟨S_, .f32⟩ : BufTy).Contents (Elt F) → (⟨S16384x1968, .f32⟩ : BufTy).Contents (Elt F)),
    nullary main_c (constantI S_ 32 0#32),
    unary main_c main_v3 (broadcastInDim S16384x1 ![] bcast_S_S16384x1 : (⟨S_, .i32⟩ : BufTy).Contents (Elt F) → (⟨S16384x1, .i32⟩ : BufTy).Contents (Elt F)),
    binary main_v1 main_v3 main_v4 (cmpi .slt : (⟨S16384x1, .i32⟩ : BufTy).Contents (Elt F) → (⟨S16384x1, .i32⟩ : BufTy).Contents (Elt F) → (⟨S16384x1, .i1⟩ : BufTy).Contents (Elt F)),
    nullary main_c_0 (constantI S_ 32 16384#32),
    unary main_c_0 main_v5 (broadcastInDim S16384x1 ![] bcast_S_S16384x1 : (⟨S_, .i32⟩ : BufTy).Contents (Elt F) → (⟨S16384x1, .i32⟩ : BufTy).Contents (Elt F)),
    binary main_v1 main_v5 main_v6 (addi : (⟨S16384x1, .i32⟩ : BufTy).Contents (Elt F) → (⟨S16384x1, .i32⟩ : BufTy).Contents (Elt F) → (⟨S16384x1, .i32⟩ : BufTy).Contents (Elt F)),
    ternary main_v4 main_v6 main_v1 main_v7 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_1 (constantI S_ 32 0#32),
    unary main_c_1 main_v8 (broadcastInDim S16384x64 ![] bcast_S_S16384x64 : (⟨S_, .i32⟩ : BufTy).Contents (Elt F) → (⟨S16384x64, .i32⟩ : BufTy).Contents (Elt F)),
    binary main_arg0 main_v8 main_v9 (cmpi .slt : (⟨S16384x64, .i32⟩ : BufTy).Contents (Elt F) → (⟨S16384x64, .i32⟩ : BufTy).Contents (Elt F) → (⟨S16384x64, .i1⟩ : BufTy).Contents (Elt F)),
    nullary main_c_2 (constantI S_ 32 1968#32),
    unary main_c_2 main_v10 (broadcastInDim S16384x64 ![] bcast_S_S16384x64 : (⟨S_, .i32⟩ : BufTy).Contents (Elt F) → (⟨S16384x64, .i32⟩ : BufTy).Contents (Elt F)),
    binary main_arg0 main_v10 main_v11 (addi : (⟨S16384x64, .i32⟩ : BufTy).Contents (Elt F) → (⟨S16384x64, .i32⟩ : BufTy).Contents (Elt F) → (⟨S16384x64, .i32⟩ : BufTy).Contents (Elt F)),
    ternary main_v9 main_v11 main_arg0 main_v12 (select : (⟨S16384x64, .i1⟩ : BufTy).Contents (Elt F) → (⟨S16384x64, .i32⟩ : BufTy).Contents (Elt F) → (⟨S16384x64, .i32⟩ : BufTy).Contents (Elt F) → (⟨S16384x64, .i32⟩ : BufTy).Contents (Elt F)),
    unary main_v7 main_v13 (broadcastInDim S16384x64 ![0, 1] bcast_S16384x1_S16384x64_0_1 : (⟨S16384x1, .i32⟩ : BufTy).Contents (Elt F) → (⟨S16384x64, .i32⟩ : BufTy).Contents (Elt F)),
    unary main_v13 main_v14 (broadcastInDim S16384x64x1 ![0, 1] bcast_S16384x64_S16384x64x1_0_1 : (⟨S16384x64, .i32⟩ : BufTy).Contents (Elt F) → (⟨S16384x64x1, .i32⟩ : BufTy).Contents (Elt F)),
    unary main_v12 main_v15 (broadcastInDim S16384x64x1 ![0, 1] bcast_S16384x64_S16384x64x1_0_1 : (⟨S16384x64, .i32⟩ : BufTy).Contents (Elt F) → (⟨S16384x64x1, .i32⟩ : BufTy).Contents (Elt F)),
    binary main_v14 main_v15 main_v16 (fn_main_v16 (F := F)),
    nullary main_cst_3 (constant S_ .f32 0x3F800000#32),
    unary main_cst_3 main_v17 (broadcastInDim S16384x64 ![] bcast_S_S16384x64 : (⟨S_, .f32⟩ : BufTy).Contents (Elt F) → (⟨S16384x64, .f32⟩ : BufTy).Contents (Elt F)),
    ternary main_v2 main_v16 main_v17 main_v18 ((fun x i u => Host.scatter scatter_S16384x1968_S16384x64x2_S16384x64_n_01_01_2 (fun _ b => b) x i u) : (⟨S16384x1968, .f32⟩ : BufTy).Contents (Elt F) → (⟨S16384x64x2, .i32⟩ : BufTy).Contents (Elt F) → (⟨S16384x64, .f32⟩ : BufTy).Contents (Elt F) → (⟨S16384x1968, .f32⟩ : BufTy).Contents (Elt F)),
    nullary main_cst_4 (constant S_ .f32 0x00000000#32),
    unary main_cst_4 main_v19 (broadcastInDim S16384x1968 ![] bcast_S_S16384x1968 : (⟨S_, .f32⟩ : BufTy).Contents (Elt F) → (⟨S16384x1968, .f32⟩ : BufTy).Contents (Elt F)),
    binary main_v18 main_v19 main_v20 (cmpf .oeq : (⟨S16384x1968, .f32⟩ : BufTy).Contents (Elt F) → (⟨S16384x1968, .f32⟩ : BufTy).Contents (Elt F) → (⟨S16384x1968, .i1⟩ : BufTy).Contents (Elt F)),
    unary main_arg1 main_v21 (broadcastInDim S1x1968 ![1] bcast_S1968_S1x1968_1 : (⟨S1968, .f32⟩ : BufTy).Contents (Elt F) → (⟨S1x1968, .f32⟩ : BufTy).Contents (Elt F)),
    nullary main_cst_5 (constant S_ .f32 0xFF800000#32) ]

/-- @main's operations 31 … 60 of 375 (window `main_part0`). -/
abbrev ops_part0_1 : List (HloOp τ sig (Elt F)) :=
  [ TRef.unary (TRef.of (T := ⟨S_, .f32⟩) main_cst_5) (TRef.of (T := ⟨S_, .f32⟩) main_call0_v0) id,
    TRef.unary (TRef.of (T := ⟨S_, .f32⟩) main_call0_v0) (TRef.of (T := ⟨S16384x1968, .f32⟩) main_call0_v1) (broadcastInDim S16384x1968 ![] bcast_S_S16384x1968),
    TRef.unary (TRef.of (T := ⟨S1x1968, .f32⟩) main_v21) (TRef.of (T := ⟨S16384x1968, .f32⟩) main_call0_v2) (broadcastInDim S16384x1968 ![0, 1] bcast_S1x1968_S16384x1968_0_1),
    TRef.ternary (TRef.of (T := ⟨S16384x1968, .i1⟩) main_v20) (TRef.of (T := ⟨S16384x1968, .f32⟩) main_call0_v1) (TRef.of (T := ⟨S16384x1968, .f32⟩) main_call0_v2) (TRef.of (T := ⟨S16384x1968, .f32⟩) main_v22) select,
    nullary main_cst_6 (constant S_ .f32 0xFF800000#32),
    binary main_v22 main_cst_6 main_v23 ((fun x v => Host.reduce FloatOps.maximumf x v reducesTo_S16384x1968_S16384_d1 h_S_) : (⟨S16384x1968, .f32⟩ : BufTy).Contents (Elt F) → (⟨S_, .f32⟩ : BufTy).Contents (Elt F) → (⟨S16384, .f32⟩ : BufTy).Contents (Elt F)),
    nullary main_cst_7 (constant S_ .f32 0xFF800000#32),
    unary main_cst_7 main_v24 (broadcastInDim S16384 ![] bcast_S_S16384 : (⟨S_, .f32⟩ : BufTy).Contents (Elt F) → (⟨S16384, .f32⟩ : BufTy).Contents (Elt F)),
    binary main_v24 main_v23 main_v25 (maximumf : (⟨S16384, .f32⟩ : BufTy).Contents (Elt F) → (⟨S16384, .f32⟩ : BufTy).Contents (Elt F) → (⟨S16384, .f32⟩ : BufTy).Contents (Elt F)),
    unary main_v25 main_v26 (broadcastInDim S16384x1 ![0] bcast_S16384_S16384x1_0 : (⟨S16384, .f32⟩ : BufTy).Contents (Elt F) → (⟨S16384x1, .f32⟩ : BufTy).Contents (Elt F)),
    unary main_v26 main_v27 (broadcastInDim S16384x1968 ![0, 1] bcast_S16384x1_S16384x1968_0_1 : (⟨S16384x1, .f32⟩ : BufTy).Contents (Elt F) → (⟨S16384x1968, .f32⟩ : BufTy).Contents (Elt F)),
    binary main_v22 main_v27 main_v28 (subf : (⟨S16384x1968, .f32⟩ : BufTy).Contents (Elt F) → (⟨S16384x1968, .f32⟩ : BufTy).Contents (Elt F) → (⟨S16384x1968, .f32⟩ : BufTy).Contents (Elt F)),
    unary main_v28 main_v29 (Host.exp : (⟨S16384x1968, .f32⟩ : BufTy).Contents (Elt F) → (⟨S16384x1968, .f32⟩ : BufTy).Contents (Elt F)),
    nullary main_cst_8 (constant S_ .f32 0x00000000#32),
    binary main_v29 main_cst_8 main_v30 ((fun x v => Host.reduceAdd x v reducesTo_S16384x1968_S16384_d1 h_S_) : (⟨S16384x1968, .f32⟩ : BufTy).Contents (Elt F) → (⟨S_, .f32⟩ : BufTy).Contents (Elt F) → (⟨S16384, .f32⟩ : BufTy).Contents (Elt F)),
    unary main_v30 main_v31 (broadcastInDim S16384x1 ![0] bcast_S16384_S16384x1_0 : (⟨S16384, .f32⟩ : BufTy).Contents (Elt F) → (⟨S16384x1, .f32⟩ : BufTy).Contents (Elt F)),
    unary main_v31 main_v32 (broadcastInDim S16384x1968 ![0, 1] bcast_S16384x1_S16384x1968_0_1 : (⟨S16384x1, .f32⟩ : BufTy).Contents (Elt F) → (⟨S16384x1968, .f32⟩ : BufTy).Contents (Elt F)),
    binary main_v29 main_v32 main_v33 (Host.divf : (⟨S16384x1968, .f32⟩ : BufTy).Contents (Elt F) → (⟨S16384x1968, .f32⟩ : BufTy).Contents (Elt F) → (⟨S16384x1968, .f32⟩ : BufTy).Contents (Elt F)),
    nullary main_c_9 (constantI S_ 32 1#32),
    nullary main_c_10 (constantI S_ 32 32#32),
    binary main_c_9 main_c_10 main_v34 (Host.shrui : (⟨S_, .i32⟩ : BufTy).Contents (Elt F) → (⟨S_, .i32⟩ : BufTy).Contents (Elt F) → (⟨S_, .i32⟩ : BufTy).Contents (Elt F)),
    unary main_v34 main_v35 (id : (⟨S_, .i32⟩ : BufTy).Contents (Elt F) → (⟨S_, .i32⟩ : BufTy).Contents (Elt F)),
    unary main_v35 main_v36 (broadcastInDim S1 ![] bcast_S_S1 : (⟨S_, .i32⟩ : BufTy).Contents (Elt F) → (⟨S1, .i32⟩ : BufTy).Contents (Elt F)),
    nullary main_c_11 (constantI S_ 32 4294967295#32),
    binary main_c_9 main_c_11 main_v37 (andi : (⟨S_, .i32⟩ : BufTy).Contents (Elt F) → (⟨S_, .i32⟩ : BufTy).Contents (Elt F) → (⟨S_, .i32⟩ : BufTy).Contents (Elt F)),
    unary main_v37 main_v38 (id : (⟨S_, .i32⟩ : BufTy).Contents (Elt F) → (⟨S_, .i32⟩ : BufTy).Contents (Elt F)),
    unary main_v38 main_v39 (broadcastInDim S1 ![] bcast_S_S1 : (⟨S_, .i32⟩ : BufTy).Contents (Elt F) → (⟨S1, .i32⟩ : BufTy).Contents (Elt F)),
    binary main_v36 main_v39 main_v40 (fn_main_v40 (F := F)),
    nullary main_cst_12 (constant S_ .f32 0x00000000#32),
    nullary main_cst_13 (constant S_ .f32 0x3F800000#32) ]

/-- @main's operations 61 … 90 of 375 (window `main_part0`). -/
abbrev ops_part0_2 : List (HloOp τ sig (Elt F)) :=
  [ TRef.unary (TRef.of (T := ⟨S_, .f32⟩) main_cst_12) (TRef.of (T := ⟨S_, .f32⟩) main_call1_v0) id,
    TRef.unary (TRef.of (T := ⟨S_, .f32⟩) main_cst_13) (TRef.of (T := ⟨S_, .f32⟩) main_call1_v1) id,
    TRef.unary (TRef.of (T := ⟨S_, .f32⟩) main_call1_v0) (TRef.of (T := ⟨S1x1, .f32⟩) main_call1_v2) (broadcastInDim S1x1 ![] bcast_S_S1x1),
    TRef.unary (TRef.of (T := ⟨S_, .f32⟩) main_call1_v1) (TRef.of (T := ⟨S1x1, .f32⟩) main_call1_v3) (broadcastInDim S1x1 ![] bcast_S_S1x1),
    TRef.unary (TRef.of (T := ⟨S2, .i32⟩) main_v40) (TRef.of (T := ⟨S1, .i32⟩) main_call1_v4) (extractStridedSlice S1 ![0] · slices_S2_S1_0),
    TRef.reshape (TRef.of (T := ⟨S1, .i32⟩) main_call1_v4) (TRef.of (T := ⟨S_, .i32⟩) main_call1_v5) (rfl : (.i32 : EltTy) = .i32) shapeCasts_S1_S_,
    TRef.unary (TRef.of (T := ⟨S2, .i32⟩) main_v40) (TRef.of (T := ⟨S1, .i32⟩) main_call1_v6) (extractStridedSlice S1 ![1] · slices_S2_S1_1),
    TRef.reshape (TRef.of (T := ⟨S1, .i32⟩) main_call1_v6) (TRef.of (T := ⟨S_, .i32⟩) main_call1_v7) (rfl : (.i32 : EltTy) = .i32) shapeCasts_S1_S_,
    TRef.nullary (TRef.of (T := ⟨S16384x1968, .i64⟩) main_call1_v8) (iotaInDim S16384x1968 64 0),
    TRef.nullary (TRef.of (T := ⟨S16384x1968, .i64⟩) main_call1_v9) (iotaInDim S16384x1968 64 1),
    TRef.nullary (TRef.of (T := ⟨S_, .i64⟩) main_call1_c) (constantI S_ 64 1968#64),
    TRef.unary (TRef.of (T := ⟨S_, .i64⟩) main_call1_c) (TRef.of (T := ⟨S16384x1968, .i64⟩) main_call1_v10) (broadcastInDim S16384x1968 ![] bcast_S_S16384x1968),
    TRef.binary (TRef.of (T := ⟨S16384x1968, .i64⟩) main_call1_v10) (TRef.of (T := ⟨S16384x1968, .i64⟩) main_call1_v8) (TRef.of (T := ⟨S16384x1968, .i64⟩) main_call1_v11) muli,
    TRef.nullary (TRef.of (T := ⟨S_, .i64⟩) main_call1_c_0) (constantI S_ 64 1#64),
    TRef.unary (TRef.of (T := ⟨S_, .i64⟩) main_call1_c_0) (TRef.of (T := ⟨S16384x1968, .i64⟩) main_call1_v12) (broadcastInDim S16384x1968 ![] bcast_S_S16384x1968),
    TRef.binary (TRef.of (T := ⟨S16384x1968, .i64⟩) main_call1_v12) (TRef.of (T := ⟨S16384x1968, .i64⟩) main_call1_v9) (TRef.of (T := ⟨S16384x1968, .i64⟩) main_call1_v13) muli,
    TRef.binary (TRef.of (T := ⟨S16384x1968, .i64⟩) main_call1_v11) (TRef.of (T := ⟨S16384x1968, .i64⟩) main_call1_v13) (TRef.of (T := ⟨S16384x1968, .i64⟩) main_call1_v14) addi,
    TRef.nullary (TRef.of (T := ⟨S_, .i64⟩) main_call1_c_1) (constantI S_ 64 32#64),
    TRef.unary (TRef.of (T := ⟨S_, .i64⟩) main_call1_c_1) (TRef.of (T := ⟨S16384x1968, .i64⟩) main_call1_v15) (broadcastInDim S16384x1968 ![] bcast_S_S16384x1968),
    TRef.binary (TRef.of (T := ⟨S16384x1968, .i64⟩) main_call1_v14) (TRef.of (T := ⟨S16384x1968, .i64⟩) main_call1_v15) (TRef.of (T := ⟨S16384x1968, .i64⟩) main_call1_v16) Host.shrui,
    TRef.unary (TRef.of (T := ⟨S16384x1968, .i64⟩) main_call1_v14) (TRef.of (T := ⟨S16384x1968, .i32⟩) main_call1_v17) (trunci 32 · natLt_32_64),
    TRef.unary (TRef.of (T := ⟨S16384x1968, .i64⟩) main_call1_v16) (TRef.of (T := ⟨S16384x1968, .i32⟩) main_call1_v18) (trunci 32 · natLt_32_64),
    TRef.binary (TRef.of (T := ⟨S_, .i32⟩) main_call1_v5) (TRef.of (T := ⟨S_, .i32⟩) main_call1_v7) (TRef.of (T := ⟨S_, .i32⟩) main_call1_call0_v0) xori,
    TRef.nullary (TRef.of (T := ⟨S_, .i32⟩) main_call1_call0_c) (constantI S_ 32 466688986#32),
    TRef.binary (TRef.of (T := ⟨S_, .i32⟩) main_call1_call0_v0) (TRef.of (T := ⟨S_, .i32⟩) main_call1_call0_c) (TRef.of (T := ⟨S_, .i32⟩) main_call1_call0_v1) xori,
    TRef.unary (TRef.of (T := ⟨S_, .i32⟩) main_call1_v5) (TRef.of (T := ⟨S16384x1968, .i32⟩) main_call1_call0_v2) (broadcastInDim S16384x1968 ![] bcast_S_S16384x1968),
    TRef.binary (TRef.of (T := ⟨S16384x1968, .i32⟩) main_call1_v18) (TRef.of (T := ⟨S16384x1968, .i32⟩) main_call1_call0_v2) (TRef.of (T := ⟨S16384x1968, .i32⟩) main_call1_call0_v3) addi,
    TRef.unary (TRef.of (T := ⟨S_, .i32⟩) main_call1_v7) (TRef.of (T := ⟨S16384x1968, .i32⟩) main_call1_call0_v4) (broadcastInDim S16384x1968 ![] bcast_S_S16384x1968),
    TRef.binary (TRef.of (T := ⟨S16384x1968, .i32⟩) main_call1_v17) (TRef.of (T := ⟨S16384x1968, .i32⟩) main_call1_call0_v4) (TRef.of (T := ⟨S16384x1968, .i32⟩) main_call1_call0_v5) addi,
    TRef.binary (TRef.of (T := ⟨S16384x1968, .i32⟩) main_call1_call0_v3) (TRef.of (T := ⟨S16384x1968, .i32⟩) main_call1_call0_v5) (TRef.of (T := ⟨S16384x1968, .i32⟩) main_call1_call0_v6) addi ]

/-- @main's operations 91 … 120 of 375 (window `main_part0`). -/
abbrev ops_part0_3 : List (HloOp τ sig (Elt F)) :=
  [ TRef.nullary (TRef.of (T := ⟨S_, .i32⟩) main_call1_call0_c_0) (constantI S_ 32 13#32),
    TRef.unary (TRef.of (T := ⟨S_, .i32⟩) main_call1_call0_c_0) (TRef.of (T := ⟨S16384x1968, .i32⟩) main_call1_call0_v7) (broadcastInDim S16384x1968 ![] bcast_S_S16384x1968),
    TRef.binary (TRef.of (T := ⟨S16384x1968, .i32⟩) main_call1_call0_v5) (TRef.of (T := ⟨S16384x1968, .i32⟩) main_call1_call0_v7) (TRef.of (T := ⟨S16384x1968, .i32⟩) main_call1_call0_v8) Host.shli,
    TRef.nullary (TRef.of (T := ⟨S_, .i32⟩) main_call1_call0_c_1) (constantI S_ 32 19#32),
    TRef.unary (TRef.of (T := ⟨S_, .i32⟩) main_call1_call0_c_1) (TRef.of (T := ⟨S16384x1968, .i32⟩) main_call1_call0_v9) (broadcastInDim S16384x1968 ![] bcast_S_S16384x1968),
    TRef.binary (TRef.of (T := ⟨S16384x1968, .i32⟩) main_call1_call0_v5) (TRef.of (T := ⟨S16384x1968, .i32⟩) main_call1_call0_v9) (TRef.of (T := ⟨S16384x1968, .i32⟩) main_call1_call0_v10) Host.shrui,
    TRef.binary (TRef.of (T := ⟨S16384x1968, .i32⟩) main_call1_call0_v8) (TRef.of (T := ⟨S16384x1968, .i32⟩) main_call1_call0_v10) (TRef.of (T := ⟨S16384x1968, .i32⟩) main_call1_call0_v11) ori,
    TRef.binary (TRef.of (T := ⟨S16384x1968, .i32⟩) main_call1_call0_v6) (TRef.of (T := ⟨S16384x1968, .i32⟩) main_call1_call0_v11) (TRef.of (T := ⟨S16384x1968, .i32⟩) main_call1_call0_v12) xori,
    TRef.binary (TRef.of (T := ⟨S16384x1968, .i32⟩) main_call1_call0_v6) (TRef.of (T := ⟨S16384x1968, .i32⟩) main_call1_call0_v12) (TRef.of (T := ⟨S16384x1968, .i32⟩) main_call1_call0_v13) addi,
    TRef.nullary (TRef.of (T := ⟨S_, .i32⟩) main_call1_call0_c_2) (constantI S_ 32 15#32),
    TRef.unary (TRef.of (T := ⟨S_, .i32⟩) main_call1_call0_c_2) (TRef.of (T := ⟨S16384x1968, .i32⟩) main_call1_call0_v14) (broadcastInDim S16384x1968 ![] bcast_S_S16384x1968),
    TRef.binary (TRef.of (T := ⟨S16384x1968, .i32⟩) main_call1_call0_v12) (TRef.of (T := ⟨S16384x1968, .i32⟩) main_call1_call0_v14) (TRef.of (T := ⟨S16384x1968, .i32⟩) main_call1_call0_v15) Host.shli,
    TRef.nullary (TRef.of (T := ⟨S_, .i32⟩) main_call1_call0_c_3) (constantI S_ 32 17#32),
    TRef.unary (TRef.of (T := ⟨S_, .i32⟩) main_call1_call0_c_3) (TRef.of (T := ⟨S16384x1968, .i32⟩) main_call1_call0_v16) (broadcastInDim S16384x1968 ![] bcast_S_S16384x1968),
    TRef.binary (TRef.of (T := ⟨S16384x1968, .i32⟩) main_call1_call0_v12) (TRef.of (T := ⟨S16384x1968, .i32⟩) main_call1_call0_v16) (TRef.of (T := ⟨S16384x1968, .i32⟩) main_call1_call0_v17) Host.shrui,
    TRef.binary (TRef.of (T := ⟨S16384x1968, .i32⟩) main_call1_call0_v15) (TRef.of (T := ⟨S16384x1968, .i32⟩) main_call1_call0_v17) (TRef.of (T := ⟨S16384x1968, .i32⟩) main_call1_call0_v18) ori,
    TRef.binary (TRef.of (T := ⟨S16384x1968, .i32⟩) main_call1_call0_v13) (TRef.of (T := ⟨S16384x1968, .i32⟩) main_call1_call0_v18) (TRef.of (T := ⟨S16384x1968, .i32⟩) main_call1_call0_v19) xori,
    TRef.binary (TRef.of (T := ⟨S16384x1968, .i32⟩) main_call1_call0_v13) (TRef.of (T := ⟨S16384x1968, .i32⟩) main_call1_call0_v19) (TRef.of (T := ⟨S16384x1968, .i32⟩) main_call1_call0_v20) addi,
    TRef.nullary (TRef.of (T := ⟨S_, .i32⟩) main_call1_call0_c_4) (constantI S_ 32 26#32),
    TRef.unary (TRef.of (T := ⟨S_, .i32⟩) main_call1_call0_c_4) (TRef.of (T := ⟨S16384x1968, .i32⟩) main_call1_call0_v21) (broadcastInDim S16384x1968 ![] bcast_S_S16384x1968),
    TRef.binary (TRef.of (T := ⟨S16384x1968, .i32⟩) main_call1_call0_v19) (TRef.of (T := ⟨S16384x1968, .i32⟩) main_call1_call0_v21) (TRef.of (T := ⟨S16384x1968, .i32⟩) main_call1_call0_v22) Host.shli,
    TRef.nullary (TRef.of (T := ⟨S_, .i32⟩) main_call1_call0_c_5) (constantI S_ 32 6#32),
    TRef.unary (TRef.of (T := ⟨S_, .i32⟩) main_call1_call0_c_5) (TRef.of (T := ⟨S16384x1968, .i32⟩) main_call1_call0_v23) (broadcastInDim S16384x1968 ![] bcast_S_S16384x1968),
    TRef.binary (TRef.of (T := ⟨S16384x1968, .i32⟩) main_call1_call0_v19) (TRef.of (T := ⟨S16384x1968, .i32⟩) main_call1_call0_v23) (TRef.of (T := ⟨S16384x1968, .i32⟩) main_call1_call0_v24) Host.shrui,
    TRef.binary (TRef.of (T := ⟨S16384x1968, .i32⟩) main_call1_call0_v22) (TRef.of (T := ⟨S16384x1968, .i32⟩) main_call1_call0_v24) (TRef.of (T := ⟨S16384x1968, .i32⟩) main_call1_call0_v25) ori,
    TRef.binary (TRef.of (T := ⟨S16384x1968, .i32⟩) main_call1_call0_v20) (TRef.of (T := ⟨S16384x1968, .i32⟩) main_call1_call0_v25) (TRef.of (T := ⟨S16384x1968, .i32⟩) main_call1_call0_v26) xori,
    TRef.binary (TRef.of (T := ⟨S16384x1968, .i32⟩) main_call1_call0_v20) (TRef.of (T := ⟨S16384x1968, .i32⟩) main_call1_call0_v26) (TRef.of (T := ⟨S16384x1968, .i32⟩) main_call1_call0_v27) addi,
    TRef.nullary (TRef.of (T := ⟨S_, .i32⟩) main_call1_call0_c_6) (constantI S_ 32 6#32),
    TRef.unary (TRef.of (T := ⟨S_, .i32⟩) main_call1_call0_c_6) (TRef.of (T := ⟨S16384x1968, .i32⟩) main_call1_call0_v28) (broadcastInDim S16384x1968 ![] bcast_S_S16384x1968),
    TRef.binary (TRef.of (T := ⟨S16384x1968, .i32⟩) main_call1_call0_v26) (TRef.of (T := ⟨S16384x1968, .i32⟩) main_call1_call0_v28) (TRef.of (T := ⟨S16384x1968, .i32⟩) main_call1_call0_v29) Host.shli ]

/-- @main's operations 121 … 150 of 375 (window `main_part0`). -/
abbrev ops_part0_4 : List (HloOp τ sig (Elt F)) :=
  [ TRef.nullary (TRef.of (T := ⟨S_, .i32⟩) main_call1_call0_c_7) (constantI S_ 32 26#32),
    TRef.unary (TRef.of (T := ⟨S_, .i32⟩) main_call1_call0_c_7) (TRef.of (T := ⟨S16384x1968, .i32⟩) main_call1_call0_v30) (broadcastInDim S16384x1968 ![] bcast_S_S16384x1968),
    TRef.binary (TRef.of (T := ⟨S16384x1968, .i32⟩) main_call1_call0_v26) (TRef.of (T := ⟨S16384x1968, .i32⟩) main_call1_call0_v30) (TRef.of (T := ⟨S16384x1968, .i32⟩) main_call1_call0_v31) Host.shrui,
    TRef.binary (TRef.of (T := ⟨S16384x1968, .i32⟩) main_call1_call0_v29) (TRef.of (T := ⟨S16384x1968, .i32⟩) main_call1_call0_v31) (TRef.of (T := ⟨S16384x1968, .i32⟩) main_call1_call0_v32) ori,
    TRef.binary (TRef.of (T := ⟨S16384x1968, .i32⟩) main_call1_call0_v27) (TRef.of (T := ⟨S16384x1968, .i32⟩) main_call1_call0_v32) (TRef.of (T := ⟨S16384x1968, .i32⟩) main_call1_call0_v33) xori,
    TRef.unary (TRef.of (T := ⟨S_, .i32⟩) main_call1_v7) (TRef.of (T := ⟨S16384x1968, .i32⟩) main_call1_call0_v34) (broadcastInDim S16384x1968 ![] bcast_S_S16384x1968),
    TRef.binary (TRef.of (T := ⟨S16384x1968, .i32⟩) main_call1_call0_v27) (TRef.of (T := ⟨S16384x1968, .i32⟩) main_call1_call0_v34) (TRef.of (T := ⟨S16384x1968, .i32⟩) main_call1_call0_v35) addi,
    TRef.unary (TRef.of (T := ⟨S_, .i32⟩) main_call1_call0_v1) (TRef.of (T := ⟨S16384x1968, .i32⟩) main_call1_call0_v36) (broadcastInDim S16384x1968 ![] bcast_S_S16384x1968),
    TRef.binary (TRef.of (T := ⟨S16384x1968, .i32⟩) main_call1_call0_v33) (TRef.of (T := ⟨S16384x1968, .i32⟩) main_call1_call0_v36) (TRef.of (T := ⟨S16384x1968, .i32⟩) main_call1_call0_v37) addi,
    TRef.nullary (TRef.of (T := ⟨S_, .i32⟩) main_call1_call0_c_8) (constantI S_ 32 1#32),
    TRef.unary (TRef.of (T := ⟨S_, .i32⟩) main_call1_call0_c_8) (TRef.of (T := ⟨S16384x1968, .i32⟩) main_call1_call0_v38) (broadcastInDim S16384x1968 ![] bcast_S_S16384x1968),
    TRef.binary (TRef.of (T := ⟨S16384x1968, .i32⟩) main_call1_call0_v37) (TRef.of (T := ⟨S16384x1968, .i32⟩) main_call1_call0_v38) (TRef.of (T := ⟨S16384x1968, .i32⟩) main_call1_call0_v39) addi,
    TRef.binary (TRef.of (T := ⟨S16384x1968, .i32⟩) main_call1_call0_v35) (TRef.of (T := ⟨S16384x1968, .i32⟩) main_call1_call0_v39) (TRef.of (T := ⟨S16384x1968, .i32⟩) main_call1_call0_v40) addi,
    TRef.nullary (TRef.of (T := ⟨S_, .i32⟩) main_call1_call0_c_9) (constantI S_ 32 17#32),
    TRef.unary (TRef.of (T := ⟨S_, .i32⟩) main_call1_call0_c_9) (TRef.of (T := ⟨S16384x1968, .i32⟩) main_call1_call0_v41) (broadcastInDim S16384x1968 ![] bcast_S_S16384x1968),
    TRef.binary (TRef.of (T := ⟨S16384x1968, .i32⟩) main_call1_call0_v39) (TRef.of (T := ⟨S16384x1968, .i32⟩) main_call1_call0_v41) (TRef.of (T := ⟨S16384x1968, .i32⟩) main_call1_call0_v42) Host.shli,
    TRef.nullary (TRef.of (T := ⟨S_, .i32⟩) main_call1_call0_c_10) (constantI S_ 32 15#32),
    TRef.unary (TRef.of (T := ⟨S_, .i32⟩) main_call1_call0_c_10) (TRef.of (T := ⟨S16384x1968, .i32⟩) main_call1_call0_v43) (broadcastInDim S16384x1968 ![] bcast_S_S16384x1968),
    TRef.binary (TRef.of (T := ⟨S16384x1968, .i32⟩) main_call1_call0_v39) (TRef.of (T := ⟨S16384x1968, .i32⟩) main_call1_call0_v43) (TRef.of (T := ⟨S16384x1968, .i32⟩) main_call1_call0_v44) Host.shrui,
    TRef.binary (TRef.of (T := ⟨S16384x1968, .i32⟩) main_call1_call0_v42) (TRef.of (T := ⟨S16384x1968, .i32⟩) main_call1_call0_v44) (TRef.of (T := ⟨S16384x1968, .i32⟩) main_call1_call0_v45) ori,
    TRef.binary (TRef.of (T := ⟨S16384x1968, .i32⟩) main_call1_call0_v40) (TRef.of (T := ⟨S16384x1968, .i32⟩) main_call1_call0_v45) (TRef.of (T := ⟨S16384x1968, .i32⟩) main_call1_call0_v46) xori,
    TRef.binary (TRef.of (T := ⟨S16384x1968, .i32⟩) main_call1_call0_v40) (TRef.of (T := ⟨S16384x1968, .i32⟩) main_call1_call0_v46) (TRef.of (T := ⟨S16384x1968, .i32⟩) main_call1_call0_v47) addi,
    TRef.nullary (TRef.of (T := ⟨S_, .i32⟩) main_call1_call0_c_11) (constantI S_ 32 29#32),
    TRef.unary (TRef.of (T := ⟨S_, .i32⟩) main_call1_call0_c_11) (TRef.of (T := ⟨S16384x1968, .i32⟩) main_call1_call0_v48) (broadcastInDim S16384x1968 ![] bcast_S_S16384x1968),
    TRef.binary (TRef.of (T := ⟨S16384x1968, .i32⟩) main_call1_call0_v46) (TRef.of (T := ⟨S16384x1968, .i32⟩) main_call1_call0_v48) (TRef.of (T := ⟨S16384x1968, .i32⟩) main_call1_call0_v49) Host.shli,
    TRef.nullary (TRef.of (T := ⟨S_, .i32⟩) main_call1_call0_c_12) (constantI S_ 32 3#32),
    TRef.unary (TRef.of (T := ⟨S_, .i32⟩) main_call1_call0_c_12) (TRef.of (T := ⟨S16384x1968, .i32⟩) main_call1_call0_v50) (broadcastInDim S16384x1968 ![] bcast_S_S16384x1968),
    TRef.binary (TRef.of (T := ⟨S16384x1968, .i32⟩) main_call1_call0_v46) (TRef.of (T := ⟨S16384x1968, .i32⟩) main_call1_call0_v50) (TRef.of (T := ⟨S16384x1968, .i32⟩) main_call1_call0_v51) Host.shrui,
    TRef.binary (TRef.of (T := ⟨S16384x1968, .i32⟩) main_call1_call0_v49) (TRef.of (T := ⟨S16384x1968, .i32⟩) main_call1_call0_v51) (TRef.of (T := ⟨S16384x1968, .i32⟩) main_call1_call0_v52) ori,
    TRef.binary (TRef.of (T := ⟨S16384x1968, .i32⟩) main_call1_call0_v47) (TRef.of (T := ⟨S16384x1968, .i32⟩) main_call1_call0_v52) (TRef.of (T := ⟨S16384x1968, .i32⟩) main_call1_call0_v53) xori ]

/-- @main's operations 151 … 180 of 375 (window `main_part0`). -/
abbrev ops_part0_5 : List (HloOp τ sig (Elt F)) :=
  [ TRef.binary (TRef.of (T := ⟨S16384x1968, .i32⟩) main_call1_call0_v47) (TRef.of (T := ⟨S16384x1968, .i32⟩) main_call1_call0_v53) (TRef.of (T := ⟨S16384x1968, .i32⟩) main_call1_call0_v54) addi,
    TRef.nullary (TRef.of (T := ⟨S_, .i32⟩) main_call1_call0_c_13) (constantI S_ 32 16#32),
    TRef.unary (TRef.of (T := ⟨S_, .i32⟩) main_call1_call0_c_13) (TRef.of (T := ⟨S16384x1968, .i32⟩) main_call1_call0_v55) (broadcastInDim S16384x1968 ![] bcast_S_S16384x1968),
    TRef.binary (TRef.of (T := ⟨S16384x1968, .i32⟩) main_call1_call0_v53) (TRef.of (T := ⟨S16384x1968, .i32⟩) main_call1_call0_v55) (TRef.of (T := ⟨S16384x1968, .i32⟩) main_call1_call0_v56) Host.shli,
    TRef.nullary (TRef.of (T := ⟨S_, .i32⟩) main_call1_call0_c_14) (constantI S_ 32 16#32),
    TRef.unary (TRef.of (T := ⟨S_, .i32⟩) main_call1_call0_c_14) (TRef.of (T := ⟨S16384x1968, .i32⟩) main_call1_call0_v57) (broadcastInDim S16384x1968 ![] bcast_S_S16384x1968),
    TRef.binary (TRef.of (T := ⟨S16384x1968, .i32⟩) main_call1_call0_v53) (TRef.of (T := ⟨S16384x1968, .i32⟩) main_call1_call0_v57) (TRef.of (T := ⟨S16384x1968, .i32⟩) main_call1_call0_v58) Host.shrui,
    TRef.binary (TRef.of (T := ⟨S16384x1968, .i32⟩) main_call1_call0_v56) (TRef.of (T := ⟨S16384x1968, .i32⟩) main_call1_call0_v58) (TRef.of (T := ⟨S16384x1968, .i32⟩) main_call1_call0_v59) ori,
    TRef.binary (TRef.of (T := ⟨S16384x1968, .i32⟩) main_call1_call0_v54) (TRef.of (T := ⟨S16384x1968, .i32⟩) main_call1_call0_v59) (TRef.of (T := ⟨S16384x1968, .i32⟩) main_call1_call0_v60) xori,
    TRef.binary (TRef.of (T := ⟨S16384x1968, .i32⟩) main_call1_call0_v54) (TRef.of (T := ⟨S16384x1968, .i32⟩) main_call1_call0_v60) (TRef.of (T := ⟨S16384x1968, .i32⟩) main_call1_call0_v61) addi,
    TRef.nullary (TRef.of (T := ⟨S_, .i32⟩) main_call1_call0_c_15) (constantI S_ 32 24#32),
    TRef.unary (TRef.of (T := ⟨S_, .i32⟩) main_call1_call0_c_15) (TRef.of (T := ⟨S16384x1968, .i32⟩) main_call1_call0_v62) (broadcastInDim S16384x1968 ![] bcast_S_S16384x1968),
    TRef.binary (TRef.of (T := ⟨S16384x1968, .i32⟩) main_call1_call0_v60) (TRef.of (T := ⟨S16384x1968, .i32⟩) main_call1_call0_v62) (TRef.of (T := ⟨S16384x1968, .i32⟩) main_call1_call0_v63) Host.shli,
    TRef.nullary (TRef.of (T := ⟨S_, .i32⟩) main_call1_call0_c_16) (constantI S_ 32 8#32),
    TRef.unary (TRef.of (T := ⟨S_, .i32⟩) main_call1_call0_c_16) (TRef.of (T := ⟨S16384x1968, .i32⟩) main_call1_call0_v64) (broadcastInDim S16384x1968 ![] bcast_S_S16384x1968),
    TRef.binary (TRef.of (T := ⟨S16384x1968, .i32⟩) main_call1_call0_v60) (TRef.of (T := ⟨S16384x1968, .i32⟩) main_call1_call0_v64) (TRef.of (T := ⟨S16384x1968, .i32⟩) main_call1_call0_v65) Host.shrui,
    TRef.binary (TRef.of (T := ⟨S16384x1968, .i32⟩) main_call1_call0_v63) (TRef.of (T := ⟨S16384x1968, .i32⟩) main_call1_call0_v65) (TRef.of (T := ⟨S16384x1968, .i32⟩) main_call1_call0_v66) ori,
    TRef.binary (TRef.of (T := ⟨S16384x1968, .i32⟩) main_call1_call0_v61) (TRef.of (T := ⟨S16384x1968, .i32⟩) main_call1_call0_v66) (TRef.of (T := ⟨S16384x1968, .i32⟩) main_call1_call0_v67) xori,
    TRef.unary (TRef.of (T := ⟨S_, .i32⟩) main_call1_call0_v1) (TRef.of (T := ⟨S16384x1968, .i32⟩) main_call1_call0_v68) (broadcastInDim S16384x1968 ![] bcast_S_S16384x1968),
    TRef.binary (TRef.of (T := ⟨S16384x1968, .i32⟩) main_call1_call0_v61) (TRef.of (T := ⟨S16384x1968, .i32⟩) main_call1_call0_v68) (TRef.of (T := ⟨S16384x1968, .i32⟩) main_call1_call0_v69) addi,
    TRef.unary (TRef.of (T := ⟨S_, .i32⟩) main_call1_v5) (TRef.of (T := ⟨S16384x1968, .i32⟩) main_call1_call0_v70) (broadcastInDim S16384x1968 ![] bcast_S_S16384x1968),
    TRef.binary (TRef.of (T := ⟨S16384x1968, .i32⟩) main_call1_call0_v67) (TRef.of (T := ⟨S16384x1968, .i32⟩) main_call1_call0_v70) (TRef.of (T := ⟨S16384x1968, .i32⟩) main_call1_call0_v71) addi,
    TRef.nullary (TRef.of (T := ⟨S_, .i32⟩) main_call1_call0_c_17) (constantI S_ 32 2#32),
    TRef.unary (TRef.of (T := ⟨S_, .i32⟩) main_call1_call0_c_17) (TRef.of (T := ⟨S16384x1968, .i32⟩) main_call1_call0_v72) (broadcastInDim S16384x1968 ![] bcast_S_S16384x1968),
    TRef.binary (TRef.of (T := ⟨S16384x1968, .i32⟩) main_call1_call0_v71) (TRef.of (T := ⟨S16384x1968, .i32⟩) main_call1_call0_v72) (TRef.of (T := ⟨S16384x1968, .i32⟩) main_call1_call0_v73) addi,
    TRef.binary (TRef.of (T := ⟨S16384x1968, .i32⟩) main_call1_call0_v69) (TRef.of (T := ⟨S16384x1968, .i32⟩) main_call1_call0_v73) (TRef.of (T := ⟨S16384x1968, .i32⟩) main_call1_call0_v74) addi,
    TRef.nullary (TRef.of (T := ⟨S_, .i32⟩) main_call1_call0_c_18) (constantI S_ 32 13#32),
    TRef.unary (TRef.of (T := ⟨S_, .i32⟩) main_call1_call0_c_18) (TRef.of (T := ⟨S16384x1968, .i32⟩) main_call1_call0_v75) (broadcastInDim S16384x1968 ![] bcast_S_S16384x1968),
    TRef.binary (TRef.of (T := ⟨S16384x1968, .i32⟩) main_call1_call0_v73) (TRef.of (T := ⟨S16384x1968, .i32⟩) main_call1_call0_v75) (TRef.of (T := ⟨S16384x1968, .i32⟩) main_call1_call0_v76) Host.shli,
    TRef.nullary (TRef.of (T := ⟨S_, .i32⟩) main_call1_call0_c_19) (constantI S_ 32 19#32) ]

/-- @main's operations 181 … 210 of 375 (window `main_part0`). -/
abbrev ops_part0_6 : List (HloOp τ sig (Elt F)) :=
  [ TRef.unary (TRef.of (T := ⟨S_, .i32⟩) main_call1_call0_c_19) (TRef.of (T := ⟨S16384x1968, .i32⟩) main_call1_call0_v77) (broadcastInDim S16384x1968 ![] bcast_S_S16384x1968),
    TRef.binary (TRef.of (T := ⟨S16384x1968, .i32⟩) main_call1_call0_v73) (TRef.of (T := ⟨S16384x1968, .i32⟩) main_call1_call0_v77) (TRef.of (T := ⟨S16384x1968, .i32⟩) main_call1_call0_v78) Host.shrui,
    TRef.binary (TRef.of (T := ⟨S16384x1968, .i32⟩) main_call1_call0_v76) (TRef.of (T := ⟨S16384x1968, .i32⟩) main_call1_call0_v78) (TRef.of (T := ⟨S16384x1968, .i32⟩) main_call1_call0_v79) ori,
    TRef.binary (TRef.of (T := ⟨S16384x1968, .i32⟩) main_call1_call0_v74) (TRef.of (T := ⟨S16384x1968, .i32⟩) main_call1_call0_v79) (TRef.of (T := ⟨S16384x1968, .i32⟩) main_call1_call0_v80) xori,
    TRef.binary (TRef.of (T := ⟨S16384x1968, .i32⟩) main_call1_call0_v74) (TRef.of (T := ⟨S16384x1968, .i32⟩) main_call1_call0_v80) (TRef.of (T := ⟨S16384x1968, .i32⟩) main_call1_call0_v81) addi,
    TRef.nullary (TRef.of (T := ⟨S_, .i32⟩) main_call1_call0_c_20) (constantI S_ 32 15#32),
    TRef.unary (TRef.of (T := ⟨S_, .i32⟩) main_call1_call0_c_20) (TRef.of (T := ⟨S16384x1968, .i32⟩) main_call1_call0_v82) (broadcastInDim S16384x1968 ![] bcast_S_S16384x1968),
    TRef.binary (TRef.of (T := ⟨S16384x1968, .i32⟩) main_call1_call0_v80) (TRef.of (T := ⟨S16384x1968, .i32⟩) main_call1_call0_v82) (TRef.of (T := ⟨S16384x1968, .i32⟩) main_call1_call0_v83) Host.shli,
    TRef.nullary (TRef.of (T := ⟨S_, .i32⟩) main_call1_call0_c_21) (constantI S_ 32 17#32),
    TRef.unary (TRef.of (T := ⟨S_, .i32⟩) main_call1_call0_c_21) (TRef.of (T := ⟨S16384x1968, .i32⟩) main_call1_call0_v84) (broadcastInDim S16384x1968 ![] bcast_S_S16384x1968),
    TRef.binary (TRef.of (T := ⟨S16384x1968, .i32⟩) main_call1_call0_v80) (TRef.of (T := ⟨S16384x1968, .i32⟩) main_call1_call0_v84) (TRef.of (T := ⟨S16384x1968, .i32⟩) main_call1_call0_v85) Host.shrui,
    TRef.binary (TRef.of (T := ⟨S16384x1968, .i32⟩) main_call1_call0_v83) (TRef.of (T := ⟨S16384x1968, .i32⟩) main_call1_call0_v85) (TRef.of (T := ⟨S16384x1968, .i32⟩) main_call1_call0_v86) ori,
    TRef.binary (TRef.of (T := ⟨S16384x1968, .i32⟩) main_call1_call0_v81) (TRef.of (T := ⟨S16384x1968, .i32⟩) main_call1_call0_v86) (TRef.of (T := ⟨S16384x1968, .i32⟩) main_call1_call0_v87) xori,
    TRef.binary (TRef.of (T := ⟨S16384x1968, .i32⟩) main_call1_call0_v81) (TRef.of (T := ⟨S16384x1968, .i32⟩) main_call1_call0_v87) (TRef.of (T := ⟨S16384x1968, .i32⟩) main_call1_call0_v88) addi,
    TRef.nullary (TRef.of (T := ⟨S_, .i32⟩) main_call1_call0_c_22) (constantI S_ 32 26#32),
    TRef.unary (TRef.of (T := ⟨S_, .i32⟩) main_call1_call0_c_22) (TRef.of (T := ⟨S16384x1968, .i32⟩) main_call1_call0_v89) (broadcastInDim S16384x1968 ![] bcast_S_S16384x1968),
    TRef.binary (TRef.of (T := ⟨S16384x1968, .i32⟩) main_call1_call0_v87) (TRef.of (T := ⟨S16384x1968, .i32⟩) main_call1_call0_v89) (TRef.of (T := ⟨S16384x1968, .i32⟩) main_call1_call0_v90) Host.shli,
    TRef.nullary (TRef.of (T := ⟨S_, .i32⟩) main_call1_call0_c_23) (constantI S_ 32 6#32),
    TRef.unary (TRef.of (T := ⟨S_, .i32⟩) main_call1_call0_c_23) (TRef.of (T := ⟨S16384x1968, .i32⟩) main_call1_call0_v91) (broadcastInDim S16384x1968 ![] bcast_S_S16384x1968),
    TRef.binary (TRef.of (T := ⟨S16384x1968, .i32⟩) main_call1_call0_v87) (TRef.of (T := ⟨S16384x1968, .i32⟩) main_call1_call0_v91) (TRef.of (T := ⟨S16384x1968, .i32⟩) main_call1_call0_v92) Host.shrui,
    TRef.binary (TRef.of (T := ⟨S16384x1968, .i32⟩) main_call1_call0_v90) (TRef.of (T := ⟨S16384x1968, .i32⟩) main_call1_call0_v92) (TRef.of (T := ⟨S16384x1968, .i32⟩) main_call1_call0_v93) ori,
    TRef.binary (TRef.of (T := ⟨S16384x1968, .i32⟩) main_call1_call0_v88) (TRef.of (T := ⟨S16384x1968, .i32⟩) main_call1_call0_v93) (TRef.of (T := ⟨S16384x1968, .i32⟩) main_call1_call0_v94) xori,
    TRef.binary (TRef.of (T := ⟨S16384x1968, .i32⟩) main_call1_call0_v88) (TRef.of (T := ⟨S16384x1968, .i32⟩) main_call1_call0_v94) (TRef.of (T := ⟨S16384x1968, .i32⟩) main_call1_call0_v95) addi,
    TRef.nullary (TRef.of (T := ⟨S_, .i32⟩) main_call1_call0_c_24) (constantI S_ 32 6#32),
    TRef.unary (TRef.of (T := ⟨S_, .i32⟩) main_call1_call0_c_24) (TRef.of (T := ⟨S16384x1968, .i32⟩) main_call1_call0_v96) (broadcastInDim S16384x1968 ![] bcast_S_S16384x1968),
    TRef.binary (TRef.of (T := ⟨S16384x1968, .i32⟩) main_call1_call0_v94) (TRef.of (T := ⟨S16384x1968, .i32⟩) main_call1_call0_v96) (TRef.of (T := ⟨S16384x1968, .i32⟩) main_call1_call0_v97) Host.shli,
    TRef.nullary (TRef.of (T := ⟨S_, .i32⟩) main_call1_call0_c_25) (constantI S_ 32 26#32),
    TRef.unary (TRef.of (T := ⟨S_, .i32⟩) main_call1_call0_c_25) (TRef.of (T := ⟨S16384x1968, .i32⟩) main_call1_call0_v98) (broadcastInDim S16384x1968 ![] bcast_S_S16384x1968),
    TRef.binary (TRef.of (T := ⟨S16384x1968, .i32⟩) main_call1_call0_v94) (TRef.of (T := ⟨S16384x1968, .i32⟩) main_call1_call0_v98) (TRef.of (T := ⟨S16384x1968, .i32⟩) main_call1_call0_v99) Host.shrui,
    TRef.binary (TRef.of (T := ⟨S16384x1968, .i32⟩) main_call1_call0_v97) (TRef.of (T := ⟨S16384x1968, .i32⟩) main_call1_call0_v99) (TRef.of (T := ⟨S16384x1968, .i32⟩) main_call1_call0_v100) ori ]

/-- @main's operations 211 … 240 of 375 (window `main_part0`). -/
abbrev ops_part0_7 : List (HloOp τ sig (Elt F)) :=
  [ TRef.binary (TRef.of (T := ⟨S16384x1968, .i32⟩) main_call1_call0_v95) (TRef.of (T := ⟨S16384x1968, .i32⟩) main_call1_call0_v100) (TRef.of (T := ⟨S16384x1968, .i32⟩) main_call1_call0_v101) xori,
    TRef.unary (TRef.of (T := ⟨S_, .i32⟩) main_call1_v5) (TRef.of (T := ⟨S16384x1968, .i32⟩) main_call1_call0_v102) (broadcastInDim S16384x1968 ![] bcast_S_S16384x1968),
    TRef.binary (TRef.of (T := ⟨S16384x1968, .i32⟩) main_call1_call0_v95) (TRef.of (T := ⟨S16384x1968, .i32⟩) main_call1_call0_v102) (TRef.of (T := ⟨S16384x1968, .i32⟩) main_call1_call0_v103) addi,
    TRef.unary (TRef.of (T := ⟨S_, .i32⟩) main_call1_v7) (TRef.of (T := ⟨S16384x1968, .i32⟩) main_call1_call0_v104) (broadcastInDim S16384x1968 ![] bcast_S_S16384x1968),
    TRef.binary (TRef.of (T := ⟨S16384x1968, .i32⟩) main_call1_call0_v101) (TRef.of (T := ⟨S16384x1968, .i32⟩) main_call1_call0_v104) (TRef.of (T := ⟨S16384x1968, .i32⟩) main_call1_call0_v105) addi,
    TRef.nullary (TRef.of (T := ⟨S_, .i32⟩) main_call1_call0_c_26) (constantI S_ 32 3#32),
    TRef.unary (TRef.of (T := ⟨S_, .i32⟩) main_call1_call0_c_26) (TRef.of (T := ⟨S16384x1968, .i32⟩) main_call1_call0_v106) (broadcastInDim S16384x1968 ![] bcast_S_S16384x1968),
    TRef.binary (TRef.of (T := ⟨S16384x1968, .i32⟩) main_call1_call0_v105) (TRef.of (T := ⟨S16384x1968, .i32⟩) main_call1_call0_v106) (TRef.of (T := ⟨S16384x1968, .i32⟩) main_call1_call0_v107) addi,
    TRef.binary (TRef.of (T := ⟨S16384x1968, .i32⟩) main_call1_call0_v103) (TRef.of (T := ⟨S16384x1968, .i32⟩) main_call1_call0_v107) (TRef.of (T := ⟨S16384x1968, .i32⟩) main_call1_call0_v108) addi,
    TRef.nullary (TRef.of (T := ⟨S_, .i32⟩) main_call1_call0_c_27) (constantI S_ 32 17#32),
    TRef.unary (TRef.of (T := ⟨S_, .i32⟩) main_call1_call0_c_27) (TRef.of (T := ⟨S16384x1968, .i32⟩) main_call1_call0_v109) (broadcastInDim S16384x1968 ![] bcast_S_S16384x1968),
    TRef.binary (TRef.of (T := ⟨S16384x1968, .i32⟩) main_call1_call0_v107) (TRef.of (T := ⟨S16384x1968, .i32⟩) main_call1_call0_v109) (TRef.of (T := ⟨S16384x1968, .i32⟩) main_call1_call0_v110) Host.shli,
    TRef.nullary (TRef.of (T := ⟨S_, .i32⟩) main_call1_call0_c_28) (constantI S_ 32 15#32),
    TRef.unary (TRef.of (T := ⟨S_, .i32⟩) main_call1_call0_c_28) (TRef.of (T := ⟨S16384x1968, .i32⟩) main_call1_call0_v111) (broadcastInDim S16384x1968 ![] bcast_S_S16384x1968),
    TRef.binary (TRef.of (T := ⟨S16384x1968, .i32⟩) main_call1_call0_v107) (TRef.of (T := ⟨S16384x1968, .i32⟩) main_call1_call0_v111) (TRef.of (T := ⟨S16384x1968, .i32⟩) main_call1_call0_v112) Host.shrui,
    TRef.binary (TRef.of (T := ⟨S16384x1968, .i32⟩) main_call1_call0_v110) (TRef.of (T := ⟨S16384x1968, .i32⟩) main_call1_call0_v112) (TRef.of (T := ⟨S16384x1968, .i32⟩) main_call1_call0_v113) ori,
    TRef.binary (TRef.of (T := ⟨S16384x1968, .i32⟩) main_call1_call0_v108) (TRef.of (T := ⟨S16384x1968, .i32⟩) main_call1_call0_v113) (TRef.of (T := ⟨S16384x1968, .i32⟩) main_call1_call0_v114) xori,
    TRef.binary (TRef.of (T := ⟨S16384x1968, .i32⟩) main_call1_call0_v108) (TRef.of (T := ⟨S16384x1968, .i32⟩) main_call1_call0_v114) (TRef.of (T := ⟨S16384x1968, .i32⟩) main_call1_call0_v115) addi,
    TRef.nullary (TRef.of (T := ⟨S_, .i32⟩) main_call1_call0_c_29) (constantI S_ 32 29#32),
    TRef.unary (TRef.of (T := ⟨S_, .i32⟩) main_call1_call0_c_29) (TRef.of (T := ⟨S16384x1968, .i32⟩) main_call1_call0_v116) (broadcastInDim S16384x1968 ![] bcast_S_S16384x1968),
    TRef.binary (TRef.of (T := ⟨S16384x1968, .i32⟩) main_call1_call0_v114) (TRef.of (T := ⟨S16384x1968, .i32⟩) main_call1_call0_v116) (TRef.of (T := ⟨S16384x1968, .i32⟩) main_call1_call0_v117) Host.shli,
    TRef.nullary (TRef.of (T := ⟨S_, .i32⟩) main_call1_call0_c_30) (constantI S_ 32 3#32),
    TRef.unary (TRef.of (T := ⟨S_, .i32⟩) main_call1_call0_c_30) (TRef.of (T := ⟨S16384x1968, .i32⟩) main_call1_call0_v118) (broadcastInDim S16384x1968 ![] bcast_S_S16384x1968),
    TRef.binary (TRef.of (T := ⟨S16384x1968, .i32⟩) main_call1_call0_v114) (TRef.of (T := ⟨S16384x1968, .i32⟩) main_call1_call0_v118) (TRef.of (T := ⟨S16384x1968, .i32⟩) main_call1_call0_v119) Host.shrui,
    TRef.binary (TRef.of (T := ⟨S16384x1968, .i32⟩) main_call1_call0_v117) (TRef.of (T := ⟨S16384x1968, .i32⟩) main_call1_call0_v119) (TRef.of (T := ⟨S16384x1968, .i32⟩) main_call1_call0_v120) ori,
    TRef.binary (TRef.of (T := ⟨S16384x1968, .i32⟩) main_call1_call0_v115) (TRef.of (T := ⟨S16384x1968, .i32⟩) main_call1_call0_v120) (TRef.of (T := ⟨S16384x1968, .i32⟩) main_call1_call0_v121) xori,
    TRef.binary (TRef.of (T := ⟨S16384x1968, .i32⟩) main_call1_call0_v115) (TRef.of (T := ⟨S16384x1968, .i32⟩) main_call1_call0_v121) (TRef.of (T := ⟨S16384x1968, .i32⟩) main_call1_call0_v122) addi,
    TRef.nullary (TRef.of (T := ⟨S_, .i32⟩) main_call1_call0_c_31) (constantI S_ 32 16#32),
    TRef.unary (TRef.of (T := ⟨S_, .i32⟩) main_call1_call0_c_31) (TRef.of (T := ⟨S16384x1968, .i32⟩) main_call1_call0_v123) (broadcastInDim S16384x1968 ![] bcast_S_S16384x1968),
    TRef.binary (TRef.of (T := ⟨S16384x1968, .i32⟩) main_call1_call0_v121) (TRef.of (T := ⟨S16384x1968, .i32⟩) main_call1_call0_v123) (TRef.of (T := ⟨S16384x1968, .i32⟩) main_call1_call0_v124) Host.shli ]

/-- @main's operations 241 … 270 of 375 (window `main_part0`). -/
abbrev ops_part0_8 : List (HloOp τ sig (Elt F)) :=
  [ TRef.nullary (TRef.of (T := ⟨S_, .i32⟩) main_call1_call0_c_32) (constantI S_ 32 16#32),
    TRef.unary (TRef.of (T := ⟨S_, .i32⟩) main_call1_call0_c_32) (TRef.of (T := ⟨S16384x1968, .i32⟩) main_call1_call0_v125) (broadcastInDim S16384x1968 ![] bcast_S_S16384x1968),
    TRef.binary (TRef.of (T := ⟨S16384x1968, .i32⟩) main_call1_call0_v121) (TRef.of (T := ⟨S16384x1968, .i32⟩) main_call1_call0_v125) (TRef.of (T := ⟨S16384x1968, .i32⟩) main_call1_call0_v126) Host.shrui,
    TRef.binary (TRef.of (T := ⟨S16384x1968, .i32⟩) main_call1_call0_v124) (TRef.of (T := ⟨S16384x1968, .i32⟩) main_call1_call0_v126) (TRef.of (T := ⟨S16384x1968, .i32⟩) main_call1_call0_v127) ori,
    TRef.binary (TRef.of (T := ⟨S16384x1968, .i32⟩) main_call1_call0_v122) (TRef.of (T := ⟨S16384x1968, .i32⟩) main_call1_call0_v127) (TRef.of (T := ⟨S16384x1968, .i32⟩) main_call1_call0_v128) xori,
    TRef.binary (TRef.of (T := ⟨S16384x1968, .i32⟩) main_call1_call0_v122) (TRef.of (T := ⟨S16384x1968, .i32⟩) main_call1_call0_v128) (TRef.of (T := ⟨S16384x1968, .i32⟩) main_call1_call0_v129) addi,
    TRef.nullary (TRef.of (T := ⟨S_, .i32⟩) main_call1_call0_c_33) (constantI S_ 32 24#32),
    TRef.unary (TRef.of (T := ⟨S_, .i32⟩) main_call1_call0_c_33) (TRef.of (T := ⟨S16384x1968, .i32⟩) main_call1_call0_v130) (broadcastInDim S16384x1968 ![] bcast_S_S16384x1968),
    TRef.binary (TRef.of (T := ⟨S16384x1968, .i32⟩) main_call1_call0_v128) (TRef.of (T := ⟨S16384x1968, .i32⟩) main_call1_call0_v130) (TRef.of (T := ⟨S16384x1968, .i32⟩) main_call1_call0_v131) Host.shli,
    TRef.nullary (TRef.of (T := ⟨S_, .i32⟩) main_call1_call0_c_34) (constantI S_ 32 8#32),
    TRef.unary (TRef.of (T := ⟨S_, .i32⟩) main_call1_call0_c_34) (TRef.of (T := ⟨S16384x1968, .i32⟩) main_call1_call0_v132) (broadcastInDim S16384x1968 ![] bcast_S_S16384x1968),
    TRef.binary (TRef.of (T := ⟨S16384x1968, .i32⟩) main_call1_call0_v128) (TRef.of (T := ⟨S16384x1968, .i32⟩) main_call1_call0_v132) (TRef.of (T := ⟨S16384x1968, .i32⟩) main_call1_call0_v133) Host.shrui,
    TRef.binary (TRef.of (T := ⟨S16384x1968, .i32⟩) main_call1_call0_v131) (TRef.of (T := ⟨S16384x1968, .i32⟩) main_call1_call0_v133) (TRef.of (T := ⟨S16384x1968, .i32⟩) main_call1_call0_v134) ori,
    TRef.binary (TRef.of (T := ⟨S16384x1968, .i32⟩) main_call1_call0_v129) (TRef.of (T := ⟨S16384x1968, .i32⟩) main_call1_call0_v134) (TRef.of (T := ⟨S16384x1968, .i32⟩) main_call1_call0_v135) xori,
    TRef.unary (TRef.of (T := ⟨S_, .i32⟩) main_call1_v7) (TRef.of (T := ⟨S16384x1968, .i32⟩) main_call1_call0_v136) (broadcastInDim S16384x1968 ![] bcast_S_S16384x1968),
    TRef.binary (TRef.of (T := ⟨S16384x1968, .i32⟩) main_call1_call0_v129) (TRef.of (T := ⟨S16384x1968, .i32⟩) main_call1_call0_v136) (TRef.of (T := ⟨S16384x1968, .i32⟩) main_call1_call0_v137) addi,
    TRef.unary (TRef.of (T := ⟨S_, .i32⟩) main_call1_call0_v1) (TRef.of (T := ⟨S16384x1968, .i32⟩) main_call1_call0_v138) (broadcastInDim S16384x1968 ![] bcast_S_S16384x1968),
    TRef.binary (TRef.of (T := ⟨S16384x1968, .i32⟩) main_call1_call0_v135) (TRef.of (T := ⟨S16384x1968, .i32⟩) main_call1_call0_v138) (TRef.of (T := ⟨S16384x1968, .i32⟩) main_call1_call0_v139) addi,
    TRef.nullary (TRef.of (T := ⟨S_, .i32⟩) main_call1_call0_c_35) (constantI S_ 32 4#32),
    TRef.unary (TRef.of (T := ⟨S_, .i32⟩) main_call1_call0_c_35) (TRef.of (T := ⟨S16384x1968, .i32⟩) main_call1_call0_v140) (broadcastInDim S16384x1968 ![] bcast_S_S16384x1968),
    TRef.binary (TRef.of (T := ⟨S16384x1968, .i32⟩) main_call1_call0_v139) (TRef.of (T := ⟨S16384x1968, .i32⟩) main_call1_call0_v140) (TRef.of (T := ⟨S16384x1968, .i32⟩) main_call1_call0_v141) addi,
    TRef.binary (TRef.of (T := ⟨S16384x1968, .i32⟩) main_call1_call0_v137) (TRef.of (T := ⟨S16384x1968, .i32⟩) main_call1_call0_v141) (TRef.of (T := ⟨S16384x1968, .i32⟩) main_call1_call0_v142) addi,
    TRef.nullary (TRef.of (T := ⟨S_, .i32⟩) main_call1_call0_c_36) (constantI S_ 32 13#32),
    TRef.unary (TRef.of (T := ⟨S_, .i32⟩) main_call1_call0_c_36) (TRef.of (T := ⟨S16384x1968, .i32⟩) main_call1_call0_v143) (broadcastInDim S16384x1968 ![] bcast_S_S16384x1968),
    TRef.binary (TRef.of (T := ⟨S16384x1968, .i32⟩) main_call1_call0_v141) (TRef.of (T := ⟨S16384x1968, .i32⟩) main_call1_call0_v143) (TRef.of (T := ⟨S16384x1968, .i32⟩) main_call1_call0_v144) Host.shli,
    TRef.nullary (TRef.of (T := ⟨S_, .i32⟩) main_call1_call0_c_37) (constantI S_ 32 19#32),
    TRef.unary (TRef.of (T := ⟨S_, .i32⟩) main_call1_call0_c_37) (TRef.of (T := ⟨S16384x1968, .i32⟩) main_call1_call0_v145) (broadcastInDim S16384x1968 ![] bcast_S_S16384x1968),
    TRef.binary (TRef.of (T := ⟨S16384x1968, .i32⟩) main_call1_call0_v141) (TRef.of (T := ⟨S16384x1968, .i32⟩) main_call1_call0_v145) (TRef.of (T := ⟨S16384x1968, .i32⟩) main_call1_call0_v146) Host.shrui,
    TRef.binary (TRef.of (T := ⟨S16384x1968, .i32⟩) main_call1_call0_v144) (TRef.of (T := ⟨S16384x1968, .i32⟩) main_call1_call0_v146) (TRef.of (T := ⟨S16384x1968, .i32⟩) main_call1_call0_v147) ori,
    TRef.binary (TRef.of (T := ⟨S16384x1968, .i32⟩) main_call1_call0_v142) (TRef.of (T := ⟨S16384x1968, .i32⟩) main_call1_call0_v147) (TRef.of (T := ⟨S16384x1968, .i32⟩) main_call1_call0_v148) xori ]

/-- @main's operations 271 … 300 of 375 (window `main_part0`). -/
abbrev ops_part0_9 : List (HloOp τ sig (Elt F)) :=
  [ TRef.binary (TRef.of (T := ⟨S16384x1968, .i32⟩) main_call1_call0_v142) (TRef.of (T := ⟨S16384x1968, .i32⟩) main_call1_call0_v148) (TRef.of (T := ⟨S16384x1968, .i32⟩) main_call1_call0_v149) addi,
    TRef.nullary (TRef.of (T := ⟨S_, .i32⟩) main_call1_call0_c_38) (constantI S_ 32 15#32),
    TRef.unary (TRef.of (T := ⟨S_, .i32⟩) main_call1_call0_c_38) (TRef.of (T := ⟨S16384x1968, .i32⟩) main_call1_call0_v150) (broadcastInDim S16384x1968 ![] bcast_S_S16384x1968),
    TRef.binary (TRef.of (T := ⟨S16384x1968, .i32⟩) main_call1_call0_v148) (TRef.of (T := ⟨S16384x1968, .i32⟩) main_call1_call0_v150) (TRef.of (T := ⟨S16384x1968, .i32⟩) main_call1_call0_v151) Host.shli,
    TRef.nullary (TRef.of (T := ⟨S_, .i32⟩) main_call1_call0_c_39) (constantI S_ 32 17#32),
    TRef.unary (TRef.of (T := ⟨S_, .i32⟩) main_call1_call0_c_39) (TRef.of (T := ⟨S16384x1968, .i32⟩) main_call1_call0_v152) (broadcastInDim S16384x1968 ![] bcast_S_S16384x1968),
    TRef.binary (TRef.of (T := ⟨S16384x1968, .i32⟩) main_call1_call0_v148) (TRef.of (T := ⟨S16384x1968, .i32⟩) main_call1_call0_v152) (TRef.of (T := ⟨S16384x1968, .i32⟩) main_call1_call0_v153) Host.shrui,
    TRef.binary (TRef.of (T := ⟨S16384x1968, .i32⟩) main_call1_call0_v151) (TRef.of (T := ⟨S16384x1968, .i32⟩) main_call1_call0_v153) (TRef.of (T := ⟨S16384x1968, .i32⟩) main_call1_call0_v154) ori,
    TRef.binary (TRef.of (T := ⟨S16384x1968, .i32⟩) main_call1_call0_v149) (TRef.of (T := ⟨S16384x1968, .i32⟩) main_call1_call0_v154) (TRef.of (T := ⟨S16384x1968, .i32⟩) main_call1_call0_v155) xori,
    TRef.binary (TRef.of (T := ⟨S16384x1968, .i32⟩) main_call1_call0_v149) (TRef.of (T := ⟨S16384x1968, .i32⟩) main_call1_call0_v155) (TRef.of (T := ⟨S16384x1968, .i32⟩) main_call1_call0_v156) addi,
    TRef.nullary (TRef.of (T := ⟨S_, .i32⟩) main_call1_call0_c_40) (constantI S_ 32 26#32),
    TRef.unary (TRef.of (T := ⟨S_, .i32⟩) main_call1_call0_c_40) (TRef.of (T := ⟨S16384x1968, .i32⟩) main_call1_call0_v157) (broadcastInDim S16384x1968 ![] bcast_S_S16384x1968),
    TRef.binary (TRef.of (T := ⟨S16384x1968, .i32⟩) main_call1_call0_v155) (TRef.of (T := ⟨S16384x1968, .i32⟩) main_call1_call0_v157) (TRef.of (T := ⟨S16384x1968, .i32⟩) main_call1_call0_v158) Host.shli,
    TRef.nullary (TRef.of (T := ⟨S_, .i32⟩) main_call1_call0_c_41) (constantI S_ 32 6#32),
    TRef.unary (TRef.of (T := ⟨S_, .i32⟩) main_call1_call0_c_41) (TRef.of (T := ⟨S16384x1968, .i32⟩) main_call1_call0_v159) (broadcastInDim S16384x1968 ![] bcast_S_S16384x1968),
    TRef.binary (TRef.of (T := ⟨S16384x1968, .i32⟩) main_call1_call0_v155) (TRef.of (T := ⟨S16384x1968, .i32⟩) main_call1_call0_v159) (TRef.of (T := ⟨S16384x1968, .i32⟩) main_call1_call0_v160) Host.shrui,
    TRef.binary (TRef.of (T := ⟨S16384x1968, .i32⟩) main_call1_call0_v158) (TRef.of (T := ⟨S16384x1968, .i32⟩) main_call1_call0_v160) (TRef.of (T := ⟨S16384x1968, .i32⟩) main_call1_call0_v161) ori,
    TRef.binary (TRef.of (T := ⟨S16384x1968, .i32⟩) main_call1_call0_v156) (TRef.of (T := ⟨S16384x1968, .i32⟩) main_call1_call0_v161) (TRef.of (T := ⟨S16384x1968, .i32⟩) main_call1_call0_v162) xori,
    TRef.binary (TRef.of (T := ⟨S16384x1968, .i32⟩) main_call1_call0_v156) (TRef.of (T := ⟨S16384x1968, .i32⟩) main_call1_call0_v162) (TRef.of (T := ⟨S16384x1968, .i32⟩) main_call1_call0_v163) addi,
    TRef.nullary (TRef.of (T := ⟨S_, .i32⟩) main_call1_call0_c_42) (constantI S_ 32 6#32),
    TRef.unary (TRef.of (T := ⟨S_, .i32⟩) main_call1_call0_c_42) (TRef.of (T := ⟨S16384x1968, .i32⟩) main_call1_call0_v164) (broadcastInDim S16384x1968 ![] bcast_S_S16384x1968),
    TRef.binary (TRef.of (T := ⟨S16384x1968, .i32⟩) main_call1_call0_v162) (TRef.of (T := ⟨S16384x1968, .i32⟩) main_call1_call0_v164) (TRef.of (T := ⟨S16384x1968, .i32⟩) main_call1_call0_v165) Host.shli,
    TRef.nullary (TRef.of (T := ⟨S_, .i32⟩) main_call1_call0_c_43) (constantI S_ 32 26#32),
    TRef.unary (TRef.of (T := ⟨S_, .i32⟩) main_call1_call0_c_43) (TRef.of (T := ⟨S16384x1968, .i32⟩) main_call1_call0_v166) (broadcastInDim S16384x1968 ![] bcast_S_S16384x1968),
    TRef.binary (TRef.of (T := ⟨S16384x1968, .i32⟩) main_call1_call0_v162) (TRef.of (T := ⟨S16384x1968, .i32⟩) main_call1_call0_v166) (TRef.of (T := ⟨S16384x1968, .i32⟩) main_call1_call0_v167) Host.shrui,
    TRef.binary (TRef.of (T := ⟨S16384x1968, .i32⟩) main_call1_call0_v165) (TRef.of (T := ⟨S16384x1968, .i32⟩) main_call1_call0_v167) (TRef.of (T := ⟨S16384x1968, .i32⟩) main_call1_call0_v168) ori,
    TRef.binary (TRef.of (T := ⟨S16384x1968, .i32⟩) main_call1_call0_v163) (TRef.of (T := ⟨S16384x1968, .i32⟩) main_call1_call0_v168) (TRef.of (T := ⟨S16384x1968, .i32⟩) main_call1_call0_v169) xori,
    TRef.unary (TRef.of (T := ⟨S_, .i32⟩) main_call1_call0_v1) (TRef.of (T := ⟨S16384x1968, .i32⟩) main_call1_call0_v170) (broadcastInDim S16384x1968 ![] bcast_S_S16384x1968),
    TRef.binary (TRef.of (T := ⟨S16384x1968, .i32⟩) main_call1_call0_v163) (TRef.of (T := ⟨S16384x1968, .i32⟩) main_call1_call0_v170) (TRef.of (T := ⟨S16384x1968, .i32⟩) main_call1_v19_0) addi,
    TRef.unary (TRef.of (T := ⟨S_, .i32⟩) main_call1_v5) (TRef.of (T := ⟨S16384x1968, .i32⟩) main_call1_call0_v172) (broadcastInDim S16384x1968 ![] bcast_S_S16384x1968) ]

/-- @main's operations 301 … 324 of 375 (window `main_part0`). -/
abbrev ops_part0_10 : List (HloOp τ sig (Elt F)) :=
  [ TRef.binary (TRef.of (T := ⟨S16384x1968, .i32⟩) main_call1_call0_v169) (TRef.of (T := ⟨S16384x1968, .i32⟩) main_call1_call0_v172) (TRef.of (T := ⟨S16384x1968, .i32⟩) main_call1_call0_v173) addi,
    TRef.nullary (TRef.of (T := ⟨S_, .i32⟩) main_call1_call0_c_44) (constantI S_ 32 5#32),
    TRef.unary (TRef.of (T := ⟨S_, .i32⟩) main_call1_call0_c_44) (TRef.of (T := ⟨S16384x1968, .i32⟩) main_call1_call0_v174) (broadcastInDim S16384x1968 ![] bcast_S_S16384x1968),
    TRef.binary (TRef.of (T := ⟨S16384x1968, .i32⟩) main_call1_call0_v173) (TRef.of (T := ⟨S16384x1968, .i32⟩) main_call1_call0_v174) (TRef.of (T := ⟨S16384x1968, .i32⟩) main_call1_v19_1) addi,
    TRef.binary (TRef.of (T := ⟨S16384x1968, .i32⟩) main_call1_v19_0) (TRef.of (T := ⟨S16384x1968, .i32⟩) main_call1_v19_1) (TRef.of (T := ⟨S16384x1968, .i32⟩) main_call1_v20) xori,
    TRef.nullary (TRef.of (T := ⟨S_, .i32⟩) main_call1_c_2) (constantI S_ 32 9#32),
    TRef.unary (TRef.of (T := ⟨S_, .i32⟩) main_call1_c_2) (TRef.of (T := ⟨S16384x1968, .i32⟩) main_call1_v21) (broadcastInDim S16384x1968 ![] bcast_S_S16384x1968),
    TRef.binary (TRef.of (T := ⟨S16384x1968, .i32⟩) main_call1_v20) (TRef.of (T := ⟨S16384x1968, .i32⟩) main_call1_v21) (TRef.of (T := ⟨S16384x1968, .i32⟩) main_call1_v22) Host.shrui,
    TRef.nullary (TRef.of (T := ⟨S_, .i32⟩) main_call1_c_3) (constantI S_ 32 1065353216#32),
    TRef.unary (TRef.of (T := ⟨S_, .i32⟩) main_call1_c_3) (TRef.of (T := ⟨S16384x1968, .i32⟩) main_call1_v23) (broadcastInDim S16384x1968 ![] bcast_S_S16384x1968),
    TRef.binary (TRef.of (T := ⟨S16384x1968, .i32⟩) main_call1_v22) (TRef.of (T := ⟨S16384x1968, .i32⟩) main_call1_v23) (TRef.of (T := ⟨S16384x1968, .i32⟩) main_call1_v24) ori,
    TRef.unary (TRef.of (T := ⟨S16384x1968, .i32⟩) main_call1_v24) (TRef.of (T := ⟨S16384x1968, .f32⟩) main_call1_v25) (bitcastToFloat (F := F) .f32),
    TRef.nullary (TRef.of (T := ⟨S_, .f32⟩) main_call1_cst) (constant S_ .f32 0x3F800000#32),
    TRef.unary (TRef.of (T := ⟨S_, .f32⟩) main_call1_cst) (TRef.of (T := ⟨S16384x1968, .f32⟩) main_call1_v26) (broadcastInDim S16384x1968 ![] bcast_S_S16384x1968),
    TRef.binary (TRef.of (T := ⟨S16384x1968, .f32⟩) main_call1_v25) (TRef.of (T := ⟨S16384x1968, .f32⟩) main_call1_v26) (TRef.of (T := ⟨S16384x1968, .f32⟩) main_call1_v27) subf,
    TRef.binary (TRef.of (T := ⟨S1x1, .f32⟩) main_call1_v3) (TRef.of (T := ⟨S1x1, .f32⟩) main_call1_v2) (TRef.of (T := ⟨S1x1, .f32⟩) main_call1_v28) subf,
    TRef.unary (TRef.of (T := ⟨S1x1, .f32⟩) main_call1_v28) (TRef.of (T := ⟨S16384x1968, .f32⟩) main_call1_v29) (broadcastInDim S16384x1968 ![0, 1] bcast_S1x1_S16384x1968_0_1),
    TRef.binary (TRef.of (T := ⟨S16384x1968, .f32⟩) main_call1_v27) (TRef.of (T := ⟨S16384x1968, .f32⟩) main_call1_v29) (TRef.of (T := ⟨S16384x1968, .f32⟩) main_call1_v30) mulf,
    TRef.unary (TRef.of (T := ⟨S1x1, .f32⟩) main_call1_v2) (TRef.of (T := ⟨S16384x1968, .f32⟩) main_call1_v31) (broadcastInDim S16384x1968 ![0, 1] bcast_S1x1_S16384x1968_0_1),
    TRef.binary (TRef.of (T := ⟨S16384x1968, .f32⟩) main_call1_v30) (TRef.of (T := ⟨S16384x1968, .f32⟩) main_call1_v31) (TRef.of (T := ⟨S16384x1968, .f32⟩) main_call1_v32) addf,
    TRef.unary (TRef.of (T := ⟨S1x1, .f32⟩) main_call1_v2) (TRef.of (T := ⟨S16384x1968, .f32⟩) main_call1_v33) (broadcastInDim S16384x1968 ![0, 1] bcast_S1x1_S16384x1968_0_1),
    TRef.binary (TRef.of (T := ⟨S16384x1968, .f32⟩) main_call1_v33) (TRef.of (T := ⟨S16384x1968, .f32⟩) main_call1_v32) (TRef.of (T := ⟨S16384x1968, .f32⟩) main_v41) maximumf,
    nullary main_cst_14 (constant S_ .f32 0x3F800000#32),
    unary main_cst_14 main_v42 (broadcastInDim S16384x1968 ![] bcast_S_S16384x1968 : (⟨S_, .f32⟩ : BufTy).Contents (Elt F) → (⟨S16384x1968, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10))))))))))

/-- @main's operations 325 … 375 of 375 (window `main_part1`). -/
abbrev ops_part1 : List (HloOp τ sig (Elt F)) :=
  [ binary main_v41 main_v42 main_v43 (mulf : (⟨S16384x1968, .f32⟩ : BufTy).Contents (Elt F) → (⟨S16384x1968, .f32⟩ : BufTy).Contents (Elt F) → (⟨S16384x1968, .f32⟩ : BufTy).Contents (Elt F)),
    nullary main_cst_15 (constant S_ .f32 0x2EDBE6FF#32),
    unary main_cst_15 main_v44 (broadcastInDim S16384x1968 ![] bcast_S_S16384x1968 : (⟨S_, .f32⟩ : BufTy).Contents (Elt F) → (⟨S16384x1968, .f32⟩ : BufTy).Contents (Elt F)),
    binary main_v43 main_v44 main_v45 (addf : (⟨S16384x1968, .f32⟩ : BufTy).Contents (Elt F) → (⟨S16384x1968, .f32⟩ : BufTy).Contents (Elt F) → (⟨S16384x1968, .f32⟩ : BufTy).Contents (Elt F)),
    nullary main_cst_16 (constant S_ .f32 0x2EDBE6FF#32),
    unary main_cst_16 main_v46 (broadcastInDim S16384x1968 ![] bcast_S_S16384x1968 : (⟨S_, .f32⟩ : BufTy).Contents (Elt F) → (⟨S16384x1968, .f32⟩ : BufTy).Contents (Elt F)),
    binary main_v46 main_v45 main_v47 (maximumf : (⟨S16384x1968, .f32⟩ : BufTy).Contents (Elt F) → (⟨S16384x1968, .f32⟩ : BufTy).Contents (Elt F) → (⟨S16384x1968, .f32⟩ : BufTy).Contents (Elt F)),
    unary main_v47 main_v48 (Host.log : (⟨S16384x1968, .f32⟩ : BufTy).Contents (Elt F) → (⟨S16384x1968, .f32⟩ : BufTy).Contents (Elt F)),
    unary main_v48 main_v49 (Host.negf : (⟨S16384x1968, .f32⟩ : BufTy).Contents (Elt F) → (⟨S16384x1968, .f32⟩ : BufTy).Contents (Elt F)),
    unary main_v49 main_v50 (Host.log : (⟨S16384x1968, .f32⟩ : BufTy).Contents (Elt F) → (⟨S16384x1968, .f32⟩ : BufTy).Contents (Elt F)),
    unary main_v50 main_v51 (Host.negf : (⟨S16384x1968, .f32⟩ : BufTy).Contents (Elt F) → (⟨S16384x1968, .f32⟩ : BufTy).Contents (Elt F)),
    nullary main_cst_17 (constant S_ .f32 0x0DA24260#32),
    unary main_cst_17 main_v52 (broadcastInDim S16384x1968 ![] bcast_S_S16384x1968 : (⟨S_, .f32⟩ : BufTy).Contents (Elt F) → (⟨S16384x1968, .f32⟩ : BufTy).Contents (Elt F)),
    binary main_v33 main_v52 main_v53 (addf : (⟨S16384x1968, .f32⟩ : BufTy).Contents (Elt F) → (⟨S16384x1968, .f32⟩ : BufTy).Contents (Elt F) → (⟨S16384x1968, .f32⟩ : BufTy).Contents (Elt F)),
    unary main_v53 main_v54 (Host.log : (⟨S16384x1968, .f32⟩ : BufTy).Contents (Elt F) → (⟨S16384x1968, .f32⟩ : BufTy).Contents (Elt F)),
    nullary main_cst_18 (constant S_ .f32 0x00000000#32),
    unary main_cst_18 main_v55 (broadcastInDim S16384x1968 ![] bcast_S_S16384x1968 : (⟨S_, .f32⟩ : BufTy).Contents (Elt F) → (⟨S16384x1968, .f32⟩ : BufTy).Contents (Elt F)),
    binary main_v18 main_v55 main_v56 (cmpf .oeq : (⟨S16384x1968, .f32⟩ : BufTy).Contents (Elt F) → (⟨S16384x1968, .f32⟩ : BufTy).Contents (Elt F) → (⟨S16384x1968, .i1⟩ : BufTy).Contents (Elt F)),
    binary main_v54 main_v51 main_v57 (addf : (⟨S16384x1968, .f32⟩ : BufTy).Contents (Elt F) → (⟨S16384x1968, .f32⟩ : BufTy).Contents (Elt F) → (⟨S16384x1968, .f32⟩ : BufTy).Contents (Elt F)),
    nullary main_cst_19 (constant S_ .f32 0xFF800000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S16384x1968, .f32⟩) main_call2_v1) (broadcastInDim S16384x1968 ![] bcast_S_S16384x1968),
    TRef.ternary (TRef.of (T := ⟨S16384x1968, .i1⟩) main_v56) (TRef.of (T := ⟨S16384x1968, .f32⟩) main_call2_v1) (TRef.of (T := ⟨S16384x1968, .f32⟩) main_v57) (TRef.of (T := ⟨S16384x1968, .f32⟩) main_v58) select,
    TRef.nullary (TRef.of (T := ⟨S16384x1968, .i32⟩) main_call3_v0) (iotaInDim S16384x1968 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S16384x1968, .f32⟩) main_v58) (TRef.of (T := ⟨S16384x1968, .i32⟩) main_call3_v0) (TRef.of (T := ⟨S_, .f32⟩) main_call3_cst) (TRef.of (T := ⟨S_, .i32⟩) main_call3_c) (TRef.of (T := ⟨S16384, .f32⟩) main_call3_v1_0) (fun x y u v => (fun j => (Host.argReduce reducer_argmax_f32_i32 x y u v reducesTo_S16384x1968_S16384_d1 h_S_ j).1)),
    TRef.quaternary (TRef.of (T := ⟨S16384x1968, .f32⟩) main_v58) (TRef.of (T := ⟨S16384x1968, .i32⟩) main_call3_v0) (TRef.of (T := ⟨S_, .f32⟩) main_call3_cst) (TRef.of (T := ⟨S_, .i32⟩) main_call3_c) (TRef.of (T := ⟨S16384, .i32⟩) main_v59) (fun x y u v => (fun j => (Host.argReduce reducer_argmax_f32_i32 x y u v reducesTo_S16384x1968_S16384_d1 h_S_ j).2)),
    unary main_v59 main_v60 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16384x1, .i32⟩) main_call4_v0) (broadcastInDim S16384x1 ![] bcast_S_S16384x1),
    TRef.binary (TRef.of (T := ⟨S16384x1, .i32⟩) main_v60) (TRef.of (T := ⟨S16384x1, .i32⟩) main_call4_v0) (TRef.of (T := ⟨S16384x1, .i1⟩) main_call4_v1) (cmpi .slt),
    TRef.nullary (TRef.of (T := ⟨S_, .i32⟩) main_call4_c_0) (constantI S_ 32 1968#32),
    TRef.unary (TRef.of (T := ⟨S_, .i32⟩) main_call4_c_0) (TRef.of (T := ⟨S16384x1, .i32⟩) main_call4_v2) (broadcastInDim S16384x1 ![] bcast_S_S16384x1),
    TRef.binary (TRef.of (T := ⟨S16384x1, .i32⟩) main_v60) (TRef.of (T := ⟨S16384x1, .i32⟩) main_call4_v2) (TRef.of (T := ⟨S16384x1, .i32⟩) main_call4_v3) addi,
    TRef.ternary (TRef.of (T := ⟨S16384x1, .i1⟩) main_call4_v1) (TRef.of (T := ⟨S16384x1, .i32⟩) main_call4_v3) (TRef.of (T := ⟨S16384x1, .i32⟩) main_v60) (TRef.of (T := ⟨S16384x1, .i32⟩) main_call4_v4) select,
    TRef.reshape (TRef.of (T := ⟨S16384x1, .i32⟩) main_call4_v4) (TRef.of (T := ⟨S16384x1x1, .i32⟩) main_call4_v5) (rfl : (.i32 : EltTy) = .i32) shapeCasts_S16384x1_S16384x1x1,
    TRef.nullary (TRef.of (T := ⟨S1, .i32⟩) main_call4_c_1) (constantI S1 32 1967#32),
    TRef.nullary (TRef.of (T := ⟨S_, .i32⟩) main_call4_c_2) (constantI S_ 32 0#32),
    TRef.unary (TRef.of (T := ⟨S_, .i32⟩) main_call4_c_2) (TRef.of (T := ⟨S16384x1x1, .i32⟩) main_call4_v6) (broadcastInDim S16384x1x1 ![] bcast_S_S16384x1x1),
    TRef.binary (TRef.of (T := ⟨S16384x1x1, .i32⟩) main_call4_v5) (TRef.of (T := ⟨S16384x1x1, .i32⟩) main_call4_v6) (TRef.of (T := ⟨S16384x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S16384x1x1, .i32⟩) main_call4_v9) (broadcastInDim S16384x1x1 ![0, 1, 2] bcast_S1x1x1_S16384x1x1_0_1_2),
    TRef.binary (TRef.of (T := ⟨S16384x1x1, .i32⟩) main_call4_v5) (TRef.of (T := ⟨S16384x1x1, .i32⟩) main_call4_v9) (TRef.of (T := ⟨S16384x1x1, .i1⟩) main_call4_v10) (cmpi .sle),
    TRef.binary (TRef.of (T := ⟨S16384x1x1, .i1⟩) main_call4_v7) (TRef.of (T := ⟨S16384x1x1, .i1⟩) main_call4_v10) (TRef.of (T := ⟨S16384x1x1, .i1⟩) main_call4_v11) andi,
    TRef.nullary (TRef.of (T := ⟨S_, .i1⟩) main_call4_c_3) (constantI S_ 1 1#1),
    TRef.binary (TRef.of (T := ⟨S16384x1x1, .i1⟩) main_call4_v11) (TRef.of (T := ⟨S_, .i1⟩) main_call4_c_3) (TRef.of (T := ⟨S16384x1, .i1⟩) main_call4_v12) (fun x v => Host.reduce IntOp.andi x v reducesTo_S16384x1x1_S16384x1_d2 h_S_),
    TRef.binary (TRef.of (T := ⟨S16384x1968, .f32⟩) main_v54) (TRef.of (T := ⟨S16384x1x1, .i32⟩) main_call4_v5) (TRef.of (T := ⟨S16384x1, .f32⟩) main_call4_v13) (fun x i => Host.gather gather_S16384x1968_S16384x1x1_S16384x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S16384x1, .f32⟩) main_call4_v14) (broadcastInDim S16384x1 ![] bcast_S_S16384x1),
    TRef.ternary (TRef.of (T := ⟨S16384x1, .i1⟩) main_call4_v12) (TRef.of (T := ⟨S16384x1, .f32⟩) main_call4_v13) (TRef.of (T := ⟨S16384x1, .f32⟩) main_call4_v14) (TRef.of (T := ⟨S16384x1, .f32⟩) main_v61) select ]

/-- @main's 375 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., binary_bufs_sub .., unary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., nullary_bufs_sub .., unary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., unary_bufs_sub .., unary_bufs_sub .., unary_bufs_sub .., nullary_bufs_sub .., unary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part1_fresh op h]

end Cert.ReferenceIdeal.Value

end
-- ==== Proof.RefVals.lean ====
/- The contents of the reference's buffers, as terms of the arguments: a name for every value that is read more than
   once, and what each of the first windows of operations leaves in the buffers that later ones read. -/
module

public import proofs.«01_k».proof.Proof.RefOps

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 3 times). -/
def res_main_v1 (V0 : Valuation τ sig (Elt F)) : (Proc.devRef .tc main_v1 : DevRef τ sig).ty.Contents (Elt F) :=
  broadcastInDim S16384x1 ![0] bcast_S16384_S16384x1_0 (iotaInDim S16384 32 0)

set_option maxRecDepth 8192 in
/-- `main_v18`'s composed term of the arguments (named: it is used 2 times). -/
def res_main_v18 (V0 : Valuation τ sig (Elt F)) : (Proc.devRef .tc main_v18 : DevRef τ sig).ty.Contents (Elt F) :=
  Host.scatter scatter_S16384x1968_S16384x64x2_S16384x64_n_01_01_2 (fun _ b => b) (broadcastInDim S16384x1968 ![] bcast_S_S16384x1968 (constant S_ .f32 0x00000000#32)) (concatenate S16384x64x2 2 [⟨S16384x64x1, (broadcastInDim S16384x64x1 ![0, 1] bcast_S16384x64_S16384x64x1_0_1 (broadcastInDim S16384x64 ![0, 1] bcast_S16384x1_S16384x64_0_1 (select (cmpi .slt (res_main_v1 V0) (broadcastInDim S16384x1 ![] bcast_S_S16384x1 (constantI S_ 32 0#32))) (addi (res_main_v1 V0) (broadcastInDim S16384x1 ![] bcast_S_S16384x1 (constantI S_ 32 16384#32))) (res_main_v1 V0))))⟩, ⟨S16384x64x1, (broadcastInDim S16384x64x1 ![0, 1] bcast_S16384x64_S16384x64x1_0_1 (select (cmpi .slt (V0 (Proc.devRef .tc main_arg0)) (broadcastInDim S16384x64 ![] bcast_S_S16384x64 (constantI S_ 32 0#32))) (addi (V0 (Proc.devRef .tc main_arg0)) (broadcastInDim S16384x64 ![] bcast_S_S16384x64 (constantI S_ 32 1968#32))) (V0 (Proc.devRef .tc main_arg0))))⟩] concatenates_S16384x64x1_S16384x64x1_S16384x64x2_d2) (broadcastInDim S16384x64 ![] bcast_S_S16384x64 (constant S_ .f32 0x3F800000#32))

set_option maxRecDepth 8192 in
/-- `main_v22`'s composed term of the arguments (named: it is used 2 times). -/
def res_main_v22 (V0 : Valuation τ sig (Elt F)) : (Proc.devRef .tc main_v22 : DevRef τ sig).ty.Contents (Elt F) :=
  select (cmpf .oeq (res_main_v18 V0) (broadcastInDim S16384x1968 ![] bcast_S_S16384x1968 (constant S_ .f32 0x00000000#32))) (broadcastInDim S16384x1968 ![] bcast_S_S16384x1968 (id (constant S_ .f32 0xFF800000#32))) (broadcastInDim S16384x1968 ![0, 1] bcast_S1x1968_S16384x1968_0_1 (broadcastInDim S1x1968 ![1] bcast_S1968_S1x1968_1 (V0 (Proc.devRef .tc main_arg1))))

set_option maxRecDepth 8192 in
/-- `main_v29`'s composed term of the arguments (named: it is used 2 times). -/
def res_main_v29 (V0 : Valuation τ sig (Elt F)) : (Proc.devRef .tc main_v29 : DevRef τ sig).ty.Contents (Elt F) :=
  Host.exp (subf (res_main_v22 V0) (broadcastInDim S16384x1968 ![0, 1] bcast_S16384x1_S16384x1968_0_1 (broadcastInDim S16384x1 ![0] bcast_S16384_S16384x1_0 (maximumf (broadcastInDim S16384 ![] bcast_S_S16384 (constant S_ .f32 0xFF800000#32)) (Host.reduce FloatOps.maximumf (res_main_v22 V0) (constant S_ .f32 0xFF800000#32) reducesTo_S16384x1968_S16384_d1 h_S_)))))

set_option maxRecDepth 8192 in
/-- `main_c_9`'s composed term of the arguments (named: it is used 2 times). -/
def res_main_c_9 (V0 : Valuation τ sig (Elt F)) : (Proc.devRef .tc main_c_9 : DevRef τ sig).ty.Contents (Elt F) :=
  constantI S_ 32 1#32

set_option maxRecDepth 8192 in
/-- `main_v40`'s composed term of the arguments (named: it is used 2 times). -/
def res_main_v40 (V0 : Valuation τ sig (Elt F)) : (Proc.devRef .tc main_v40 : DevRef τ sig).ty.Contents (Elt F) :=
  concatenate S2 0 [⟨S1, (broadcastInDim S1 ![] bcast_S_S1 (id (Host.shrui (res_main_c_9 V0) (constantI S_ 32 32#32))))⟩, ⟨S1, (broadcastInDim S1 ![] bcast_S_S1 (id (andi (res_main_c_9 V0) (constantI S_ 32 4294967295#32))))⟩] concatenates_S1_S1_S2_d0

set_option maxRecDepth 8192 in
/-- `main_call1_v2`'s composed term of the arguments (named: it is used 3 times). -/
def res_main_call1_v2 (V0 : Valuation τ sig (Elt F)) : (Proc.devRef .tc main_call1_v2 : DevRef τ sig).ty.Contents (Elt F) :=
  broadcastInDim S1x1 ![] bcast_S_S1x1 (id (constant S_ .f32 0x00000000#32))

set_option maxRecDepth 8192 in
/-- `main_call1_v5`'s composed term of the arguments (named: it is used 5 times). -/
def res_main_call1_v5 (V0 : Valuation τ sig (Elt F)) : (Proc.devRef .tc main_call1_v5 : DevRef τ sig).ty.Contents (Elt F) :=
  shapeCast _ (extractStridedSlice S1 ![0] (res_main_v40 V0) slices_S2_S1_0) shapeCasts_S1_S_

set_option maxRecDepth 8192 in
/-- `main_call1_v7`'s composed term of the arguments (named: it is used 5 times). -/
def res_main_call1_v7 (V0 : Valuation τ sig (Elt F)) : (Proc.devRef .tc main_call1_v7 : DevRef τ sig).ty.Contents (Elt F) :=
  shapeCast _ (extractStridedSlice S1 ![1] (res_main_v40 V0) slices_S2_S1_1) shapeCasts_S1_S_

set_option maxRecDepth 8192 in
/-- `main_call1_v14`'s composed term of the arguments (named: it is used 2 times). -/
def res_main_call1_v14 (V0 : Valuation τ sig (Elt F)) : (Proc.devRef .tc main_call1_v14 : DevRef τ sig).ty.Contents (Elt F) :=
  addi (muli (broadcastInDim S16384x1968 ![] bcast_S_S16384x1968 (constantI S_ 64 1968#64)) (iotaInDim S16384x1968 64 0)) (muli (broadcastInDim S16384x1968 ![] bcast_S_S16384x1968 (constantI S_ 64 1#64)) (iotaInDim S16384x1968 64 1))

set_option maxRecDepth 8192 in
/-- `main_call1_call0_v1`'s composed term of the arguments (named: it is used 4 times). -/
def res_main_call1_call0_v1 (V0 : Valuation τ sig (Elt F)) : (Proc.devRef .tc main_call1_call0_v1 : DevRef τ sig).ty.Contents (Elt F) :=
  xori (xori (res_main_call1_v5 V0) (res_main_call1_v7 V0)) (constantI S_ 32 466688986#32)

set_option maxRecDepth 8192 in
/-- `main_call1_call0_v5`'s composed term of the arguments (named: it is used 3 times). -/
def res_main_call1_call0_v5 (V0 : Valuation τ sig (Elt F)) : (Proc.devRef .tc main_call1_call0_v5 : DevRef τ sig).ty.Contents (Elt F) :=
  addi (trunci 32 (res_main_call1_v14 V0) natLt_32_64) (broadcastInDim S16384x1968 ![] bcast_S_S16384x1968 (res_main_call1_v7 V0))

set_option maxRecDepth 8192 in
/-- `main_call1_call0_v6`'s composed term of the arguments (named: it is used 2 times). -/
def res_main_call1_call0_v6 (V0 : Valuation τ sig (Elt F)) : (Proc.devRef .tc main_call1_call0_v6 : DevRef τ sig).ty.Contents (Elt F) :=
  addi (addi (trunci 32 (Host.shrui (res_main_call1_v14 V0) (broadcastInDim S16384x1968 ![] bcast_S_S16384x1968 (constantI S_ 64 32#64))) natLt_32_64) (broadcastInDim S16384x1968 ![] bcast_S_S16384x1968 (res_main_call1_v5 V0))) (res_main_call1_call0_v5 V0)

set_option maxRecDepth 8192 in
/-- `main_call1_call0_v12`'s composed term of the arguments (named: it is used 3 times). -/
def res_main_call1_call0_v12 (V0 : Valuation τ sig (Elt F)) : (Proc.devRef .tc main_call1_call0_v12 : DevRef τ sig).ty.Contents (Elt F) :=
  xori (res_main_call1_call0_v6 V0) (ori (Host.shli (res_main_call1_call0_v5 V0) (broadcastInDim S16384x1968 ![] bcast_S_S16384x1968 (constantI S_ 32 13#32))) (Host.shrui (res_main_call1_call0_v5 V0) (broadcastInDim S16384x1968 ![] bcast_S_S16384x1968 (constantI S_ 32 19#32))))

set_option maxRecDepth 8192 in
/-- `main_call1_call0_v13`'s composed term of the arguments (named: it is used 2 times). -/
def res_main_call1_call0_v13 (V0 : Valuation τ sig (Elt F)) : (Proc.devRef .tc main_call1_call0_v13 : DevRef τ sig).ty.Contents (Elt F) :=
  addi (res_main_call1_call0_v6 V0) (res_main_call1_call0_v12 V0)

set_option maxRecDepth 8192 in
/-- `main_call1_call0_v19`'s composed term of the arguments (named: it is used 3 times). -/
def res_main_call1_call0_v19 (V0 : Valuation τ sig (Elt F)) : (Proc.devRef .tc main_call1_call0_v19 : DevRef τ sig).ty.Contents (Elt F) :=
  xori (res_main_call1_call0_v13 V0) (ori (Host.shli (res_main_call1_call0_v12 V0) (broadcastInDim S16384x1968 ![] bcast_S_S16384x1968 (constantI S_ 32 15#32))) (Host.shrui (res_main_call1_call0_v12 V0) (broadcastInDim S16384x1968 ![] bcast_S_S16384x1968 (constantI S_ 32 17#32))))

set_option maxRecDepth 8192 in
/-- `main_call1_call0_v20`'s composed term of the arguments (named: it is used 2 times). -/
def res_main_call1_call0_v20 (V0 : Valuation τ sig (Elt F)) : (Proc.devRef .tc main_call1_call0_v20 : DevRef τ sig).ty.Contents (Elt F) :=
  addi (res_main_call1_call0_v13 V0) (res_main_call1_call0_v19 V0)

set_option maxRecDepth 8192 in
/-- `main_call1_call0_v26`'s composed term of the arguments (named: it is used 3 times). -/
def res_main_call1_call0_v26 (V0 : Valuation τ sig (Elt F)) : (Proc.devRef .tc main_call1_call0_v26 : DevRef τ sig).ty.Contents (Elt F) :=
  xori (res_main_call1_call0_v20 V0) (ori (Host.shli (res_main_call1_call0_v19 V0) (broadcastInDim S16384x1968 ![] bcast_S_S16384x1968 (constantI S_ 32 26#32))) (Host.shrui (res_main_call1_call0_v19 V0) (broadcastInDim S16384x1968 ![] bcast_S_S16384x1968 (constantI S_ 32 6#32))))

set_option maxRecDepth 8192 in
/-- `main_call1_call0_v27`'s composed term of the arguments (named: it is used 2 times). -/
def res_main_call1_call0_v27 (V0 : Valuation τ sig (Elt F)) : (Proc.devRef .tc main_call1_call0_v27 : DevRef τ sig).ty.Contents (Elt F) :=
  addi (res_main_call1_call0_v20 V0) (res_main_call1_call0_v26 V0)

set_option maxRecDepth 8192 in
/-- `main_call1_call0_v39`'s composed term of the arguments (named: it is used 3 times). -/
def res_main_call1_call0_v39 (V0 : Valuation τ sig (Elt F)) : (Proc.devRef .tc main_call1_call0_v39 : DevRef τ sig).ty.Contents (Elt F) :=
  addi (addi (xori (res_main_call1_call0_v27 V0) (ori (Host.shli (res_main_call1_call0_v26 V0) (broadcastInDim S16384x1968 ![] bcast_S_S16384x1968 (constantI S_ 32 6#32))) (Host.shrui (res_main_call1_call0_v26 V0) (broadcastInDim S16384x1968 ![] bcast_S_S16384x1968 (constantI S_ 32 26#32))))) (broadcastInDim S16384x1968 ![] bcast_S_S16384x1968 (res_main_call1_call0_v1 V0))) (broadcastInDim S16384x1968 ![] bcast_S_S16384x1968 (constantI S_ 32 1#32))

set_option maxRecDepth 8192 in
/-- `main_call1_call0_v40`'s composed term of the arguments (named: it is used 2 times). -/
def res_main_call1_call0_v40 (V0 : Valuation τ sig (Elt F)) : (Proc.devRef .tc main_call1_call0_v40 : DevRef τ sig).ty.Contents (Elt F) :=
  addi (addi (res_main_call1_call0_v27 V0) (broadcastInDim S16384x1968 ![] bcast_S_S16384x1968 (res_main_call1_v7 V0))) (res_main_call1_call0_v39 V0)

set_option maxRecDepth 8192 in
/-- `main_call1_call0_v46`'s composed term of the arguments (named: it is used 3 times). -/
def res_main_call1_call0_v46 (V0 : Valuation τ sig (Elt F)) : (Proc.devRef .tc main_call1_call0_v46 : DevRef τ sig).ty.Contents (Elt F) :=
  xori (res_main_call1_call0_v40 V0) (ori (Host.shli (res_main_call1_call0_v39 V0) (broadcastInDim S16384x1968 ![] bcast_S_S16384x1968 (constantI S_ 32 17#32))) (Host.shrui (res_main_call1_call0_v39 V0) (broadcastInDim S16384x1968 ![] bcast_S_S16384x1968 (constantI S_ 32 15#32))))

set_option maxRecDepth 8192 in
/-- `main_call1_call0_v47`'s composed term of the arguments (named: it is used 2 times). -/
def res_main_call1_call0_v47 (V0 : Valuation τ sig (Elt F)) : (Proc.devRef .tc main_call1_call0_v47 : DevRef τ sig).ty.Contents (Elt F) :=
  addi (res_main_call1_call0_v40 V0) (res_main_call1_call0_v46 V0)

set_option maxRecDepth 8192 in
/-- `main_call1_call0_v53`'s composed term of the arguments (named: it is used 3 times). -/
def res_main_call1_call0_v53 (V0 : Valuation τ sig (Elt F)) : (Proc.devRef .tc main_call1_call0_v53 : DevRef τ sig).ty.Contents (Elt F) :=
  xori (res_main_call1_call0_v47 V0) (ori (Host.shli (res_main_call1_call0_v46 V0) (broadcastInDim S16384x1968 ![] bcast_S_S16384x1968 (constantI S_ 32 29#32))) (Host.shrui (res_main_call1_call0_v46 V0) (broadcastInDim S16384x1968 ![] bcast_S_S16384x1968 (constantI S_ 32 3#32))))

set_option maxRecDepth 8192 in
/-- `main_call1_call0_v54`'s composed term of the arguments (named: it is used 2 times). -/
def res_main_call1_call0_v54 (V0 : Valuation τ sig (Elt F)) : (Proc.devRef .tc main_call1_call0_v54 : DevRef τ sig).ty.Contents (Elt F) :=
  addi (res_main_call1_call0_v47 V0) (res_main_call1_call0_v53 V0)

set_option maxRecDepth 8192 in
/-- `main_call1_call0_v60`'s composed term of the arguments (named: it is used 3 times). -/
def res_main_call1_call0_v60 (V0 : Valuation τ sig (Elt F)) : (Proc.devRef .tc main_call1_call0_v60 : DevRef τ sig).ty.Contents (Elt F) :=
  xori (res_main_call1_call0_v54 V0) (ori (Host.shli (res_main_call1_call0_v53 V0) (broadcastInDim S16384x1968 ![] bcast_S_S16384x1968 (constantI S_ 32 16#32))) (Host.shrui (res_main_call1_call0_v53 V0) (broadcastInDim S16384x1968 ![] bcast_S_S16384x1968 (constantI S_ 32 16#32))))

set_option maxRecDepth 8192 in
/-- `main_call1_call0_v61`'s composed term of the arguments (named: it is used 2 times). -/
def res_main_call1_call0_v61 (V0 : Valuation τ sig (Elt F)) : (Proc.devRef .tc main_call1_call0_v61 : DevRef τ sig).ty.Contents (Elt F) :=
  addi (res_main_call1_call0_v54 V0) (res_main_call1_call0_v60 V0)

set_option maxRecDepth 8192 in
/-- `main_call1_call0_v73`'s composed term of the arguments (named: it is used 3 times). -/
def res_main_call1_call0_v73 (V0 : Valuation τ sig (Elt F)) : (Proc.devRef .tc main_call1_call0_v73 : DevRef τ sig).ty.Contents (Elt F) :=
  addi (addi (xori (res_main_call1_call0_v61 V0) (ori (Host.shli (res_main_call1_call0_v60 V0) (broadcastInDim S16384x1968 ![] bcast_S_S16384x1968 (constantI S_ 32 24#32))) (Host.shrui (res_main_call1_call0_v60 V0) (broadcastInDim S16384x1968 ![] bcast_S_S16384x1968 (constantI S_ 32 8#32))))) (broadcastInDim S16384x1968 ![] bcast_S_S16384x1968 (res_main_call1_v5 V0))) (broadcastInDim S16384x1968 ![] bcast_S_S16384x1968 (constantI S_ 32 2#32))

set_option maxRecDepth 8192 in
/-- `main_call1_call0_v74`'s composed term of the arguments (named: it is used 2 times). -/
def res_main_call1_call0_v74 (V0 : Valuation τ sig (Elt F)) : (Proc.devRef .tc main_call1_call0_v74 : DevRef τ sig).ty.Contents (Elt F) :=
  addi (addi (res_main_call1_call0_v61 V0) (broadcastInDim S16384x1968 ![] bcast_S_S16384x1968 (res_main_call1_call0_v1 V0))) (res_main_call1_call0_v73 V0)

set_option maxRecDepth 8192 in
/-- `main_call1_call0_v80`'s composed term of the arguments (named: it is used 3 times). -/
def res_main_call1_call0_v80 (V0 : Valuation τ sig (Elt F)) : (Proc.devRef .tc main_call1_call0_v80 : DevRef τ sig).ty.Contents (Elt F) :=
  xori (res_main_call1_call0_v74 V0) (ori (Host.shli (res_main_call1_call0_v73 V0) (broadcastInDim S16384x1968 ![] bcast_S_S16384x1968 (constantI S_ 32 13#32))) (Host.shrui (res_main_call1_call0_v73 V0) (broadcastInDim S16384x1968 ![] bcast_S_S16384x1968 (constantI S_ 32 19#32))))

set_option maxRecDepth 8192 in
/-- `main_call1_call0_v81`'s composed term of the arguments (named: it is used 2 times). -/
def res_main_call1_call0_v81 (V0 : Valuation τ sig (Elt F)) : (Proc.devRef .tc main_call1_call0_v81 : DevRef τ sig).ty.Contents (Elt F) :=
  addi (res_main_call1_call0_v74 V0) (res_main_call1_call0_v80 V0)

set_option maxRecDepth 8192 in
/-- `main_call1_call0_v87`'s composed term of the arguments (named: it is used 3 times). -/
def res_main_call1_call0_v87 (V0 : Valuation τ sig (Elt F)) : (Proc.devRef .tc main_call1_call0_v87 : DevRef τ sig).ty.Contents (Elt F) :=
  xori (res_main_call1_call0_v81 V0) (ori (Host.shli (res_main_call1_call0_v80 V0) (broadcastInDim S16384x1968 ![] bcast_S_S16384x1968 (constantI S_ 32 15#32))) (Host.shrui (res_main_call1_call0_v80 V0) (broadcastInDim S16384x1968 ![] bcast_S_S16384x1968 (constantI S_ 32 17#32))))

set_option maxRecDepth 8192 in
/-- `main_call1_call0_v88`'s composed term of the arguments (named: it is used 2 times). -/
def res_main_call1_call0_v88 (V0 : Valuation τ sig (Elt F)) : (Proc.devRef .tc main_call1_call0_v88 : DevRef τ sig).ty.Contents (Elt F) :=
  addi (res_main_call1_call0_v81 V0) (res_main_call1_call0_v87 V0)

set_option maxRecDepth 8192 in
/-- `main_call1_call0_v94`'s composed term of the arguments (named: it is used 3 times). -/
def res_main_call1_call0_v94 (V0 : Valuation τ sig (Elt F)) : (Proc.devRef .tc main_call1_call0_v94 : DevRef τ sig).ty.Contents (Elt F) :=
  xori (res_main_call1_call0_v88 V0) (ori (Host.shli (res_main_call1_call0_v87 V0) (broadcastInDim S16384x1968 ![] bcast_S_S16384x1968 (constantI S_ 32 26#32))) (Host.shrui (res_main_call1_call0_v87 V0) (broadcastInDim S16384x1968 ![] bcast_S_S16384x1968 (constantI S_ 32 6#32))))

set_option maxRecDepth 8192 in
/-- `main_call1_call0_v95`'s composed term of the arguments (named: it is used 2 times). -/
def res_main_call1_call0_v95 (V0 : Valuation τ sig (Elt F)) : (Proc.devRef .tc main_call1_call0_v95 : DevRef τ sig).ty.Contents (Elt F) :=
  addi (res_main_call1_call0_v88 V0) (res_main_call1_call0_v94 V0)

set_option maxRecDepth 8192 in
/-- `main_call1_call0_v107`'s composed term of the arguments (named: it is used 3 times). -/
def res_main_call1_call0_v107 (V0 : Valuation τ sig (Elt F)) : (Proc.devRef .tc main_call1_call0_v107 : DevRef τ sig).ty.Contents (Elt F) :=
  addi (addi (xori (res_main_call1_call0_v95 V0) (ori (Host.shli (res_main_call1_call0_v94 V0) (broadcastInDim S16384x1968 ![] bcast_S_S16384x1968 (constantI S_ 32 6#32))) (Host.shrui (res_main_call1_call0_v94 V0) (broadcastInDim S16384x1968 ![] bcast_S_S16384x1968 (constantI S_ 32 26#32))))) (broadcastInDim S16384x1968 ![] bcast_S_S16384x1968 (res_main_call1_v7 V0))) (broadcastInDim S16384x1968 ![] bcast_S_S16384x1968 (constantI S_ 32 3#32))

set_option maxRecDepth 8192 in
/-- `main_call1_call0_v108`'s composed term of the arguments (named: it is used 2 times). -/
def res_main_call1_call0_v108 (V0 : Valuation τ sig (Elt F)) : (Proc.devRef .tc main_call1_call0_v108 : DevRef τ sig).ty.Contents (Elt F) :=
  addi (addi (res_main_call1_call0_v95 V0) (broadcastInDim S16384x1968 ![] bcast_S_S16384x1968 (res_main_call1_v5 V0))) (res_main_call1_call0_v107 V0)

set_option maxRecDepth 8192 in
/-- `main_call1_call0_v114`'s composed term of the arguments (named: it is used 3 times). -/
def res_main_call1_call0_v114 (V0 : Valuation τ sig (Elt F)) : (Proc.devRef .tc main_call1_call0_v114 : DevRef τ sig).ty.Contents (Elt F) :=
  xori (res_main_call1_call0_v108 V0) (ori (Host.shli (res_main_call1_call0_v107 V0) (broadcastInDim S16384x1968 ![] bcast_S_S16384x1968 (constantI S_ 32 17#32))) (Host.shrui (res_main_call1_call0_v107 V0) (broadcastInDim S16384x1968 ![] bcast_S_S16384x1968 (constantI S_ 32 15#32))))

set_option maxRecDepth 8192 in
/-- `main_call1_call0_v115`'s composed term of the arguments (named: it is used 2 times). -/
def res_main_call1_call0_v115 (V0 : Valuation τ sig (Elt F)) : (Proc.devRef .tc main_call1_call0_v115 : DevRef τ sig).ty.Contents (Elt F) :=
  addi (res_main_call1_call0_v108 V0) (res_main_call1_call0_v114 V0)

set_option maxRecDepth 8192 in
/-- `main_call1_call0_v121`'s composed term of the arguments (named: it is used 3 times). -/
def res_main_call1_call0_v121 (V0 : Valuation τ sig (Elt F)) : (Proc.devRef .tc main_call1_call0_v121 : DevRef τ sig).ty.Contents (Elt F) :=
  xori (res_main_call1_call0_v115 V0) (ori (Host.shli (res_main_call1_call0_v114 V0) (broadcastInDim S16384x1968 ![] bcast_S_S16384x1968 (constantI S_ 32 29#32))) (Host.shrui (res_main_call1_call0_v114 V0) (broadcastInDim S16384x1968 ![] bcast_S_S16384x1968 (constantI S_ 32 3#32))))

set_option maxRecDepth 8192 in
/-- `main_call1_call0_v122`'s composed term of the arguments (named: it is used 2 times). -/
def res_main_call1_call0_v122 (V0 : Valuation τ sig (Elt F)) : (Proc.devRef .tc main_call1_call0_v122 : DevRef τ sig).ty.Contents (Elt F) :=
  addi (res_main_call1_call0_v115 V0) (res_main_call1_call0_v121 V0)

set_option maxRecDepth 8192 in
/-- `main_call1_call0_v128`'s composed term of the arguments (named: it is used 3 times). -/
def res_main_call1_call0_v128 (V0 : Valuation τ sig (Elt F)) : (Proc.devRef .tc main_call1_call0_v128 : DevRef τ sig).ty.Contents (Elt F) :=
  xori (res_main_call1_call0_v122 V0) (ori (Host.shli (res_main_call1_call0_v121 V0) (broadcastInDim S16384x1968 ![] bcast_S_S16384x1968 (constantI S_ 32 16#32))) (Host.shrui (res_main_call1_call0_v121 V0) (broadcastInDim S16384x1968 ![] bcast_S_S16384x1968 (constantI S_ 32 16#32))))

set_option maxRecDepth 8192 in
/-- `main_call1_call0_v129`'s composed term of the arguments (named: it is used 2 times). -/
def res_main_call1_call0_v129 (V0 : Valuation τ sig (Elt F)) : (Proc.devRef .tc main_call1_call0_v129 : DevRef τ sig).ty.Contents (Elt F) :=
  addi (res_main_call1_call0_v122 V0) (res_main_call1_call0_v128 V0)

set_option maxRecDepth 8192 in
/-- `main_call1_call0_v141`'s composed term of the arguments (named: it is used 3 times). -/
def res_main_call1_call0_v141 (V0 : Valuation τ sig (Elt F)) : (Proc.devRef .tc main_call1_call0_v141 : DevRef τ sig).ty.Contents (Elt F) :=
  addi (addi (xori (res_main_call1_call0_v129 V0) (ori (Host.shli (res_main_call1_call0_v128 V0) (broadcastInDim S16384x1968 ![] bcast_S_S16384x1968 (constantI S_ 32 24#32))) (Host.shrui (res_main_call1_call0_v128 V0) (broadcastInDim S16384x1968 ![] bcast_S_S16384x1968 (constantI S_ 32 8#32))))) (broadcastInDim S16384x1968 ![] bcast_S_S16384x1968 (res_main_call1_call0_v1 V0))) (broadcastInDim S16384x1968 ![] bcast_S_S16384x1968 (constantI S_ 32 4#32))

set_option maxRecDepth 8192 in
/-- `main_call1_call0_v142`'s composed term of the arguments (named: it is used 2 times). -/
def res_main_call1_call0_v142 (V0 : Valuation τ sig (Elt F)) : (Proc.devRef .tc main_call1_call0_v142 : DevRef τ sig).ty.Contents (Elt F) :=
  addi (addi (res_main_call1_call0_v129 V0) (broadcastInDim S16384x1968 ![] bcast_S_S16384x1968 (res_main_call1_v7 V0))) (res_main_call1_call0_v141 V0)

set_option maxRecDepth 8192 in
/-- `main_call1_call0_v148`'s composed term of the arguments (named: it is used 3 times). -/
def res_main_call1_call0_v148 (V0 : Valuation τ sig (Elt F)) : (Proc.devRef .tc main_call1_call0_v148 : DevRef τ sig).ty.Contents (Elt F) :=
  xori (res_main_call1_call0_v142 V0) (ori (Host.shli (res_main_call1_call0_v141 V0) (broadcastInDim S16384x1968 ![] bcast_S_S16384x1968 (constantI S_ 32 13#32))) (Host.shrui (res_main_call1_call0_v141 V0) (broadcastInDim S16384x1968 ![] bcast_S_S16384x1968 (constantI S_ 32 19#32))))

set_option maxRecDepth 8192 in
/-- `main_call1_call0_v149`'s composed term of the arguments (named: it is used 2 times). -/
def res_main_call1_call0_v149 (V0 : Valuation τ sig (Elt F)) : (Proc.devRef .tc main_call1_call0_v149 : DevRef τ sig).ty.Contents (Elt F) :=
  addi (res_main_call1_call0_v142 V0) (res_main_call1_call0_v148 V0)

set_option maxRecDepth 8192 in
/-- `main_call1_call0_v155`'s composed term of the arguments (named: it is used 3 times). -/
def res_main_call1_call0_v155 (V0 : Valuation τ sig (Elt F)) : (Proc.devRef .tc main_call1_call0_v155 : DevRef τ sig).ty.Contents (Elt F) :=
  xori (res_main_call1_call0_v149 V0) (ori (Host.shli (res_main_call1_call0_v148 V0) (broadcastInDim S16384x1968 ![] bcast_S_S16384x1968 (constantI S_ 32 15#32))) (Host.shrui (res_main_call1_call0_v148 V0) (broadcastInDim S16384x1968 ![] bcast_S_S16384x1968 (constantI S_ 32 17#32))))

set_option maxRecDepth 8192 in
/-- `main_call1_call0_v156`'s composed term of the arguments (named: it is used 2 times). -/
def res_main_call1_call0_v156 (V0 : Valuation τ sig (Elt F)) : (Proc.devRef .tc main_call1_call0_v156 : DevRef τ sig).ty.Contents (Elt F) :=
  addi (res_main_call1_call0_v149 V0) (res_main_call1_call0_v155 V0)

set_option maxRecDepth 8192 in
/-- `main_call1_call0_v162`'s composed term of the arguments (named: it is used 3 times). -/
def res_main_call1_call0_v162 (V0 : Valuation τ sig (Elt F)) : (Proc.devRef .tc main_call1_call0_v162 : DevRef τ sig).ty.Contents (Elt F) :=
  xori (res_main_call1_call0_v156 V0) (ori (Host.shli (res_main_call1_call0_v155 V0) (broadcastInDim S16384x1968 ![] bcast_S_S16384x1968 (constantI S_ 32 26#32))) (Host.shrui (res_main_call1_call0_v155 V0) (broadcastInDim S16384x1968 ![] bcast_S_S16384x1968 (constantI S_ 32 6#32))))

set_option maxRecDepth 8192 in
/-- `main_call1_call0_v163`'s composed term of the arguments (named: it is used 2 times). -/
def res_main_call1_call0_v163 (V0 : Valuation τ sig (Elt F)) : (Proc.devRef .tc main_call1_call0_v163 : DevRef τ sig).ty.Contents (Elt F) :=
  addi (res_main_call1_call0_v156 V0) (res_main_call1_call0_v162 V0)

set_option maxRecDepth 8192 in
/-- `main_v54`'s composed term of the arguments (named: it is used 2 times). -/
def res_main_v54 (V0 : Valuation τ sig (Elt F)) : (Proc.devRef .tc main_v54 : DevRef τ sig).ty.Contents (Elt F) :=
  Host.log (addf (Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_)))) (broadcastInDim S16384x1968 ![] bcast_S_S16384x1968 (constant S_ .f32 0x0DA24260#32)))

set_option maxRecDepth 8192 in
/-- `main_v58`'s composed term of the arguments (named: it is used 2 times). -/
def res_main_v58 (V0 : Valuation τ sig (Elt F)) : (Proc.devRef .tc main_v58 : DevRef τ sig).ty.Contents (Elt F) :=
  select (cmpf .oeq (res_main_v18 V0) (broadcastInDim S16384x1968 ![] bcast_S_S16384x1968 (constant S_ .f32 0x00000000#32))) (broadcastInDim S16384x1968 ![] bcast_S_S16384x1968 (id (constant S_ .f32 0xFF800000#32))) (addf (res_main_v54 V0) (Host.negf (Host.log (Host.negf (Host.log (maximumf (broadcastInDim S16384x1968 ![] bcast_S_S16384x1968 (constant S_ .f32 0x2EDBE6FF#32)) (addf (mulf (maximumf (broadcastInDim S16384x1968 ![0, 1] bcast_S1x1_S16384x1968_0_1 (res_main_call1_v2 V0)) (addf (mulf (subf (bitcastToFloat (F := F) .f32 (ori (Host.shrui (xori (addi (res_main_call1_call0_v163 V0) (broadcastInDim S16384x1968 ![] bcast_S_S16384x1968 (res_main_call1_call0_v1 V0))) (addi (addi (xori (res_main_call1_call0_v163 V0) (ori (Host.shli (res_main_call1_call0_v162 V0) (broadcastInDim S16384x1968 ![] bcast_S_S16384x1968 (constantI S_ 32 6#32))) (Host.shrui (res_main_call1_call0_v162 V0) (broadcastInDim S16384x1968 ![] bcast_S_S16384x1968 (constantI S_ 32 26#32))))) (broadcastInDim S16384x1968 ![] bcast_S_S16384x1968 (res_main_call1_v5 V0))) (broadcastInDim S16384x1968 ![] bcast_S_S16384x1968 (constantI S_ 32 5#32)))) (broadcastInDim S16384x1968 ![] bcast_S_S16384x1968 (constantI S_ 32 9#32))) (broadcastInDim S16384x1968 ![] bcast_S_S16384x1968 (constantI S_ 32 1065353216#32)))) (broadcastInDim S16384x1968 ![] bcast_S_S16384x1968 (constant S_ .f32 0x3F800000#32))) (broadcastInDim S16384x1968 ![0, 1] bcast_S1x1_S16384x1968_0_1 (subf (broadcastInDim S1x1 ![] bcast_S_S1x1 (id (constant S_ .f32 0x3F800000#32))) (res_main_call1_v2 V0)))) (broadcastInDim S16384x1968 ![0, 1] bcast_S1x1_S16384x1968_0_1 (res_main_call1_v2 V0)))) (broadcastInDim S16384x1968 ![] bcast_S_S16384x1968 (constant S_ .f32 0x3F800000#32))) (broadcastInDim S16384x1968 ![] bcast_S_S16384x1968 (constant S_ .f32 0x2EDBE6FF#32)))))))))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S16384x1968 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v60`'s composed term of the arguments (named: it is used 3 times). -/
def res_main_v60 (V0 : Valuation τ sig (Elt F)) : (Proc.devRef .tc main_v60 : DevRef τ sig).ty.Contents (Elt F) :=
  broadcastInDim S16384x1 ![0] bcast_S16384_S16384x1_0 ((fun j => (Host.argReduce reducer_argmax_f32_i32 (res_main_v58 V0) (res_main_call3_v0 V0) (res_main_call3_cst V0) (res_main_call3_c V0) reducesTo_S16384x1968_S16384_d1 h_S_ j).2))

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  shapeCast _ (select (cmpi .slt (res_main_v60 V0) (broadcastInDim S16384x1 ![] bcast_S_S16384x1 (constantI S_ 32 0#32))) (addi (res_main_v60 V0) (broadcastInDim S16384x1 ![] bcast_S_S16384x1 (constantI S_ 32 1968#32))) (res_main_v60 V0)) shapeCasts_S16384x1_S16384x1x1

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_c, main_v3, main_v4, main_c_0, main_v5, main_v6, main_v7, main_c_1, main_v8, main_v9, main_c_2, main_v10, main_v11, main_v12, main_v13, main_v14, main_v15, main_v16, main_cst_3, main_v17, main_v18, main_cst_4, main_v19, main_v20, main_v21, main_cst_5]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0]
  after_results_simp
  simp only [val0_main_arg0] <;> rfl
set_option maxRecDepth 8192 in
set_option maxHeartbeats 2000000 in
theorem val0_1_main_v20 (V0 : Valuation τ sig (Elt F)) : val0_1 V0 (no_index (Proc.devRef .tc main_v20)) = cmpf .oeq (res_main_v18 V0) (broadcastInDim S16384x1968 ![] bcast_S_S16384x1968 (constant S_ .f32 0x00000000#32)) := by
  unfold val0_1
  simp only [ops_part0_0]
  after_results_simp
  simp only [val0_main_arg0] <;> rfl
set_option maxRecDepth 8192 in
set_option maxHeartbeats 2000000 in
theorem val0_1_main_v21 (V0 : Valuation τ sig (Elt F)) : val0_1 V0 (no_index (Proc.devRef .tc main_v21)) = broadcastInDim S1x1968 ![1] bcast_S1968_S1x1968_1 (V0 (Proc.devRef .tc main_arg1)) := by
  unfold val0_1
  simp only [ops_part0_0]
  after_results_simp
  simp only [val0_main_arg1] <;> rfl
set_option maxRecDepth 8192 in
set_option maxHeartbeats 2000000 in
theorem val0_1_main_cst_5 (V0 : Valuation τ sig (Elt F)) : val0_1 V0 (no_index (Proc.devRef .tc main_cst_5)) = constant S_ .f32 0xFF800000#32 := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v0, main_call0_v1, main_call0_v2, main_v22, main_cst_6, main_v23, main_cst_7, main_v24, main_v25, main_v26, main_v27, main_v28, main_v29, main_cst_8, main_v30, main_v31, main_v32, main_v33, main_c_9, main_c_10, main_v34, main_v35, main_v36, main_c_11, main_v37, main_v38, main_v39, main_v40, main_cst_12, main_cst_13]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_v33 (V0 : Valuation τ sig (Elt F)) : val0_2 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) := by
  unfold val0_2
  simp only [ops_part0_1, TRef.ternary, TRef.unary, TRef.toBuf, TRef.ofBuf, cast_eq]
  after_results_simp
  simp only [val0_1_main_v21, val0_1_main_cst_5, val0_1_main_v20] <;> rfl
set_option maxRecDepth 8192 in
set_option maxHeartbeats 2000000 in
theorem val0_2_main_v40 (V0 : Valuation τ sig (Elt F)) : val0_2 V0 (no_index (Proc.devRef .tc main_v40)) = res_main_v40 V0 := by
  unfold val0_2
  simp only [ops_part0_1, TRef.ternary, TRef.unary, TRef.toBuf, TRef.ofBuf, cast_eq]
  after_results_simp
  all_goals rfl
set_option maxRecDepth 8192 in
set_option maxHeartbeats 2000000 in
theorem val0_2_main_cst_12 (V0 : Valuation τ sig (Elt F)) : val0_2 V0 (no_index (Proc.devRef .tc main_cst_12)) = constant S_ .f32 0x00000000#32 := by
  unfold val0_2
  simp only [ops_part0_1, TRef.ternary, TRef.unary, TRef.toBuf, TRef.ofBuf, cast_eq]
  after_results_simp
  all_goals rfl
set_option maxRecDepth 8192 in
set_option maxHeartbeats 2000000 in
theorem val0_2_main_cst_13 (V0 : Valuation τ sig (Elt F)) : val0_2 V0 (no_index (Proc.devRef .tc main_cst_13)) = constant S_ .f32 0x3F800000#32 := by
  unfold val0_2
  simp only [ops_part0_1, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_v0, main_call1_v1, main_call1_v2, main_call1_v3, main_call1_v4, main_call1_v5, main_call1_v6, main_call1_v7, main_call1_v8, main_call1_v9, main_call1_c, main_call1_v10, main_call1_v11, main_call1_c_0, main_call1_v12, main_call1_v13, main_call1_v14, main_call1_c_1, main_call1_v15, main_call1_v16, main_call1_v17, main_call1_v18, main_call1_call0_v0, main_call1_call0_c, main_call1_call0_v1, main_call1_call0_v2, main_call1_call0_v3, main_call1_call0_v4, main_call1_call0_v5, main_call1_call0_v6]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_v18 (V0 : Valuation τ sig (Elt F)) : val0_3 V0 (no_index (Proc.devRef .tc main_v18)) = res_main_v18 V0 :=
  (val0_3_keep V0 main_v18 (by decide)).trans (val0_2_main_v18 V0)
theorem val0_3_main_v33 (V0 : Valuation τ sig (Elt F)) : val0_3 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_3_keep V0 main_v33 (by decide)).trans (val0_2_main_v33 V0)
set_option maxRecDepth 8192 in
set_option maxHeartbeats 2000000 in
theorem val0_3_main_call1_v2 (V0 : Valuation τ sig (Elt F)) : val0_3 V0 (no_index (Proc.devRef .tc main_call1_v2)) = res_main_call1_v2 V0 := by
  unfold val0_3
  simp only [ops_part0_2, TRef.binary, TRef.nullary, TRef.reshape, TRef.unary, TRef.toBuf, TRef.ofBuf, cast_eq]
  after_results_simp
  simp only [val0_2_main_cst_12] <;> rfl
set_option maxRecDepth 8192 in
set_option maxHeartbeats 2000000 in
theorem val0_3_main_call1_v3 (V0 : Valuation τ sig (Elt F)) : val0_3 V0 (no_index (Proc.devRef .tc main_call1_v3)) = broadcastInDim S1x1 ![] bcast_S_S1x1 (id (constant S_ .f32 0x3F800000#32)) := by
  unfold val0_3
  simp only [ops_part0_2, TRef.binary, TRef.nullary, TRef.reshape, TRef.unary, TRef.toBuf, TRef.ofBuf, cast_eq]
  after_results_simp
  simp only [val0_2_main_cst_13] <;> rfl
set_option maxRecDepth 8192 in
set_option maxHeartbeats 2000000 in
theorem val0_3_main_call1_v5 (V0 : Valuation τ sig (Elt F)) : val0_3 V0 (no_index (Proc.devRef .tc main_call1_v5)) = res_main_call1_v5 V0 := by
  unfold val0_3
  simp only [ops_part0_2, TRef.binary, TRef.nullary, TRef.reshape, TRef.unary, TRef.toBuf, TRef.ofBuf, cast_eq]
  after_results_simp
  simp only [val0_2_main_v40] <;> rfl
set_option maxRecDepth 8192 in
set_option maxHeartbeats 2000000 in
theorem val0_3_main_call1_v7 (V0 : Valuation τ sig (Elt F)) : val0_3 V0 (no_index (Proc.devRef .tc main_call1_v7)) = res_main_call1_v7 V0 := by
  unfold val0_3
  simp only [ops_part0_2, TRef.binary, TRef.nullary, TRef.reshape, TRef.unary, TRef.toBuf, TRef.ofBuf, cast_eq]
  after_results_simp
  simp only [val0_2_main_v40] <;> rfl
set_option maxRecDepth 8192 in
set_option maxHeartbeats 2000000 in
theorem val0_3_main_call1_call0_v1 (V0 : Valuation τ sig (Elt F)) : val0_3 V0 (no_index (Proc.devRef .tc main_call1_call0_v1)) = res_main_call1_call0_v1 V0 := by
  unfold val0_3
  simp only [ops_part0_2, TRef.binary, TRef.nullary, TRef.reshape, TRef.unary, TRef.toBuf, TRef.ofBuf, cast_eq]
  after_results_simp
  simp only [val0_2_main_v40] <;> rfl
set_option maxRecDepth 8192 in
set_option maxHeartbeats 2000000 in
theorem val0_3_main_call1_call0_v5 (V0 : Valuation τ sig (Elt F)) : val0_3 V0 (no_index (Proc.devRef .tc main_call1_call0_v5)) = res_main_call1_call0_v5 V0 := by
  unfold val0_3
  simp only [ops_part0_2, TRef.binary, TRef.nullary, TRef.reshape, TRef.unary, TRef.toBuf, TRef.ofBuf, cast_eq]
  after_results_simp
  simp only [val0_2_main_v40] <;> rfl
set_option maxRecDepth 8192 in
set_option maxHeartbeats 2000000 in
theorem val0_3_main_call1_call0_v6 (V0 : Valuation τ sig (Elt F)) : val0_3 V0 (no_index (Proc.devRef .tc main_call1_call0_v6)) = res_main_call1_call0_v6 V0 := by
  unfold val0_3
  simp only [ops_part0_2, TRef.binary, TRef.nullary, TRef.reshape, TRef.unary, TRef.toBuf, TRef.ofBuf, cast_eq]
  after_results_simp
  simp only [val0_2_main_v40] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call1_call0_c_0, main_call1_call0_v7, main_call1_call0_v8, main_call1_call0_c_1, main_call1_call0_v9, main_call1_call0_v10, main_call1_call0_v11, main_call1_call0_v12, main_call1_call0_v13, main_call1_call0_c_2, main_call1_call0_v14, main_call1_call0_v15, main_call1_call0_c_3, main_call1_call0_v16, main_call1_call0_v17, main_call1_call0_v18, main_call1_call0_v19, main_call1_call0_v20, main_call1_call0_c_4, main_call1_call0_v21, main_call1_call0_v22, main_call1_call0_c_5, main_call1_call0_v23, main_call1_call0_v24, main_call1_call0_v25, main_call1_call0_v26, main_call1_call0_v27, main_call1_call0_c_6, main_call1_call0_v28, main_call1_call0_v29]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_v18 (V0 : Valuation τ sig (Elt F)) : val0_4 V0 (no_index (Proc.devRef .tc main_v18)) = res_main_v18 V0 :=
  (val0_4_keep V0 main_v18 (by decide)).trans (val0_3_main_v18 V0)
theorem val0_4_main_v33 (V0 : Valuation τ sig (Elt F)) : val0_4 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_4_keep V0 main_v33 (by decide)).trans (val0_3_main_v33 V0)
theorem val0_4_main_call1_v2 (V0 : Valuation τ sig (Elt F)) : val0_4 V0 (no_index (Proc.devRef .tc main_call1_v2)) = res_main_call1_v2 V0 :=
  (val0_4_keep V0 main_call1_v2 (by decide)).trans (val0_3_main_call1_v2 V0)
theorem val0_4_main_call1_v3 (V0 : Valuation τ sig (Elt F)) : val0_4 V0 (no_index (Proc.devRef .tc main_call1_v3)) = broadcastInDim S1x1 ![] bcast_S_S1x1 (id (constant S_ .f32 0x3F800000#32)) :=
  (val0_4_keep V0 main_call1_v3 (by decide)).trans (val0_3_main_call1_v3 V0)
theorem val0_4_main_call1_v5 (V0 : Valuation τ sig (Elt F)) : val0_4 V0 (no_index (Proc.devRef .tc main_call1_v5)) = res_main_call1_v5 V0 :=
  (val0_4_keep V0 main_call1_v5 (by decide)).trans (val0_3_main_call1_v5 V0)
theorem val0_4_main_call1_v7 (V0 : Valuation τ sig (Elt F)) : val0_4 V0 (no_index (Proc.devRef .tc main_call1_v7)) = res_main_call1_v7 V0 :=
  (val0_4_keep V0 main_call1_v7 (by decide)).trans (val0_3_main_call1_v7 V0)
theorem val0_4_main_call1_call0_v1 (V0 : Valuation τ sig (Elt F)) : val0_4 V0 (no_index (Proc.devRef .tc main_call1_call0_v1)) = res_main_call1_call0_v1 V0 :=
  (val0_4_keep V0 main_call1_call0_v1 (by decide)).trans (val0_3_main_call1_call0_v1 V0)
set_option maxRecDepth 8192 in
set_option maxHeartbeats 2000000 in
theorem val0_4_main_call1_call0_v26 (V0 : Valuation τ sig (Elt F)) : val0_4 V0 (no_index (Proc.devRef .tc main_call1_call0_v26)) = res_main_call1_call0_v26 V0 := by
  unfold val0_4
  simp only [ops_part0_3, TRef.binary, TRef.nullary, TRef.unary, TRef.toBuf, TRef.ofBuf, cast_eq]
  after_results_simp
  simp only [val0_3_main_call1_call0_v5, val0_3_main_call1_call0_v6] <;> rfl
set_option maxRecDepth 8192 in
set_option maxHeartbeats 2000000 in
theorem val0_4_main_call1_call0_v27 (V0 : Valuation τ sig (Elt F)) : val0_4 V0 (no_index (Proc.devRef .tc main_call1_call0_v27)) = res_main_call1_call0_v27 V0 := by
  unfold val0_4
  simp only [ops_part0_3, TRef.binary, TRef.nullary, TRef.unary, TRef.toBuf, TRef.ofBuf, cast_eq]
  after_results_simp
  simp only [val0_3_main_call1_call0_v5, val0_3_main_call1_call0_v6] <;> rfl
set_option maxRecDepth 8192 in
set_option maxHeartbeats 2000000 in
theorem val0_4_main_call1_call0_v29 (V0 : Valuation τ sig (Elt F)) : val0_4 V0 (no_index (Proc.devRef .tc main_call1_call0_v29)) = Host.shli (res_main_call1_call0_v26 V0) (broadcastInDim S16384x1968 ![] bcast_S_S16384x1968 (constantI S_ 32 6#32)) := by
  unfold val0_4
  simp only [ops_part0_3, TRef.binary, TRef.nullary, TRef.unary, TRef.toBuf, TRef.ofBuf, cast_eq]
  after_results_simp
  simp only [val0_3_main_call1_call0_v5, val0_3_main_call1_call0_v6] <;> rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call1_call0_c_7, main_call1_call0_v30, main_call1_call0_v31, main_call1_call0_v32, main_call1_call0_v33, main_call1_call0_v34, main_call1_call0_v35, main_call1_call0_v36, main_call1_call0_v37, main_call1_call0_c_8, main_call1_call0_v38, main_call1_call0_v39, main_call1_call0_v40, main_call1_call0_c_9, main_call1_call0_v41, main_call1_call0_v42, main_call1_call0_c_10, main_call1_call0_v43, main_call1_call0_v44, main_call1_call0_v45, main_call1_call0_v46, main_call1_call0_v47, main_call1_call0_c_11, main_call1_call0_v48, main_call1_call0_v49, main_call1_call0_c_12, main_call1_call0_v50, main_call1_call0_v51, main_call1_call0_v52, main_call1_call0_v53]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_v18 (V0 : Valuation τ sig (Elt F)) : val0_5 V0 (no_index (Proc.devRef .tc main_v18)) = res_main_v18 V0 :=
  (val0_5_keep V0 main_v18 (by decide)).trans (val0_4_main_v18 V0)
theorem val0_5_main_v33 (V0 : Valuation τ sig (Elt F)) : val0_5 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_5_keep V0 main_v33 (by decide)).trans (val0_4_main_v33 V0)
theorem val0_5_main_call1_v2 (V0 : Valuation τ sig (Elt F)) : val0_5 V0 (no_index (Proc.devRef .tc main_call1_v2)) = res_main_call1_v2 V0 :=
  (val0_5_keep V0 main_call1_v2 (by decide)).trans (val0_4_main_call1_v2 V0)
theorem val0_5_main_call1_v3 (V0 : Valuation τ sig (Elt F)) : val0_5 V0 (no_index (Proc.devRef .tc main_call1_v3)) = broadcastInDim S1x1 ![] bcast_S_S1x1 (id (constant S_ .f32 0x3F800000#32)) :=
  (val0_5_keep V0 main_call1_v3 (by decide)).trans (val0_4_main_call1_v3 V0)
theorem val0_5_main_call1_v5 (V0 : Valuation τ sig (Elt F)) : val0_5 V0 (no_index (Proc.devRef .tc main_call1_v5)) = res_main_call1_v5 V0 :=
  (val0_5_keep V0 main_call1_v5 (by decide)).trans (val0_4_main_call1_v5 V0)
theorem val0_5_main_call1_v7 (V0 : Valuation τ sig (Elt F)) : val0_5 V0 (no_index (Proc.devRef .tc main_call1_v7)) = res_main_call1_v7 V0 :=
  (val0_5_keep V0 main_call1_v7 (by decide)).trans (val0_4_main_call1_v7 V0)
theorem val0_5_main_call1_call0_v1 (V0 : Valuation τ sig (Elt F)) : val0_5 V0 (no_index (Proc.devRef .tc main_call1_call0_v1)) = res_main_call1_call0_v1 V0 :=
  (val0_5_keep V0 main_call1_call0_v1 (by decide)).trans (val0_4_main_call1_call0_v1 V0)
set_option maxRecDepth 8192 in
set_option maxHeartbeats 2000000 in
theorem val0_5_main_call1_call0_v47 (V0 : Valuation τ sig (Elt F)) : val0_5 V0 (no_index (Proc.devRef .tc main_call1_call0_v47)) = res_main_call1_call0_v47 V0 := by
  unfold val0_5
  simp only [ops_part0_4, TRef.binary, TRef.nullary, TRef.unary, TRef.toBuf, TRef.ofBuf, cast_eq]
  after_results_simp
  simp only [val0_4_main_call1_call0_v1, val0_4_main_call1_call0_v26, val0_4_main_call1_call0_v29, val0_4_main_call1_call0_v27, val0_4_main_call1_v7] <;> rfl
set_option maxRecDepth 8192 in
set_option maxHeartbeats 2000000 in
theorem val0_5_main_call1_call0_v53 (V0 : Valuation τ sig (Elt F)) : val0_5 V0 (no_index (Proc.devRef .tc main_call1_call0_v53)) = res_main_call1_call0_v53 V0 := by
  unfold val0_5
  simp only [ops_part0_4, TRef.binary, TRef.nullary, TRef.unary, TRef.toBuf, TRef.ofBuf, cast_eq]
  after_results_simp
  simp only [val0_4_main_call1_call0_v1, val0_4_main_call1_call0_v26, val0_4_main_call1_call0_v29, val0_4_main_call1_call0_v27, val0_4_main_call1_v7] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call1_call0_v54, main_call1_call0_c_13, main_call1_call0_v55, main_call1_call0_v56, main_call1_call0_c_14, main_call1_call0_v57, main_call1_call0_v58, main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68, main_call1_call0_v69, main_call1_call0_v70, main_call1_call0_v71, main_call1_call0_c_17, main_call1_call0_v72, main_call1_call0_v73, main_call1_call0_v74, main_call1_call0_c_18, main_call1_call0_v75, main_call1_call0_v76, main_call1_call0_c_19]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_v18 (V0 : Valuation τ sig (Elt F)) : val0_6 V0 (no_index (Proc.devRef .tc main_v18)) = res_main_v18 V0 :=
  (val0_6_keep V0 main_v18 (by decide)).trans (val0_5_main_v18 V0)
theorem val0_6_main_v33 (V0 : Valuation τ sig (Elt F)) : val0_6 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_6_keep V0 main_v33 (by decide)).trans (val0_5_main_v33 V0)
theorem val0_6_main_call1_v2 (V0 : Valuation τ sig (Elt F)) : val0_6 V0 (no_index (Proc.devRef .tc main_call1_v2)) = res_main_call1_v2 V0 :=
  (val0_6_keep V0 main_call1_v2 (by decide)).trans (val0_5_main_call1_v2 V0)
theorem val0_6_main_call1_v3 (V0 : Valuation τ sig (Elt F)) : val0_6 V0 (no_index (Proc.devRef .tc main_call1_v3)) = broadcastInDim S1x1 ![] bcast_S_S1x1 (id (constant S_ .f32 0x3F800000#32)) :=
  (val0_6_keep V0 main_call1_v3 (by decide)).trans (val0_5_main_call1_v3 V0)
theorem val0_6_main_call1_v5 (V0 : Valuation τ sig (Elt F)) : val0_6 V0 (no_index (Proc.devRef .tc main_call1_v5)) = res_main_call1_v5 V0 :=
  (val0_6_keep V0 main_call1_v5 (by decide)).trans (val0_5_main_call1_v5 V0)
theorem val0_6_main_call1_v7 (V0 : Valuation τ sig (Elt F)) : val0_6 V0 (no_index (Proc.devRef .tc main_call1_v7)) = res_main_call1_v7 V0 :=
  (val0_6_keep V0 main_call1_v7 (by decide)).trans (val0_5_main_call1_v7 V0)
theorem val0_6_main_call1_call0_v1 (V0 : Valuation τ sig (Elt F)) : val0_6 V0 (no_index (Proc.devRef .tc main_call1_call0_v1)) = res_main_call1_call0_v1 V0 :=
  (val0_6_keep V0 main_call1_call0_v1 (by decide)).trans (val0_5_main_call1_call0_v1 V0)
set_option maxRecDepth 8192 in
set_option maxHeartbeats 2000000 in
theorem val0_6_main_call1_call0_v73 (V0 : Valuation τ sig (Elt F)) : val0_6 V0 (no_index (Proc.devRef .tc main_call1_call0_v73)) = res_main_call1_call0_v73 V0 := by
  unfold val0_6
  simp only [ops_part0_5, TRef.binary, TRef.nullary, TRef.unary, TRef.toBuf, TRef.ofBuf, cast_eq]
  after_results_simp
  simp only [val0_5_main_call1_v5, val0_5_main_call1_call0_v53, val0_5_main_call1_call0_v47] <;> rfl
set_option maxRecDepth 8192 in
set_option maxHeartbeats 2000000 in
theorem val0_6_main_call1_call0_v74 (V0 : Valuation τ sig (Elt F)) : val0_6 V0 (no_index (Proc.devRef .tc main_call1_call0_v74)) = res_main_call1_call0_v74 V0 := by
  unfold val0_6
  simp only [ops_part0_5, TRef.binary, TRef.nullary, TRef.unary, TRef.toBuf, TRef.ofBuf, cast_eq]
  after_results_simp
  simp only [val0_5_main_call1_v5, val0_5_main_call1_call0_v53, val0_5_main_call1_call0_v47, val0_5_main_call1_call0_v1] <;> rfl
set_option maxRecDepth 8192 in
set_option maxHeartbeats 2000000 in
theorem val0_6_main_call1_call0_v76 (V0 : Valuation τ sig (Elt F)) : val0_6 V0 (no_index (Proc.devRef .tc main_call1_call0_v76)) = Host.shli (res_main_call1_call0_v73 V0) (broadcastInDim S16384x1968 ![] bcast_S_S16384x1968 (constantI S_ 32 13#32)) := by
  unfold val0_6
  simp only [ops_part0_5, TRef.binary, TRef.nullary, TRef.unary, TRef.toBuf, TRef.ofBuf, cast_eq]
  after_results_simp
  simp only [val0_5_main_call1_v5, val0_5_main_call1_call0_v53, val0_5_main_call1_call0_v47] <;> rfl
set_option maxRecDepth 8192 in
set_option maxHeartbeats 2000000 in
theorem val0_6_main_call1_call0_c_19 (V0 : Valuation τ sig (Elt F)) : val0_6 V0 (no_index (Proc.devRef .tc main_call1_call0_c_19)) = constantI S_ 32 19#32 := by
  unfold val0_6
  simp only [ops_part0_5, TRef.binary, TRef.nullary, TRef.unary, TRef.toBuf, TRef.ofBuf, cast_eq]
  after_results_simp
  all_goals rfl

end Cert.ReferenceIdeal.Value

end
-- ==== Proof.RefRun.lean ====
/- The last windows of the reference's operations, and the reference's run: from any memory it terminates with its two
   results at their composed terms of the arguments, and the arguments unchanged. -/
module

public import proofs.«01_k».proof.Proof.RefVals

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call1_call0_v77, main_call1_call0_v78, main_call1_call0_v79, main_call1_call0_v80, main_call1_call0_v81, main_call1_call0_c_20, main_call1_call0_v82, main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91, main_call1_call0_v92, main_call1_call0_v93, main_call1_call0_v94, main_call1_call0_v95, main_call1_call0_c_24, main_call1_call0_v96, main_call1_call0_v97, main_call1_call0_c_25, main_call1_call0_v98, main_call1_call0_v99, main_call1_call0_v100]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_v18 (V0 : Valuation τ sig (Elt F)) : val0_7 V0 (no_index (Proc.devRef .tc main_v18)) = res_main_v18 V0 :=
  (val0_7_keep V0 main_v18 (by decide)).trans (val0_6_main_v18 V0)
theorem val0_7_main_v33 (V0 : Valuation τ sig (Elt F)) : val0_7 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_7_keep V0 main_v33 (by decide)).trans (val0_6_main_v33 V0)
theorem val0_7_main_call1_v2 (V0 : Valuation τ sig (Elt F)) : val0_7 V0 (no_index (Proc.devRef .tc main_call1_v2)) = res_main_call1_v2 V0 :=
  (val0_7_keep V0 main_call1_v2 (by decide)).trans (val0_6_main_call1_v2 V0)
theorem val0_7_main_call1_v3 (V0 : Valuation τ sig (Elt F)) : val0_7 V0 (no_index (Proc.devRef .tc main_call1_v3)) = broadcastInDim S1x1 ![] bcast_S_S1x1 (id (constant S_ .f32 0x3F800000#32)) :=
  (val0_7_keep V0 main_call1_v3 (by decide)).trans (val0_6_main_call1_v3 V0)
theorem val0_7_main_call1_v5 (V0 : Valuation τ sig (Elt F)) : val0_7 V0 (no_index (Proc.devRef .tc main_call1_v5)) = res_main_call1_v5 V0 :=
  (val0_7_keep V0 main_call1_v5 (by decide)).trans (val0_6_main_call1_v5 V0)
theorem val0_7_main_call1_v7 (V0 : Valuation τ sig (Elt F)) : val0_7 V0 (no_index (Proc.devRef .tc main_call1_v7)) = res_main_call1_v7 V0 :=
  (val0_7_keep V0 main_call1_v7 (by decide)).trans (val0_6_main_call1_v7 V0)
theorem val0_7_main_call1_call0_v1 (V0 : Valuation τ sig (Elt F)) : val0_7 V0 (no_index (Proc.devRef .tc main_call1_call0_v1)) = res_main_call1_call0_v1 V0 :=
  (val0_7_keep V0 main_call1_call0_v1 (by decide)).trans (val0_6_main_call1_call0_v1 V0)
set_option maxRecDepth 8192 in
set_option maxHeartbeats 2000000 in
theorem val0_7_main_call1_call0_v95 (V0 : Valuation τ sig (Elt F)) : val0_7 V0 (no_index (Proc.devRef .tc main_call1_call0_v95)) = res_main_call1_call0_v95 V0 := by
  unfold val0_7
  simp only [ops_part0_6, TRef.binary, TRef.nullary, TRef.unary, TRef.toBuf, TRef.ofBuf, cast_eq]
  after_results_simp
  simp only [val0_6_main_call1_call0_c_19, val0_6_main_call1_call0_v73, val0_6_main_call1_call0_v76, val0_6_main_call1_call0_v74] <;> rfl
set_option maxRecDepth 8192 in
set_option maxHeartbeats 2000000 in
theorem val0_7_main_call1_call0_v100 (V0 : Valuation τ sig (Elt F)) : val0_7 V0 (no_index (Proc.devRef .tc main_call1_call0_v100)) = ori (Host.shli (res_main_call1_call0_v94 V0) (broadcastInDim S16384x1968 ![] bcast_S_S16384x1968 (constantI S_ 32 6#32))) (Host.shrui (res_main_call1_call0_v94 V0) (broadcastInDim S16384x1968 ![] bcast_S_S16384x1968 (constantI S_ 32 26#32))) := by
  unfold val0_7
  simp only [ops_part0_6, TRef.binary, TRef.nullary, TRef.unary, TRef.toBuf, TRef.ofBuf, cast_eq]
  after_results_simp
  simp only [val0_6_main_call1_call0_c_19, val0_6_main_call1_call0_v73, val0_6_main_call1_call0_v76, val0_6_main_call1_call0_v74] <;> rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call1_call0_v101, main_call1_call0_v102, main_call1_call0_v103, main_call1_call0_v104, main_call1_call0_v105, main_call1_call0_c_26, main_call1_call0_v106, main_call1_call0_v107, main_call1_call0_v108, main_call1_call0_c_27, main_call1_call0_v109, main_call1_call0_v110, main_call1_call0_c_28, main_call1_call0_v111, main_call1_call0_v112, main_call1_call0_v113, main_call1_call0_v114, main_call1_call0_v115, main_call1_call0_c_29, main_call1_call0_v116, main_call1_call0_v117, main_call1_call0_c_30, main_call1_call0_v118, main_call1_call0_v119, main_call1_call0_v120, main_call1_call0_v121, main_call1_call0_v122, main_call1_call0_c_31, main_call1_call0_v123, main_call1_call0_v124]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_v18 (V0 : Valuation τ sig (Elt F)) : val0_8 V0 (no_index (Proc.devRef .tc main_v18)) = res_main_v18 V0 :=
  (val0_8_keep V0 main_v18 (by decide)).trans (val0_7_main_v18 V0)
theorem val0_8_main_v33 (V0 : Valuation τ sig (Elt F)) : val0_8 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_8_keep V0 main_v33 (by decide)).trans (val0_7_main_v33 V0)
theorem val0_8_main_call1_v2 (V0 : Valuation τ sig (Elt F)) : val0_8 V0 (no_index (Proc.devRef .tc main_call1_v2)) = res_main_call1_v2 V0 :=
  (val0_8_keep V0 main_call1_v2 (by decide)).trans (val0_7_main_call1_v2 V0)
theorem val0_8_main_call1_v3 (V0 : Valuation τ sig (Elt F)) : val0_8 V0 (no_index (Proc.devRef .tc main_call1_v3)) = broadcastInDim S1x1 ![] bcast_S_S1x1 (id (constant S_ .f32 0x3F800000#32)) :=
  (val0_8_keep V0 main_call1_v3 (by decide)).trans (val0_7_main_call1_v3 V0)
theorem val0_8_main_call1_v5 (V0 : Valuation τ sig (Elt F)) : val0_8 V0 (no_index (Proc.devRef .tc main_call1_v5)) = res_main_call1_v5 V0 :=
  (val0_8_keep V0 main_call1_v5 (by decide)).trans (val0_7_main_call1_v5 V0)
theorem val0_8_main_call1_v7 (V0 : Valuation τ sig (Elt F)) : val0_8 V0 (no_index (Proc.devRef .tc main_call1_v7)) = res_main_call1_v7 V0 :=
  (val0_8_keep V0 main_call1_v7 (by decide)).trans (val0_7_main_call1_v7 V0)
theorem val0_8_main_call1_call0_v1 (V0 : Valuation τ sig (Elt F)) : val0_8 V0 (no_index (Proc.devRef .tc main_call1_call0_v1)) = res_main_call1_call0_v1 V0 :=
  (val0_8_keep V0 main_call1_call0_v1 (by decide)).trans (val0_7_main_call1_call0_v1 V0)
set_option maxRecDepth 8192 in
set_option maxHeartbeats 2000000 in
theorem val0_8_main_call1_call0_v121 (V0 : Valuation τ sig (Elt F)) : val0_8 V0 (no_index (Proc.devRef .tc main_call1_call0_v121)) = res_main_call1_call0_v121 V0 := by
  unfold val0_8
  simp only [ops_part0_7, TRef.binary, TRef.nullary, TRef.unary, TRef.toBuf, TRef.ofBuf, cast_eq]
  after_results_simp
  simp only [val0_7_main_call1_v7, val0_7_main_call1_call0_v100, val0_7_main_call1_call0_v95, val0_7_main_call1_v5] <;> rfl
set_option maxRecDepth 8192 in
set_option maxHeartbeats 2000000 in
theorem val0_8_main_call1_call0_v122 (V0 : Valuation τ sig (Elt F)) : val0_8 V0 (no_index (Proc.devRef .tc main_call1_call0_v122)) = res_main_call1_call0_v122 V0 := by
  unfold val0_8
  simp only [ops_part0_7, TRef.binary, TRef.nullary, TRef.unary, TRef.toBuf, TRef.ofBuf, cast_eq]
  after_results_simp
  simp only [val0_7_main_call1_v7, val0_7_main_call1_call0_v100, val0_7_main_call1_call0_v95, val0_7_main_call1_v5] <;> rfl
set_option maxRecDepth 8192 in
set_option maxHeartbeats 2000000 in
theorem val0_8_main_call1_call0_v124 (V0 : Valuation τ sig (Elt F)) : val0_8 V0 (no_index (Proc.devRef .tc main_call1_call0_v124)) = Host.shli (res_main_call1_call0_v121 V0) (broadcastInDim S16384x1968 ![] bcast_S_S16384x1968 (constantI S_ 32 16#32)) := by
  unfold val0_8
  simp only [ops_part0_7, TRef.binary, TRef.nullary, TRef.unary, TRef.toBuf, TRef.ofBuf, cast_eq]
  after_results_simp
  simp only [val0_7_main_call1_v7, val0_7_main_call1_call0_v100, val0_7_main_call1_call0_v95, val0_7_main_call1_v5] <;> rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call1_call0_c_32, main_call1_call0_v125, main_call1_call0_v126, main_call1_call0_v127, main_call1_call0_v128, main_call1_call0_v129, main_call1_call0_c_33, main_call1_call0_v130, main_call1_call0_v131, main_call1_call0_c_34, main_call1_call0_v132, main_call1_call0_v133, main_call1_call0_v134, main_call1_call0_v135, main_call1_call0_v136, main_call1_call0_v137, main_call1_call0_v138, main_call1_call0_v139, main_call1_call0_c_35, main_call1_call0_v140, main_call1_call0_v141, main_call1_call0_v142, main_call1_call0_c_36, main_call1_call0_v143, main_call1_call0_v144, main_call1_call0_c_37, main_call1_call0_v145, main_call1_call0_v146, main_call1_call0_v147, main_call1_call0_v148]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
theorem val0_9_main_v18 (V0 : Valuation τ sig (Elt F)) : val0_9 V0 (no_index (Proc.devRef .tc main_v18)) = res_main_v18 V0 :=
  (val0_9_keep V0 main_v18 (by decide)).trans (val0_8_main_v18 V0)
theorem val0_9_main_v33 (V0 : Valuation τ sig (Elt F)) : val0_9 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_9_keep V0 main_v33 (by decide)).trans (val0_8_main_v33 V0)
theorem val0_9_main_call1_v2 (V0 : Valuation τ sig (Elt F)) : val0_9 V0 (no_index (Proc.devRef .tc main_call1_v2)) = res_main_call1_v2 V0 :=
  (val0_9_keep V0 main_call1_v2 (by decide)).trans (val0_8_main_call1_v2 V0)
theorem val0_9_main_call1_v3 (V0 : Valuation τ sig (Elt F)) : val0_9 V0 (no_index (Proc.devRef .tc main_call1_v3)) = broadcastInDim S1x1 ![] bcast_S_S1x1 (id (constant S_ .f32 0x3F800000#32)) :=
  (val0_9_keep V0 main_call1_v3 (by decide)).trans (val0_8_main_call1_v3 V0)
theorem val0_9_main_call1_v5 (V0 : Valuation τ sig (Elt F)) : val0_9 V0 (no_index (Proc.devRef .tc main_call1_v5)) = res_main_call1_v5 V0 :=
  (val0_9_keep V0 main_call1_v5 (by decide)).trans (val0_8_main_call1_v5 V0)
theorem val0_9_main_call1_call0_v1 (V0 : Valuation τ sig (Elt F)) : val0_9 V0 (no_index (Proc.devRef .tc main_call1_call0_v1)) = res_main_call1_call0_v1 V0 :=
  (val0_9_keep V0 main_call1_call0_v1 (by decide)).trans (val0_8_main_call1_call0_v1 V0)
set_option maxRecDepth 8192 in
set_option maxHeartbeats 2000000 in
theorem val0_9_main_call1_call0_v142 (V0 : Valuation τ sig (Elt F)) : val0_9 V0 (no_index (Proc.devRef .tc main_call1_call0_v142)) = res_main_call1_call0_v142 V0 := by
  unfold val0_9
  simp only [ops_part0_8, TRef.binary, TRef.nullary, TRef.unary, TRef.toBuf, TRef.ofBuf, cast_eq]
  after_results_simp
  simp only [val0_8_main_call1_call0_v1, val0_8_main_call1_call0_v121, val0_8_main_call1_call0_v124, val0_8_main_call1_call0_v122, val0_8_main_call1_v7] <;> rfl
set_option maxRecDepth 8192 in
set_option maxHeartbeats 2000000 in
theorem val0_9_main_call1_call0_v148 (V0 : Valuation τ sig (Elt F)) : val0_9 V0 (no_index (Proc.devRef .tc main_call1_call0_v148)) = res_main_call1_call0_v148 V0 := by
  unfold val0_9
  simp only [ops_part0_8, TRef.binary, TRef.nullary, TRef.unary, TRef.toBuf, TRef.ofBuf, cast_eq]
  after_results_simp
  simp only [val0_8_main_call1_call0_v1, val0_8_main_call1_call0_v121, val0_8_main_call1_call0_v124, val0_8_main_call1_call0_v122, val0_8_main_call1_v7] <;> rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call1_call0_v149, main_call1_call0_c_38, main_call1_call0_v150, main_call1_call0_v151, main_call1_call0_c_39, main_call1_call0_v152, main_call1_call0_v153, main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163, main_call1_call0_c_42, main_call1_call0_v164, main_call1_call0_v165, main_call1_call0_c_43, main_call1_call0_v166, main_call1_call0_v167, main_call1_call0_v168, main_call1_call0_v169, main_call1_call0_v170, main_call1_v19_0, main_call1_call0_v172]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
theorem val0_10_main_v18 (V0 : Valuation τ sig (Elt F)) : val0_10 V0 (no_index (Proc.devRef .tc main_v18)) = res_main_v18 V0 :=
  (val0_10_keep V0 main_v18 (by decide)).trans (val0_9_main_v18 V0)
theorem val0_10_main_v33 (V0 : Valuation τ sig (Elt F)) : val0_10 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val0_10_keep V0 main_v33 (by decide)).trans (val0_9_main_v33 V0)
theorem val0_10_main_call1_v2 (V0 : Valuation τ sig (Elt F)) : val0_10 V0 (no_index (Proc.devRef .tc main_call1_v2)) = res_main_call1_v2 V0 :=
  (val0_10_keep V0 main_call1_v2 (by decide)).trans (val0_9_main_call1_v2 V0)
theorem val0_10_main_call1_v3 (V0 : Valuation τ sig (Elt F)) : val0_10 V0 (no_index (Proc.devRef .tc main_call1_v3)) = broadcastInDim S1x1 ![] bcast_S_S1x1 (id (constant S_ .f32 0x3F800000#32)) :=
  (val0_10_keep V0 main_call1_v3 (by decide)).trans (val0_9_main_call1_v3 V0)
set_option maxRecDepth 8192 in
set_option maxHeartbeats 2000000 in
theorem val0_10_main_call1_call0_v169 (V0 : Valuation τ sig (Elt F)) : val0_10 V0 (no_index (Proc.devRef .tc main_call1_call0_v169)) = xori (res_main_call1_call0_v163 V0) (ori (Host.shli (res_main_call1_call0_v162 V0) (broadcastInDim S16384x1968 ![] bcast_S_S16384x1968 (constantI S_ 32 6#32))) (Host.shrui (res_main_call1_call0_v162 V0) (broadcastInDim S16384x1968 ![] bcast_S_S16384x1968 (constantI S_ 32 26#32)))) := by
  unfold val0_10
  simp only [ops_part0_9, TRef.binary, TRef.nullary, TRef.unary, TRef.toBuf, TRef.ofBuf, cast_eq]
  after_results_simp
  simp only [val0_9_main_call1_call0_v148, val0_9_main_call1_call0_v142] <;> rfl
set_option maxRecDepth 8192 in
set_option maxHeartbeats 2000000 in
theorem val0_10_main_call1_v19_0 (V0 : Valuation τ sig (Elt F)) : val0_10 V0 (no_index (Proc.devRef .tc main_call1_v19_0)) = addi (res_main_call1_call0_v163 V0) (broadcastInDim S16384x1968 ![] bcast_S_S16384x1968 (res_main_call1_call0_v1 V0)) := by
  unfold val0_10
  simp only [ops_part0_9, TRef.binary, TRef.nullary, TRef.unary, TRef.toBuf, TRef.ofBuf, cast_eq]
  after_results_simp
  simp only [val0_9_main_call1_call0_v1, val0_9_main_call1_call0_v148, val0_9_main_call1_call0_v142] <;> rfl
set_option maxRecDepth 8192 in
set_option maxHeartbeats 2000000 in
theorem val0_10_main_call1_call0_v172 (V0 : Valuation τ sig (Elt F)) : val0_10 V0 (no_index (Proc.devRef .tc main_call1_call0_v172)) = broadcastInDim S16384x1968 ![] bcast_S_S16384x1968 (res_main_call1_v5 V0) := by
  unfold val0_10
  simp only [ops_part0_9, TRef.binary, TRef.nullary, TRef.unary, TRef.toBuf, TRef.ofBuf, cast_eq]
  after_results_simp
  simp only [val0_9_main_call1_v5] <;> rfl

/-- The device's buffer contents after @main's first 1 window. -/
def val1 (V0 : Valuation τ sig (Elt F)) : Valuation τ sig (Elt F) := after ops_part0_10 (val0_10 V0)
/-- The buffers that window `ops_part0_10`'s operations write. -/
abbrev ops_part0_10_W : List (Ref sig .tc) := [main_call1_call0_v173, main_call1_call0_c_44, main_call1_call0_v174, main_call1_v19_1, main_call1_v20, main_call1_c_2, main_call1_v21, main_call1_v22, main_call1_c_3, main_call1_v23, main_call1_v24, main_call1_v25, main_call1_cst, main_call1_v26, main_call1_v27, main_call1_v28, main_call1_v29, main_call1_v30, main_call1_v31, main_call1_v32, main_call1_v33, main_v41, main_cst_14, main_v42]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `ops_part0_10` does not write keeps its contents through it. -/
theorem val1_keep (V0 : Valuation τ sig (Elt F)) (r : Ref sig .tc) (h : r ∉ ops_part0_10_W) :
    val1 V0 (Proc.devRef .tc r) = val0_10 V0 (Proc.devRef .tc r) :=
  after_of_writes_sub ops_part0_10 _ ops_part0_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
theorem val1_main_arg1 (V0 : Valuation τ sig (Elt F)) : val1 V0 (no_index (Proc.devRef .tc main_arg1)) = V0 (Proc.devRef .tc main_arg1) :=
  (val1_keep V0 main_arg1 (by decide)).trans (val0_10_main_arg1 V0)
theorem val1_main_v18 (V0 : Valuation τ sig (Elt F)) : val1 V0 (no_index (Proc.devRef .tc main_v18)) = res_main_v18 V0 :=
  (val1_keep V0 main_v18 (by decide)).trans (val0_10_main_v18 V0)
theorem val1_main_v33 (V0 : Valuation τ sig (Elt F)) : val1 V0 (no_index (Proc.devRef .tc main_v33)) = Host.divf (res_main_v29 V0) (broadcastInDim S16384x1968 ![0, 1] bcast_S16384x1_S16384x1968_0_1 (broadcastInDim S16384x1 ![0] bcast_S16384_S16384x1_0 (Host.reduceAdd (res_main_v29 V0) (constant S_ .f32 0x00000000#32) reducesTo_S16384x1968_S16384_d1 h_S_))) :=
  (val1_keep V0 main_v33 (by decide)).trans (val0_10_main_v33 V0)
set_option maxRecDepth 8192 in
set_option maxHeartbeats 2000000 in
theorem val1_main_v41 (V0 : Valuation τ sig (Elt F)) : val1 V0 (no_index (Proc.devRef .tc main_v41)) = maximumf (broadcastInDim S16384x1968 ![0, 1] bcast_S1x1_S16384x1968_0_1 (res_main_call1_v2 V0)) (addf (mulf (subf (bitcastToFloat (F := F) .f32 (ori (Host.shrui (xori (addi (res_main_call1_call0_v163 V0) (broadcastInDim S16384x1968 ![] bcast_S_S16384x1968 (res_main_call1_call0_v1 V0))) (addi (addi (xori (res_main_call1_call0_v163 V0) (ori (Host.shli (res_main_call1_call0_v162 V0) (broadcastInDim S16384x1968 ![] bcast_S_S16384x1968 (constantI S_ 32 6#32))) (Host.shrui (res_main_call1_call0_v162 V0) (broadcastInDim S16384x1968 ![] bcast_S_S16384x1968 (constantI S_ 32 26#32))))) (broadcastInDim S16384x1968 ![] bcast_S_S16384x1968 (res_main_call1_v5 V0))) (broadcastInDim S16384x1968 ![] bcast_S_S16384x1968 (constantI S_ 32 5#32)))) (broadcastInDim S16384x1968 ![] bcast_S_S16384x1968 (constantI S_ 32 9#32))) (broadcastInDim S16384x1968 ![] bcast_S_S16384x1968 (constantI S_ 32 1065353216#32)))) (broadcastInDim S16384x1968 ![] bcast_S_S16384x1968 (constant S_ .f32 0x3F800000#32))) (broadcastInDim S16384x1968 ![0, 1] bcast_S1x1_S16384x1968_0_1 (subf (broadcastInDim S1x1 ![] bcast_S_S1x1 (id (constant S_ .f32 0x3F800000#32))) (res_main_call1_v2 V0)))) (broadcastInDim S16384x1968 ![0, 1] bcast_S1x1_S16384x1968_0_1 (res_main_call1_v2 V0))) := by
  unfold val1
  simp only [ops_part0_10, TRef.binary, TRef.nullary, TRef.unary, TRef.toBuf, TRef.ofBuf, cast_eq]
  after_results_simp
  simp only [val0_10_main_call1_v2, val0_10_main_call1_v3, val0_10_main_call1_call0_v172, val0_10_main_call1_call0_v169, val0_10_main_call1_v19_0] <;> rfl
set_option maxRecDepth 8192 in
set_option maxHeartbeats 2000000 in
theorem val1_main_v42 (V0 : Valuation τ sig (Elt F)) : val1 V0 (no_index (Proc.devRef .tc main_v42)) = broadcastInDim S16384x1968 ![] bcast_S_S16384x1968 (constant S_ .f32 0x3F800000#32) := by
  unfold val1
  simp only [ops_part0_10, TRef.binary, TRef.nullary, TRef.unary, TRef.toBuf, TRef.ofBuf, cast_eq]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v43, main_cst_15, main_v44, main_v45, main_cst_16, main_v46, main_v47, main_v48, main_v49, main_v50, main_v51, main_cst_17, main_v52, main_v53, main_v54, main_cst_18, main_v55, main_v56, main_v57, main_cst_19, main_call2_v0, main_call2_v1, main_v58, main_call3_v0, main_call3_cst, main_call3_c, main_call3_v1_0, main_v59, main_v60, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v61]
set_option maxRecDepth 8192 in
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
        binaryIndexed_writes, nary_writes, unaryIndexed_writes, Finset.singleton_subset_iff, List.mem_toFinset]
     exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
set_option maxRecDepth 8192 in
set_option maxHeartbeats 2000000 in
theorem val2_main_v59 (V0 : Valuation τ sig (Elt F)) : val2 V0 (no_index (Proc.devRef .tc main_v59)) = (fun j => (Host.argReduce reducer_argmax_f32_i32 (res_main_v58 V0) (res_main_call3_v0 V0) (res_main_call3_cst V0) (res_main_call3_c V0) reducesTo_S16384x1968_S16384_d1 h_S_ j).2) := by
  unfold val2
  simp only [ops_part1, TRef.binary, TRef.nullary, TRef.quaternary, TRef.reshape, TRef.ternary, TRef.unary, TRef.toBuf, TRef.ofBuf, cast_eq]
  after_results_simp
  simp only [val1_main_v42, val1_main_v41, val1_main_v33, val1_main_v18] <;> rfl
set_option maxRecDepth 8192 in
set_option maxHeartbeats 2000000 in
theorem val2_main_v61 (V0 : Valuation τ sig (Elt F)) : val2 V0 (no_index (Proc.devRef .tc main_v61)) = select (Host.reduce IntOp.andi (andi (cmpi .sge (res_main_call4_v5 V0) (broadcastInDim S16384x1x1 ![] bcast_S_S16384x1x1 (constantI S_ 32 0#32))) (cmpi .sle (res_main_call4_v5 V0) (broadcastInDim S16384x1x1 ![0, 1, 2] bcast_S1x1x1_S16384x1x1_0_1_2 (broadcastInDim S1x1x1 ![2] bcast_S1_S1x1x1_2 (constantI S1 32 1967#32))))) (constantI S_ 1 1#1) reducesTo_S16384x1x1_S16384x1_d2 h_S_) (Host.gather gather_S16384x1968_S16384x1x1_S16384x1_n_1_0_0_1_2_11 (res_main_v54 V0) (res_main_call4_v5 V0)) (broadcastInDim S16384x1 ![] bcast_S_S16384x1 (constant S_ .f32 0x7FC00000#32)) := by
  unfold val2
  simp only [ops_part1, TRef.binary, TRef.nullary, TRef.quaternary, TRef.reshape, TRef.ternary, TRef.unary, TRef.toBuf, TRef.ofBuf, cast_eq]
  after_results_simp
  simp only [val1_main_v42, val1_main_v41, val1_main_v18, val1_main_v33] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = (fun j => (Host.argReduce reducer_argmax_f32_i32 (res_main_v58 (launchContents m c)) (res_main_call3_v0 (launchContents m c)) (res_main_call3_cst (launchContents m c)) (res_main_call3_c (launchContents m c)) reducesTo_S16384x1968_S16384_d1 h_S_ j).2)
      ∧ r.2.mem ((c.tc : Thread nD τ).loc main_v61) = select (Host.reduce IntOp.andi (andi (cmpi .sge (res_main_call4_v5 (launchContents m c)) (broadcastInDim S16384x1x1 ![] bcast_S_S16384x1x1 (constantI S_ 32 0#32))) (cmpi .sle (res_main_call4_v5 (launchContents m c)) (broadcastInDim S16384x1x1 ![0, 1, 2] bcast_S1x1x1_S16384x1x1_0_1_2 (broadcastInDim S1x1x1 ![2] bcast_S1_S1x1x1_2 (constantI S1 32 1967#32))))) (constantI S_ 1 1#1) reducesTo_S16384x1x1_S16384x1_d2 h_S_) (Host.gather gather_S16384x1968_S16384x1x1_S16384x1_n_1_0_0_1_2_11 (res_main_v54 (launchContents m c)) (res_main_call4_v5 (launchContents m c))) (broadcastInDim S16384x1 ![] bcast_S_S16384x1 (constant S_ .f32 0x7FC00000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans ((congrFun (after_ops (launchContents m c)) (Proc.devRef .tc main_v59)).trans (val2_main_v59 (launchContents m c))),
      (h c main_v61).trans ((congrFun (after_ops (launchContents m c)) (Proc.devRef .tc main_v61)).trans (val2_main_v61 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c)))⟩)
    (run_seq scopedRefs_eq scopedSems_eq defs main (fun _ => ops) main_eq (fun _ => ops_sub) m ρ fun _ => ops_fresh)

end Cert.ReferenceIdeal.Value

end
-- ==== Proof.Same.lean ====
/-
  The kernel's own text is the ideal one with the mask spelt by its bits, so over the words of a float its run is the run already
  proved; with it the frame of the kernel, the frame of the reference, and the one rewrite between the two texts.
-/
module

public import proofs.«01_k».proof.Proof.Frames
public import proofs.«01_k».proof.Proof.RefRun
public import proofs.«01_k».proof.Proof.Gen.Kernel

@[expose] public section

noncomputable section

namespace Cert.Proof.Legal

open Cert.KernelIdeal Cert.KernelIdeal.Gen
open Idealize.ShloMosaic Idealize.SL.Sem
open Idealize.ShloMosaic.TcCoe

/-- The kernel's own text spells each constant by its bits where the ideal one names it; over the words of a float a named constant is its word. -/
instance bitsNamed : Named Bits where
  named _ _ {φ} bits := FloatOps.ofBits φ bits

/-! ## The kernel's own text

It differs from the ideal one in spelling the mask by its bits; over the words of a float the two are the same program. -/

theorem cc1_same : @Cert.Kernel.cc1_body Bits _ Cert.Kernel.Gen.facts = @Cert.KernelIdeal.cc1_body Bits _ Cert.KernelIdeal.Gen.facts := rfl
theorem cc2_same : @Cert.Kernel.cc2_body Bits _ Cert.Kernel.Gen.facts = @Cert.KernelIdeal.cc2_body Bits _ Cert.KernelIdeal.Gen.facts := rfl
theorem cc0_same : @Cert.Kernel.cc0_sc_kernel Bits _ Cert.Kernel.Gen.facts = @Cert.KernelIdeal.cc0_sc_kernel Bits _ _ Cert.KernelIdeal.Gen.facts := rfl

set_option maxHeartbeats 4000000 in
theorem bodies_same : @Cert.Kernel.defs₀ Bits _ Cert.Kernel.Gen.facts = @Cert.KernelIdeal.defs₀ Bits _ _ Cert.KernelIdeal.Gen.facts := by
  funext p ℓ a
  match p, ℓ, a with
  | .tc, 0, a => rfl
  | .tc, 1, (t, s) => simp only [Cert.Kernel.defs₀]; rw [cc1_same]; rfl
  | .tc, 2, (t, s) => simp only [Cert.Kernel.defs₀]; rw [cc2_same]; rfl
  | .scScalar c, 0, a => rfl
  | .scScalar c, 1, a => rfl
  | .scScalar c, 2, a => rfl
  | .scVector c s, 0, a => simp only [Cert.Kernel.defs₀]; rw [cc0_same]; rfl
  | .scVector c s, 1, a => rfl
  | .scVector c s, 2, a => rfl

theorem defs_same : @Cert.Kernel.defs Bits _ Cert.Kernel.Gen.facts = @Cert.KernelIdeal.defs Bits _ _ Cert.KernelIdeal.Gen.facts :=
  congrArg (fun D => (Cert.KernelIdeal.sc (F := Bits)).defs (Pipeline.defs (Cert.KernelIdeal.pcfgs (F := Bits)) D)) bodies_same

theorem threads_same : Cert.Kernel.threads (F := Bits) = Cert.KernelIdeal.threads (F := Bits) := rfl

/-- `Cert.quiescent_Kernel`: the run over the words of a float, where a named constant is its word. -/
theorem frame_kernel : Cert.quiescent_Kernel (hKernel := Cert.Kernel.Gen.facts) (hPre_ids_in_range := pre_facts) := by
  intro m ρ hpre
  have h := frame_any (F := Bits) m ρ fun d => @ids_lt _ _ pre_facts _ _ (hpre d)
  rw [← defs_same] at h
  exact h

/-- `Cert.quiescent_ReferenceIdeal`: the reference declares no semaphore. -/
theorem frame_referenceIdeal : Cert.quiescent_ReferenceIdeal (hReferenceIdeal := Cert.ReferenceIdeal.Gen.facts) (hPre_ids_in_range := pre_facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- `Cert.preserves_Kernel_KernelIdeal`: the constant the mask's name replaces stands for minus infinity. -/
theorem preserves : Cert.preserves_Kernel_KernelIdeal :=
  IdealRules.named_const.statement Cert.KernelIdeal.κ "mask" .f32 0xF149F2CA#32 ⊥ rfl

end Cert.Proof.Legal

end
-- ==== Proof.RowMath.lean ====
/-
  One row of the problem as mathematics on the extended reals. The kernel works on the row's lanes: each lane carries an id, ids may
  repeat, and among the lanes that carry one id exactly one (the winner) keeps the table's value, the others are masked with -∞. The
  reference works on the whole table: a position is masked when no lane carries it. Both take a softmax, a logarithm, add a noise that
  depends on the id alone, and take the position of the largest sum. The theorem of this file: both find the same position and the same
  logarithm there.
-/
module

public import Idealize.ShloMosaic.PureOps.Ideal.Laws

@[expose] public section

noncomputable section

namespace Cert.Proof.Legal.Row

open Idealize.ShloMosaic

variable {n m : ℕ}

/-! ## The lanes' side -/

section Lanes

variable (ids : Fin n → Fin m) (win : Fin n → Prop) [DecidablePred win] (tab gum : Fin m → EReal) (ε lo hi : EReal)

/-- A lane's kept value: the table's at a winner, -∞ elsewhere. -/
def lKept (l : Fin n) : EReal := if win l then tab (ids l) else ⊥
/-- The largest of a row of values. -/
def top {k : ℕ} (f : Fin k → EReal) : EReal := (Finset.univ : Finset (Fin k)).fold max ⊥ f
/-- The smallest of a row of values. -/
def low {k : ℕ} (f : Fin k → EReal) : EReal := (Finset.univ : Finset (Fin k)).fold min ⊤ f
/-- The exponential of a value less the row's largest. -/
def shiftExp {k : ℕ} (f : Fin k → EReal) (l : Fin k) : EReal := Ideal.exp (f l - top f)
/-- The logarithm of a value's share of the row's sum of exponentials. -/
def logShare {k : ℕ} (f : Fin k → EReal) (l : Fin k) : EReal :=
  Ideal.log (Ideal.div (shiftExp f l) (∑ i, shiftExp f i) + ε)
/-- A lane's candidate: its logarithm plus its id's noise. -/
def lCand (l : Fin n) : EReal := logShare ε (lKept ids win tab) l + gum (ids l)
/-- An id as a number. -/
def num (c : Fin m) : EReal := ((c.val : ℝ) : EReal)
/-- The lanes' sample: the smallest id among the lanes that hold the largest candidate. -/
def lSample : EReal :=
  low fun l => if lCand ids win tab gum ε l = top (lCand ids win tab gum ε) then num (ids l) else hi
/-- The lanes' logarithm: the largest among the lanes whose id is the sample. -/
def lLog : EReal :=
  top fun l => if num (ids l) = lSample ids win tab gum ε hi then logShare ε (lKept ids win tab) l else lo

end Lanes

/-! ## The table's side -/

section Table

variable (here : Fin m → Prop) [DecidablePred here] (tab gum : Fin m → EReal) (ε : EReal)

/-- A position's value: the table's where some lane carries the position, -∞ elsewhere. -/
def tMasked (c : Fin m) : EReal := if here c then tab c else ⊥
/-- A position's candidate. -/
def tCand (c : Fin m) : EReal := if here c then logShare ε (tMasked here tab) c + gum c else ⊥

end Table

/-! ## Largest and smallest -/

theorem top_eq_sup {k : ℕ} (f : Fin k → EReal) : top f = Finset.univ.sup f := rfl
theorem low_eq_inf {k : ℕ} (f : Fin k → EReal) : low f = Finset.univ.inf f := rfl
theorem le_top' {k : ℕ} (f : Fin k → EReal) (l : Fin k) : f l ≤ top f := by
  rw [top_eq_sup]; exact Finset.le_sup (f := f) (Finset.mem_univ l)
theorem top_le' {k : ℕ} {f : Fin k → EReal} {a : EReal} (h : ∀ l, f l ≤ a) : top f ≤ a := by
  rw [top_eq_sup]; exact Finset.sup_le fun l _ => h l
theorem low_le' {k : ℕ} (f : Fin k → EReal) (l : Fin k) : low f ≤ f l := by
  rw [low_eq_inf]; exact Finset.inf_le (f := f) (Finset.mem_univ l)
theorem le_low' {k : ℕ} {f : Fin k → EReal} {a : EReal} (h : ∀ l, a ≤ f l) : a ≤ low f := by
  rw [low_eq_inf]; exact Finset.le_inf fun l _ => h l

/-- A largest value is attained. -/
theorem exists_top {k : ℕ} (hk : 0 < k) (f : Fin k → EReal) : ∃ l, f l = top f := by
  obtain ⟨l, -, h⟩ := Finset.exists_mem_eq_sup (Finset.univ : Finset (Fin k)) ⟨⟨0, hk⟩, Finset.mem_univ _⟩ f
  exact ⟨l, by rw [top_eq_sup]; exact h.symm⟩

/-! ## The logarithms -/

theorem coe_sum {k : ℕ} (f : Fin k → ℝ) : ∑ i, ((f i : ℝ) : EReal) = ((∑ i, f i : ℝ) : EReal) := by
  induction k with
  | zero => simp
  | succ k ih => rw [Fin.sum_univ_succ, Fin.sum_univ_succ, ih, ← EReal.coe_add]

/-- A row with a finite largest value μ, entry by entry finite or -∞: its exponentials are real numbers. -/
theorem shiftExp_real {k : ℕ} (f : Fin k → EReal) (p : Fin k → Prop) [DecidablePred p] (t : Fin k → ℝ) (μ : ℝ)
    (hf : ∀ l, f l = if p l then ((t l : ℝ) : EReal) else ⊥) (hμ : top f = (μ : EReal)) (l : Fin k) :
    shiftExp f l = ((if p l then Real.exp (t l - μ) else 0 : ℝ) : EReal) := by
  unfold shiftExp
  rw [hμ, hf l]
  by_cases h : p l
  · rw [if_pos h, if_pos h, ← EReal.coe_sub, Ideal.exp_coe]
  · rw [if_neg h, if_neg h, EReal.bot_sub, Ideal.exp_bot]; rfl

theorem logShare_real {k : ℕ} (f : Fin k → EReal) (e : Fin k → ℝ) (he : ∀ l, shiftExp f l = ((e l : ℝ) : EReal))
    (h0 : ∀ l, 0 ≤ e l) (z : ℝ) (hz : ∑ i, e i = z) (hp : 0 < z) (ε : ℝ) (hε : 0 < ε) (l : Fin k) :
    logShare (ε : EReal) f l = ((Real.log (e l / z + ε) : ℝ) : EReal) := by
  unfold logShare
  rw [Finset.sum_congr rfl fun i _ => he i, coe_sum, hz, he l, Ideal.div_coe hp.ne', ← EReal.coe_mul, ← EReal.coe_add, Ideal.log_coe,
    if_neg, mul_one_div]
  have := mul_nonneg (h0 l) (one_div_pos.2 hp).le
  linarith

/-! ## Both sides agree -/

section Agree

variable (ids : Fin n → Fin m) (win : Fin n → Prop) [DecidablePred win] (here : Fin m → Prop) [DecidablePred here]
variable (tab gum : Fin m → EReal) (lo hi : EReal) (ε : ℝ)

/-- What makes the two rows the same: every id some lane carries has exactly one winner. -/
structure Fits : Prop where
  here_of : ∀ l, here (ids l)
  win_of : ∀ c, here c → ∃ l, win l ∧ ids l = c
  win_inj : ∀ l l', win l → win l' → ids l = ids l' → l = l'

variable {ids win here}

theorem top_eq (h : Fits ids win here) : top (lKept ids win tab) = top (tMasked here tab) := by
  refine le_antisymm (top_le' fun l => ?_) (top_le' fun c => ?_)
  · unfold lKept
    by_cases hw : win l
    · rw [if_pos hw]
      refine le_trans (le_of_eq ?_) (le_top' (tMasked here tab) (ids l))
      unfold tMasked; rw [if_pos (h.here_of l)]
    · rw [if_neg hw]; exact bot_le
  · unfold tMasked
    by_cases hc : here c
    · obtain ⟨l, hw, rfl⟩ := h.win_of c hc
      rw [if_pos hc]
      refine le_trans (le_of_eq ?_) (le_top' (lKept ids win tab) l)
      unfold lKept; rw [if_pos hw]
    · rw [if_neg hc]; exact bot_le

/-- The sum over the lanes of what the winners carry is the sum over the table. -/
theorem sum_eq (h : Fits ids win here) (g : Fin m → ℝ) :
    ∑ l, (if win l then g (ids l) else 0) = ∑ c, (if here c then g c else 0) := by
  rw [← Finset.sum_filter, ← Finset.sum_filter]
  refine Finset.sum_bij (fun l _ => ids l) ?_ ?_ ?_ ?_
  · intro l _; exact Finset.mem_filter.2 ⟨Finset.mem_univ _, h.here_of l⟩
  · intro l hl l' hl' e
    exact h.win_inj l l' (Finset.mem_filter.1 hl).2 (Finset.mem_filter.1 hl').2 e
  · intro c hc
    obtain ⟨l, hw, e⟩ := h.win_of c (Finset.mem_filter.1 hc).2
    exact ⟨l, Finset.mem_filter.2 ⟨Finset.mem_univ _, hw⟩, e⟩
  · intro l _; rfl

/-- The logarithms of the two sides, as real numbers: a winner's is its position's, no lane's is above its position's, and none is
    below the logarithm of ε. -/
theorem logs (h : Fits ids win here) (hn : 0 < n) (hfin : ∀ c, tab c ≠ ⊥ ∧ tab c ≠ ⊤) (hε : 0 < ε) :
    ∃ (a : Fin n → ℝ) (b : Fin m → ℝ), (∀ l, logShare (ε : EReal) (lKept ids win tab) l = (a l : EReal))
      ∧ (∀ c, logShare (ε : EReal) (tMasked here tab) c = (b c : EReal)) ∧ (∀ l, a l ≤ b (ids l)) ∧ (∀ l, win l → a l = b (ids l))
      ∧ (∀ c, Real.log ε ≤ b c) := by
  have ht : ∀ c, tab c = (((tab c).toReal : ℝ) : EReal) := fun c => (EReal.coe_toReal (hfin c).2 (hfin c).1).symm
  set t : Fin m → ℝ := fun c => (tab c).toReal with htdef
  have hk : ∀ l, lKept ids win tab l = if win l then ((t (ids l) : ℝ) : EReal) else ⊥ := fun l => by
    unfold lKept; rw [ht (ids l)]
  have hm : ∀ c, tMasked here tab c = if here c then ((t c : ℝ) : EReal) else ⊥ := fun c => by
    unfold tMasked; rw [ht c]
  have hbot : top (tMasked here tab) ≠ ⊥ := by
    intro e
    have := le_top' (tMasked here tab) (ids ⟨0, hn⟩)
    rw [e, hm, if_pos (h.here_of _)] at this
    exact EReal.coe_ne_bot _ (le_bot_iff.1 this)
  have htop : top (tMasked here tab) ≠ ⊤ := by
    have hm0 : 0 < m := (Fin.pos (ids ⟨0, hn⟩))
    obtain ⟨c, hc⟩ := exists_top hm0 (tMasked here tab)
    rw [← hc, hm]
    by_cases hh : here c
    · rw [if_pos hh]; exact EReal.coe_ne_top _
    · rw [if_neg hh]; exact bot_ne_top
  set μ : ℝ := (top (tMasked here tab)).toReal
  have hμ : top (tMasked here tab) = (μ : EReal) := (EReal.coe_toReal htop hbot).symm
  have hμ' : top (lKept ids win tab) = (μ : EReal) := (top_eq tab h).trans hμ
  have el := shiftExp_real (lKept ids win tab) win (fun l => t (ids l)) μ hk hμ'
  have ec := shiftExp_real (tMasked here tab) here t μ hm hμ
  set z : ℝ := ∑ c, (if here c then Real.exp (t c - μ) else 0) with hz
  have hzl : ∑ l, (if win l then Real.exp (t (ids l) - μ) else 0) = z := sum_eq h fun c => Real.exp (t c - μ)
  have hpos : 0 < z := by
    refine Finset.sum_pos' (fun c _ => ?_) ⟨ids ⟨0, hn⟩, Finset.mem_univ _, ?_⟩
    · split_ifs; exact (Real.exp_pos _).le; exact le_refl _
    · rw [if_pos (h.here_of _)]; exact Real.exp_pos _
  have hl0 : ∀ l, 0 ≤ (if win l then Real.exp (t (ids l) - μ) else 0) := fun l => by
    split_ifs; exact (Real.exp_pos _).le; exact le_refl _
  have hc0 : ∀ c, 0 ≤ (if here c then Real.exp (t c - μ) else 0) := fun c => by
    split_ifs; exact (Real.exp_pos _).le; exact le_refl _
  have hdiv : ∀ x : ℝ, 0 ≤ x → 0 < x / z + ε := fun x hx => by have := div_nonneg hx hpos.le; linarith
  refine ⟨_, _, logShare_real _ _ el hl0 z hzl hpos ε hε, logShare_real _ _ ec hc0 z rfl hpos ε hε, fun l => ?_, fun l hw => ?_,
    fun c => ?_⟩
  · refine Real.log_le_log (hdiv _ (hl0 l)) ?_
    refine add_le_add (div_le_div_of_nonneg_right ?_ hpos.le) (le_refl _)
    rw [if_pos (h.here_of l)]
    split_ifs
    · exact le_refl _
    · exact (Real.exp_pos _).le
  · simp only [if_pos hw, if_pos (h.here_of l)]
  · refine Real.log_le_log hε ?_
    have := div_nonneg (hc0 c) hpos.le
    linarith

theorem num_le_num {c c' : Fin m} : num c ≤ num c' ↔ c ≤ c' := by
  unfold num
  rw [EReal.coe_le_coe_iff, Nat.cast_le]; rfl

theorem num_inj {c c' : Fin m} (e : num c = num c') : c = c' :=
  le_antisymm (num_le_num.1 e.le) (num_le_num.1 e.ge)

/-- Both sides find the same position c, and the same logarithm there: c holds the table's largest candidate, and no smaller position
    holds it. -/
theorem agree (h : Fits ids win here) (hn : 0 < n) (hfin : ∀ c, tab c ≠ ⊥ ∧ tab c ≠ ⊤) (hε : 0 < ε) (hg : ∀ c, gum c ≠ ⊥)
    (hlo : lo ≤ ((Real.log ε : ℝ) : EReal)) (hhi : ∀ c : Fin m, num c ≤ hi) :
    ∃ c : Fin m, lSample ids win tab gum (ε : EReal) hi = num c
      ∧ lLog ids win tab gum (ε : EReal) lo hi = logShare (ε : EReal) (tMasked here tab) c
      ∧ (∀ c', tCand here tab gum (ε : EReal) c' ≤ tCand here tab gum (ε : EReal) c)
      ∧ (∀ c', c' < c → tCand here tab gum (ε : EReal) c' < tCand here tab gum (ε : EReal) c) := by
  obtain ⟨a, b, ha, hb, hab, hwin, hlog⟩ := logs tab ε h hn hfin hε
  have hcl : ∀ l, lCand ids win tab gum (ε : EReal) l = (a l : EReal) + gum (ids l) := fun l => by unfold lCand; rw [ha]
  have hct : ∀ c, here c → tCand here tab gum (ε : EReal) c = (b c : EReal) + gum c := fun c hc => by
    unfold tCand; rw [if_pos hc, hb]
  set T := tCand here tab gum (ε : EReal) with hT
  set C := lCand ids win tab gum (ε : EReal) with hC
  have hle : ∀ l, C l ≤ T (ids l) := fun l => by
    rw [hcl, hct _ (h.here_of l)]
    exact add_le_add (EReal.coe_le_coe_iff.2 (hab l)) (le_refl _)
  have heq : ∀ l, win l → C l = T (ids l) := fun l hw => by
    rw [hcl, hct _ (h.here_of l), hwin l hw]
  have htop : top C = top T := by
    refine le_antisymm (top_le' fun l => (hle l).trans (le_top' T _)) (top_le' fun c => ?_)
    by_cases hc : here c
    · obtain ⟨l, hw, rfl⟩ := h.win_of c hc
      rw [← heq l hw]; exact le_top' C l
    · rw [hT]; unfold tCand; rw [if_neg hc]; exact bot_le
  have hne : top T ≠ ⊥ := by
    intro e
    have h1 := le_top' T (ids ⟨0, hn⟩)
    rw [e, hct _ (h.here_of _)] at h1
    rcases EReal.add_eq_bot_iff.1 (le_bot_iff.1 h1) with h2 | h2
    · exact EReal.coe_ne_bot _ h2
    · exact hg _ h2
  have hhere : ∀ c, T c = top T → here c := fun c e => by
    by_contra hc
    apply hne; rw [← e, hT]; unfold tCand; rw [if_neg hc]
  have hm0 : 0 < m := Fin.pos (ids ⟨0, hn⟩)
  obtain ⟨c, hc, hmin⟩ : ∃ c, T c = top T ∧ ∀ c', T c' = top T → c ≤ c' := by
    have hex := exists_top hm0 T
    obtain ⟨c, hc, hm⟩ := Finset.exists_min_image (Finset.univ.filter fun c => T c = top T) id
      (by obtain ⟨c, hc⟩ := hex; exact ⟨c, Finset.mem_filter.2 ⟨Finset.mem_univ _, hc⟩⟩)
    exact ⟨c, (Finset.mem_filter.1 hc).2, fun c' h' => hm c' (Finset.mem_filter.2 ⟨Finset.mem_univ _, h'⟩)⟩
  obtain ⟨w, hw, hwc⟩ := h.win_of c (hhere c hc)
  have hCw : C w = top C := by rw [heq w hw, hwc, htop, hc]
  have hsamp : lSample ids win tab gum (ε : EReal) hi = num c := by
    unfold lSample
    refine le_antisymm ?_ (le_low' fun l => ?_)
    · refine (low_le' _ w).trans (le_of_eq ?_)
      simp only [← hC]
      rw [if_pos hCw, hwc]
    · simp only [← hC]
      by_cases hl : C l = top C
      · rw [if_pos hl]
        refine num_le_num.2 (hmin _ (le_antisymm (le_top' T _) ?_))
        rw [← htop, ← hl]; exact hle l
      · rw [if_neg hl]; exact hhi c
  refine ⟨c, hsamp, ?_, fun c' => by rw [hc]; exact le_top' T c', fun c' hlt => ?_⟩
  · unfold lLog
    rw [hsamp, hb c]
    refine le_antisymm (top_le' fun l => ?_) ?_
    · by_cases hl : num (ids l) = num c
      · rw [if_pos hl, ha, ← num_inj hl]; exact EReal.coe_le_coe_iff.2 (hab l)
      · rw [if_neg hl]; exact hlo.trans (EReal.coe_le_coe_iff.2 (hlog c))
    · refine le_trans (le_of_eq ?_) (le_top' _ w)
      rw [if_pos (by rw [hwc]), ha, hwin w hw, hwc]
  · rw [hc]
    refine lt_of_le_of_ne (le_top' T c') fun e => ?_
    exact absurd (hmin c' e) (not_le.2 hlt)

end Agree

end Cert.Proof.Legal.Row

end
-- ==== Proof.Cipher.lean ====
/-
  The noise both programs add, as a function of one 32-bit counter: a counter-based generator of twenty rounds keyed with (0, 1), whose
  output word is read as a fraction in [0, 1) and taken through minus the logarithm of minus the logarithm. And the real numbers that the
  programs' few float literals stand for.
-/
module

public import Idealize.ShloMosaic.PureOps.Ideal.Laws
public import proofs.«01_k».proof.Proof.RowMath

@[expose] public section

noncomputable section

namespace Cert.Proof.Legal.Cipher

open Idealize.ShloMosaic

/-! ## The rounds -/

/-- A word turned left by a bits; b is 32 - a. -/
def rot (a b : BitVec 32) (x : BitVec 32) : BitVec 32 := x <<< a ||| x >>> b

/-- One round on a pair (sum, word): the word is turned and mixed with the sum, the sum takes the new word in. -/
def turn (a b : BitVec 32) (q : BitVec 32 × BitVec 32) : BitVec 32 × BitVec 32 :=
  (q.1 + (q.1 ^^^ rot a b q.2), q.1 ^^^ rot a b q.2)

/-- A group's last round: a turn whose word and sum take key words and the group's number in. -/
def mix (a b k k' c : BitVec 32) (q : BitVec 32 × BitVec 32) : BitVec 32 × BitVec 32 :=
  (q.1 + k' + ((q.1 ^^^ rot a b q.2) + k + c), (q.1 ^^^ rot a b q.2) + k + c)

/-- The third key word. -/
def key2 : BitVec 32 := 466688987#32

/-- The pair the rounds start from. -/
def start (n : BitVec 32) : BitVec 32 × BitVec 32 := (0#32 + 0#32 + (n + 1#32), n + 1#32)

/-- The first three rounds of an odd group, and of an even one. -/
def odd3 (q : BitVec 32 × BitVec 32) : BitVec 32 × BitVec 32 := turn 26#32 6#32 (turn 15#32 17#32 (turn 13#32 19#32 q))
def even3 (q : BitVec 32 × BitVec 32) : BitVec 32 × BitVec 32 := turn 16#32 16#32 (turn 29#32 3#32 (turn 17#32 15#32 q))

/-- All rounds but the last. -/
def rounds (n : BitVec 32) : BitVec 32 × BitVec 32 :=
  odd3 (mix 24#32 8#32 key2 1#32 4#32 (even3 (mix 6#32 26#32 1#32 0#32 3#32 (odd3 (mix 24#32 8#32 0#32 key2 2#32
    (even3 (mix 6#32 26#32 key2 1#32 1#32 (odd3 (start n)))))))))

/-- The output word of a pair: its last round, the key, and the two words mixed. -/
def out (q : BitVec 32 × BitVec 32) : BitVec 32 := (q.1 + key2) ^^^ ((q.1 ^^^ rot 6#32 26#32 q.2) + 0#32 + 5#32)

/-! ## The noise of a word -/

/-- The smallest fraction allowed, 1e-10's float word. -/
def tiny : EReal := Ideal.ofBits .f32 0x2EDBE6FF#32

/-- The fraction of a word: 23 of its bits as a float in [1, 2), less one. -/
def frac (b : BitVec 32) : EReal := Ideal.ofBits .f32 (b >>> 9#32 ||| 1065353216#32) - 1

/-- The noise of a word. -/
def gum (b : BitVec 32) : EReal := -Ideal.log (-Ideal.log (max tiny (frac b + tiny)))

/-- The noise of a counter. -/
def noise (n : BitVec 32) : EReal := gum (out (rounds n))

/-! ## The literals -/

theorem one_f32 : Ideal.ofBits .f32 0x3F800000#32 = (1 : EReal) := by
  simp [Ideal.ofBits, Ideal.ieee, -EReal.coe_mul]; norm_num

theorem bot_f32 : Ideal.ofBits .f32 0xFF800000#32 = (⊥ : EReal) := by
  simp [Ideal.ofBits, Ideal.ieee]

theorem top_f32 : Ideal.ofBits .f32 0x7F800000#32 = (⊤ : EReal) := by
  simp [Ideal.ofBits, Ideal.ieee]

/-- 1e-30's float word. -/
def epsR : ℝ := 10633824 * (2 : ℝ) ^ (-123 : ℤ)

theorem eps_f32 : Ideal.ofBits .f32 0x0DA24260#32 = ((epsR : ℝ) : EReal) := by
  simp [Ideal.ofBits, Ideal.ieee, epsR, -EReal.coe_mul]

theorem eps_pos : 0 < epsR := by unfold epsR; positivity

theorem tiny_pos : (0 : EReal) < tiny := by
  have : tiny = ((14411519 * (2 : ℝ) ^ (-57 : ℤ) : ℝ) : EReal) := by
    simp [tiny, Ideal.ofBits, Ideal.ieee, -EReal.coe_mul]
  rw [this]
  exact EReal.coe_pos.2 (by positivity)

/-- -3e38's float word is below the logarithm of 1e-30's. -/
theorem lo_le : Ideal.ofBits .f32 0xFF61B1E6#32 ≤ ((Real.log epsR : ℝ) : EReal) := by
  have e : Ideal.ofBits .f32 0xFF61B1E6#32 = ((-(14791142 * (2 : ℝ) ^ (104 : ℤ)) : ℝ) : EReal) := by
    simp [Ideal.ofBits, Ideal.ieee, -EReal.coe_mul]
  rw [e, EReal.coe_le_coe_iff]
  refine le_trans ?_ (Real.one_sub_inv_le_log_of_pos eps_pos)
  unfold epsR
  norm_num

/-- Every table position is below 3e38's float word. -/
theorem num_le_hi (c : Fin 1968) : Row.num c ≤ Ideal.ofBits .f32 0x7F61B1E6#32 := by
  have e : Ideal.ofBits .f32 0x7F61B1E6#32 = ((14791142 * (2 : ℝ) ^ (104 : ℤ) : ℝ) : EReal) := by
    simp [Ideal.ofBits, Ideal.ieee, -EReal.coe_mul]
  rw [e]
  unfold Row.num
  rw [EReal.coe_le_coe_iff]
  have h : ((c.val : ℕ) : ℝ) ≤ 1968 := by exact_mod_cast c.isLt.le
  refine h.trans ?_
  norm_num

/-- The noise is never -∞: the fraction is kept above zero. -/
theorem gum_ne_bot (b : BitVec 32) : gum b ≠ ⊥ := by
  unfold gum
  set u : EReal := max tiny (frac b + tiny) with hu
  have hpos : 0 < u := lt_of_lt_of_le tiny_pos (le_max_left _ _)
  intro h
  have h1 : Ideal.log (-Ideal.log u) = ⊤ := by
    rw [← neg_neg (Ideal.log (-Ideal.log u)), h]; rfl
  have hlog : ∀ x : EReal, Ideal.log x = ⊤ → x = ⊤ := fun x hx => by
    induction x with
    | bot => exact absurd hx (by simp)
    | top => rfl
    | coe r =>
      rw [Ideal.log_coe] at hx
      split_ifs at hx
      · exact absurd hx bot_ne_top
      · exact absurd hx (EReal.coe_ne_top _)
  have h2 : Ideal.log u = ⊥ := by
    rw [← neg_neg (Ideal.log u), hlog _ h1]; rfl
  clear_value u
  induction u with
  | bot => exact absurd hpos (by simp)
  | top => exact absurd h2 (by simp)
  | coe r =>
    rw [Ideal.log_coe, if_neg (not_le.2 (EReal.coe_pos.1 hpos))] at h2
    exact EReal.coe_ne_bot _ h2

/-- Keeping the fraction at or above zero first changes nothing: the last maximum keeps it above the smallest fraction anyway. -/
theorem frac_max (x : EReal) : max tiny (max 0 (x * 1 + 0) * 1 + tiny) = max tiny (x + tiny) := by
  rw [mul_one, mul_one, add_zero, max_comm (0 : EReal) x]
  rcases le_total x 0 with h | h
  · rw [max_eq_right h, zero_add, max_self, max_eq_left]
    calc x + tiny ≤ 0 + tiny := add_le_add h (le_refl _)
      _ = tiny := zero_add _
  · rw [max_eq_left h]

end Cert.Proof.Legal.Cipher

end
-- ==== Proof.KNoise.lean ====
/-
  The noise the kernel's first body computes, entry by entry: at a block's row and lane it is the cipher's noise at the counter made of
  the row number and the lane's id.
-/
module

public import proofs.«01_k».proof.Proof.TcBody
public import proofs.«01_k».proof.Proof.Cipher
public import Idealize.ShloMosaic.Lib.Pipeline.Value

@[expose] public section

set_option maxRecDepth 8192

noncomputable section

namespace Cert.Proof.Legal

open Cert.KernelIdeal Cert.KernelIdeal.Gen
open Idealize.ShloMosaic Idealize.SL.Sem
open Idealize.ShloMosaic.TcCoe

/-! ## The rounds -/

section Rounds

variable {F : FTy → Type} [FloatOps F] [Named F] (i : grid1.Coords) (x : Vec F S512x128 .i32) (p : S512x128.Idx)

theorem n_a : (k1_pay5 i x p, k1_pay4 i x p) = Cipher.turn 13#32 19#32 (k1_pay3 i x p, k1_pay2 i x p) := rfl
theorem n_b : (k1_pay7 i x p, k1_pay6 i x p) = Cipher.turn 15#32 17#32 (k1_pay5 i x p, k1_pay4 i x p) := rfl

/-- The kernel's third key word is the cipher's. -/
theorem keyMix_eq : keyMix = Cipher.key2 := by
  show Scalar.xori (Scalar.xori 0#32 1#32) 466688986#32 = 466688987#32
  decide

/-- The words the second and third parts of the body work on. -/
abbrev nA : IVec S512x128 32 := k1_pay19 keyMix (k1_pay6 i x) (k1_pay7 i x) (k1_pay8 i x) 6#32
abbrev nB : IVec S512x128 32 := k1_pay20 keyMix (k1_pay6 i x) (k1_pay7 i x) (k1_pay8 i x) 6#32

theorem n_c : (k1_pay10 (k1_pay6 i x) (k1_pay7 i x) (k1_pay8 i x) 6#32 p, k1_pay9 (k1_pay6 i x) (k1_pay7 i x) (k1_pay8 i x) 6#32 p)
    = Cipher.turn 26#32 6#32 (k1_pay7 i x p, k1_pay6 i x p) := rfl
theorem n_d : (k1_pay12 keyMix (k1_pay6 i x) (k1_pay7 i x) (k1_pay8 i x) 6#32 p, k1_pay11 keyMix (k1_pay6 i x) (k1_pay7 i x) (k1_pay8 i x) 6#32 p)
    = Cipher.mix 6#32 26#32 keyMix 1#32 1#32 (k1_pay10 (k1_pay6 i x) (k1_pay7 i x) (k1_pay8 i x) 6#32 p, k1_pay9 (k1_pay6 i x) (k1_pay7 i x) (k1_pay8 i x) 6#32 p) := rfl
theorem n_e : (k1_pay14 keyMix (k1_pay6 i x) (k1_pay7 i x) (k1_pay8 i x) 6#32 p, k1_pay13 keyMix (k1_pay6 i x) (k1_pay7 i x) (k1_pay8 i x) 6#32 p)
    = Cipher.turn 17#32 15#32 (k1_pay12 keyMix (k1_pay6 i x) (k1_pay7 i x) (k1_pay8 i x) 6#32 p, k1_pay11 keyMix (k1_pay6 i x) (k1_pay7 i x) (k1_pay8 i x) 6#32 p) := rfl
theorem n_f : (k1_pay16 keyMix (k1_pay6 i x) (k1_pay7 i x) (k1_pay8 i x) 6#32 p, k1_pay15 keyMix (k1_pay6 i x) (k1_pay7 i x) (k1_pay8 i x) 6#32 p)
    = Cipher.turn 29#32 3#32 (k1_pay14 keyMix (k1_pay6 i x) (k1_pay7 i x) (k1_pay8 i x) 6#32 p, k1_pay13 keyMix (k1_pay6 i x) (k1_pay7 i x) (k1_pay8 i x) 6#32 p) := rfl
theorem n_g : (k1_pay18 keyMix (k1_pay6 i x) (k1_pay7 i x) (k1_pay8 i x) 6#32 p, k1_pay17 keyMix (k1_pay6 i x) (k1_pay7 i x) (k1_pay8 i x) 6#32 p)
    = Cipher.turn 16#32 16#32 (k1_pay16 keyMix (k1_pay6 i x) (k1_pay7 i x) (k1_pay8 i x) 6#32 p, k1_pay15 keyMix (k1_pay6 i x) (k1_pay7 i x) (k1_pay8 i x) 6#32 p) := rfl
theorem n_h : (k1_pay22 (nA i x) (nB i x) 0#32 p, k1_pay21 (nA i x) 0#32 p)
    = Cipher.mix 24#32 8#32 0#32 keyMix 2#32 (k1_pay18 keyMix (k1_pay6 i x) (k1_pay7 i x) (k1_pay8 i x) 6#32 p, k1_pay17 keyMix (k1_pay6 i x) (k1_pay7 i x) (k1_pay8 i x) 6#32 p) := rfl

/-- The first two groups. -/
theorem n_two : (k1_pay22 (nA i x) (nB i x) 0#32 p, k1_pay21 (nA i x) 0#32 p)
    = Cipher.mix 24#32 8#32 0#32 keyMix 2#32 (Cipher.even3 (Cipher.mix 6#32 26#32 keyMix 1#32 1#32 (Cipher.odd3 (k1_pay3 i x p, k1_pay2 i x p)))) := by
  rw [n_h, n_g, n_f, n_e, n_d, n_c, n_b, n_a]
  rfl

variable (a b : IVec S512x128 32)

theorem n_i : (k1_pay24 a b 0#32 p, k1_pay23 a b 0#32 p) = Cipher.turn 13#32 19#32 (k1_pay22 a b 0#32 p, k1_pay21 a 0#32 p) := rfl
theorem n_j : (k1_pay26 a b 0#32 p, k1_pay25 a b 0#32 p) = Cipher.turn 15#32 17#32 (k1_pay24 a b 0#32 p, k1_pay23 a b 0#32 p) := rfl
theorem n_k : (k1_pay28 a b 0#32 p, k1_pay27 a b 0#32 p) = Cipher.turn 26#32 6#32 (k1_pay26 a b 0#32 p, k1_pay25 a b 0#32 p) := rfl
theorem n_l : (k1_pay30 a b 0#32 p, k1_pay29 a b 0#32 p) = Cipher.mix 6#32 26#32 1#32 0#32 3#32 (k1_pay28 a b 0#32 p, k1_pay27 a b 0#32 p) := rfl
theorem n_m : (k1_pay32 a b 0#32 p, k1_pay31 a b 0#32 p) = Cipher.turn 17#32 15#32 (k1_pay30 a b 0#32 p, k1_pay29 a b 0#32 p) := rfl

/-- The third group and a turn. -/
theorem n_three : (k1_pay32 a b 0#32 p, k1_pay31 a b 0#32 p)
    = Cipher.turn 17#32 15#32 (Cipher.mix 6#32 26#32 1#32 0#32 3#32 (Cipher.odd3 (k1_pay22 a b 0#32 p, k1_pay21 a 0#32 p))) := by
  rw [n_m, n_l, n_k, n_j, n_i]
  rfl

theorem n_n : (k1_pay34 a b p, k1_pay33 a b p) = Cipher.turn 29#32 3#32 (b p, a p) := rfl
theorem n_o : (k1_pay36 a b p, k1_pay35 a b p) = Cipher.turn 16#32 16#32 (k1_pay34 a b p, k1_pay33 a b p) := rfl
theorem n_p (k : BitVec 32) : (k1_pay38 k a b p, k1_pay37 k a b p) = Cipher.mix 24#32 8#32 k 1#32 4#32 (k1_pay36 a b p, k1_pay35 a b p) := rfl
theorem n_q (k : BitVec 32) : (k1_pay40 k a b p, k1_pay39 k a b p) = Cipher.turn 13#32 19#32 (k1_pay38 k a b p, k1_pay37 k a b p) := rfl
theorem n_r (k : BitVec 32) : (k1_pay42 k a b p, k1_pay41 k a b p) = Cipher.turn 15#32 17#32 (k1_pay40 k a b p, k1_pay39 k a b p) := rfl
theorem n_s (k : BitVec 32) : (k1_pay42 k a b p + (k1_pay42 k a b p ^^^ k1_pay43 k a b p), k1_pay42 k a b p ^^^ k1_pay43 k a b p)
    = Cipher.turn 26#32 6#32 (k1_pay42 k a b p, k1_pay41 k a b p) := rfl

/-- The rest. -/
theorem n_four (k : BitVec 32) : (k1_pay42 k a b p + (k1_pay42 k a b p ^^^ k1_pay43 k a b p), k1_pay42 k a b p ^^^ k1_pay43 k a b p)
    = Cipher.odd3 (Cipher.mix 24#32 8#32 k 1#32 4#32 (Cipher.turn 16#32 16#32 (Cipher.turn 29#32 3#32 (b p, a p)))) := by
  rw [n_s, n_r, n_q, n_p, n_o, n_n]
  rfl

end Rounds

/-! ## The noise -/

section Noise

variable (i : grid1.Coords) (x : Vec Ideal S512x128 .i32) (p : S512x128.Idx)

section Reads

variable {S : Shape} {x y : S.Idx → Ideal .f32} {j : S.Idx} {a b : EReal}

theorem k_max_at (hx : x j = a) (hy : y j = b) : maximumf x y j = max a b := by
  subst hx hy; rfl
theorem k_add_at (hx : x j = a) (hy : y j = b) : addf x y j = a + b := by
  subst hx hy; rfl
theorem k_mul_at (hx : x j = a) (hy : y j = b) : mulf x y j = a * b := by
  subst hx hy; rfl
theorem k_sub_at (hx : x j = a) (hy : y j = b) : subf x y j = a - b := by
  subst hx hy; rfl
theorem k_log_at (hx : x j = a) : log x j = Ideal.log a := by
  subst hx; rfl
theorem k_bits_at {q : S.Idx → BitVec 32} {b : BitVec 32} (h : q j = b) : bitcastToFloat (F := Ideal) .f32 q j = Ideal.ofBits .f32 b := by
  subst h; rfl

end Reads

section Words

variable {S : Shape} {x y z w : S.Idx → BitVec 32} {j : S.Idx} {a b c d : BitVec 32}

theorem addi_at (hx : x j = a) (hy : y j = b) : addi x y j = IntOp.addi a b := by
  subst hx hy; rfl
theorem muli_at (hx : x j = a) (hy : y j = b) : muli x y j = IntOp.muli a b := by
  subst hx hy; rfl
theorem select_sge_at (hx : x j = a) (hy : y j = b) (hz : z j = c) (hw : w j = d) :
    select (cmpi .sge x y) z w j = Scalar.select (IntOp.cmpi .sge a b) c d := by
  subst hx hy hz hw; rfl
end Words

/-- The last part of the body: the output word's fraction through the logarithms. -/
theorem n_end (k : BitVec 32) (a b : IVec S512x128 32) (hk : k = Cipher.key2) :
    k1_pay1 (F := Ideal) k a b p = Cipher.gum (Cipher.out (a p + (a p ^^^ b p), a p ^^^ b p)) := by
  subst hk
  unfold k1_pay1
  refine (k_sub_at (a := 0) Ideal.ofBits_zero_f32 (k_log_at (k_sub_at (a := 0) Ideal.ofBits_zero_f32 (k_log_at
    (k_max_at (a := Cipher.tiny) rfl (k_add_at (k_mul_at (k_sub_at (k_bits_at
      (b := (Cipher.out (a p + (a p ^^^ b p), a p ^^^ b p)) >>> 9#32 ||| 1065353216#32) rfl) Cipher.one_f32) Cipher.one_f32) rfl)))))).trans ?_
  rw [zero_sub, zero_sub, mul_one]
  rfl

/-- The counter of an entry: 1968 times the row's number, plus the lane's id. -/
def kCount (i : grid1.Coords) (p : S512x128.Idx) (v : ℕ) : ℕ :=
  ((i 0).val * 512 + (p 0).val + (if 64 ≤ (p 1).val then 8192 else 0)) * 1968 + v

theorem n_count : k1_pay2 (F := Ideal) i x p = BitVec.ofNat 32 (kCount i p (x p : BitVec 32).toNat) + 1#32 := by
  have h1 : shapeCast S512x128 x shapeCasts_S512x128_S512x128 p = x p := shapeCast_apply _ _ _ p rfl
  have h : k1_pay2 (F := Ideal) i x p
      = IntOp.addi (IntOp.addi (IntOp.muli (IntOp.addi (IntOp.addi (Scalar.muli (BitVec.ofNat 32 (i 0).val) 512#32) (BitVec.ofNat 32 (p 0).val))
          (Scalar.select (IntOp.cmpi .sge (BitVec.ofNat 32 (p 1).val) 64#32) 8192#32 0#32)) 1968#32)
          (x p : BitVec 32)) 1#32 := by
    unfold k1_pay2
    refine addi_at (addi_at (muli_at (addi_at (addi_at rfl ?_) (select_sge_at ?_ rfl rfl rfl)) rfl) h1) rfl
    · exact iota_single_apply _ _ _ _ _ _
    · exact iota_single_apply _ _ _ _ _ _
  rw [h]
  have hl : (p 1).val < 128 := (p 1).isLt
  have hs : Scalar.select (IntOp.cmpi .sge (BitVec.ofNat 32 (p 1).val) 64#32) 8192#32 0#32 = BitVec.ofNat 32 (if 64 ≤ (p 1).val then 8192 else 0) := by
    have hi : (BitVec.ofNat 32 (p 1).val).toInt = (p 1).val := by
      rw [BitVec.toInt_eq_toNat_of_lt (by rw [BitVec.toNat_ofNat]; omega), BitVec.toNat_ofNat]; omega
    show Scalar.select (BitVec.ofBool ((64#32).sle (BitVec.ofNat 32 (p 1).val))) 8192#32 0#32 = _
    by_cases hp : 64 ≤ (p 1).val
    · rw [show (64#32).sle (BitVec.ofNat 32 (p 1).val) = true by
        rw [BitVec.sle_iff_toInt_le, hi]; show (64 : ℤ) ≤ _; omega, if_pos hp]
      rfl
    · rw [show (64#32).sle (BitVec.ofNat 32 (p 1).val) = false by
        rw [Bool.eq_false_iff, ne_eq, BitVec.sle_iff_toInt_le, hi]; show ¬ (64 : ℤ) ≤ _; omega, if_neg hp]
      rfl
  rw [hs]
  show (BitVec.ofNat 32 (i 0).val * BitVec.ofNat 32 512 + BitVec.ofNat 32 (p 0).val + BitVec.ofNat 32 (if 64 ≤ (p 1).val then 8192 else 0)) * BitVec.ofNat 32 1968 + (x p : BitVec 32) + 1#32 = _
  unfold kCount
  rw [← BitVec.ofNat_mul, ← BitVec.ofNat_add, ← BitVec.ofNat_add, ← BitVec.ofNat_mul, BitVec.ofNat_add, BitVec.ofNat_toNat, BitVec.setWidth_eq]

/-- The body's noise at an entry. -/
theorem gumOut_eq : gumOut (F := Ideal) i x p = Cipher.noise (BitVec.ofNat 32 (kCount i p (x p : BitVec 32).toNat)) := by
  refine (n_end p keyMix _ _ keyMix_eq).trans ?_
  unfold Cipher.noise
  rw [n_four, n_three, n_two, keyMix_eq]
  have h3 : k1_pay3 (F := Ideal) i x p = 0#32 + 0#32 + k1_pay2 (F := Ideal) i x p := rfl
  rw [h3, n_count]
  rfl

end Noise

end Cert.Proof.Legal
end
-- ==== Proof.KPick.lean ====
/-
  The kernel's last body over the extended reals: a block row holds two rows of the problem, 64 lanes each. At each the body's two
  results are the lanes' side of a row (RowMath): the sample as a word, and the logarithm.
-/
module

public import proofs.«01_k».proof.Proof.KNoise
public import Idealize.ShloMosaic.Lib.ValueIdxCore

@[expose] public section

set_option maxRecDepth 8192

noncomputable section

namespace Cert.Proof.Legal

open Cert.KernelIdeal Cert.KernelIdeal.Gen
open Idealize.ShloMosaic Idealize.SL.Sem
open Idealize.ShloMosaic.TcCoe Idealize.ShloMosaic.ValueIdx

/-- Lane l of half h of a block row. -/
def lane (h : Fin 2) (r : Fin 512) (l : Fin 64) : S512x128.Idx := ix2 r ⟨h.val * 64 + l.val, by omega⟩

/-! ## A half's reductions, and a half's scalar spread over its lanes -/

section Halves

variable (y : S512x128.Idx → EReal) (r : Fin 512)

theorem half_lift (q : S512x64.Idx → EReal) (l : Fin 64) : q (reduces_S512x64_S512.lift (ix1 r) l) = q (ix2 r l) := by
  congr 1
  funext a; fin_cases a <;> rfl

theorem slice0 (l : Fin 64) : extractStridedSlice S512x64 ![0, 0] y slices_S512x128_o0_0_S512x64 (ix2 r l) = y (lane 0 r l) :=
  extractStridedSlice_apply _ _ _ _ _ fun a => by
    fin_cases a
    · show r.val = 0 + r.val; omega
    · show 0 * 64 + l.val = 0 + l.val; omega
theorem slice1 (l : Fin 64) : extractStridedSlice S512x64 ![0, 64] y slices_S512x128_o0_64_S512x64 (ix2 r l) = y (lane 1 r l) :=
  extractStridedSlice_apply _ _ _ _ _ fun a => by
    fin_cases a
    · show r.val = 0 + r.val; omega
    · show 1 * 64 + l.val = 64 + l.val; omega

theorem max_of (q : S512x64.Idx → EReal) (f : Fin 64 → EReal) (h : ∀ l, q (ix2 r l) = f l) :
    multiReduction (F := Ideal) (φ := .f32) .maximumf [1] S512 q 0xFF800000#32 reduces_S512x64_S512 (.inl rfl) rfl (ix1 r) = Row.top f := by
  refine (Ideal.multiReduction_maximumf_single q _ _ _ _ (ix1 r)).trans ?_
  have hf : q ∘ reduces_S512x64_S512.lift (ix1 r) = f := funext fun l => (half_lift r q l).trans (h l)
  rw [hf]
  exact congrArg (fun b => (Finset.univ : Finset (Fin 64)).fold max b f) Cipher.bot_f32

/-- A smallest over one axis, as the fold over that axis's coordinates. -/
theorem min_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (FloatOps.ofBits (F := Ideal) .f32 acc) (src ∘ h.lift j) := by
  rw [multiReduction_minimumf_eq_fold]
  exact h.fold_filter_drop_single _ _ src j

theorem min_of (q : S512x64.Idx → EReal) (f : Fin 64 → EReal) (h : ∀ l, q (ix2 r l) = f l) :
    multiReduction (F := Ideal) (φ := .f32) .minimumf [1] S512 q 0x7F800000#32 reduces_S512x64_S512 (.inl rfl) rfl (ix1 r) = Row.low f := by
  refine (min_single q _ _ _ _ (ix1 r)).trans ?_
  have hf : q ∘ reduces_S512x64_S512.lift (ix1 r) = f := funext fun l => (half_lift r q l).trans (h l)
  rw [hf]
  exact congrArg (fun b => (Finset.univ : Finset (Fin 64)).fold min b f) Cipher.top_f32

theorem sum_of (q : S512x64.Idx → EReal) (f : Fin 64 → EReal) (h : ∀ l, q (ix2 r l) = f l) :
    multiReduction (F := Ideal) (φ := .f32) .add [1] S512 q 0x00000000#32 reduces_S512x64_S512 (.inl rfl) rfl (ix1 r) = ∑ l, f l := by
  refine (Ideal.multiReduction_add_single q _ _ _ _ (ix1 r)).trans ?_
  exact Finset.sum_congr rfl fun l _ => (half_lift r q l).trans (h l)

variable {y}

theorem max0 {f : Fin 64 → EReal} (h : ∀ l, y (lane 0 r l) = f l) :
    multiReduction (F := Ideal) (φ := .f32) .maximumf [1] S512 (extractStridedSlice S512x64 ![0, 0] y slices_S512x128_o0_0_S512x64) 0xFF800000#32
      reduces_S512x64_S512 (.inl rfl) rfl (ix1 r) = Row.top f := max_of r _ f fun l => (slice0 y r l).trans (h l)
theorem max1 {f : Fin 64 → EReal} (h : ∀ l, y (lane 1 r l) = f l) :
    multiReduction (F := Ideal) (φ := .f32) .maximumf [1] S512 (extractStridedSlice S512x64 ![0, 64] y slices_S512x128_o0_64_S512x64) 0xFF800000#32
      reduces_S512x64_S512 (.inl rfl) rfl (ix1 r) = Row.top f := max_of r _ f fun l => (slice1 y r l).trans (h l)
theorem min0 {f : Fin 64 → EReal} (h : ∀ l, y (lane 0 r l) = f l) :
    multiReduction (F := Ideal) (φ := .f32) .minimumf [1] S512 (extractStridedSlice S512x64 ![0, 0] y slices_S512x128_o0_0_S512x64) 0x7F800000#32
      reduces_S512x64_S512 (.inl rfl) rfl (ix1 r) = Row.low f := min_of r _ f fun l => (slice0 y r l).trans (h l)
theorem min1 {f : Fin 64 → EReal} (h : ∀ l, y (lane 1 r l) = f l) :
    multiReduction (F := Ideal) (φ := .f32) .minimumf [1] S512 (extractStridedSlice S512x64 ![0, 64] y slices_S512x128_o0_64_S512x64) 0x7F800000#32
      reduces_S512x64_S512 (.inl rfl) rfl (ix1 r) = Row.low f := min_of r _ f fun l => (slice1 y r l).trans (h l)
theorem sum0 {f : Fin 64 → EReal} (h : ∀ l, y (lane 0 r l) = f l) :
    multiReduction (F := Ideal) (φ := .f32) .add [1] S512 (extractStridedSlice S512x64 ![0, 0] y slices_S512x128_o0_0_S512x64) 0x00000000#32
      reduces_S512x64_S512 (.inl rfl) rfl (ix1 r) = ∑ l, f l := sum_of r _ f fun l => (slice0 y r l).trans (h l)
theorem sum1 {f : Fin 64 → EReal} (h : ∀ l, y (lane 1 r l) = f l) :
    multiReduction (F := Ideal) (φ := .f32) .add [1] S512 (extractStridedSlice S512x64 ![0, 64] y slices_S512x128_o0_64_S512x64) 0x00000000#32
      reduces_S512x64_S512 (.inl rfl) rfl (ix1 r) = ∑ l, f l := sum_of r _ f fun l => (slice1 y r l).trans (h l)

/-- A row's scalar spread over 64 lanes. -/
theorem spread64 {q : S512.Idx → EReal} {a : EReal} (h : q (ix1 r) = a) (l : Fin 64) :
    broadcastTo S512x64 (shapeCast S512x1 (shapeCast S512x1 q shapeCasts_S512_S512x1) shapeCasts_S512x1_S512x1) broadcasts_S512x1_S512x64 (ix2 r l) = a := by
  rw [broadcastTo_apply _ _ _ (ix2 r (0 : Fin 1)) (fun a => by fin_cases a <;> rfl),
    shapeCast_apply _ _ _ (ix2 r (0 : Fin 1)) rfl,
    shapeCast_apply _ _ _ (ix1 r) (by
      rw [Shape.rowMajor_val_one, Shape.rowMajor_val_two]
      show r.val = r.val * 1 + 0
      omega), h]

/-- Two half blocks side by side. -/
theorem join_at {q0 q1 : S512x64.Idx → EReal} {f : Fin 2 → EReal} (l : Fin 64) (h0 : q0 (ix2 r l) = f 0) (h1 : q1 (ix2 r l) = f 1) (h : Fin 2) :
    concatenate S512x128 1 [⟨S512x64, q0⟩, ⟨S512x64, q1⟩] concatenates_S512x64_S512x64_S512x128_d1 (lane h r l) = f h := by
  match h with
  | 0 =>
    refine (concatenate_pair_apply_left (t := S512x128) (s₁ := S512x64) (s₂ := S512x64) 1 q0 q1 _ _ rfl (ix2 r l) (fun b => ?_)).trans h0
    fin_cases b
    · rfl
    · show l.val = 0 * 64 + l.val; omega
  | 1 =>
    refine (concatenate_pair_apply_right (t := S512x128) (s₁ := S512x64) (s₂ := S512x64) 1 q0 q1 _ _ rfl rfl (ix2 r l) (fun b hb => ?_) ?_).trans h1
    · fin_cases b
      · rfl
      · exact absurd rfl hb
    · show l.val + 64 = 1 * 64 + l.val; omega

end Halves

/-! ## The body's values -/

section Values

/-- A lane's candidate. -/
def kCand (F U : Fin 64 → EReal) (l : Fin 64) : EReal := Row.logShare Cipher.epsR F l + U l
/-- The large number the body writes where a lane holds no largest candidate, and the small one where it is not the sample's. -/
def hiNum : EReal := Ideal.ofBits .f32 0x7F61B1E6#32
def loNum : EReal := Ideal.ofBits .f32 0xFF61B1E6#32
/-- The sample of 64 lanes. -/
def kSample (N F U : Fin 64 → EReal) : EReal := Row.low fun l => if kCand F U l = Row.top (kCand F U) then N l else hiNum
/-- The logarithm at the sample. -/
def kLog (N F U : Fin 64 → EReal) : EReal := Row.top fun l => if N l = kSample N F U then Row.logShare Cipher.epsR F l else loNum

theorem select_eq_at {S : Shape} {x y z w : S.Idx → Ideal .f32} {j : S.Idx} {a b c d : EReal} (hx : x j = a) (hy : y j = b) (hz : z j = c) (hw : w j = d) :
    select (cmpf .oeq x y) z w j = if a = b then c else d := by
  subst hx hy hz hw
  show Scalar.select (Ideal.cmp .oeq (x j) (y j)) (z j) (w j) = _
  by_cases h : x j = y j
  · rw [if_pos h]; simp [Ideal.cmp, Scalar.select, h]
  · rw [if_neg h]; simp [Ideal.cmp, Scalar.select, h]

theorem k_exp_at {S : Shape} {x : S.Idx → Ideal .f32} {j : S.Idx} {a : EReal} (hx : x j = a) : exp x j = Ideal.exp a := by
  subst hx; rfl
theorem k_div_at {S : Shape} {x y : S.Idx → Ideal .f32} {j : S.Idx} {a b : EReal} (hx : x j = a) (hy : y j = b) : divf x y j = Ideal.div a b := by
  subst hx hy; rfl

variable (x : Vec Ideal S512x128 .i32) (g u : Vec Ideal S512x128 .f32) (r : Fin 512)

/-- A half row's kept values, noise, and ids as numbers. -/
def gRow (h : Fin 2) (l : Fin 64) : EReal := g (lane h r l)
def nRow (h : Fin 2) (l : Fin 64) : EReal := (((x (lane h r l) : BitVec 32).toInt : ℝ) : EReal)

theorem same (q : Vec Ideal S512x128 .f32) (h : Fin 2) (l : Fin 64) : shapeCast S512x128 q shapeCasts_S512x128_S512x128 (lane h r l) = gRow q r h l :=
  shapeCast_apply _ _ _ _ rfl

/-- The exponentials of a block of kept values less their half rows' largest. -/
def kExp : FVec Ideal S512x128 .f32 :=
  exp (subf (shapeCast S512x128 g shapeCasts_S512x128_S512x128) (concatenate S512x128 1
    [⟨S512x64, (broadcastTo S512x64 (shapeCast S512x1 (shapeCast S512x1 (multiReduction (F := Ideal) (φ := .f32) .maximumf [1] S512 (extractStridedSlice S512x64 ![0, 0] (shapeCast S512x128 g shapeCasts_S512x128_S512x128) slices_S512x128_o0_0_S512x64) 0xFF800000#32 reduces_S512x64_S512 (.inl rfl) rfl) shapeCasts_S512_S512x1) shapeCasts_S512x1_S512x1) broadcasts_S512x1_S512x64)⟩,
      ⟨S512x64, (broadcastTo S512x64 (shapeCast S512x1 (shapeCast S512x1 (multiReduction (F := Ideal) (φ := .f32) .maximumf [1] S512 (extractStridedSlice S512x64 ![0, 64] (shapeCast S512x128 g shapeCasts_S512x128_S512x128) slices_S512x128_o0_64_S512x64) 0xFF800000#32 reduces_S512x64_S512 (.inl rfl) rfl) shapeCasts_S512_S512x1) shapeCasts_S512x1_S512x1) broadcasts_S512x1_S512x64)⟩]
    concatenates_S512x64_S512x64_S512x128_d1))

theorem kExp_at (h : Fin 2) (l : Fin 64) : kExp g (lane h r l) = Row.shiftExp (gRow g r h) l :=
  k_exp_at (k_sub_at (same r g h l) (join_at r (f := fun h => Row.top (gRow g r h)) l
    (spread64 r (max0 r (fun l => same r g 0 l)) l) (spread64 r (max1 r (fun l => same r g 1 l)) l) h))

theorem logs_at (h : Fin 2) (l : Fin 64) : k2_pay10 (F := Ideal) g (lane h r l) = Row.logShare Cipher.epsR (gRow g r h) l := by
  unfold k2_pay10
  exact k_log_at (k_add_at (k_div_at (kExp_at g r h l) (join_at r (f := fun h => ∑ l, Row.shiftExp (gRow g r h) l) l
    (spread64 r (sum0 r (fun l => kExp_at g r 0 l)) l) (spread64 r (sum1 r (fun l => kExp_at g r 1 l)) l) h)) Cipher.eps_f32)

theorem cand_at (h : Fin 2) (l : Fin 64) : k2_pay11 (F := Ideal) g u (lane h r l) = kCand (gRow g r h) (gRow u r h) l :=
  k_add_at (logs_at g r h l) (same r u h l)

theorem candTop0_at (l : Fin 64) : k2_pay12 (F := Ideal) g u (ix2 r l) = Row.top (kCand (gRow g r 0) (gRow u r 0)) :=
  spread64 r (max0 r (fun l => cand_at g u r 0 l)) l
theorem candTop1_at (l : Fin 64) : k2_pay13 (F := Ideal) g u (ix2 r l) = Row.top (kCand (gRow g r 1) (gRow u r 1)) :=
  spread64 r (max1 r (fun l => cand_at g u r 1 l)) l

theorem num_at (h : Fin 2) (l : Fin 64) : k2_pay9 (F := Ideal) x (lane h r l) = nRow x r h l := by
  have hs : shapeCast S512x128 x shapeCasts_S512x128_S512x128 (lane h r l) = x (lane h r l) := shapeCast_apply _ _ _ _ rfl
  unfold nRow
  rw [← hs]
  rfl

theorem held_at (h : Fin 2) (l : Fin 64) :
    k2_pay1 (F := Ideal) (k2_pay9 x) (k2_pay11 g u) (k2_pay12 g u) (k2_pay13 g u) (lane h r l)
      = if kCand (gRow g r h) (gRow u r h) l = Row.top (kCand (gRow g r h) (gRow u r h)) then nRow x r h l else hiNum :=
  select_eq_at (cand_at g u r h l) (join_at r (f := fun h => Row.top (kCand (gRow g r h) (gRow u r h))) l (candTop0_at g u r l) (candTop1_at g u r l) h)
    (num_at x r h l) rfl

theorem sam0_at : k2_pay2 (F := Ideal) (k2_pay9 x) (k2_pay11 g u) (k2_pay12 g u) (k2_pay13 g u) (ix1 r) = kSample (nRow x r 0) (gRow g r 0) (gRow u r 0) :=
  min0 r (fun l => held_at x g u r 0 l)
theorem sam1_at : k2_pay3 (F := Ideal) (k2_pay9 x) (k2_pay11 g u) (k2_pay12 g u) (k2_pay13 g u) (ix1 r) = kSample (nRow x r 1) (gRow g r 1) (gRow u r 1) :=
  min1 r (fun l => held_at x g u r 1 l)

theorem atSam_at (h : Fin 2) (l : Fin 64) :
    k2_pay6 (F := Ideal) (k2_pay9 x) (k2_pay10 g) (k2_pay11 g u) (k2_pay12 g u) (k2_pay13 g u) (lane h r l)
      = if nRow x r h l = kSample (nRow x r h) (gRow g r h) (gRow u r h) then Row.logShare Cipher.epsR (gRow g r h) l else loNum :=
  select_eq_at (num_at x r h l) (join_at r (f := fun h => kSample (nRow x r h) (gRow g r h) (gRow u r h)) l
    (spread64 r (sam0_at x g u r) l) (spread64 r (sam1_at x g u r) l) h) (logs_at g r h l) rfl

/-- The first half's sample. -/
theorem samOut0_at : samOut0 (F := Ideal) x g u (ix1 r) = Ideal.fptosi 32 (kSample (nRow x r 0) (gRow g r 0) (gRow u r 0)) := by
  rw [← sam0_at x g u r]; rfl
/-- The second half's sample. -/
theorem samOut1_at : samOut1 (F := Ideal) x g u (ix1 r) = Ideal.fptosi 32 (kSample (nRow x r 1) (gRow g r 1) (gRow u r 1)) := by
  rw [← sam1_at x g u r]; rfl
/-- The first half's logarithm. -/
theorem lpOut0_at : lpOut0 (F := Ideal) x g u (ix1 r) = kLog (nRow x r 0) (gRow g r 0) (gRow u r 0) := by
  have h : k2_pay7 (F := Ideal) (k2_pay9 x) (k2_pay10 g) (k2_pay11 g u) (k2_pay12 g u) (k2_pay13 g u) (ix1 r)
      = kLog (nRow x r 0) (gRow g r 0) (gRow u r 0) := max0 r (fun l => atSam_at x g u r 0 l)
  rw [← h]; rfl
/-- The second half's logarithm. -/
theorem lpOut1_at : lpOut1 (F := Ideal) x g u (ix1 r) = kLog (nRow x r 1) (gRow g r 1) (gRow u r 1) := by
  have h : k2_pay8 (F := Ideal) (k2_pay9 x) (k2_pay10 g) (k2_pay11 g u) (k2_pay12 g u) (k2_pay13 g u) (ix1 r)
      = kLog (nRow x r 1) (gRow g r 1) (gRow u r 1) := max1 r (fun l => atSam_at x g u r 1 l)
  rw [← h]; rfl

end Values

end Cert.Proof.Legal
end
-- ==== Proof.KArrays.lean ====
/-
  The arrays the two TensorCore kernels leave, entry by entry, in terms of the arrays they read: the noise of every lane, and every
  wide row's two samples and two logarithms.
-/
module

public import proofs.«01_k».proof.Proof.Regions
public import proofs.«01_k».proof.Proof.KNoise
public import proofs.«01_k».proof.Proof.KPick
public import Idealize.ShloMosaic.Lib.Pipeline.ValueKit.Geometry

@[expose] public section

set_option maxRecDepth 8192

noncomputable section

namespace Cert.Proof.Legal

open Cert.KernelIdeal Cert.KernelIdeal.Gen
open Idealize.ShloMosaic Idealize.SL.Sem
open Idealize.ShloMosaic.TcCoe
open Idealize.ShloMosaic.ValueIdx
open Idealize.ShloMosaic.Pipeline (Dat Cfg Window)

variable (V : (c : Dev nD) → (b : Ref sig .tc) → Buf (Elt Ideal) ((c : Thread nD τ).loc b)) (c : Dev nD)

/-- Lane `l` of the half `h` of wide row `w`. -/
def wlane (h : Fin 2) (w : Fin 8192) (l : Fin 64) : S8192x128.Idx := ix2 w ⟨h.val * 64 + l.val, by omega⟩

/-- The noise counter of a wide entry whose id is `v`. -/
def wideCount (i : S8192x128.Idx) (v : ℕ) : ℕ := ((i 0).val + (if 64 ≤ (i 1).val then 8192 else 0)) * 1968 + v

/-- The wide ids, kept logits and noise a valuation holds. -/
abbrev wIds : S8192x128.Idx → BitVec 32 := V c main_v2
abbrev wKept : S8192x128.Idx → EReal := V c main_v6
abbrev wGum : S8192x128.Idx → EReal := V c main_v5

theorem idx1_0 : ∀ t : Fin cfg1.N, win1_0.index t = ![(grid1.coords t 0).val, 0] := (by decide +kernel : ∀ t : Fin grid1.N, _)
theorem idx1_1 : ∀ t : Fin cfg1.N, win1_1.index t = ![(grid1.coords t 0).val, 0] := (by decide +kernel : ∀ t : Fin grid1.N, _)
theorem idx2_0 : ∀ t : Fin cfg2.N, win2_0.index t = ![(grid2.coords t 0).val, 0] := (by decide +kernel : ∀ t : Fin grid2.N, _)
theorem idx2_1 : ∀ t : Fin cfg2.N, win2_1.index t = ![(grid2.coords t 0).val, 0] := (by decide +kernel : ∀ t : Fin grid2.N, _)
theorem idx2_2 : ∀ t : Fin cfg2.N, win2_2.index t = ![(grid2.coords t 0).val, 0] := (by decide +kernel : ∀ t : Fin grid2.N, _)
theorem idx2_3 : ∀ t : Fin cfg2.N, win2_3.index t = ![(grid2.coords t 0).val] := (by decide +kernel : ∀ t : Fin grid2.N, _)
theorem idx2_4 : ∀ t : Fin cfg2.N, win2_4.index t = ![(grid2.coords t 0).val] := (by decide +kernel : ∀ t : Fin grid2.N, _)
theorem idx2_5 : ∀ t : Fin cfg2.N, win2_5.index t = ![(grid2.coords t 0).val] := (by decide +kernel : ∀ t : Fin grid2.N, _)
theorem idx2_6 : ∀ t : Fin cfg2.N, win2_6.index t = ![(grid2.coords t 0).val] := (by decide +kernel : ∀ t : Fin grid2.N, _)

/-! ## The noise -/

/-- The noise array: every wide entry's noise at its own counter. -/
def noiseArr : S8192x128.Idx → EReal := fun i => Cipher.noise (BitVec.ofNat 32 (wideCount i (wIds V c i).toNat))

theorem emb1 (t : Fin cfg1.N) (y) : (win1_0.blk t).view.emb y = (win1_1.blk t).view.emb y := by
  blk_ext [idx1_0, idx1_1]
theorem emb1_row (t : Fin cfg1.N) (y) : ((win1_1.blk t).view.emb y 0 : ℕ) = (grid1.coords t 0).val * 512 + (y 0).val := by
  blk_simp [idx1_1]
theorem emb1_lane (t : Fin cfg1.N) (y) : ((win1_1.blk t).view.emb y 1 : ℕ) = (y 1).val := by
  blk_simp [idx1_1]
theorem ids1_at (t : Fin cfg1.N) (y : S512x128.Idx) : blkIds1 V c t y = wIds V c ((win1_0.blk t).view.emb y) := rfl

theorem after1_at (t : Fin cfg1.N) (y : S512x128.Idx) : (dat1 V c).after 1 t y = noiseArr V c ((win1_1.blk t).view.emb y) := by
  rw [after1_1]
  refine (gumOut_eq _ _ _).trans ?_
  rw [ids1_at, emb1]
  unfold noiseArr wideCount kCount
  rw [emb1_row, emb1_lane]

theorem arr1 : (dat1 V c).arrAt 1 cfg1.N = noiseArr V c :=
  (dat1 V c).arrAt_eq_of_covers 1 (noiseArr V c) (by decide +kernel) fun t _ y => (cast_eq _ _).trans (after1_at V c t y)

/-! ## The samples and the logarithms -/

/-- A wide row's half: its ids as numbers, and the values of an array there. -/
def numRow (h : Fin 2) (w : Fin 8192) (l : Fin 64) : EReal := (((wIds V c (wlane h w l)).toInt : ℝ) : EReal)
def valRow (g : S8192x128.Idx → EReal) (h : Fin 2) (w : Fin 8192) (l : Fin 64) : EReal := g (wlane h w l)

/-- A half's samples and logarithms. -/
def samAt (h : Fin 2) (w : Fin 8192) : BitVec 32 := Ideal.fptosi 32 (kSample (numRow V c h w) (valRow (wKept V c) h w) (valRow (wGum V c) h w))
def logAt (h : Fin 2) (w : Fin 8192) : EReal := kLog (numRow V c h w) (valRow (wKept V c) h w) (valRow (wGum V c) h w)
def samArr (h : Fin 2) : S8192.Idx → BitVec 32 := fun i => samAt V c h (i 0)
def logArr (h : Fin 2) : S8192.Idx → EReal := fun i => logAt V c h (i 0)

/-- Row `r` of block `t`. -/
def rowAt (t : Fin cfg2.N) (r : Fin 512) : Fin 8192 := ⟨(grid2.coords t 0).val * 512 + r.val, by
  have h : (grid2.coords t 0).val < 16 := (grid2.coords t 0).isLt
  have := r.isLt
  omega⟩

theorem emb2_0 (t : Fin cfg2.N) (h : Fin 2) (r : Fin 512) (l : Fin 64) : (win2_0.blk t).view.emb (lane h r l) = wlane h (rowAt t r) l := by
  refine Shape.idx_ext₂ ?_ ?_
  · blk_simp [idx2_0]
    rfl
  · blk_simp [idx2_0]
    rfl
theorem emb2_1 (t : Fin cfg2.N) (h : Fin 2) (r : Fin 512) (l : Fin 64) : (win2_1.blk t).view.emb (lane h r l) = wlane h (rowAt t r) l := by
  refine Shape.idx_ext₂ ?_ ?_
  · blk_simp [idx2_1]
    rfl
  · blk_simp [idx2_1]
    rfl
theorem emb2_2 (t : Fin cfg2.N) (h : Fin 2) (r : Fin 512) (l : Fin 64) : (win2_2.blk t).view.emb (lane h r l) = wlane h (rowAt t r) l := by
  refine Shape.idx_ext₂ ?_ ?_
  · blk_simp [idx2_2]
    rfl
  · blk_simp [idx2_2]
    rfl
theorem ids2_at (t : Fin cfg2.N) (y : S512x128.Idx) : blkIds2 V c t y = wIds V c ((win2_0.blk t).view.emb y) := rfl
theorem kept2_at (t : Fin cfg2.N) (y : S512x128.Idx) : blkKept2 V c t y = wKept V c ((win2_1.blk t).view.emb y) := rfl
theorem gum2_at (t : Fin cfg2.N) (y : S512x128.Idx) : blkGum2 V c t y = wGum V c ((win2_2.blk t).view.emb y) := rfl

theorem nRow_eq (t : Fin cfg2.N) (r : Fin 512) (h : Fin 2) : nRow (blkIds2 V c t) r h = numRow V c h (rowAt t r) := by
  funext l
  unfold nRow numRow
  rw [ids2_at, emb2_0]
theorem kRow_eq (t : Fin cfg2.N) (r : Fin 512) (h : Fin 2) : gRow (blkKept2 V c t) r h = valRow (wKept V c) h (rowAt t r) := by
  funext l
  unfold gRow valRow
  rw [kept2_at, emb2_1]
theorem uRow_eq (t : Fin cfg2.N) (r : Fin 512) (h : Fin 2) : gRow (blkGum2 V c t) r h = valRow (wGum V c) h (rowAt t r) := by
  funext l
  unfold gRow valRow
  rw [gum2_at, emb2_2]

theorem emb2_3 (t : Fin cfg2.N) (y : S512.Idx) : (win2_3.blk t).view.emb y 0 = rowAt t (y 0) := by
  refine Fin.ext ?_
  blk_simp [idx2_3]
  rfl
theorem emb2_4 (t : Fin cfg2.N) (y : S512.Idx) : (win2_4.blk t).view.emb y 0 = rowAt t (y 0) := by
  refine Fin.ext ?_
  blk_simp [idx2_4]
  rfl
theorem emb2_5 (t : Fin cfg2.N) (y : S512.Idx) : (win2_5.blk t).view.emb y 0 = rowAt t (y 0) := by
  refine Fin.ext ?_
  blk_simp [idx2_5]
  rfl
theorem emb2_6 (t : Fin cfg2.N) (y : S512.Idx) : (win2_6.blk t).view.emb y 0 = rowAt t (y 0) := by
  refine Fin.ext ?_
  blk_simp [idx2_6]
  rfl

theorem eq_ix1 (y : S512.Idx) : y = ix1 (y 0) := by
  funext a
  obtain rfl : a = 0 := Subsingleton.elim _ _
  rfl

theorem sam_blk (t : Fin cfg2.N) (r : Fin 512) (h : Fin 2) :
    Ideal.fptosi 32 (kSample (nRow (blkIds2 V c t) r h) (gRow (blkKept2 V c t) r h) (gRow (blkGum2 V c t) r h)) = samAt V c h (rowAt t r) := by
  rw [nRow_eq, kRow_eq, uRow_eq]
  rfl
theorem log_blk (t : Fin cfg2.N) (r : Fin 512) (h : Fin 2) :
    kLog (nRow (blkIds2 V c t) r h) (gRow (blkKept2 V c t) r h) (gRow (blkGum2 V c t) r h) = logAt V c h (rowAt t r) := by
  rw [nRow_eq, kRow_eq, uRow_eq]
  rfl

theorem after2_at3 (t : Fin cfg2.N) (y : S512.Idx) : (dat2 V c).after 3 t y = samArr V c 0 ((win2_3.blk t).view.emb y) := by
  rw [after2_3]
  exact (congrArg (samOut0 (F := Ideal) _ _ _) (eq_ix1 y)).trans ((samOut0_at _ _ _ _).trans (((sam_blk V c t (y 0) 0).trans (congrArg (samAt V c 0) (emb2_3 t y).symm))))
theorem after2_at4 (t : Fin cfg2.N) (y : S512.Idx) : (dat2 V c).after 4 t y = samArr V c 1 ((win2_4.blk t).view.emb y) := by
  rw [after2_4]
  exact (congrArg (samOut1 (F := Ideal) _ _ _) (eq_ix1 y)).trans ((samOut1_at _ _ _ _).trans (((sam_blk V c t (y 0) 1).trans (congrArg (samAt V c 1) (emb2_4 t y).symm))))
theorem after2_at5 (t : Fin cfg2.N) (y : S512.Idx) : (dat2 V c).after 5 t y = logArr V c 0 ((win2_5.blk t).view.emb y) := by
  rw [after2_5]
  exact (congrArg (lpOut0 (F := Ideal) _ _ _) (eq_ix1 y)).trans ((lpOut0_at _ _ _ _).trans (((log_blk V c t (y 0) 0).trans (congrArg (logAt V c 0) (emb2_5 t y).symm))))
theorem after2_at6 (t : Fin cfg2.N) (y : S512.Idx) : (dat2 V c).after 6 t y = logArr V c 1 ((win2_6.blk t).view.emb y) := by
  rw [after2_6]
  exact (congrArg (lpOut1 (F := Ideal) _ _ _) (eq_ix1 y)).trans ((lpOut1_at _ _ _ _).trans (((log_blk V c t (y 0) 1).trans (congrArg (logAt V c 1) (emb2_6 t y).symm))))

/-- The four result arrays: the samples of the wide rows' first and second halves, and their logarithms. -/
theorem arr3 : (dat2 V c).arrAt 3 cfg2.N = samArr V c 0 :=
  (dat2 V c).arrAt_eq_of_covers 3 (samArr V c 0) (by decide +kernel) fun t _ y => (cast_eq _ _).trans (after2_at3 V c t y)
theorem arr4 : (dat2 V c).arrAt 4 cfg2.N = samArr V c 1 :=
  (dat2 V c).arrAt_eq_of_covers 4 (samArr V c 1) (by decide +kernel) fun t _ y => (cast_eq _ _).trans (after2_at4 V c t y)
theorem arr5 : (dat2 V c).arrAt 5 cfg2.N = logArr V c 0 :=
  (dat2 V c).arrAt_eq_of_covers 5 (logArr V c 0) (by decide +kernel) fun t _ y => (cast_eq _ _).trans (after2_at5 V c t y)
theorem arr6 : (dat2 V c).arrAt 6 cfg2.N = logArr V c 1 :=
  (dat2 V c).arrAt_eq_of_covers 6 (logArr V c 1) (by decide +kernel) fun t _ y => (cast_eq _ _).trans (after2_at6 V c t y)

end Cert.Proof.Legal
end
-- ==== Proof.KValue.lean ====
/-
  The kernel's two results, row by row: every row's move and logarithm are the lanes' sample and the lanes' logarithm of that row.
-/
module

public import proofs.«01_k».proof.Proof.Frames
public import proofs.«01_k».proof.Proof.KArrays

@[expose] public section

set_option maxRecDepth 8192

noncomputable section

namespace Cert.Proof.Legal

open Cert.KernelIdeal Cert.KernelIdeal.Gen
open Idealize.ShloMosaic Idealize.SL.Sem
open Idealize.ShloMosaic.TcCoe
open Idealize.ShloMosaic.ValueIdx
open scoped Classical

variable (m : (ℓ : Loc nD τ sig) → Buf (Elt Ideal) ℓ) (d : Dev nD)

/-- The value that stands for a masked-out logit is minus infinity. -/
theorem neg_ideal : negOf Ideal = (⊥ : EReal) := rfl

/-- Lane `l` of row `R` of the ids, and a logit. -/
def kId (R : Fin 16384) (l : Fin 64) : BitVec 32 := idsB m d (ix2 R l)
def kLogit (c : Fin 1968) : EReal := lgB m d (ix1 c)

/-- The row that half `h` of wide row `w` is. -/
def rowNo (h : Fin 2) (w : Fin 8192) : Fin 16384 := ⟨w.val + h.val * 8192, by have := w.isLt; have := h.isLt; omega⟩

theorem src_eq (h : Fin 2) (w : Fin 8192) (l : Fin 64) (k : Fin 128) (hk : k.val = h.val * 64 + l.val) : srcIdx w k = ix2 (rowNo h w) l := by
  have hl := l.isLt
  unfold srcIdx
  match h with
  | 0 =>
    have hk : k.val = 0 * 64 + l.val := hk
    rw [if_pos (by omega)]
    refine Shape.idx_ext₂ ?_ ?_
    · show w.val = w.val + 0 * 8192
      omega
    · show k.val % 64 = l.val
      omega
  | 1 =>
    have hk : k.val = 1 * 64 + l.val := hk
    rw [if_neg (by omega)]
    refine Shape.idx_ext₂ ?_ ?_
    · show w.val + 8192 = w.val + 1 * 8192
      omega
    · show k.val % 64 = l.val
      omega

/-! ## The arrays the regions read -/

theorem E2_v2 : E2 m d main_v2 = W1 m d (rf main_v2) := Function.update_of_ne (rf_ne (by decide)) ..
theorem E4_v2 : E4 m d main_v2 = W1 m d (rf main_v2) := by
  have e4 : E4 m d main_v2 = E3 m d main_v2 := StableHlo.reshape_result_ne' (h := by decide) ..
  rw [e4, E3_ne _ _ _ (by decide), E2_v2]
theorem E4_v5 : E4 m d main_v5 = noiseArr (E2 m) d := by
  have e4 : E4 m d main_v5 = E3 m d main_v5 := StableHlo.reshape_result_ne' (h := by decide) ..
  rw [e4, E3_out, arr1]
theorem E4_v6 : E4 m d main_v6 = shapeCast S8192x128 (keptEnd (tabB m) (wideB m) d) shapeCasts_S1048576_S8192x128 := by
  have e4 : E4 m d main_v6 = shapeCast S8192x128 (E3 m d main_v4) shapeCasts_S1048576_S8192x128 := StableHlo.reshape_result' ..
  have e2 : E2 m d main_v4 = keptEnd (tabB m) (wideB m) d := Function.update_self ..
  rw [e4, E3_ne _ _ _ (by decide), e2]

theorem ids_wide2 (h : Fin 2) (w : Fin 8192) (l : Fin 64) : wIds (E2 m) d (wlane h w l) = kId m d (rowNo h w) l := by
  refine (congrFun (E2_v2 m d) _).trans ((W1_v2_apply m d _).trans (congrArg (idsB m d) ?_))
  exact src_eq h w l _ rfl
theorem ids_wide4 (h : Fin 2) (w : Fin 8192) (l : Fin 64) : wIds (E4 m) d (wlane h w l) = kId m d (rowNo h w) l := by
  refine (congrFun (E4_v2 m d) _).trans ((W1_v2_apply m d _).trans (congrArg (idsB m d) ?_))
  exact src_eq h w l _ rfl

/-- The flat place of a lane of a half wide row. -/
def flatPos (h : Fin 2) (w : Fin 8192) (l : Fin 64) : ℕ := 128 * w.val + (64 * h.val + l.val)

theorem flatPos_lt (h : Fin 2) (w : Fin 8192) (l : Fin 64) : flatPos h w l < 1048576 := by
  have := h.isLt; have := w.isLt; have := l.isLt
  unfold flatPos
  omega

theorem ids_flat (h : Fin 2) (w : Fin 8192) (l : Fin 64) : idSeq d (wideB m) (flatPos h w l) = kId m d (rowNo h w) l := by
  have hlt := flatPos_lt h w l
  have hh := h.isLt; have hl := l.isLt
  have hv : (flatAt (flatPos h w l) 0).val = flatPos h w l := Nat.mod_eq_of_lt hlt
  refine (wideB_apply m d _).trans (congrArg (idsB m d) ?_)
  have hw : (⟨(flatAt (flatPos h w l) 0).val / 128, by rw [hv]; omega⟩ : Fin 8192) = w := by
    refine Fin.ext ?_
    show (flatAt (flatPos h w l) 0).val / 128 = w.val
    rw [hv]; unfold flatPos; omega
  refine (congrArg (fun w => srcIdx w _) hw).trans (src_eq h w l _ ?_)
  show (flatAt (flatPos h w l) 0).val % 128 = h.val * 64 + l.val
  rw [hv]; unfold flatPos; omega

/-! ## A row -/

/-- A lane wins when no later lane of its row holds the same id. -/
def winR (R : Fin 16384) (l : Fin 64) : Prop := ∀ l', l < l' → kId m d R l' ≠ kId m d R l

theorem last_iff (h : Fin 2) (w : Fin 8192) (l : Fin 64) : Last (idSeq d (wideB m)) (flatPos h w l) ↔ winR m d (rowNo h w) l := by
  have hl := l.isLt
  constructor
  · intro hL l' hll
    have hl' := l'.isLt
    have hlt : l.val < l'.val := hll
    have := hL (flatPos h w l') (by unfold flatPos; omega) (by unfold flatPos; omega)
    rwa [ids_flat, ids_flat] at this
  · intro hW q hq hpq
    have hq1 : flatPos h w l / 64 = 2 * w.val + h.val := by unfold flatPos; omega
    have hlt : q % 64 < 64 := Nat.mod_lt _ (by decide)
    have hqe : q = flatPos h w ⟨q % 64, hlt⟩ := by
      show q = 128 * w.val + (64 * h.val + q % 64)
      omega
    have := hW ⟨q % 64, hlt⟩ (by
      show l.val < q % 64
      unfold flatPos at hpq hq
      omega)
    rw [hqe, ids_flat, ids_flat]
    exact this

variable (hids : ∀ R l, (kId m d R l).toNat < 1968)

/-- A lane's id as a table position. -/
def idF (R : Fin 16384) (l : Fin 64) : Fin 1968 := ⟨(kId m d R l).toNat, hids R l⟩

theorem num_row (h : Fin 2) (w : Fin 8192) : numRow (E4 m) d h w = fun l => Row.num (idF m d hids (rowNo h w) l) := by
  funext l
  unfold numRow Row.num
  rw [ids_wide4]
  have hlt := hids (rowNo h w) l
  have : (kId m d (rowNo h w) l).toInt = ((kId m d (rowNo h w) l).toNat : ℤ) := by
    rw [BitVec.toInt_eq_toNat_cond, if_pos (by omega)]
  rw [this]
  rfl

theorem kept_row (h : Fin 2) (w : Fin 8192) :
    valRow (wKept (E4 m) d) h w = Row.lKept (idF m d hids (rowNo h w)) (winR m d (rowNo h w)) (kLogit m d) := by
  funext l
  have hlt := flatPos_lt h w l
  have e : wKept (E4 m) d (wlane h w l) = kept (F := Ideal) (idSeq d (wideB m)) (tabB m d) (flatPos h w l) := by
    refine (congrFun (E4_v6 m d) _).trans ?_
    rw [shapeCast_apply _ _ _ (flatAt (flatPos h w l)) (by
      rw [Shape.rowMajor_val_one, Shape.rowMajor_val_two]
      show flatPos h w l % 1048576 = w.val * 128 + (h.val * 64 + l.val)
      rw [Nat.mod_eq_of_lt hlt]; unfold flatPos; omega)]
    show kept (F := Ideal) (idSeq d (wideB m)) (tabB m d) (flatPos h w l % 1048576) = _
    rw [Nat.mod_eq_of_lt hlt]
  show wKept (E4 m) d (wlane h w l) = _
  rw [e]
  unfold kept Row.lKept
  by_cases hw : winR m d (rowNo h w) l
  · rw [if_pos hw, if_pos ((last_iff m d h w l).mpr hw), ids_flat]
    have ha : idAt (kId m d (rowNo h w) l) = ix1 (idF m d hids (rowNo h w) l) := by
      funext a
      obtain rfl : a = 0 := Subsingleton.elim _ _
      exact Fin.ext (Nat.mod_eq_of_lt (hids (rowNo h w) l))
    rw [ha]
    exact congrFun (W1_arg1 m d) _
  · rw [if_neg hw, if_neg fun h' => hw ((last_iff m d h w l).mp h')]
    exact neg_ideal

/-- A row's noise by table position. -/
def kNoise (R : Fin 16384) (c : Fin 1968) : EReal := Cipher.noise (BitVec.ofNat 32 (R.val * 1968 + c.val))

theorem gum_row (h : Fin 2) (w : Fin 8192) :
    valRow (wGum (E4 m) d) h w = fun l => kNoise (rowNo h w) (idF m d hids (rowNo h w) l) := by
  funext l
  have hl := l.isLt
  refine (congrFun (E4_v5 m d) _).trans ?_
  unfold noiseArr wideCount kNoise
  rw [ids_wide2]
  have hc : ((wlane h w l 0).val + (if 64 ≤ (wlane h w l 1).val then 8192 else 0)) = (rowNo h w).val := by
    match h with
    | 0 =>
      show w.val + (if 64 ≤ 0 * 64 + l.val then 8192 else 0) = w.val + 0 * 8192
      rw [if_neg (by omega)]
    | 1 =>
      show w.val + (if 64 ≤ 1 * 64 + l.val then 8192 else 0) = w.val + 1 * 8192
      rw [if_pos (by omega)]
  rw [hc]
  rfl

/-- A row's sample and logarithm. -/
abbrev rowSample (R : Fin 16384) : EReal := Row.lSample (idF m d hids R) (winR m d R) (kLogit m d) (kNoise R) Cipher.epsR hiNum
abbrev rowLog (R : Fin 16384) : EReal := Row.lLog (idF m d hids R) (winR m d R) (kLogit m d) (kNoise R) Cipher.epsR loNum hiNum

theorem sam_row (h : Fin 2) (w : Fin 8192) : samAt (E4 m) d h w = Ideal.fptosi 32 (rowSample m d hids (rowNo h w)) := by
  unfold samAt
  rw [num_row m d hids, kept_row m d hids, gum_row m d hids]
  rfl
theorem log_row (h : Fin 2) (w : Fin 8192) : logAt (E4 m) d h w = rowLog m d hids (rowNo h w) := by
  unfold logAt
  rw [num_row m d hids, kept_row m d hids, gum_row m d hids]
  rfl

/-! ## The results -/

/-- Two arrays of half rows, one after the other, at a row. -/
theorem halves_at {α : Type} (f : Fin 2 → Fin 8192 → α) (g : Fin 16384 → α) (hg : ∀ h w, f h w = g (rowNo h w)) (R : Fin 16384) :
    concatenate S16384 0 [⟨S8192, fun i : S8192.Idx => f 0 (i 0)⟩, ⟨S8192, fun i : S8192.Idx => f 1 (i 0)⟩] concatenates_S8192_S8192_S16384_d0 (ix1 R) = g R := by
  have hR := R.isLt
  by_cases h : R.val < 8192
  · refine (concatenate_pair_apply_left (t := S16384) (s₁ := S8192) (s₂ := S8192) 0 (fun i : S8192.Idx => f 0 (i 0)) _ _ _ rfl (ix1 ⟨R.val, h⟩) (fun b => ?_)).trans ?_
    · obtain rfl : b = 0 := Subsingleton.elim _ _
      rfl
    · refine (hg 0 ⟨R.val, h⟩).trans (congrArg g (Fin.ext ?_))
      show R.val + 0 * 8192 = R.val
      omega
  · have h' : R.val - 8192 < 8192 := by omega
    refine (concatenate_pair_apply_right (t := S16384) (s₁ := S8192) (s₂ := S8192) 0 _ (fun i : S8192.Idx => f 1 (i 0)) _ _ rfl rfl (ix1 ⟨R.val - 8192, h'⟩)
      (fun b hb => absurd (Subsingleton.elim _ _) hb) ?_).trans ?_
    · show R.val - 8192 + 8192 = R.val
      omega
    · refine (hg 1 ⟨R.val - 8192, h'⟩).trans (congrArg g (Fin.ext ?_))
      show R.val - 8192 + 1 * 8192 = R.val
      omega

/-- The kernel's moves. -/
theorem moves_at (R : Fin 16384) : W6 m d (rf main_v8) (ix1 R) = Ideal.fptosi 32 (rowSample m d hids R) := by
  have e : W6 m d (rf main_v8)
      = concatenate S16384 0 [⟨S8192, E5 m d main_v7_0⟩, ⟨S8192, E5 m d main_v7_1⟩] concatenates_S8192_S8192_S16384_d0 :=
    ((StableHlo.reshape_result_ne' (h := by decide) ..).trans (StableHlo.binary_result_ne' (h := by decide) ..)).trans
      (StableHlo.binary_result' ..)
  rw [e, E5_3, E5_4, arr3, arr4]
  exact halves_at (samAt (E4 m) d) (fun R => Ideal.fptosi 32 (rowSample m d hids R)) (sam_row m d hids) R

/-- The kernel's logarithms. -/
theorem logs_end (R : Fin 16384) : W6 m d (rf main_v10) (ix2 R (0 : Fin 1)) = rowLog m d hids R := by
  have e : W6 m d (rf main_v10) = shapeCast S16384x1 (op9.result (op8.result (W5 m d)) (rf main_v9)) shapeCasts_S16384_S16384x1 :=
    StableHlo.reshape_result' ..
  have e9 : op9.result (op8.result (W5 m d)) (rf main_v9)
      = concatenate S16384 0 [⟨S8192, op8.result (W5 m d) (rf main_v7_2)⟩, ⟨S8192, op8.result (W5 m d) (rf main_v7_3)⟩] concatenates_S8192_S8192_S16384_d0 :=
    StableHlo.binary_result' ..
  have e2 : op8.result (W5 m d) (rf main_v7_2) = E5 m d main_v7_2 := StableHlo.binary_result_ne' (h := by decide) ..
  have e3 : op8.result (W5 m d) (rf main_v7_3) = E5 m d main_v7_3 := StableHlo.binary_result_ne' (h := by decide) ..
  rw [e, shapeCast_apply _ _ _ (ix1 R) (by
    rw [Shape.rowMajor_val_one, Shape.rowMajor_val_two]
    show R.val = R.val * 1 + 0
    omega), e9, e2, e3, E5_5, E5_6, arr5, arr6]
  exact halves_at (logAt (E4 m) d) (rowLog m d hids) (log_row m d hids) R

/-! ## Every id has one winner -/

/-- Every position some lane of a row names has exactly one winner there. -/
theorem fits (R : Fin 16384) (here : Fin 1968 → Prop) (hh : ∀ c, here c ↔ ∃ l : Fin 64, (kId m d R l).toNat = c.val) :
    Row.Fits (idF m d hids R) (winR m d R) here where
  here_of l := (hh _).mpr ⟨l, rfl⟩
  win_of c hc := by
    replace hc := (hh c).mp hc
    obtain ⟨l0, h0⟩ := hc
    have hne : ((Finset.univ : Finset (Fin 64)).filter fun l => (kId m d R l).toNat = c.val).Nonempty := ⟨l0, by simp [h0]⟩
    have hmem := Finset.max'_mem _ hne
    rw [Finset.mem_filter] at hmem
    refine ⟨_, fun l' hl' he => ?_, Fin.ext hmem.2⟩
    have := Finset.le_max' ((Finset.univ : Finset (Fin 64)).filter fun l => (kId m d R l).toNat = c.val) l' (by
      rw [Finset.mem_filter]
      exact ⟨Finset.mem_univ _, by rw [he]; exact hmem.2⟩)
    exact absurd hl' (not_lt.mpr this)
  win_inj l l' hl hl' he := by
    have hv : (idF m d hids R l).val = (idF m d hids R l').val := congrArg Fin.val he
    have he : kId m d R l = kId m d R l' := BitVec.eq_of_toNat_eq hv
    rcases lt_trichotomy l l' with h | h | h
    · exact absurd he.symm (hl l' h)
    · exact h
    · exact absurd he (hl' l h)

end Cert.Proof.Legal

end
-- ==== Proof.RefNoise.lean ====
/-
  The reference's generator, entry by entry: at row r and column c its output word is the cipher's at the counter 1968 r + c.
-/
module

public import proofs.«01_k».proof.Proof.RefVals
public import proofs.«01_k».proof.Proof.Cipher
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Proof.Legal

variable {F : FTy → Type} [FloatOps F] (V0 : Valuation τ sig (Elt F))

/-! ## The key words -/

/-- The index of a vector at a position. -/
def at1 {d : Fin 1 → Nat} (r : Fin (d 0)) : (⟨1, d⟩ : Shape).Idx := fun b =>
  ⟨r.val, by have hb : b = 0 := Subsingleton.elim _ _; subst hb; exact r.isLt⟩

/-- The one index of a one-entry vector. -/
def only : S1.Idx := at1 (d := ![1]) ⟨0, by decide⟩

theorem only_row (k : S_.Idx) : (S1.rowMajor only).val = (S_.rowMajor k).val := by
  have h0 : (S1.rowMajor only).val < 1 := lt_of_lt_of_eq (S1.rowMajor only).isLt (by decide)
  have h1 : (S_.rowMajor k).val < 1 := lt_of_lt_of_eq (S_.rowMajor k).isLt (by decide)
  omega

theorem res_main_v40_apply (j : S2.Idx) : res_main_v40 V0 j = if (j 0).val = 0 then 0#32 else 1#32 := by
  have hj : (j 0).val < 2 := (j 0).isLt
  unfold res_main_v40
  by_cases h : (j 0).val = 0
  · rw [if_pos h, concatenate_pair_apply_left (s₁ := S1) (s₂ := S1) 0 _ _ _ j rfl only
      (fun b => by fin_cases b; exact h.symm)]
    rfl
  · rw [if_neg h, concatenate_pair_apply_right (s₁ := S1) (s₂ := S1) 0 _ _ _ j rfl rfl only
      (fun b hb => by fin_cases b; exact absurd rfl hb) (by show 0 + 1 = (j 0).val; omega)]
    show IntOp.andi 1#32 4294967295#32 = 1#32
    decide

theorem key0_eq : res_main_call1_v5 V0 = fun _ => 0#32 := by
  funext k
  unfold res_main_call1_v5
  rw [shapeCast_apply _ _ k only (only_row k),
    extractStridedSlice_apply _ _ _ _ (at1 (d := ![2]) ⟨0, by decide⟩) (fun a => by fin_cases a; rfl), res_main_v40_apply]
  rfl

theorem key1_eq : res_main_call1_v7 V0 = fun _ => 1#32 := by
  funext k
  unfold res_main_call1_v7
  rw [shapeCast_apply _ _ k only (only_row k),
    extractStridedSlice_apply _ _ _ _ (at1 (d := ![2]) ⟨1, by decide⟩) (fun a => by fin_cases a; rfl), res_main_v40_apply]
  rfl

theorem key2_eq : res_main_call1_call0_v1 V0 = fun _ => Cipher.key2 := by
  unfold res_main_call1_call0_v1
  rw [key0_eq, key1_eq]
  funext k
  show IntOp.xori (IntOp.xori 0#32 1#32) 466688986#32 = 466688987#32
  decide

/-! ## The counter -/

/-- The counter of an entry. -/
def counter (j : S16384x1968.Idx) : BitVec 32 := BitVec.ofNat 32 ((j 0).val * 1968 + (j 1).val)

theorem counter64 (j : S16384x1968.Idx) : res_main_call1_v14 V0 j = BitVec.ofNat 64 ((j 0).val * 1968 + (j 1).val) := by
  show 1968#64 * BitVec.ofNat 64 (j 0).val + 1#64 * BitVec.ofNat 64 (j 1).val = _
  rw [← BitVec.ofNat_mul, ← BitVec.ofNat_mul, ← BitVec.ofNat_add]
  congr 1
  omega

theorem start_eq (j : S16384x1968.Idx) :
    (res_main_call1_call0_v6 V0 j, res_main_call1_call0_v5 V0 j) = Cipher.start (counter j) := by
  have hj0 : (j 0).val < 16384 := (j 0).isLt
  have hj1 : (j 1).val < 1968 := (j 1).isLt
  have h64 := counter64 V0 j
  have hlo : (res_main_call1_v14 V0 j).setWidth 32 = counter j := by
    rw [h64]
    exact BitVec.eq_of_toNat_eq (by simp [counter, BitVec.toNat_setWidth])
  have hhi : (IntOp.shrui .host (res_main_call1_v14 V0 j) 32#64).setWidth 32 = 0#32 := by
    rw [h64]
    refine BitVec.eq_of_toNat_eq ?_
    show (BitVec.setWidth 32 (BitVec.ofNat 64 ((j 0).val * 1968 + (j 1).val) >>> 32#64)).toNat = 0
    simp only [BitVec.toNat_setWidth, BitVec.ushiftRight_eq', BitVec.toNat_ushiftRight, BitVec.toNat_ofNat, Nat.shiftRight_eq_div_pow,
      Nat.reducePow, Nat.reduceMod]
    have hn : (j 0).val * 1968 + (j 1).val < 4294967296 := by omega
    rw [Nat.mod_eq_of_lt (hn.trans (by decide)), Nat.div_eq_of_lt hn]
  have e5 : res_main_call1_call0_v5 V0 j = counter j + 1#32 := by
    rw [← hlo]
    unfold res_main_call1_call0_v5
    rw [key1_eq]
    rfl
  have e6 : res_main_call1_call0_v6 V0 j
      = (IntOp.shrui .host (res_main_call1_v14 V0 j) 32#64).setWidth 32 + 0#32 + res_main_call1_call0_v5 V0 j := by
    unfold res_main_call1_call0_v6
    rw [key0_eq]
    rfl
  rw [e6, hhi, e5]
  rfl

/-! ## The rounds -/

theorem turn_13 (j : S16384x1968.Idx) :
    (res_main_call1_call0_v13 V0 j, res_main_call1_call0_v12 V0 j) = Cipher.turn 13#32 19#32 (res_main_call1_call0_v6 V0 j, res_main_call1_call0_v5 V0 j) := rfl

theorem turn_20 (j : S16384x1968.Idx) :
    (res_main_call1_call0_v20 V0 j, res_main_call1_call0_v19 V0 j) = Cipher.turn 15#32 17#32 (res_main_call1_call0_v13 V0 j, res_main_call1_call0_v12 V0 j) := rfl

theorem turn_27 (j : S16384x1968.Idx) :
    (res_main_call1_call0_v27 V0 j, res_main_call1_call0_v26 V0 j) = Cipher.turn 26#32 6#32 (res_main_call1_call0_v20 V0 j, res_main_call1_call0_v19 V0 j) := rfl

theorem mix_40 (j : S16384x1968.Idx) :
    (res_main_call1_call0_v40 V0 j, res_main_call1_call0_v39 V0 j)
      = Cipher.mix 6#32 26#32 Cipher.key2 1#32 1#32 (res_main_call1_call0_v27 V0 j, res_main_call1_call0_v26 V0 j) := by
  have et : res_main_call1_call0_v39 V0 j = (Cipher.mix 6#32 26#32 Cipher.key2 1#32 1#32 (res_main_call1_call0_v27 V0 j, res_main_call1_call0_v26 V0 j)).2 := by
    unfold res_main_call1_call0_v39
    rw [key2_eq]
    rfl
  have es : res_main_call1_call0_v40 V0 j = IntOp.addi (w := 32) (IntOp.addi (w := 32) (res_main_call1_call0_v27 V0 j) 1#32) (res_main_call1_call0_v39 V0 j) := by
    unfold res_main_call1_call0_v40
    rw [key1_eq]
    rfl
  rw [es, et]
  rfl

theorem turn_47 (j : S16384x1968.Idx) :
    (res_main_call1_call0_v47 V0 j, res_main_call1_call0_v46 V0 j) = Cipher.turn 17#32 15#32 (res_main_call1_call0_v40 V0 j, res_main_call1_call0_v39 V0 j) := rfl

theorem turn_54 (j : S16384x1968.Idx) :
    (res_main_call1_call0_v54 V0 j, res_main_call1_call0_v53 V0 j) = Cipher.turn 29#32 3#32 (res_main_call1_call0_v47 V0 j, res_main_call1_call0_v46 V0 j) := rfl

theorem turn_61 (j : S16384x1968.Idx) :
    (res_main_call1_call0_v61 V0 j, res_main_call1_call0_v60 V0 j) = Cipher.turn 16#32 16#32 (res_main_call1_call0_v54 V0 j, res_main_call1_call0_v53 V0 j) := rfl

theorem mix_74 (j : S16384x1968.Idx) :
    (res_main_call1_call0_v74 V0 j, res_main_call1_call0_v73 V0 j)
      = Cipher.mix 24#32 8#32 0#32 Cipher.key2 2#32 (res_main_call1_call0_v61 V0 j, res_main_call1_call0_v60 V0 j) := by
  have et : res_main_call1_call0_v73 V0 j = (Cipher.mix 24#32 8#32 0#32 Cipher.key2 2#32 (res_main_call1_call0_v61 V0 j, res_main_call1_call0_v60 V0 j)).2 := by
    unfold res_main_call1_call0_v73
    rw [key0_eq]
    rfl
  have es : res_main_call1_call0_v74 V0 j = IntOp.addi (w := 32) (IntOp.addi (w := 32) (res_main_call1_call0_v61 V0 j) Cipher.key2) (res_main_call1_call0_v73 V0 j) := by
    unfold res_main_call1_call0_v74
    rw [key2_eq]
    rfl
  rw [es, et]
  rfl

theorem turn_81 (j : S16384x1968.Idx) :
    (res_main_call1_call0_v81 V0 j, res_main_call1_call0_v80 V0 j) = Cipher.turn 13#32 19#32 (res_main_call1_call0_v74 V0 j, res_main_call1_call0_v73 V0 j) := rfl

theorem turn_88 (j : S16384x1968.Idx) :
    (res_main_call1_call0_v88 V0 j, res_main_call1_call0_v87 V0 j) = Cipher.turn 15#32 17#32 (res_main_call1_call0_v81 V0 j, res_main_call1_call0_v80 V0 j) := rfl

theorem turn_95 (j : S16384x1968.Idx) :
    (res_main_call1_call0_v95 V0 j, res_main_call1_call0_v94 V0 j) = Cipher.turn 26#32 6#32 (res_main_call1_call0_v88 V0 j, res_main_call1_call0_v87 V0 j) := rfl

theorem mix_108 (j : S16384x1968.Idx) :
    (res_main_call1_call0_v108 V0 j, res_main_call1_call0_v107 V0 j)
      = Cipher.mix 6#32 26#32 1#32 0#32 3#32 (res_main_call1_call0_v95 V0 j, res_main_call1_call0_v94 V0 j) := by
  have et : res_main_call1_call0_v107 V0 j = (Cipher.mix 6#32 26#32 1#32 0#32 3#32 (res_main_call1_call0_v95 V0 j, res_main_call1_call0_v94 V0 j)).2 := by
    unfold res_main_call1_call0_v107
    rw [key1_eq]
    rfl
  have es : res_main_call1_call0_v108 V0 j = IntOp.addi (w := 32) (IntOp.addi (w := 32) (res_main_call1_call0_v95 V0 j) 0#32) (res_main_call1_call0_v107 V0 j) := by
    unfold res_main_call1_call0_v108
    rw [key0_eq]
    rfl
  rw [es, et]
  rfl

theorem turn_115 (j : S16384x1968.Idx) :
    (res_main_call1_call0_v115 V0 j, res_main_call1_call0_v114 V0 j) = Cipher.turn 17#32 15#32 (res_main_call1_call0_v108 V0 j, res_main_call1_call0_v107 V0 j) := rfl

theorem turn_122 (j : S16384x1968.Idx) :
    (res_main_call1_call0_v122 V0 j, res_main_call1_call0_v121 V0 j) = Cipher.turn 29#32 3#32 (res_main_call1_call0_v115 V0 j, res_main_call1_call0_v114 V0 j) := rfl

theorem turn_129 (j : S16384x1968.Idx) :
    (res_main_call1_call0_v129 V0 j, res_main_call1_call0_v128 V0 j) = Cipher.turn 16#32 16#32 (res_main_call1_call0_v122 V0 j, res_main_call1_call0_v121 V0 j) := rfl

theorem mix_142 (j : S16384x1968.Idx) :
    (res_main_call1_call0_v142 V0 j, res_main_call1_call0_v141 V0 j)
      = Cipher.mix 24#32 8#32 Cipher.key2 1#32 4#32 (res_main_call1_call0_v129 V0 j, res_main_call1_call0_v128 V0 j) := by
  have et : res_main_call1_call0_v141 V0 j = (Cipher.mix 24#32 8#32 Cipher.key2 1#32 4#32 (res_main_call1_call0_v129 V0 j, res_main_call1_call0_v128 V0 j)).2 := by
    unfold res_main_call1_call0_v141
    rw [key2_eq]
    rfl
  have es : res_main_call1_call0_v142 V0 j = IntOp.addi (w := 32) (IntOp.addi (w := 32) (res_main_call1_call0_v129 V0 j) 1#32) (res_main_call1_call0_v141 V0 j) := by
    unfold res_main_call1_call0_v142
    rw [key1_eq]
    rfl
  rw [es, et]
  rfl

theorem turn_149 (j : S16384x1968.Idx) :
    (res_main_call1_call0_v149 V0 j, res_main_call1_call0_v148 V0 j) = Cipher.turn 13#32 19#32 (res_main_call1_call0_v142 V0 j, res_main_call1_call0_v141 V0 j) := rfl

theorem turn_156 (j : S16384x1968.Idx) :
    (res_main_call1_call0_v156 V0 j, res_main_call1_call0_v155 V0 j) = Cipher.turn 15#32 17#32 (res_main_call1_call0_v149 V0 j, res_main_call1_call0_v148 V0 j) := rfl

theorem turn_163 (j : S16384x1968.Idx) :
    (res_main_call1_call0_v163 V0 j, res_main_call1_call0_v162 V0 j) = Cipher.turn 26#32 6#32 (res_main_call1_call0_v156 V0 j, res_main_call1_call0_v155 V0 j) := rfl

/-- The pair before the last round. -/
theorem rounds_eq (j : S16384x1968.Idx) :
    (res_main_call1_call0_v163 V0 j, res_main_call1_call0_v162 V0 j) = Cipher.rounds (counter j) := by
  rw [turn_163, turn_156, turn_149, mix_142, turn_129, turn_122, turn_115, mix_108, turn_95, turn_88, turn_81, mix_74, turn_61, turn_54, turn_47, mix_40, turn_27, turn_20, turn_13, start_eq]
  rfl

end Cert.ReferenceIdeal.Value

end
-- ==== Proof.RefValue.lean ====
/-
  The reference's values over the extended reals, entry by entry: the mask is one where some lane carries the column, the masked logits,
  their shares' logarithms and the candidates are the table's side of a row (RowMath) with the generator's noise.
-/
module

public import proofs.«01_k».proof.Proof.RefNoise
public import Idealize.ShloMosaic.Lib.Routing.OpsSet

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Routing
open Cert.Proof.Legal

variable (V0 : Valuation τ sig (Elt Ideal))

/-- Lane l of row r carries this id. -/
def idRow (r : Fin 16384) (l : Fin 64) : BitVec 32 := V0 (Proc.devRef .tc main_arg0) (ix2 r l)

/-- Column c's logit. -/
def logit (c : Fin 1968) : EReal := V0 (Proc.devRef .tc main_arg1) (ix1 c)

/-- Some lane of row r carries column c. -/
abbrev inRow (r : Fin 16384) (c : Fin 1968) : Prop := ∃ l : Fin 64, (idRow V0 r l).toNat = c.val

/-- A column's noise in row r. -/
def noiseAt (r : Fin 16384) (c : Fin 1968) : EReal := Cipher.noise (BitVec.ofNat 32 (r.val * 1968 + c.val))

/-- Entries of the reference's arrays. -/
abbrev at18 (r : Fin 16384) (c : Fin 1968) : EReal := res_main_v18 V0 (ix2 r c)
abbrev at22 (r : Fin 16384) (c : Fin 1968) : EReal := res_main_v22 V0 (ix2 r c)
abbrev at29 (r : Fin 16384) (c : Fin 1968) : EReal := res_main_v29 V0 (ix2 r c)
abbrev at54 (r : Fin 16384) (c : Fin 1968) : EReal := res_main_v54 V0 (ix2 r c)
abbrev at58 (r : Fin 16384) (c : Fin 1968) : EReal := res_main_v58 V0 (ix2 r c)

/-- The scatter's index array: row number and id, lane by lane. -/
def spots : IVec S16384x64x2 32 :=
  concatenate S16384x64x2 2 [⟨S16384x64x1, (broadcastInDim S16384x64x1 ![0, 1] bcast_S16384x64_S16384x64x1_0_1 (broadcastInDim S16384x64 ![0, 1] bcast_S16384x1_S16384x64_0_1 (select (cmpi .slt (res_main_v1 V0) (broadcastInDim S16384x1 ![] bcast_S_S16384x1 (constantI S_ 32 0#32))) (addi (res_main_v1 V0) (broadcastInDim S16384x1 ![] bcast_S_S16384x1 (constantI S_ 32 16384#32))) (res_main_v1 V0))))⟩, ⟨S16384x64x1, (broadcastInDim S16384x64x1 ![0, 1] bcast_S16384x64_S16384x64x1_0_1 (select (cmpi .slt (V0 (Proc.devRef .tc main_arg0)) (broadcastInDim S16384x64 ![] bcast_S_S16384x64 (constantI S_ 32 0#32))) (addi (V0 (Proc.devRef .tc main_arg0)) (broadcastInDim S16384x64 ![] bcast_S_S16384x64 (constantI S_ 32 1968#32))) (V0 (Proc.devRef .tc main_arg0))))⟩] concatenates_S16384x64x1_S16384x64x1_S16384x64x2_d2

/-- The index array's first column is the row number. -/
theorem spots_row (r : Fin 16384) (l : Fin 64) : spots V0 (ix3 r l (0 : Fin 2)) = BitVec.ofNat 32 r.val := by
  unfold spots
  rw [concatenate_pair_apply_left (t := S16384x64x2) (s₁ := S16384x64x1) (s₂ := S16384x64x1) 2 _ _ _ _ rfl (ix3 r l (0 : Fin 1))
    (fun b => by fin_cases b <;> rfl)]
  rw [broadcastInDim_apply _ _ _ _ (ix2 r l) (fun a => by fin_cases a <;> rfl),
    broadcastInDim_apply _ _ _ _ (ix2 r (0 : Fin 1)) (fun a => by fin_cases a <;> rfl)]
  have h1 : res_main_v1 V0 (ix2 r (0 : Fin 1)) = BitVec.ofNat 32 r.val := by
    unfold res_main_v1
    rw [broadcastInDim_apply _ _ _ _ (ix1 r) (fun a => by fin_cases a; rfl)]
    rfl
  refine Eq.trans (b := Scalar.select (IntOp.cmpi .slt (res_main_v1 V0 (ix2 r (0 : Fin 1))) 0#32) (IntOp.addi (w := 32) (res_main_v1 V0 (ix2 r (0 : Fin 1))) 16384#32) (res_main_v1 V0 (ix2 r (0 : Fin 1)))) rfl ?_
  rw [h1]
  refine wrap_of_lt _ _ ?_
  have := r.isLt
  rw [BitVec.toNat_ofNat, Nat.mod_eq_of_lt (by omega)]
  omega

/-- The index array's second column is the lane's id. -/
theorem spots_id (hids : ∀ r l, (idRow V0 r l).toNat < 1968) (r : Fin 16384) (l : Fin 64) :
    spots V0 (ix3 r l (1 : Fin 2)) = idRow V0 r l := by
  unfold spots
  rw [concatenate_pair_apply_right (t := S16384x64x2) (s₁ := S16384x64x1) (s₂ := S16384x64x1) 2 _ _ _ _ rfl rfl (ix3 r l (0 : Fin 1))
    (fun b hb => by
      fin_cases b
      · rfl
      · rfl
      · exact absurd rfl hb) rfl]
  rw [broadcastInDim_apply _ _ _ _ (ix2 r l) (fun a => by fin_cases a <;> rfl)]
  refine wrap_of_lt (idRow V0 r l) _ ?_
  have := hids r l
  omega

/-- The mask is one where some lane carries the column, zero elsewhere. -/
theorem mask_eq (hids : ∀ r l, (idRow V0 r l).toNat < 1968) (r : Fin 16384) (c : Fin 1968) :
    at18 V0 r c = if inRow V0 r c then (1 : EReal) else 0 := by
  have hland : ∀ (a : Fin 16384) (b : Fin 64),
      scatter_S16384x1968_S16384x64x2_S16384x64_n_01_01_2.resultIdx? (ix2 a b) (spots V0) = some (ix2 r c)
        ↔ a = r ∧ (idRow V0 a b).toNat = c.val := by
    intro a b
    rw [scatter_lands2 scatter_S16384x1968_S16384x64x2_S16384x64_n_01_01_2 rfl rfl rfl (spots V0) a b r c, spots_row, spots_id V0 hids]
    have ha := a.isLt
    have hb := hids a b
    rw [BitVec.toInt_eq_toNat_of_lt (by rw [BitVec.toNat_ofNat]; omega), BitVec.toInt_eq_toNat_of_lt (by omega), BitVec.toNat_ofNat,
      Nat.mod_eq_of_lt (by omega)]
    constructor
    · rintro ⟨h, h'⟩; exact ⟨Fin.ext (by omega), by omega⟩
    · rintro ⟨h, h'⟩; exact ⟨by rw [h], by omega⟩
  have h18 : at18 V0 r c = Host.scatter scatter_S16384x1968_S16384x64x2_S16384x64_n_01_01_2 (fun _ b => b)
      (broadcastInDim S16384x1968 ![] bcast_S_S16384x1968 (constant (F := Ideal) S_ .f32 0x00000000#32)) (spots V0)
      (broadcastInDim S16384x64 ![] bcast_S_S16384x64 (constant (F := Ideal) S_ .f32 0x3F800000#32)) (ix2 r c) := rfl
  rw [h18]
  split
  · rename_i h
    obtain ⟨l, hl⟩ := h
    refine (scatter_set_hit _ _ _ _ _ (Ideal.ofBits .f32 0x3F800000#32) (fun _ _ => rfl) (ix2 r l) ((hland r l).2 ⟨rfl, hl⟩)).trans Cipher.one_f32
  · rename_i h
    refine (scatter_set_miss _ _ _ _ _ fun k hk => ?_).trans (Ideal.ofBits_zero_f32)
    have hk' : ix2 (k 0) (k 1) = k := by funext a; fin_cases a <;> rfl
    rw [← hk'] at hk
    obtain ⟨h1, h2⟩ := (hland _ _).1 hk
    exact h ⟨k 1, by rw [← h1]; exact h2⟩

/-- Choosing by whether the mask is zero. -/
theorem mask_select (hids : ∀ r l, (idRow V0 r l).toNat < 1968) (r : Fin 16384) (c : Fin 1968) (a b : EReal) :
    Scalar.select (Ideal.cmp .oeq (at18 V0 r c) (Ideal.ofBits .f32 0x00000000#32)) a b = if inRow V0 r c then b else a := by
  rw [mask_eq V0 hids, Ideal.ofBits_zero_f32]
  split
  · simp [Ideal.cmp, Scalar.select]
  · simp [Ideal.cmp, Scalar.select]

/-! ## The operations read at an index -/

section Reads

variable {S : Shape} {x y z w : S.Idx → Ideal .f32} {j : S.Idx} {a b c d : EReal}

theorem select_at (hx : x j = a) (hz : z j = b) (hy : y j = c) (hw : w j = d) :
    select (cmpf .oeq x z) y w j = Scalar.select (Ideal.cmp .oeq a b) c d := by
  subst hx hz hy hw; rfl
theorem exp_sub_at (hx : x j = a) (hy : y j = b) : Host.exp (subf x y) j = Ideal.exp (a - b) := by
  subst hx hy; rfl
theorem max_at (hx : x j = a) (hy : y j = b) : maximumf x y j = max a b := by
  subst hx hy; rfl
theorem log_share_at (hx : x j = a) (hy : y j = b) (hz : z j = c) :
    Host.log (addf (Host.divf x y) z) j = Ideal.log (Ideal.div a b + c) := by
  subst hx hy hz; rfl
theorem add_at (hx : x j = a) (hy : y j = b) : addf x y j = a + b := by
  subst hx hy; rfl
theorem mul_at (hx : x j = a) (hy : y j = b) : mulf x y j = a * b := by
  subst hx hy; rfl
theorem sub_at (hx : x j = a) (hy : y j = b) : subf x y j = a - b := by
  subst hx hy; rfl
theorem neg_log_at (hx : x j = a) : Host.negf (Host.log x) j = -Ideal.log a := by
  subst hx; rfl
theorem bits_at {q : S.Idx → BitVec 32} {b : BitVec 32} (h : q j = b) : bitcastToFloat (F := Ideal) .f32 q j = Ideal.ofBits .f32 b := by
  subst h; rfl

end Reads

/-- The masked logits. -/
theorem masked_eq (hids : ∀ r l, (idRow V0 r l).toNat < 1968) (r : Fin 16384) (c : Fin 1968) :
    at22 V0 r c = Row.tMasked (inRow V0 r) (logit V0) c := by
  refine Eq.trans ?_ (mask_select V0 hids r c ⊥ (logit V0 c))
  refine select_at (x := res_main_v18 V0) (a := at18 V0 r c) rfl rfl Cipher.bot_f32 ?_
  rw [broadcastInDim_apply _ _ _ _ (ix2 (0 : Fin 1) c) (fun a => by fin_cases a <;> rfl),
    broadcastInDim_apply _ _ _ _ (ix1 c) (fun a => by fin_cases a; rfl)]
  rfl

theorem red : S16384x1968.Reduces [1] S16384 := by decide

theorem red_lift (r : Fin 16384) (c : Fin 1968) : red.lift (ix1 r) c = ix2 r c := by
  funext a; fin_cases a <;> rfl

/-- The programs' largest of a row of values is the order's. -/
theorem fold_top {k : ℕ} (b : EReal) (hb : b = ⊥) (f : Fin k → EReal) :
    (Finset.univ : Finset (Fin k)).fold (FloatOps.maximumf (F := Ideal) (φ := .f32)) b f = Row.top f := by
  subst hb; rfl

/-- A reduction with the largest, over one axis. -/
theorem reduce_top {S T U : Shape} {a : Fin S.rank} (h' : S.ReducesTo [a] T) (h : S.Reduces [a] T) (hu : 0 < U.numel)
    (x : S.Idx → Ideal .f32) (init : U.Idx → Ideal .f32) (hi : init (Shape.Idx.first hu) = (⊥ : EReal)) (j : T.Idx) :
    Host.reduce FloatOps.maximumf x init h' hu j = Row.top fun k => x (h.lift j k) := by
  rw [Host.reduce_eq_fold_single FloatOps.maximumf _ _ _ h _ j]
  exact fold_top _ hi _

/-- A row's largest masked logit. -/
theorem rowTop_eq (hids : ∀ r l, (idRow V0 r l).toNat < 1968) (r : Fin 16384) :
    Host.reduce FloatOps.maximumf (res_main_v22 V0) (constant S_ .f32 0xFF800000#32) reducesTo_S16384x1968_S16384_d1 h_S_ (ix1 r)
      = Row.top (Row.tMasked (inRow V0 r) (logit V0)) := by
  refine (reduce_top _ red _ (res_main_v22 V0) _ Cipher.bot_f32 (ix1 r)).trans ?_
  exact congrArg Row.top (funext fun c => (congrArg (res_main_v22 V0) (red_lift r c)).trans (masked_eq V0 hids r c))

/-- A row's scalar spread over the row. -/
theorem spread_at (x : S16384.Idx → Ideal .f32) (r : Fin 16384) (c : Fin 1968) {a : EReal} (h : x (ix1 r) = a) :
    broadcastInDim S16384x1968 ![0, 1] bcast_S16384x1_S16384x1968_0_1 (broadcastInDim S16384x1 ![0] bcast_S16384_S16384x1_0 x) (ix2 r c) = a := by
  rw [broadcastInDim_apply _ _ _ _ (ix2 r (0 : Fin 1)) (fun a => by fin_cases a <;> rfl),
    broadcastInDim_apply _ _ _ _ (ix1 r) (fun a => by fin_cases a; rfl), h]

/-- The exponentials of the masked logits less the row's largest. -/
theorem exps_eq (hids : ∀ r l, (idRow V0 r l).toNat < 1968) (r : Fin 16384) (c : Fin 1968) :
    at29 V0 r c = Row.shiftExp (Row.tMasked (inRow V0 r) (logit V0)) c := by
  refine exp_sub_at (masked_eq V0 hids r c) (spread_at _ r c ?_)
  refine (max_at (a := ⊥) Cipher.bot_f32 (rowTop_eq V0 hids r)).trans (max_eq_right bot_le)

/-- A row's sum of exponentials. -/
theorem rowSum_eq (hids : ∀ r l, (idRow V0 r l).toNat < 1968) (r : Fin 16384) :
    Host.reduceAdd (res_main_v29 V0) (constant S_ .f32 0x00000000#32) reducesTo_S16384x1968_S16384_d1 h_S_ (ix1 r)
      = ∑ c, Row.shiftExp (Row.tMasked (inRow V0 r) (logit V0)) c := by
  refine (Ideal.hostReduceAdd_single reducesTo_S16384x1968_S16384_d1 red (res_main_v29 V0) (Ideal.ofBits .f32 0x00000000#32) (ix1 r)).trans ?_
  rw [Ideal.ofBits_zero_f32, zero_add]
  exact Finset.sum_congr rfl fun c _ => (congrArg (res_main_v29 V0) (red_lift r c)).trans (exps_eq V0 hids r c)

/-- The logarithms of the shares. -/
theorem logs_eq (hids : ∀ r l, (idRow V0 r l).toNat < 1968) (r : Fin 16384) (c : Fin 1968) :
    at54 V0 r c = Row.logShare Cipher.epsR (Row.tMasked (inRow V0 r) (logit V0)) c :=
  log_share_at (exps_eq V0 hids r c) (spread_at _ r c (rowSum_eq V0 hids r)) Cipher.eps_f32

/-- The output word of the generator at a column. -/
def outWord (j : S16384x1968.Idx) : BitVec 32 :=
  IntOp.xori (w := 32) (IntOp.addi (w := 32) (res_main_call1_call0_v163 V0 j) (broadcastInDim S16384x1968 ![] bcast_S_S16384x1968 (res_main_call1_call0_v1 V0) j))
    (IntOp.addi (w := 32) (IntOp.addi (w := 32) (IntOp.xori (w := 32) (res_main_call1_call0_v163 V0 j) (Cipher.rot 6#32 26#32 (res_main_call1_call0_v162 V0 j)))
      (broadcastInDim S16384x1968 ![] bcast_S_S16384x1968 (res_main_call1_v5 V0) j)) 5#32)

theorem outWord_eq (r : Fin 16384) (c : Fin 1968) :
    outWord V0 (ix2 r c) = Cipher.out (Cipher.rounds (BitVec.ofNat 32 (r.val * 1968 + c.val))) := by
  have h := rounds_eq V0 (ix2 r c)
  unfold outWord
  rw [show BitVec.ofNat 32 (r.val * 1968 + c.val) = counter (ix2 r c) from rfl, ← h, key0_eq, key2_eq]
  rfl

/-- The candidates. -/
theorem cands_eq (hids : ∀ r l, (idRow V0 r l).toNat < 1968) (r : Fin 16384) (c : Fin 1968) :
    at58 V0 r c = Row.tCand (inRow V0 r) (logit V0) (noiseAt r) Cipher.epsR c := by
  refine Eq.trans ?_ (mask_select V0 hids r c ⊥ _)
  refine select_at (x := res_main_v18 V0) (a := at18 V0 r c) rfl rfl Cipher.bot_f32 (add_at (logs_eq V0 hids r c) ?_)
  have hn : noiseAt r c = -Ideal.log (-Ideal.log (max (Ideal.ofBits .f32 0x2EDBE6FF#32) (max (Ideal.ofBits .f32 0x00000000#32)
      ((Ideal.ofBits .f32 (outWord V0 (ix2 r c) >>> 9#32 ||| 1065353216#32) - Ideal.ofBits .f32 0x3F800000#32)
        * (Ideal.ofBits .f32 0x3F800000#32 - Ideal.ofBits .f32 0x00000000#32) + Ideal.ofBits .f32 0x00000000#32)
      * Ideal.ofBits .f32 0x3F800000#32 + Ideal.ofBits .f32 0x2EDBE6FF#32))) := by
    rw [Cipher.one_f32, Ideal.ofBits_zero_f32, sub_zero, outWord_eq]
    rw [show Ideal.ofBits .f32 0x2EDBE6FF#32 = Cipher.tiny from rfl, Cipher.frac_max]
    rfl
  rw [hn]
  exact neg_log_at (neg_log_at (max_at rfl (add_at (mul_at (max_at rfl (add_at (mul_at (sub_at (bits_at rfl) rfl) (sub_at rfl rfl)) rfl)) rfl) rfl)))

end Cert.ReferenceIdeal.Value
end
-- ==== Proof.RefPick.lean ====
/-
  The reference's two results at a row: the first position of the row's largest candidate, and the logarithm of the share there.
-/
module

public import proofs.«01_k».proof.Proof.RefValue

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Routing
open Cert.Proof.Legal

/-! ## The position of the largest -/

/-- The step of the search: the left pair stays when its value is larger, or equal with the smaller position. -/
theorem step_eq (a b : EReal × BitVec 32) :
    reducer_argmax_f32_i32 (F := Ideal) a b = if b.1 < a.1 ∨ (a.1 = b.1 ∧ a.2.slt b.2 = true) then a else b := by
  obtain ⟨a1, a2⟩ := a
  obtain ⟨b1, b2⟩ := b
  have h : reducer_argmax_f32_i32 (F := Ideal) (a1, a2) (b1, b2) =
    (Scalar.select (IntOp.ori (Ideal.cmp .ogt a1 b1) (Ideal.cmp .une a1 a1)) a1 b1,
      Scalar.select (IntOp.ori (IntOp.ori (Ideal.cmp .ogt a1 b1) (Ideal.cmp .une a1 a1)) (IntOp.andi (Ideal.cmp .oeq a1 b1) (IntOp.cmpi .slt a2 b2))) a2 b2) := rfl
  rw [h]
  have hs : IntOp.cmpi .slt a2 b2 = BitVec.ofBool (a2.slt b2) := rfl
  rw [hs]
  rcases lt_trichotomy b1 a1 with h1 | h1 | h1
  · simp [Ideal.cmp, Scalar.select, IntOp.ori, IntOp.andi, h1, h1.ne']
  · subst h1
    cases a2.slt b2 <;> simp [Ideal.cmp, Scalar.select, IntOp.ori, IntOp.andi]
  · simp [Ideal.cmp, Scalar.select, IntOp.ori, IntOp.andi, h1.not_gt, h1.ne]

/-- A pair that the search prefers T to. -/
def Under (T p : EReal × BitVec 32) : Prop := p.1 < T.1 ∨ (p.1 = T.1 ∧ T.2.slt p.2 = true)

/-- The search's step keeps T, takes T, and keeps below T what is below T. -/
theorem step_keep (T p : EReal × BitVec 32) (h : p = T ∨ Under T p) : reducer_argmax_f32_i32 (F := Ideal) T p = T := by
  rw [step_eq]
  rcases h with h | h
  · rw [h]; split <;> rfl
  · refine if_pos ?_
    rcases h with h | ⟨h, h'⟩
    · exact Or.inl h
    · exact Or.inr ⟨h.symm, h'⟩

theorem slt_asymm' (x y : BitVec 32) (h : x.slt y = true) : y.slt x = false := by
  rw [BitVec.slt_iff_toInt_lt] at h
  rw [Bool.eq_false_iff, ne_eq, BitVec.slt_iff_toInt_lt]
  omega

theorem step_take (T p : EReal × BitVec 32) (h : Under T p) : reducer_argmax_f32_i32 (F := Ideal) p T = T := by
  rw [step_eq]
  refine if_neg ?_
  rintro (h' | ⟨h', h''⟩)
  · rcases h with h | ⟨h, _⟩
    · exact absurd h' h.not_gt
    · exact absurd h h'.ne'
  · rcases h with h | ⟨_, h⟩
    · exact absurd h' h.ne
    · rw [slt_asymm' _ _ h] at h''; exact absurd h'' (by decide)

theorem step_under (T p q : EReal × BitVec 32) (hp : Under T p) (hq : Under T q) : Under T (reducer_argmax_f32_i32 (F := Ideal) p q) := by
  rw [step_eq]; split
  · exact hp
  · exact hq

/-- The search over a list that holds T and nothing T is not preferred to ends at T. -/
theorem search_eq (T : EReal × BitVec 32) (L : List (EReal × BitVec 32)) (hL : ∀ p ∈ L, p = T ∨ Under T p) :
    ∀ s : EReal × BitVec 32, s = T ∨ (Under T s ∧ T ∈ L) → L.foldl (reducer_argmax_f32_i32 (F := Ideal)) s = T := by
  induction L with
  | nil => rintro s (h | ⟨_, h⟩)
           · exact h
           · exact absurd h List.not_mem_nil
  | cons p L ih =>
    intro s hs
    rw [List.foldl_cons]
    refine ih (fun q hq => hL q (List.mem_cons_of_mem _ hq)) _ ?_
    rcases hs with hs | ⟨hs, hm⟩
    · rw [hs]; exact Or.inl (step_keep T p (hL p List.mem_cons_self))
    · rcases List.mem_cons.1 hm with h | h
      · rw [← h]; exact Or.inl (step_take T s hs)
      · rcases hL p List.mem_cons_self with h' | h'
        · rw [h']; exact Or.inl (step_take T s hs)
        · exact Or.inr ⟨step_under T s p hs h', h⟩

/-- A whole array searched row by row: a position that holds the row's largest value, with smaller values before it, is found. -/
theorem argmax_eq (x : S16384x1968.Idx → EReal) (r : Fin 16384) (c : Fin 1968)
    (hmax : ∀ c', x (ix2 r c') ≤ x (ix2 r c)) (hfirst : ∀ c' < c, x (ix2 r c') < x (ix2 r c)) :
    (Host.argReduce (F := Ideal) (φ := .f32) reducer_argmax_f32_i32 x (iotaInDim S16384x1968 32 1) (constant S_ .f32 0xFF800000#32) (constantI S_ 32 0#32)
      reducesTo_S16384x1968_S16384_d1 h_S_ (ix1 r)).2 = BitVec.ofNat 32 c.val := by
  rw [Ideal.argReduce_eq_reduce2, Host.reduce2_eq_foldl_fiber]
  have hpair : ∀ c' : Fin 1968, ((x (ix2 r c'), BitVec.ofNat 32 c'.val) : EReal × BitVec 32) = (x (ix2 r c), BitVec.ofNat 32 c.val)
      ∨ Under (x (ix2 r c), BitVec.ofNat 32 c.val) (x (ix2 r c'), BitVec.ofNat 32 c'.val) := by
    intro c'
    rcases lt_trichotomy c' c with h | h | h
    · exact Or.inr (Or.inl (hfirst c' h))
    · rw [h]; exact Or.inl rfl
    · rcases (hmax c').lt_or_eq with h' | h'
      · exact Or.inr (Or.inl h')
      · refine Or.inr (Or.inr ⟨h', ?_⟩)
        have h1 := c.isLt
        have h2 := c'.isLt
        have h3 : c.val < c'.val := h
        rw [BitVec.slt_iff_toInt_lt, BitVec.toInt_eq_toNat_of_lt (by rw [BitVec.toNat_ofNat]; omega),
          BitVec.toInt_eq_toNat_of_lt (by rw [BitVec.toNat_ofNat]; omega), BitVec.toNat_ofNat, BitVec.toNat_ofNat]
        omega
  have hdrop : ∀ i : S16384x1968.Idx, reducesTo_S16384x1968_S16384_d1.drop i = ix1 (i 0) := by
    intro i; funext a; fin_cases a; rfl
  have hfib : ∀ p : EReal × BitVec 32, p ∈ Host.argReduceFiber x (iotaInDim S16384x1968 32 1) reducesTo_S16384x1968_S16384_d1 (ix1 r)
      ↔ ∃ c' : Fin 1968, p = (x (ix2 r c'), BitVec.ofNat 32 c'.val) := by
    intro p
    unfold Host.argReduceFiber
    rw [List.mem_map]
    constructor
    · rintro ⟨n, hn, rfl⟩
      have hn' := of_decide_eq_true (List.mem_filter.1 hn).2
      generalize S16384x1968.rowMajor.symm n = i at hn' ⊢
      rw [hdrop] at hn'
      have h0 : i 0 = r := congrFun hn' 0
      have hi : i = ix2 r (i 1) := by
        funext a; fin_cases a
        · exact h0
        · rfl
      exact ⟨i 1, by conv_lhs => rw [hi]
                     rfl⟩
    · rintro ⟨c', rfl⟩
      refine ⟨S16384x1968.rowMajor (ix2 r c'), List.mem_filter.2 ⟨List.mem_finRange _, decide_eq_true ?_⟩, ?_⟩
      · rw [Equiv.symm_apply_apply, hdrop]
        rfl
      · rw [Equiv.symm_apply_apply]; rfl
  refine congrArg Prod.snd (search_eq (x (ix2 r c), BitVec.ofNat 32 c.val) _ (fun p hp => ?_) _ ?_)
  · obtain ⟨c', rfl⟩ := (hfib p).1 hp
    exact hpair c'
  · have h0 : ((constant (F := Ideal) S_ .f32 0xFF800000#32 (Shape.Idx.first h_S_), constantI S_ 32 0#32 (Shape.Idx.first h_S_)) : EReal × BitVec 32) = (⊥, 0#32) :=
      Prod.ext Cipher.bot_f32 rfl
    rw [h0]
    by_cases hb : x (ix2 r c) = ⊥
    · left
      have hc : c = 0 := by
        by_contra hc
        have := hfirst 0 (Fin.pos_of_ne_zero hc)
        rw [hb] at this
        exact not_lt_bot this
      rw [hb, hc]
      rfl
    · exact Or.inr ⟨Or.inl (bot_lt_iff_ne_bot.2 hb), (hfib _).2 ⟨c, rfl⟩⟩

/-! ## The read at the position -/

/-- The gather reads row r at the column named by the index array, when that column is in range. -/
theorem gather_at (x : S16384x1968.Idx → EReal) (idx : IVec S16384x1x1 32) (r : Fin 16384) (c : Fin 1968)
    (h : idx (ix3 r (0 : Fin 1) (0 : Fin 1)) = BitVec.ofNat 32 c.val) :
    Host.gather gather_S16384x1968_S16384x1x1_S16384x1_n_1_0_0_1_2_11 x idx (ix2 r (0 : Fin 1)) = x (ix2 r c) := by
  unfold Host.gather
  congr 1
  funext a
  refine Fin.ext ?_
  generalize hd : gather_S16384x1968_S16384x1x1_S16384x1_n_1_0_0_1_2_11 = d
  show d.start (ix2 r (0 : Fin 1)) idx a + d.batchCoord (ix2 r (0 : Fin 1)) a + d.offCoord (ix2 r (0 : Fin 1)) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x1968_S16384x1x1_S16384x1_n_1_0_0_1_2_11.operandBatchingDims from List.mem_singleton.mpr rfl)]
    rfl
  · rw [GatherDims.batchCoord_eq_zero _ _ _ (fun h => by
        have := List.mem_singleton.1 h
        exact absurd this (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x1968_S16384x1x1_S16384x1_n_1_0_0_1_2_11.startIndexMap from List.mem_singleton.mpr rfl)]
    have hsi : gather_S16384x1968_S16384x1x1_S16384x1_n_1_0_0_1_2_11.siIdx (ix2 r (0 : Fin 1))
        ⟨List.idxOf (1 : Fin 2) gather_S16384x1968_S16384x1x1_S16384x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi, h]
    have h1 := c.isLt
    rw [BitVec.toInt_eq_toNat_of_lt (by rw [BitVec.toNat_ofNat]; omega), BitVec.toNat_ofNat]
    show min (Int.toNat ((c.val % 2 ^ 32 : ℕ) : ℤ)) (1968 - 1) = c.val
    omega

variable (V0 : Valuation τ sig (Elt Ideal))

/-- The first result at a row. -/
theorem pick_eq (hids : ∀ r l, (idRow V0 r l).toNat < 1968) (r : Fin 16384) (c : Fin 1968)
    (hmax : ∀ c', Row.tCand (inRow V0 r) (logit V0) (noiseAt r) Cipher.epsR c' ≤ Row.tCand (inRow V0 r) (logit V0) (noiseAt r) Cipher.epsR c)
    (hfirst : ∀ c' < c, Row.tCand (inRow V0 r) (logit V0) (noiseAt r) Cipher.epsR c' < Row.tCand (inRow V0 r) (logit V0) (noiseAt r) Cipher.epsR c) :
    (Host.argReduce reducer_argmax_f32_i32 (res_main_v58 V0) (res_main_call3_v0 V0) (res_main_call3_cst V0) (res_main_call3_c V0)
      reducesTo_S16384x1968_S16384_d1 h_S_ (ix1 r)).2 = BitVec.ofNat 32 c.val := by
  simp only [← cands_eq V0 hids] at hmax hfirst
  exact argmax_eq (res_main_v58 V0) r c hmax hfirst

/-- The column array the second result is read by. -/
theorem column_eq (hids : ∀ r l, (idRow V0 r l).toNat < 1968) (r : Fin 16384) (c : Fin 1968)
    (h : (Host.argReduce reducer_argmax_f32_i32 (res_main_v58 V0) (res_main_call3_v0 V0) (res_main_call3_cst V0) (res_main_call3_c V0)
      reducesTo_S16384x1968_S16384_d1 h_S_ (ix1 r)).2 = BitVec.ofNat 32 c.val) :
    res_main_call4_v5 V0 (ix3 r (0 : Fin 1) (0 : Fin 1)) = BitVec.ofNat 32 c.val := by
  have h60 : res_main_v60 V0 (ix2 r (0 : Fin 1)) = BitVec.ofNat 32 c.val := by
    unfold res_main_v60
    rw [broadcastInDim_apply _ _ _ _ (ix1 r) (fun a => by fin_cases a; rfl)]
    exact h
  unfold res_main_call4_v5
  rw [shapeCast_apply _ _ _ (ix2 r (0 : Fin 1)) (by
    show (S16384x1.rowMajor (ix2 r (0 : Fin 1))).val = (S16384x1x1.rowMajor (ix3 r (0 : Fin 1) (0 : Fin 1))).val
    rw [Shape.rowMajor_val_two, Shape.rowMajor_val_three]
    show r.val * 1 + 0 = (r.val * 1 + 0) * 1 + 0
    omega)]
  refine Eq.trans (b := Scalar.select (IntOp.cmpi .slt (res_main_v60 V0 (ix2 r (0 : Fin 1))) 0#32) (IntOp.addi (w := 32) (res_main_v60 V0 (ix2 r (0 : Fin 1))) 1968#32) (res_main_v60 V0 (ix2 r (0 : Fin 1)))) rfl ?_
  rw [h60]
  refine wrap_of_lt _ _ ?_
  have := c.isLt
  rw [BitVec.toNat_ofNat, Nat.mod_eq_of_lt (by omega)]
  omega

theorem red1 : S16384x1x1.Reduces [2] S16384x1 := by decide

/-- A check that holds at a row's one entry holds of the row. -/
theorem all_at (x : S16384x1x1.Idx → BitVec 1) (r : Fin 16384) (h : x (ix3 r (0 : Fin 1) (0 : Fin 1)) = 1#1) :
    Host.reduce IntOp.andi x (constantI S_ 1 1#1) reducesTo_S16384x1x1_S16384x1_d2 h_S_ (ix2 r (0 : Fin 1)) = 1#1 := by
  rw [Host.reduce_eq_fold_single IntOp.andi _ _ _ red1 _ (ix2 r (0 : Fin 1))]
  have : x ∘ red1.lift (ix2 r (0 : Fin 1)) = fun _ => 1#1 := by
    funext k
    refine Eq.trans (congrArg x ?_) h
    funext a
    fin_cases a
    · rfl
    · rfl
    · exact Fin.ext (Nat.lt_one_iff.1 k.isLt)
  rw [this]
  rfl

theorem select_true_at {S : Shape} {q : S.Idx → BitVec 1} {x y : S.Idx → Ideal .f32} {j : S.Idx} {a : EReal} (hq : q j = 1#1) (hx : x j = a) :
    select q x y j = a := by
  subst hx
  show Scalar.select (q j) (x j) (y j) = x j
  rw [hq]; rfl

/-- The second result at a row: the logarithm of the share at the picked column. -/
theorem log_eq (hids : ∀ r l, (idRow V0 r l).toNat < 1968) (r : Fin 16384) (c : Fin 1968)
    (h : (Host.argReduce reducer_argmax_f32_i32 (res_main_v58 V0) (res_main_call3_v0 V0) (res_main_call3_cst V0) (res_main_call3_c V0)
      reducesTo_S16384x1968_S16384_d1 h_S_ (ix1 r)).2 = BitVec.ofNat 32 c.val) :
    select (Host.reduce IntOp.andi (andi (cmpi .sge (res_main_call4_v5 V0) (broadcastInDim S16384x1x1 ![] bcast_S_S16384x1x1 (constantI S_ 32 0#32))) (cmpi .sle (res_main_call4_v5 V0) (broadcastInDim S16384x1x1 ![0, 1, 2] bcast_S1x1x1_S16384x1x1_0_1_2 (broadcastInDim S1x1x1 ![2] bcast_S1_S1x1x1_2 (constantI S1 32 1967#32))))) (constantI S_ 1 1#1) reducesTo_S16384x1x1_S16384x1_d2 h_S_) (Host.gather gather_S16384x1968_S16384x1x1_S16384x1_n_1_0_0_1_2_11 (res_main_v54 V0) (res_main_call4_v5 V0)) (broadcastInDim S16384x1 ![] bcast_S_S16384x1 (constant (F := Ideal) S_ .f32 0x7FC00000#32)) (ix2 r (0 : Fin 1))
      = Row.logShare Cipher.epsR (Row.tMasked (inRow V0 r) (logit V0)) c := by
  have hc := column_eq V0 hids r c h
  have hall := all_at (andi (cmpi .sge (res_main_call4_v5 V0) (broadcastInDim S16384x1x1 ![] bcast_S_S16384x1x1 (constantI S_ 32 0#32))) (cmpi .sle (res_main_call4_v5 V0) (broadcastInDim S16384x1x1 ![0, 1, 2] bcast_S1x1x1_S16384x1x1_0_1_2 (broadcastInDim S1x1x1 ![2] bcast_S1_S1x1x1_2 (constantI S1 32 1967#32))))) r (by
    refine Eq.trans (b := IntOp.andi (IntOp.cmpi .sge (res_main_call4_v5 V0 (ix3 r (0 : Fin 1) (0 : Fin 1))) 0#32) (IntOp.cmpi .sle (res_main_call4_v5 V0 (ix3 r (0 : Fin 1) (0 : Fin 1))) 1967#32)) rfl ?_
    rw [hc]
    have h1 := c.isLt
    have hi : (BitVec.ofNat 32 c.val).toInt = c.val := by
      rw [BitVec.toInt_eq_toNat_of_lt (by rw [BitVec.toNat_ofNat]; omega), BitVec.toNat_ofNat]; omega
    have e1 : IntOp.cmpi .sge (BitVec.ofNat 32 c.val) 0#32 = 1#1 := by
      show BitVec.ofBool ((0#32).sle (BitVec.ofNat 32 c.val)) = 1#1
      rw [show (0#32).sle (BitVec.ofNat 32 c.val) = true by
        rw [BitVec.sle_iff_toInt_le, hi]; exact Int.natCast_nonneg _]
      rfl
    have e2 : IntOp.cmpi .sle (BitVec.ofNat 32 c.val) 1967#32 = 1#1 := by
      show BitVec.ofBool ((BitVec.ofNat 32 c.val).sle 1967#32) = 1#1
      rw [show (BitVec.ofNat 32 c.val).sle 1967#32 = true by
        rw [BitVec.sle_iff_toInt_le, hi]; show (c.val : ℤ) ≤ 1967; omega]
      rfl
    rw [e1, e2]
    rfl)
  exact select_true_at hall ((gather_at (res_main_v54 V0) (res_main_call4_v5 V0) r c hc).trans (logs_eq V0 hids r c))

end Cert.ReferenceIdeal.Value
end
-- ==== Proof.RefEnd.lean ====
/-
  The reference's two results at a row: where a position holds the row's largest sum and every earlier one holds less, the move is that
  position and the logarithm is that position's.
-/
module

public import proofs.«01_k».proof.Proof.RefPick
public import proofs.«01_k».proof.Proof.RefRun

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Routing
open Cert.Proof.Legal

/-- From ids inside the table the reference ends with its arguments unchanged, and with its two results at a row as the row's largest sum
    says. -/
theorem run_ends (m : (ℓ : Loc nD τ sig) → Buf (Elt Ideal) ℓ) (ρ : Dev nD → PrngReg)
    (hids : ∀ (d : Dev nD) r l, (idRow (launchContents m d) r l).toNat < 1968) :
    θ_run defs (onTc (τ := τ) (main (F := Ideal))) ⟨m, fun _ => 0, ρ⟩ fun r => ∀ d : Dev nD,
      (∀ (R : Fin 16384) (c : Fin 1968),
        (∀ c', Row.tCand (inRow (launchContents m d) R) (logit (launchContents m d)) (noiseAt R) Cipher.epsR c'
          ≤ Row.tCand (inRow (launchContents m d) R) (logit (launchContents m d)) (noiseAt R) Cipher.epsR c) →
        (∀ c' < c, Row.tCand (inRow (launchContents m d) R) (logit (launchContents m d)) (noiseAt R) Cipher.epsR c'
          < Row.tCand (inRow (launchContents m d) R) (logit (launchContents m d)) (noiseAt R) Cipher.epsR c) →
        (r.2.mem ((d.tc : Thread nD τ).loc main_v59) : S16384.Idx → BitVec 32) (ix1 R) = BitVec.ofNat 32 c.val
        ∧ (r.2.mem ((d.tc : Thread nD τ).loc main_v61) : S16384x1.Idx → EReal) (ix2 R (0 : Fin 1))
            = Row.logShare Cipher.epsR (Row.tMasked (inRow (launchContents m d) R) (logit (launchContents m d))) c)
      ∧ r.2.mem ((d.tc : Thread nD τ).loc main_arg0) = m ((d.tc : Thread nD τ).loc main_arg0)
      ∧ r.2.mem ((d.tc : Thread nD τ).loc main_arg1) = m ((d.tc : Thread nD τ).loc main_arg1) := by
  refine (θ_run defs _ _).mono (fun r h d => ⟨fun R c hmax hfirst => ?_, (h d).2.2⟩) (run (F := Ideal) m ρ)
  have hp := pick_eq (launchContents m d) (hids d) R c hmax hfirst
  exact ⟨(congrFun (h d).1 (ix1 R)).trans hp, (congrFun (h d).2.1 (ix2 R (0 : Fin 1))).trans (log_eq (launchContents m d) (hids d) R c hp)⟩

end Cert.ReferenceIdeal.Value

end
-- ==== Proof.Algebraic.lean ====
/-
  The kernel and the reference end with the same moves and the same logarithms, over the extended reals, from ids inside the table and
  finite logits; and the two runs under that precondition.
-/
module

public import proofs.«01_k».proof.Proof.KValue
public import proofs.«01_k».proof.Proof.RefEnd
public import proofs.«01_k».proof.Proof.Same

@[expose] public section

set_option maxRecDepth 8192

noncomputable section

namespace Cert.Proof.Legal

open Cert.KernelIdeal Cert.KernelIdeal.Gen
open Idealize.ShloMosaic Idealize.SL.Sem
open Idealize.ShloMosaic.TcCoe
open Idealize.ShloMosaic.ValueIdx

/-! ## The precondition -/

/-- The shape relations the precondition's function takes. -/
theorem finite_facts : Cert.Pre_ids_in_range_logits_finite.Facts where
  bcast_S_S16384x64 := by decide
  reducesTo_S16384x64_S_d0_1 := by decide
  h_S_ := by decide
  bcast_S_S1968 := by decide
  reducesTo_S1968_S_d0 := by decide

section Pre

variable [Cert.Pre_ids_in_range_logits_finite.Facts]
variable (ids : IVec Cert.Pre_ids_in_range_logits_finite.S16384x64 32) (lg : FVec Ideal Cert.Pre_ids_in_range_logits_finite.S1968 .f32)
  (h : Cert.Pre_ids_in_range_logits_finite.fn ids lg = fun _ => 1#1)
include h

/-- Where the precondition's function returns true every id is a position of the table. -/
theorem finite_ids_lt (i) : (ids i).toNat < 1968 := by
  haveI : Subsingleton Cert.Pre_ids_in_range_logits_finite.S_.Idx := ⟨fun a b => funext fun k => k.elim0⟩
  have hb := (IntOp.andi_eq_one.1 (congrFun h (fun k => k.elim0))).1
  have e := Host.reduce_andi_all (t := Cert.Pre_ids_in_range_logits_finite.S_) _ _ _ _ (fun k => k.elim0) hb i
  obtain ⟨h0, h1⟩ := IntOp.andi_eq_one.1 e
  have h0 : (0 : Int) ≤ (ids i).toInt := IntOp.cmpi_sge.1 h0
  have h1 : (ids i).toInt < 1968 := IntOp.cmpi_slt.1 h1
  have := (ids i).isLt
  rw [BitVec.toInt_eq_toNat_cond] at h0 h1
  split at h0 <;> omega

/-- … and every logit is a real number. -/
theorem finite_logits (i) : (lg i : EReal) ≠ ⊥ ∧ (lg i : EReal) ≠ ⊤ := by
  haveI : Subsingleton Cert.Pre_ids_in_range_logits_finite.S_.Idx := ⟨fun a b => funext fun k => k.elim0⟩
  have hb := (IntOp.andi_eq_one.1 (congrFun h (fun k => k.elim0))).2
  have e := Host.reduce_andi_all (t := Cert.Pre_ids_in_range_logits_finite.S_) _ _ _ _ (fun k => k.elim0) hb i
  have e : Ideal.cmp .olt (max (lg i : EReal) (-(lg i : EReal))) (Ideal.ofBits .f32 0x7F800000#32) = 1#1 := e
  rw [Cipher.top_f32] at e
  have hlt : max (lg i : EReal) (-(lg i : EReal)) < ⊤ := by
    by_contra hn
    simp [Ideal.cmp, hn] at e
  constructor
  · intro hx
    rw [hx] at hlt
    simp at hlt
  · intro hx
    rw [hx] at hlt
    simp at hlt

end Pre

/-! ## The runs under it -/

/-- The kernel's run from ids inside the table and finite logits. -/
theorem frame_kernelIdeal_finite : Cert.quiescent_KernelIdeal_pre_ids_in_range_logits_finite (hKernelIdeal := Cert.KernelIdeal.Gen.facts)
    (hPre_ids_in_range_logits_finite := finite_facts) :=
  fun m ρ hpre => frame_any m ρ fun d => @finite_ids_lt finite_facts _ _ (hpre d)

/-- The reference's. -/
theorem frame_referenceIdeal_finite : Cert.quiescent_ReferenceIdeal_pre_ids_in_range_logits_finite (hReferenceIdeal := Cert.ReferenceIdeal.Gen.facts)
    (hPre_ids_in_range_logits_finite := finite_facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-! ## One row -/

/-- A table position as a number, back as a word. -/
theorem word_num (c : Fin 1968) : Ideal.fptosi 32 (Row.num c) = BitVec.ofNat 32 c.val := by
  have hc := c.isLt
  unfold Row.num
  rw [Ideal.fptosi, Ideal.toIntClamped_coe, if_pos (Nat.cast_nonneg _), Int.floor_natCast]
  have e : max (-((2 ^ (32 - 1) : ℕ) : ℤ)) (min (((2 ^ (32 - 1) : ℕ) : ℤ) - 1) (c.val : ℤ)) = (c.val : ℤ) := by
    norm_num
    omega
  rw [e, BitVec.ofInt_natCast]

variable (m : (ℓ : Loc nD τ sig) → Buf (Elt Ideal) ℓ) (d : Dev nD)

/-- Winning is decided classically. -/
instance winDec (R : Fin 16384) : DecidablePred (winR m d R) := fun l => Classical.propDecidable (winR m d R l)

/-- A row has a position that holds the reference's largest sum and whose number and logarithm are the kernel's results. -/
theorem row_same (V0 : Valuation Cert.ReferenceIdeal.τ Cert.ReferenceIdeal.sig (Elt Ideal))
    (hids : ∀ R l, (kId m d R l).toNat < 1968) (hfin : ∀ c, kLogit m d c ≠ ⊥ ∧ kLogit m d c ≠ ⊤)
    (hi : ∀ r l, Cert.ReferenceIdeal.Value.idRow V0 r l = kId m d r l) (hl : ∀ c, Cert.ReferenceIdeal.Value.logit V0 c = kLogit m d c) (R : Fin 16384) :
    ∃ c : Fin 1968,
      (∀ c', Row.tCand (Cert.ReferenceIdeal.Value.inRow V0 R) (Cert.ReferenceIdeal.Value.logit V0) (Cert.ReferenceIdeal.Value.noiseAt R) Cipher.epsR c'
        ≤ Row.tCand (Cert.ReferenceIdeal.Value.inRow V0 R) (Cert.ReferenceIdeal.Value.logit V0) (Cert.ReferenceIdeal.Value.noiseAt R) Cipher.epsR c) ∧
      (∀ c' < c, Row.tCand (Cert.ReferenceIdeal.Value.inRow V0 R) (Cert.ReferenceIdeal.Value.logit V0) (Cert.ReferenceIdeal.Value.noiseAt R) Cipher.epsR c'
        < Row.tCand (Cert.ReferenceIdeal.Value.inRow V0 R) (Cert.ReferenceIdeal.Value.logit V0) (Cert.ReferenceIdeal.Value.noiseAt R) Cipher.epsR c) ∧
      BitVec.ofNat 32 c.val = W6 m d (rf main_v8) (ix1 R) ∧
      Row.logShare Cipher.epsR (Row.tMasked (Cert.ReferenceIdeal.Value.inRow V0 R) (Cert.ReferenceIdeal.Value.logit V0)) c
        = W6 m d (rf main_v10) (ix2 R (0 : Fin 1)) := by
  have hhere : ∀ c : Fin 1968, Cert.ReferenceIdeal.Value.inRow V0 R c ↔ ∃ l : Fin 64, (kId m d R l).toNat = c.val := fun c =>
    exists_congr fun l => by rw [hi]
  have hlg : Cert.ReferenceIdeal.Value.logit V0 = kLogit m d := funext hl
  obtain ⟨c, hs, hlog, hmax, hfirst⟩ := Row.agree (win := winR m d R) (here := Cert.ReferenceIdeal.Value.inRow V0 R) (kLogit m d) (kNoise R) loNum hiNum
    Cipher.epsR (fits m d hids R _ hhere) (by decide) hfin Cipher.eps_pos (fun c => Cipher.gum_ne_bot _) Cipher.lo_le Cipher.num_le_hi
  rw [hlg, moves_at m d hids, logs_end m d hids]
  refine ⟨c, hmax, hfirst, ?_, hlog.symm⟩
  rw [← word_num c, ← hs]

/-! ## The claim -/

/-- The kernel's run over the extended reals, its two results named. -/
theorem run_results (g : Dev nD → PrngReg) (h : ∀ (d : Dev nD) i, (idsB m d i : BitVec 32).toNat < 1968) :
    θ_run (Cert.KernelIdeal.defs (F := Ideal)) (Cert.KernelIdeal.threads (F := Ideal)) ⟨m, fun _ => 0, g⟩ (fun r => ∀ c : Dev nD,
      r.2.mem ((c.tc : Thread nD τ).loc main_v8) = W6 m c (rf main_v8)
      ∧ r.2.mem ((c.tc : Thread nD τ).loc main_v10) = W6 m c (rf main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ hr c => ⟨end_mem m hr c main_v8 rfl, end_mem m hr c main_v10 rfl,
    (end_mem m hr c main_arg0 rfl).trans (W6_arg0 m c), (end_mem m hr c main_arg1 rfl).trans (W6_arg1 m c)⟩) (run_main m g (wide_lt m h))

/-- `Cert.algebraic_KernelIdeal_ReferenceIdeal_pre_ids_in_range_logits_finite`: from ids inside the table and finite logits both programs
    end with the same moves and the same logarithms. -/
theorem algebraic : Cert.algebraic_KernelIdeal_ReferenceIdeal_pre_ids_in_range_logits_finite (hKernelIdeal := Cert.KernelIdeal.Gen.facts)
    (hReferenceIdeal := Cert.ReferenceIdeal.Gen.facts) (hPre_ids_in_range_logits_finite := finite_facts) := by
  intro m g m' g' hpre hargs
  have hids : ∀ (d : Dev nD) i, (idsB m d i : BitVec 32).toNat < 1968 := fun d => @finite_ids_lt finite_facts _ _ (hpre d)
  have hfin : ∀ (d : Dev nD) i, (lgB m d i : EReal) ≠ ⊥ ∧ (lgB m d i : EReal) ≠ ⊤ := fun d => @finite_logits finite_facts _ _ (hpre d)
  have hrow := fun (d : Dev nD) => row_same m d (StableHlo.launchContents m' d) (fun R l => hids d (ix2 R l)) (fun c => hfin d (ix1 c))
    (fun r l => congrFun (hargs d).1 (ix2 r l)) (fun c => congrFun (hargs d).2 (ix1 c))
  refine ⟨fun c => W6 m c (rf main_v8), fun c => W6 m c (rf main_v10), run_results m g hids, ?_⟩
  refine (θ_run Cert.ReferenceIdeal.defs _ _).mono (fun r h c => ⟨?_, ?_, (h c).2⟩)
    (Cert.ReferenceIdeal.Value.run_ends m' g' fun d R l => (congrArg BitVec.toNat (congrFun (hargs d).1 (ix2 R l))).trans_lt (hids d (ix2 R l)))
  · refine funext fun j : Cert.ReferenceIdeal.S16384.Idx => ?_
    have hj : j = ix1 (j 0) := by
      refine funext fun a : Fin 1 => ?_
      obtain rfl : a = 0 := Subsingleton.elim _ _
      rfl
    obtain ⟨k, hmax, hfirst, h1, _⟩ := hrow c (j 0)
    rw [hj]
    exact ((h c).1 (j 0) k hmax hfirst).1.trans h1
  · refine funext fun j : Cert.ReferenceIdeal.S16384x1.Idx => ?_
    have hj : j = ix2 (j 0) (0 : Fin 1) := by
      refine Shape.idx_ext₂ rfl ?_
      have : (j 1).val < 1 := (j 1).isLt
      show (j 1).val = 0
      omega
    obtain ⟨k, hmax, hfirst, _, h2⟩ := hrow c (j 0)
    rw [hj]
    exact ((h c).1 (j 0) k hmax hfirst).2.trans h2

end Cert.Proof.Legal

end
-- ==== Proof.lean ====
module

public import proofs.«01_k».proof.Defs
public import proofs.«01_k».proof.Proof.Same
public import proofs.«01_k».proof.Proof.Algebraic
public import Idealize.ShloMosaic.Adequacy
public import Idealize.ShloMosaic.Init

@[expose] public section

noncomputable section

namespace Cert.Proof

open Cert.Proof.Legal

/-- Everything the certificate claims. -/
theorem claim : Cert.Claim :=
  ⟨Cert.Kernel.Gen.facts, Cert.KernelIdeal.Gen.facts, Cert.ReferenceIdeal.Gen.facts, pre_facts, finite_facts,
    frame_kernel, frame_kernelIdeal, frame_kernelIdeal_finite, frame_referenceIdeal, frame_referenceIdeal_finite, preserves, algebraic⟩

end Cert.Proof

end
